-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1x512x32 : Shape := ⟨3, ![1, 512, 32]⟩
abbrev S1x512x3x8x128 : Shape := ⟨5, ![1, 512, 3, 8, 128]⟩
abbrev S1x512x3x8x4 : Shape := ⟨5, ![1, 512, 3, 8, 4]⟩
abbrev S1x512 : Shape := ⟨2, ![1, 512]⟩
abbrev S1024 : Shape := ⟨1, ![1024]⟩
abbrev S1x512x4096 : Shape := ⟨3, ![1, 512, 4096]⟩
abbrev S1x512x128 : Shape := ⟨3, ![1, 512, 128]⟩
abbrev S1024x4096 : Shape := ⟨2, ![1024, 4096]⟩
abbrev S4096 : Shape := ⟨1, ![4096]⟩
abbrev S1024x3x8x128 : Shape := ⟨4, ![1024, 3, 8, 128]⟩
abbrev S3x8x128 : Shape := ⟨3, ![3, 8, 128]⟩
abbrev S512x1024 : Shape := ⟨2, ![512, 1024]⟩
abbrev S512x32 : Shape := ⟨2, ![512, 32]⟩
abbrev S32x512 : Shape := ⟨2, ![32, 512]⟩
abbrev S512x3x8x128 : Shape := ⟨4, ![512, 3, 8, 128]⟩
abbrev S512x24x4 : Shape := ⟨3, ![512, 24, 4]⟩
abbrev S24x4x512 : Shape := ⟨3, ![24, 4, 512]⟩
abbrev S1x1024 : Shape := ⟨2, ![1, 1024]⟩
abbrev S512x4096 : Shape := ⟨2, ![512, 4096]⟩
abbrev S512x128 : Shape := ⟨2, ![512, 128]⟩
abbrev S128x512 : Shape := ⟨2, ![128, 512]⟩
abbrev S8x16x512 : Shape := ⟨3, ![8, 16, 512]⟩
abbrev S1x4096 : Shape := ⟨2, ![1, 4096]⟩
abbrev S24x128 : Shape := ⟨2, ![24, 128]⟩
abbrev S64x8x1024 : Shape := ⟨3, ![64, 8, 1024]⟩
abbrev S128x8x4096 : Shape := ⟨3, ![128, 8, 4096]⟩
abbrev S512x8x1024 : Shape := ⟨3, ![512, 8, 1024]⟩
abbrev S3x512x8x128 : Shape := ⟨4, ![3, 512, 8, 128]⟩
abbrev S8x512x512 : Shape := ⟨3, ![8, 512, 512]⟩
abbrev S8x1024x512 : Shape := ⟨3, ![8, 1024, 512]⟩
abbrev S3x1024x8x128 : Shape := ⟨4, ![3, 1024, 8, 128]⟩
abbrev S1024x512 : Shape := ⟨2, ![1024, 512]⟩
abbrev S1024x128 : Shape := ⟨2, ![1024, 128]⟩
abbrev S2x512x512 : Shape := ⟨3, ![2, 512, 512]⟩
abbrev S2x1024x512 : Shape := ⟨3, ![2, 1024, 512]⟩
abbrev S2x4x128x8x128 : Shape := ⟨5, ![2, 4, 128, 8, 128]⟩
abbrev S2x8x64x8x128 : Shape := ⟨5, ![2, 8, 64, 8, 128]⟩
abbrev S8x64x8x128 : Shape := ⟨4, ![8, 64, 8, 128]⟩
abbrev S1 : Shape := ⟨1, ![1]⟩
abbrev S8 : Shape := ⟨1, ![8]⟩
abbrev S3 : Shape := ⟨1, ![3]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S1x512x8x128 : Shape := ⟨4, ![1, 512, 8, 128]⟩
abbrev S512x8x128 : Shape := ⟨3, ![512, 8, 128]⟩
abbrev S512x1x8x128 : Shape := ⟨4, ![512, 1, 8, 128]⟩
abbrev S1x1024x8x128 : Shape := ⟨4, ![1, 1024, 8, 128]⟩
abbrev S1024x8x128 : Shape := ⟨3, ![1024, 8, 128]⟩
abbrev S1024x1x8x128 : Shape := ⟨4, ![1024, 1, 8, 128]⟩
abbrev S1x1024x512 : Shape := ⟨3, ![1, 1024, 512]⟩
abbrev S128x1024 : Shape := ⟨2, ![128, 1024]⟩
abbrev S64x8x128 : Shape := ⟨3, ![64, 8, 128]⟩
abbrev S1x1x64x8x128 : Shape := ⟨5, ![1, 1, 64, 8, 128]⟩
abbrev S1x32x256 : Shape := ⟨3, ![1, 32, 256]⟩
abbrev S32x256 : Shape := ⟨2, ![32, 256]⟩
abbrev S1x1x256 : Shape := ⟨3, ![1, 1, 256]⟩
abbrev S1x256 : Shape := ⟨2, ![1, 256]⟩
abbrev S512x1x128 : Shape := ⟨3, ![512, 1, 128]⟩
abbrev S1x1x512 : Shape := ⟨3, ![1, 1, 512]⟩
abbrev S1x32x512 : Shape := ⟨3, ![1, 32, 512]⟩
abbrev S1024x1x128 : Shape := ⟨3, ![1024, 1, 128]⟩
abbrev S1x128 : Shape := ⟨2, ![1, 128]⟩
abbrev S1x1024x128 : Shape := ⟨3, ![1, 1024, 128]⟩
abbrev S128x8x128 : Shape := ⟨3, ![128, 8, 128]⟩
abbrev S1x1x128x8x128 : Shape := ⟨5, ![1, 1, 128, 8, 128]⟩
abbrev S1x1024x1x128 : Shape := ⟨4, ![1, 1024, 1, 128]⟩
abbrev S1x1024x2x128 : Shape := ⟨4, ![1, 1024, 2, 128]⟩
abbrev S8x128 : Shape := ⟨2, ![8, 128]⟩
abbrev S128 : Shape := ⟨1, ![128]⟩
abbrev S128x128 : Shape := ⟨2, ![128, 128]⟩
abbrev S16x8x128 : Shape := ⟨3, ![16, 8, 128]⟩
abbrev S1x16x8x128 : Shape := ⟨4, ![1, 16, 8, 128]⟩
abbrev S1x64x8x128 : Shape := ⟨4, ![1, 64, 8, 128]⟩

abbrev nBuf : Space → Nat
  | .hbm => 36
  | .vmem => 30
  | .smem => 0
  | _ => 0

abbrev bufTy : (tb : Table) → Fin (tcTables nBuf tb) → BufTy
  | .hbm, ⟨0, _⟩ => ⟨S1x512x1024, .fp8e5m2⟩
  | .hbm, ⟨1, _⟩ => ⟨S1x512x32, .f32⟩
  | .hbm, ⟨2, _⟩ => ⟨S1x512x3x8x128, .fp8e5m2⟩
  | .hbm, ⟨3, _⟩ => ⟨S1x512x3x8x4, .f32⟩
  | .hbm, ⟨4, _⟩ => ⟨S1x512x1024, .fp8e4m3⟩
  | .hbm, ⟨5, _⟩ => ⟨S1x512, .f32⟩
  | .hbm, ⟨6, _⟩ => ⟨S1x512, .f32⟩
  | .hbm, ⟨7, _⟩ => ⟨S1024, .f32⟩
  | .hbm, ⟨8, _⟩ => ⟨S1x512x4096, .fp8e5m2⟩
  | .hbm, ⟨9, _⟩ => ⟨S1x512x128, .f32⟩
  | .hbm, ⟨10, _⟩ => ⟨S1x512x4096, .fp8e4m3⟩
  | .hbm, ⟨11, _⟩ => ⟨S1x512, .f32⟩
  | .hbm, ⟨12, _⟩ => ⟨S1024x4096, .fp8e4m3⟩
  | .hbm, ⟨13, _⟩ => ⟨S4096, .f32⟩
  | .hbm, ⟨14, _⟩ => ⟨S1024x3x8x128, .fp8e4m3⟩
  | .hbm, ⟨15, _⟩ => ⟨S3x8x128, .f32⟩
  | .hbm, ⟨16, _⟩ => ⟨S512x1024, .fp8e5m2⟩
  | .hbm, ⟨17, _⟩ => ⟨S512x32, .f32⟩
  | .hbm, ⟨18, _⟩ => ⟨S32x512, .f32⟩
  | .hbm, ⟨19, _⟩ => ⟨S512x3x8x128, .fp8e5m2⟩
  | .hbm, ⟨20, _⟩ => ⟨S512x24x4, .f32⟩
  | .hbm, ⟨21, _⟩ => ⟨S24x4x512, .f32⟩
  | .hbm, ⟨22, _⟩ => ⟨S512x1024, .fp8e4m3⟩
  | .hbm, ⟨23, _⟩ => ⟨S1x1024, .f32⟩
  | .hbm, ⟨24, _⟩ => ⟨S512x4096, .fp8e5m2⟩
  | .hbm, ⟨25, _⟩ => ⟨S512x128, .f32⟩
  | .hbm, ⟨26, _⟩ => ⟨S128x512, .f32⟩
  | .hbm, ⟨27, _⟩ => ⟨S8x16x512, .f32⟩
  | .hbm, ⟨28, _⟩ => ⟨S512x4096, .fp8e4m3⟩
  | .hbm, ⟨29, _⟩ => ⟨S1x4096, .f32⟩
  | .hbm, ⟨30, _⟩ => ⟨S24x128, .f32⟩
  | .hbm, ⟨31, _⟩ => ⟨S64x8x1024, .bf16⟩
  | .hbm, ⟨32, _⟩ => ⟨S128x8x4096, .bf16⟩
  | .hbm, ⟨33, _⟩ => ⟨S512x8x1024, .bf16⟩
  | .hbm, ⟨34, _⟩ => ⟨S1024x3x8x128, .bf16⟩
  | .hbm, ⟨35, _⟩ => ⟨S1x1024, .f32⟩
  | .local _ .vmem, ⟨0, _⟩ => ⟨S512x1024, .fp8e5m2⟩
  | .local _ .vmem, ⟨1, _⟩ => ⟨S32x512, .f32⟩
  | .local _ .vmem, ⟨2, _⟩ => ⟨S3x512x8x128, .fp8e5m2⟩
  | .local _ .vmem, ⟨3, _⟩ => ⟨S24x4x512, .f32⟩
  | .local _ .vmem, ⟨4, _⟩ => ⟨S512x1024, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S8x512x512, .fp8e5m2⟩
  | .local _ .vmem, ⟨10, _⟩ => ⟨S8x512x512, .fp8e4m3⟩
  | .local _ .vmem, ⟨11, _⟩ => ⟨S8x1024x512, .fp8e4m3⟩
  | .local _ .vmem, ⟨12, _⟩ => ⟨S1x4096, .f32⟩
  | .local _ .vmem, ⟨13, _⟩ => ⟨S3x1024x8x128, .fp8e4m3⟩
  | .local _ .vmem, ⟨14, _⟩ => ⟨S24x128, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x128, .f32⟩
  | .local _ .vmem, ⟨19, _⟩ => ⟨S2x512x512, .bf16⟩
  | .local _ .vmem, ⟨20, _⟩ => ⟨S2x512x512, .bf16⟩
  | .local _ .vmem, ⟨21, _⟩ => ⟨S2x512x512, .bf16⟩
  | .local _ .vmem, ⟨22, _⟩ => ⟨S8x16x512, .f32⟩
  | .local _ .vmem, ⟨23, _⟩ => ⟨S2x512x512, .bf16⟩
  | .local _ .vmem, ⟨24, _⟩ => ⟨S2x1024x512, .bf16⟩
  | .local _ .vmem, ⟨25, _⟩ => ⟨S2x4x128x8x128, .bf16⟩
  | .local _ .vmem, ⟨26, _⟩ => ⟨S2x8x64x8x128, .bf16⟩
  | .local _ .vmem, ⟨27, _⟩ => ⟨S3x1024x8x128, .bf16⟩
  | .local _ .vmem, ⟨28, _⟩ => ⟨S8x64x8x128, .bf16⟩
  | .local _ .vmem, ⟨29, _⟩ => ⟨S1x1024, .f32⟩
  | _, _ => ⟨S1x512x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩
abbrev cc0_scratch25 : Ref sig .tc := ⟨.vmem, 25, rfl⟩
abbrev cc0_scratch26 : Ref sig .tc := ⟨.vmem, 26, rfl⟩
abbrev cc0_scratch27 : Ref sig .tc := ⟨.vmem, 27, rfl⟩
abbrev cc0_scratch28 : Ref sig .tc := ⟨.vmem, 28, rfl⟩
abbrev cc0_scratch29 : Ref sig .tc := ⟨.vmem, 29, rfl⟩

abbrev nD : Nat := 1
abbrev τ : Topo := Topo.v7x

variable {F : FTy → Type} [FloatOps F]

abbrev grid0 : Pipeline.Grid := .none

def k0_mult1 : BitVec 32 :=
  let c0_i32_10 : BitVec 32 := 0#32
  c0_i32_10
def k0_mult2 : BitVec 32 :=
  let c0_i32_16 : BitVec 32 := 0#32
  c0_i32_16
def k0_mult3 : BitVec 32 :=
  let c512_i32 : BitVec 32 := 512#32
  c512_i32
def k0_mult4 : BitVec 32 :=
  let c512_i32_26 : BitVec 32 := 512#32
  c512_i32_26
def k0_mult5 : BitVec 32 :=
  let c1024_i32 : BitVec 32 := 1024#32
  c1024_i32
def k0_mult6 : BitVec 32 :=
  let c1024_i32_54 : BitVec 32 := 1024#32
  c1024_i32_54
def k0_mult7 : BitVec 32 :=
  let c0_i32_60 : BitVec 32 := 0#32
  c0_i32_60
def k0_mult8 : BitVec 32 :=
  let c1536_i32 : BitVec 32 := 1536#32
  c1536_i32
def k0_mult9 : BitVec 32 :=
  let c1536_i32_70 : BitVec 32 := 1536#32
  c1536_i32_70
def k0_mult10 : BitVec 32 :=
  let c512_i32_76 : BitVec 32 := 512#32
  c512_i32_76
def k0_mult11 : BitVec 32 :=
  let c2048_i32 : BitVec 32 := 2048#32
  c2048_i32
def k0_mult12 : BitVec 32 :=
  let c2048_i32_104 : BitVec 32 := 2048#32
  c2048_i32_104
def k0_mult13 : BitVec 32 :=
  let c1024_i32_110 : BitVec 32 := 1024#32
  c1024_i32_110
def k0_mult14 : BitVec 32 :=
  let c2560_i32 : BitVec 32 := 2560#32
  c2560_i32
def k0_mult15 : BitVec 32 :=
  let c2560_i32_120 : BitVec 32 := 2560#32
  c2560_i32_120
def k0_mult16 : BitVec 32 :=
  let c1536_i32_126 : BitVec 32 := 1536#32
  c1536_i32_126
def k0_mult17 : BitVec 32 :=
  let c3072_i32 : BitVec 32 := 3072#32
  c3072_i32
def k0_mult18 : BitVec 32 :=
  let c3072_i32_154 : BitVec 32 := 3072#32
  c3072_i32_154
def k0_mult19 : BitVec 32 :=
  let c2048_i32_160 : BitVec 32 := 2048#32
  c2048_i32_160
def k0_mult20 : BitVec 32 :=
  let c3584_i32 : BitVec 32 := 3584#32
  c3584_i32
def k0_mult21 : BitVec 32 :=
  let c3584_i32_170 : BitVec 32 := 3584#32
  c3584_i32_170
def k0_mult22 : BitVec 32 :=
  let c2560_i32_176 : BitVec 32 := 2560#32
  c2560_i32_176
def k0_mult23 : BitVec 32 :=
  let c3072_i32_182 : BitVec 32 := 3072#32
  c3072_i32_182
def k0_mult24 : BitVec 32 :=
  let c3584_i32_188 : BitVec 32 := 3584#32
  c3584_i32_188
def k0_mult25 : BitVec 32 :=
  let c0_i32_334 : BitVec 32 := 0#32
  c0_i32_334
def k0_mult26 : BitVec 32 :=
  let c0_i32_340 : BitVec 32 := 0#32
  c0_i32_340
def k0_mult27 : BitVec 32 :=
  let c512_i32_372 : BitVec 32 := 512#32
  c512_i32_372
def k0_mult28 : BitVec 32 :=
  let c512_i32_378 : BitVec 32 := 512#32
  c512_i32_378
@[reducible] def k0_t1_loop : Scf.Loop 32 :=
  let c0_i32_922 : BitVec 32 := 0#32
  let c3_i32_923 : BitVec 32 := 3#32
  let v1225 : BitVec 32 := Scalar.addi c0_i32_922 c3_i32_923
  let c1_i32_924 : BitVec 32 := 1#32
  ⟨c0_i32_922, v1225, c1_i32_924⟩
def k0_mult29 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  v7261
def k0_off1 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5667 : BitVec 32 := 0#32
  let c0_i32_5668 : BitVec 32 := 0#32
  ![v7262.toNat, 0, 0]
def k0_off2 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5675 : BitVec 32 := 0#32
  let c128_i32_5676 : BitVec 32 := 128#32
  ![v7262.toNat, 0, 128]
def k0_off3 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5683 : BitVec 32 := 0#32
  let c256_i32_5684 : BitVec 32 := 256#32
  ![v7262.toNat, 0, 256]
def k0_off4 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5691 : BitVec 32 := 0#32
  let c384_i32_5692 : BitVec 32 := 384#32
  ![v7262.toNat, 0, 384]
def k0_off5 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5699 : BitVec 32 := 0#32
  let c512_i32_5700 : BitVec 32 := 512#32
  ![v7262.toNat, 0, 512]
def k0_off6 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5707 : BitVec 32 := 0#32
  let c640_i32_5708 : BitVec 32 := 640#32
  ![v7262.toNat, 0, 640]
def k0_off7 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5715 : BitVec 32 := 0#32
  let c768_i32_5716 : BitVec 32 := 768#32
  ![v7262.toNat, 0, 768]
def k0_off8 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5663 : BitVec 32 := 1#32
  let v7260 : BitVec 32 := Scalar.subi v7259 c1_i32_5663
  let c64_i32 : BitVec 32 := 64#32
  let v7261 : BitVec 32 := Scalar.muli v7260 c64_i32
  let v7262 : BitVec 32 := v7261
  let c0_i32_5723 : BitVec 32 := 0#32
  let c896_i32_5724 : BitVec 32 := 896#32
  ![v7262.toNat, 0, 896]
def k0_cond1 (k0_t1 : Fin k0_t1_loop.trips) : BitVec 1 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_5728 : BitVec 32 := 2#32
  let v7303 : BitVec 1 := Scalar.cmpi .sge v7259 c2_i32_5728
  let v7304 : BitVec 32 := Scalar.extui v7303
  let c0_i32_5729 : BitVec 32 := 0#32
  let v7305 : BitVec 1 := Scalar.cmpi .ne v7304 c0_i32_5729
  v7305

def k0_mult30 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7047 : BitVec 32 := 2#32
  let v9064 : BitVec 32 := Scalar.subi v7259 c2_i32_7047
  let c512_i32_7048 : BitVec 32 := 512#32
  let v9065 : BitVec 32 := Scalar.muli v9064 c512_i32_7048
  let c0_i32_7049 : BitVec 32 := 0#32
  let v9066 : BitVec 32 := Scalar.addi v9065 c0_i32_7049
  v9066
def k0_mult31 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7047 : BitVec 32 := 2#32
  let v9064 : BitVec 32 := Scalar.subi v7259 c2_i32_7047
  let c512_i32_7050 : BitVec 32 := 512#32
  let v9068 : BitVec 32 := Scalar.muli v9064 c512_i32_7050
  let c128_i32_7051 : BitVec 32 := 128#32
  let v9069 : BitVec 32 := Scalar.addi v9068 c128_i32_7051
  v9069
def k0_mult32 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7047 : BitVec 32 := 2#32
  let v9064 : BitVec 32 := Scalar.subi v7259 c2_i32_7047
  let c512_i32_7052 : BitVec 32 := 512#32
  let v9071 : BitVec 32 := Scalar.muli v9064 c512_i32_7052
  let c256_i32_7053 : BitVec 32 := 256#32
  let v9072 : BitVec 32 := Scalar.addi v9071 c256_i32_7053
  v9072
def k0_mult33 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7047 : BitVec 32 := 2#32
  let v9064 : BitVec 32 := Scalar.subi v7259 c2_i32_7047
  let c512_i32_7054 : BitVec 32 := 512#32
  let v9074 : BitVec 32 := Scalar.muli v9064 c512_i32_7054
  let c384_i32_7055 : BitVec 32 := 384#32
  let v9075 : BitVec 32 := Scalar.addi v9074 c384_i32_7055
  v9075
def k0_off9 (k0_t1 : Fin k0_t1_loop.trips) (c0_i32_7049 : BitVec 32) : Fin 3 → Nat :=
  let c0_i32_7059 : BitVec 32 := 0#32
  let c0_i32_7060 : BitVec 32 := 0#32
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7047 : BitVec 32 := 2#32
  let v9064 : BitVec 32 := Scalar.subi v7259 c2_i32_7047
  let c512_i32_7048 : BitVec 32 := 512#32
  let v9065 : BitVec 32 := Scalar.muli v9064 c512_i32_7048
  let v9066 : BitVec 32 := Scalar.addi v9065 c0_i32_7049
  let v9067 : BitVec 32 := v9066
  ![0, 0, v9067.toNat]
def k0_mult34 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  v9098
def k0_off10 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7093 : BitVec 32 := 0#32
  let c0_i32_7094 : BitVec 32 := 0#32
  ![v9099.toNat, 0, 0]
def k0_off11 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7101 : BitVec 32 := 0#32
  let c128_i32_7102 : BitVec 32 := 128#32
  ![v9099.toNat, 0, 128]
def k0_off12 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7109 : BitVec 32 := 0#32
  let c256_i32_7110 : BitVec 32 := 256#32
  ![v9099.toNat, 0, 256]
def k0_off13 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7117 : BitVec 32 := 0#32
  let c384_i32_7118 : BitVec 32 := 384#32
  ![v9099.toNat, 0, 384]
def k0_off14 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7125 : BitVec 32 := 0#32
  let c512_i32_7126 : BitVec 32 := 512#32
  ![v9099.toNat, 0, 512]
def k0_off15 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7133 : BitVec 32 := 0#32
  let c640_i32_7134 : BitVec 32 := 640#32
  ![v9099.toNat, 0, 640]
def k0_off16 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7141 : BitVec 32 := 0#32
  let c768_i32_7142 : BitVec 32 := 768#32
  ![v9099.toNat, 0, 768]
def k0_off17 (k0_t1 : Fin k0_t1_loop.trips) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c2_i32_7088 : BitVec 32 := 2#32
  let v9097 : BitVec 32 := Scalar.subi v7259 c2_i32_7088
  let c64_i32_7089 : BitVec 32 := 64#32
  let v9098 : BitVec 32 := Scalar.muli v9097 c64_i32_7089
  let v9099 : BitVec 32 := v9098
  let c0_i32_7149 : BitVec 32 := 0#32
  let c896_i32_7150 : BitVec 32 := 896#32
  ![v9099.toNat, 0, 896]
def k0_cond2 (k0_t1 : Fin k0_t1_loop.trips) : BitVec 1 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_5730 : BitVec 32 := 3#32
  let v7306 : BitVec 1 := Scalar.cmpi .sge v7259 c3_i32_5730
  let v7307 : BitVec 32 := Scalar.extui v7306
  let c0_i32_5731 : BitVec 32 := 0#32
  let v7308 : BitVec 1 := Scalar.cmpi .ne v7307 c0_i32_5731
  v7308

def k0_mult35 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_7047 : BitVec 32 := 3#32
  let v9064 : BitVec 32 := Scalar.subi v7259 c3_i32_7047
  let c512_i32_7048 : BitVec 32 := 512#32
  let v9065 : BitVec 32 := Scalar.muli v9064 c512_i32_7048
  let c0_i32_7049 : BitVec 32 := 0#32
  let v9066 : BitVec 32 := Scalar.addi v9065 c0_i32_7049
  v9066
def k0_mult36 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_7047 : BitVec 32 := 3#32
  let v9064 : BitVec 32 := Scalar.subi v7259 c3_i32_7047
  let c512_i32_7050 : BitVec 32 := 512#32
  let v9068 : BitVec 32 := Scalar.muli v9064 c512_i32_7050
  let c128_i32_7051 : BitVec 32 := 128#32
  let v9069 : BitVec 32 := Scalar.addi v9068 c128_i32_7051
  v9069
def k0_mult37 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_7047 : BitVec 32 := 3#32
  let v9064 : BitVec 32 := Scalar.subi v7259 c3_i32_7047
  let c512_i32_7052 : BitVec 32 := 512#32
  let v9071 : BitVec 32 := Scalar.muli v9064 c512_i32_7052
  let c256_i32_7053 : BitVec 32 := 256#32
  let v9072 : BitVec 32 := Scalar.addi v9071 c256_i32_7053
  v9072
def k0_mult38 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_7047 : BitVec 32 := 3#32
  let v9064 : BitVec 32 := Scalar.subi v7259 c3_i32_7047
  let c512_i32_7054 : BitVec 32 := 512#32
  let v9074 : BitVec 32 := Scalar.muli v9064 c512_i32_7054
  let c384_i32_7055 : BitVec 32 := 384#32
  let v9075 : BitVec 32 := Scalar.addi v9074 c384_i32_7055
  v9075
def k0_off18 (k0_t1 : Fin k0_t1_loop.trips) (c0_i32_7049 : BitVec 32) : Fin 3 → Nat :=
  let c0_i32_7059 : BitVec 32 := 0#32
  let c0_i32_7060 : BitVec 32 := 0#32
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c3_i32_7047 : BitVec 32 := 3#32
  let v9064 : BitVec 32 := Scalar.subi v7259 c3_i32_7047
  let c512_i32_7048 : BitVec 32 := 512#32
  let v9065 : BitVec 32 := Scalar.muli v9064 c512_i32_7048
  let v9066 : BitVec 32 := Scalar.addi v9065 c0_i32_7049
  let v9067 : BitVec 32 := v9066
  ![0, 0, v9067.toNat]
def k0_cond3 (k0_t1 : Fin k0_t1_loop.trips) : BitVec 1 :=
  let c0_i32_922 : BitVec 32 := 0#32
  let c1_i32_924 : BitVec 32 := 1#32
  let arg63 : BitVec 32 := Scf.iv c0_i32_922 c1_i32_924 k0_t1
  let c1_i32_5732 : BitVec 32 := 1#32
  let v7309 : BitVec 1 := Scalar.cmpi .sge arg63 c1_i32_5732
  let v7310 : BitVec 32 := Scalar.extui v7309
  let c0_i32_5733 : BitVec 32 := 0#32
  let v7311 : BitVec 1 := Scalar.cmpi .ne v7310 c0_i32_5733
  v7311

def k0_off19 (k0_t1 : Fin k0_t1_loop.trips) : Fin 4 → Nat :=
  let c0_i32_7049 : BitVec 32 := 0#32
  let c0_i32_922 : BitVec 32 := 0#32
  let c1_i32_924 : BitVec 32 := 1#32
  let arg63 : BitVec 32 := Scf.iv c0_i32_922 c1_i32_924 k0_t1
  let c1_i32_7047 : BitVec 32 := 1#32
  let v9064 : BitVec 32 := Scalar.subi arg63 c1_i32_7047
  let c0_i32_7050 : BitVec 32 := 0#32
  let c0_i32_7051 : BitVec 32 := 0#32
  ![0, v9064.toNat, 0, 0]
def k0_off20 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c1_i32_7047 : BitVec 32 := 1#32
  let v9064 : BitVec 32 := Scalar.subi arg63 c1_i32_7047
  let c0_i32_7052 : BitVec 32 := 0#32
  let c0_i32_7053 : BitVec 32 := 0#32
  let c0_i32_7054 : BitVec 32 := 0#32
  ![v9064.toNat, 0, 0, 0]
def k0_mult39 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c1_i32_5734 : BitVec 32 := 1#32
  let v7312 : BitVec 32 := Scalar.addi v7259 c1_i32_5734
  let c512_i32_5735 : BitVec 32 := 512#32
  let v7313 : BitVec 32 := Scalar.muli v7312 c512_i32_5735
  v7313
def k0_off21 (k0_t1 : Fin k0_t1_loop.trips) (c0_i32_5662 : BitVec 32) : Fin 1 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5734 : BitVec 32 := 1#32
  let v7312 : BitVec 32 := Scalar.addi v7259 c1_i32_5734
  ![v7312.toNat]
def k0_off22 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5734 : BitVec 32 := 1#32
  let v7312 : BitVec 32 := Scalar.addi v7259 c1_i32_5734
  let c0_i32_5736 : BitVec 32 := 0#32
  let c0_i32_5737 : BitVec 32 := 0#32
  ![v7312.toNat, 0, 0]
def k0_off23 (k0_t1 : Fin k0_t1_loop.trips) (c0_i32_5662 : BitVec 32) : Fin 2 → Nat :=
  let c0_i32_5738 : BitVec 32 := 0#32
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5734 : BitVec 32 := 1#32
  let v7312 : BitVec 32 := Scalar.addi v7259 c1_i32_5734
  let c512_i32_5735 : BitVec 32 := 512#32
  let v7313 : BitVec 32 := Scalar.muli v7312 c512_i32_5735
  let v7314 : BitVec 32 := v7313
  ![0, v7314.toNat]
def k0_mult40 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c1_i32_5739 : BitVec 32 := 1#32
  let v7320 : BitVec 32 := Scalar.addi v7259 c1_i32_5739
  let c512_i32_5740 : BitVec 32 := 512#32
  let v7321 : BitVec 32 := Scalar.muli v7320 c512_i32_5740
  v7321
def k0_mult41 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c1_i32_5744 : BitVec 32 := 1#32
  let v7328 : BitVec 32 := Scalar.subi v7259 c1_i32_5744
  let c512_i32_5745 : BitVec 32 := 512#32
  let v7329 : BitVec 32 := Scalar.muli v7328 c512_i32_5745
  v7329
def k0_off24 (k0_t1 : Fin k0_t1_loop.trips) (c0_i32_5662 : BitVec 32) : Fin 1 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5744 : BitVec 32 := 1#32
  let v7328 : BitVec 32 := Scalar.subi v7259 c1_i32_5744
  ![v7328.toNat]
def k0_off25 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5744 : BitVec 32 := 1#32
  let v7328 : BitVec 32 := Scalar.subi v7259 c1_i32_5744
  let c0_i32_5746 : BitVec 32 := 0#32
  let c0_i32_5747 : BitVec 32 := 0#32
  ![v7328.toNat, 0, 0]
def k0_off26 (k0_t1 : Fin k0_t1_loop.trips) (c0_i32_5662 : BitVec 32) : Fin 2 → Nat :=
  let c0_i32_5748 : BitVec 32 := 0#32
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5744 : BitVec 32 := 1#32
  let v7328 : BitVec 32 := Scalar.subi v7259 c1_i32_5744
  let c512_i32_5745 : BitVec 32 := 512#32
  let v7329 : BitVec 32 := Scalar.muli v7328 c512_i32_5745
  let v7330 : BitVec 32 := v7329
  ![0, v7330.toNat]
def k0_off27 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5795 : BitVec 32 := 1#32
  let v7388 : BitVec 32 := Scalar.addi v7259 c1_i32_5795
  let v7389 : Index := Scalar.indexCast v7388
  let c0_5796 : Index := 0#32
  let c0_5797 : Index := 0#32
  ![v7389.toNat, 0, 0]
def k0_off28 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5842 : BitVec 32 := 1#32
  let v7445 : BitVec 32 := Scalar.subi v7259 c1_i32_5842
  let v7446 : Index := Scalar.indexCast v7445
  let c0_5843 : Index := 0#32
  let c0_5844 : Index := 0#32
  ![v7446.toNat, 0, 0]
def k0_mult42 (k0_t1 : Fin k0_t1_loop.trips) : BitVec 32 :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let c0_i32_5662 : BitVec 32 := 0#32
  let v7259 : BitVec 32 := Scalar.addi v7258 c0_i32_5662
  let c1_i32_5842 : BitVec 32 := 1#32
  let v7445 : BitVec 32 := Scalar.subi v7259 c1_i32_5842
  let c512_i32_5845 : BitVec 32 := 512#32
  let v7450 : BitVec 32 := Scalar.muli v7445 c512_i32_5845
  v7450
def k0_off29 (k0_t1 : Fin k0_t1_loop.trips) (c0_i32_5662 : BitVec 32) : Fin 2 → Nat :=
  let c0_5846 : Index := 0#32
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let c1_i32_5842 : BitVec 32 := 1#32
  let v7445 : BitVec 32 := Scalar.subi v7259 c1_i32_5842
  let c512_i32_5845 : BitVec 32 := 512#32
  let v7450 : BitVec 32 := Scalar.muli v7445 c512_i32_5845
  let v7451 : BitVec 32 := v7450
  let v7452 : Index := Scalar.indexCast v7451
  ![0, v7452.toNat]
def k0_off30 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7467 : Index := Scalar.indexCast v7259
  let c0_5858 : Index := 0#32
  let c0_5859 : Index := 0#32
  ![v7467.toNat, 0, 0]
def k0_off31 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7478 : Index := Scalar.indexCast v7259
  let c0_5866 : Index := 0#32
  let c256_5867 : Index := 256#32
  ![v7478.toNat, 0, 256]
def k0_off32 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7489 : Index := Scalar.indexCast v7259
  let c1_5874 : Index := 1#32
  let c0_5875 : Index := 0#32
  ![v7489.toNat, 1, 0]
def k0_off33 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7500 : Index := Scalar.indexCast v7259
  let c1_5882 : Index := 1#32
  let c256_5883 : Index := 256#32
  ![v7500.toNat, 1, 256]
def k0_off34 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7511 : Index := Scalar.indexCast v7259
  let c2_5890 : Index := 2#32
  let c0_5891 : Index := 0#32
  ![v7511.toNat, 2, 0]
def k0_off35 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7522 : Index := Scalar.indexCast v7259
  let c2_5898 : Index := 2#32
  let c256_5899 : Index := 256#32
  ![v7522.toNat, 2, 256]
def k0_off36 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7533 : Index := Scalar.indexCast v7259
  let c3_5906 : Index := 3#32
  let c0_5907 : Index := 0#32
  ![v7533.toNat, 3, 0]
def k0_off37 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7544 : Index := Scalar.indexCast v7259
  let c3_5914 : Index := 3#32
  let c256_5915 : Index := 256#32
  ![v7544.toNat, 3, 256]
def k0_off38 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7555 : Index := Scalar.indexCast v7259
  let c4_5922 : Index := 4#32
  let c0_5923 : Index := 0#32
  ![v7555.toNat, 4, 0]
def k0_off39 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7566 : Index := Scalar.indexCast v7259
  let c4_5930 : Index := 4#32
  let c256_5931 : Index := 256#32
  ![v7566.toNat, 4, 256]
def k0_off40 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7577 : Index := Scalar.indexCast v7259
  let c5_5938 : Index := 5#32
  let c0_5939 : Index := 0#32
  ![v7577.toNat, 5, 0]
def k0_off41 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7588 : Index := Scalar.indexCast v7259
  let c5_5946 : Index := 5#32
  let c256_5947 : Index := 256#32
  ![v7588.toNat, 5, 256]
def k0_off42 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7599 : Index := Scalar.indexCast v7259
  let c6_5954 : Index := 6#32
  let c0_5955 : Index := 0#32
  ![v7599.toNat, 6, 0]
def k0_off43 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7610 : Index := Scalar.indexCast v7259
  let c6_5962 : Index := 6#32
  let c256_5963 : Index := 256#32
  ![v7610.toNat, 6, 256]
def k0_off44 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7621 : Index := Scalar.indexCast v7259
  let c7_5970 : Index := 7#32
  let c0_5971 : Index := 0#32
  ![v7621.toNat, 7, 0]
def k0_off45 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7632 : Index := Scalar.indexCast v7259
  let c7_5978 : Index := 7#32
  let c256_5979 : Index := 256#32
  ![v7632.toNat, 7, 256]
def k0_off46 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7643 : Index := Scalar.indexCast v7259
  let c8_5986 : Index := 8#32
  let c0_5987 : Index := 0#32
  ![v7643.toNat, 8, 0]
def k0_off47 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7654 : Index := Scalar.indexCast v7259
  let c8_5994 : Index := 8#32
  let c256_5995 : Index := 256#32
  ![v7654.toNat, 8, 256]
def k0_off48 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7665 : Index := Scalar.indexCast v7259
  let c9_6002 : Index := 9#32
  let c0_6003 : Index := 0#32
  ![v7665.toNat, 9, 0]
def k0_off49 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7676 : Index := Scalar.indexCast v7259
  let c9_6010 : Index := 9#32
  let c256_6011 : Index := 256#32
  ![v7676.toNat, 9, 256]
def k0_off50 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7687 : Index := Scalar.indexCast v7259
  let c10_6018 : Index := 10#32
  let c0_6019 : Index := 0#32
  ![v7687.toNat, 10, 0]
def k0_off51 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7698 : Index := Scalar.indexCast v7259
  let c10_6026 : Index := 10#32
  let c256_6027 : Index := 256#32
  ![v7698.toNat, 10, 256]
def k0_off52 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7709 : Index := Scalar.indexCast v7259
  let c11_6034 : Index := 11#32
  let c0_6035 : Index := 0#32
  ![v7709.toNat, 11, 0]
def k0_off53 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7720 : Index := Scalar.indexCast v7259
  let c11_6042 : Index := 11#32
  let c256_6043 : Index := 256#32
  ![v7720.toNat, 11, 256]
def k0_off54 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7731 : Index := Scalar.indexCast v7259
  let c12_6050 : Index := 12#32
  let c0_6051 : Index := 0#32
  ![v7731.toNat, 12, 0]
def k0_off55 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7742 : Index := Scalar.indexCast v7259
  let c12_6058 : Index := 12#32
  let c256_6059 : Index := 256#32
  ![v7742.toNat, 12, 256]
def k0_off56 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7753 : Index := Scalar.indexCast v7259
  let c13_6066 : Index := 13#32
  let c0_6067 : Index := 0#32
  ![v7753.toNat, 13, 0]
def k0_off57 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7764 : Index := Scalar.indexCast v7259
  let c13_6074 : Index := 13#32
  let c256_6075 : Index := 256#32
  ![v7764.toNat, 13, 256]
def k0_off58 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7775 : Index := Scalar.indexCast v7259
  let c14_6082 : Index := 14#32
  let c0_6083 : Index := 0#32
  ![v7775.toNat, 14, 0]
def k0_off59 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7786 : Index := Scalar.indexCast v7259
  let c14_6090 : Index := 14#32
  let c256_6091 : Index := 256#32
  ![v7786.toNat, 14, 256]
def k0_off60 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7797 : Index := Scalar.indexCast v7259
  let c15_6098 : Index := 15#32
  let c0_6099 : Index := 0#32
  ![v7797.toNat, 15, 0]
def k0_off61 (k0_t1 : Fin k0_t1_loop.trips) (c0_i32_5662 : BitVec 32) : Fin 3 → Nat :=
  let c2_i32_5660 : BitVec 32 := 2#32
  let c0_i32_922 : BitVec 32 := 0#32
  let c1_i32_924 : BitVec 32 := 1#32
  let arg63 : BitVec 32 := Scf.iv c0_i32_922 c1_i32_924 k0_t1
  let v7257 : BitVec 32 := Scalar.muli c2_i32_5660 arg63
  let c1_i32_5661 : BitVec 32 := 1#32
  let v7258 : BitVec 32 := Scalar.addi v7257 c1_i32_5661
  let v7259 : BitVec 32 := Scalar.addi v7258 c0_i32_5662
  let v7808 : Index := Scalar.indexCast v7259
  let c15_6106 : Index := 15#32
  let c256_6107 : Index := 256#32
  ![v7808.toNat, 15, 256]
def k0_off62 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7825 : Index := Scalar.indexCast arg63
  let c0_6119 : Index := 0#32
  let c0_6120 : Index := 0#32
  let c0_6121 : Index := 0#32
  ![v7825.toNat, 0, 0, 0]
def k0_off63 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7825 : Index := Scalar.indexCast arg63
  let c0_6119 : Index := 0#32
  let c0_6120 : Index := 0#32
  let c0_6121 : Index := 0#32
  ![v7825.toNat, 0, 0, 0]
def k0_off64 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7833 : Index := Scalar.indexCast arg63
  let c0_6124 : Index := 0#32
  let c1_6125 : Index := 1#32
  let c0_6126 : Index := 0#32
  ![v7833.toNat, 0, 1, 0]
def k0_off65 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7833 : Index := Scalar.indexCast arg63
  let c0_6124 : Index := 0#32
  let c0_6126 : Index := 0#32
  ![v7833.toNat, 0, 0, 0]
def k0_off66 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7841 : Index := Scalar.indexCast arg63
  let c0_6129 : Index := 0#32
  let c2_6130 : Index := 2#32
  let c0_6131 : Index := 0#32
  ![v7841.toNat, 0, 2, 0]
def k0_off67 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7841 : Index := Scalar.indexCast arg63
  let c0_6129 : Index := 0#32
  let c2_6130 : Index := 2#32
  let c0_6131 : Index := 0#32
  ![v7841.toNat, 0, 2, 0]
def k0_off68 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7849 : Index := Scalar.indexCast arg63
  let c0_6134 : Index := 0#32
  let c3_6135 : Index := 3#32
  let c0_6136 : Index := 0#32
  ![v7849.toNat, 0, 3, 0]
def k0_off69 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v7849 : Index := Scalar.indexCast arg63
  let c0_6134 : Index := 0#32
  let c0_6136 : Index := 0#32
  ![v7849.toNat, 0, 2, 0]
def k0_off70 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c0_i32_6148 : BitVec 32 := 0#32
  let c0_i32_6149 : BitVec 32 := 0#32
  let c0_i32_6150 : BitVec 32 := 0#32
  ![arg63.toNat, 0, 0, 0]
def k0_off71 (k0_t1 : Fin k0_t1_loop.trips) (c0_i32_6173 : BitVec 32) : Fin 3 → Nat :=
  let c0_i32_922 : BitVec 32 := 0#32
  let c1_i32_924 : BitVec 32 := 1#32
  let arg63 : BitVec 32 := Scf.iv c0_i32_922 c1_i32_924 k0_t1
  let c8_i32 : BitVec 32 := 8#32
  let v7882 : BitVec 32 := Scalar.muli arg63 c8_i32
  let c4_i32_6172 : BitVec 32 := 4#32
  let v7883 : BitVec 32 := Scalar.addi v7882 c4_i32_6172
  let v7884 : BitVec 32 := Scalar.addi v7883 c0_i32_6173
  let v7885 : Index := Scalar.indexCast v7884
  let c0_6174 : Index := 0#32
  let c0_6175 : Index := 0#32
  ![v7885.toNat, 0, 0]
def k0_off72 (k0_t1 : Fin k0_t1_loop.trips) (c0_i32_6181 : BitVec 32) : Fin 3 → Nat :=
  let c0_i32_922 : BitVec 32 := 0#32
  let c1_i32_924 : BitVec 32 := 1#32
  let arg63 : BitVec 32 := Scf.iv c0_i32_922 c1_i32_924 k0_t1
  let c8_i32_6179 : BitVec 32 := 8#32
  let v7895 : BitVec 32 := Scalar.muli arg63 c8_i32_6179
  let c4_i32_6180 : BitVec 32 := 4#32
  let v7896 : BitVec 32 := Scalar.addi v7895 c4_i32_6180
  let v7897 : BitVec 32 := Scalar.addi v7896 c0_i32_6181
  let v7898 : Index := Scalar.indexCast v7897
  let c1_6182 : Index := 1#32
  let c0_6183 : Index := 0#32
  ![v7898.toNat, 1, 0]
def k0_off73 (k0_t1 : Fin k0_t1_loop.trips) (c0_i32_6189 : BitVec 32) : Fin 3 → Nat :=
  let c0_i32_922 : BitVec 32 := 0#32
  let c1_i32_924 : BitVec 32 := 1#32
  let arg63 : BitVec 32 := Scf.iv c0_i32_922 c1_i32_924 k0_t1
  let c8_i32_6187 : BitVec 32 := 8#32
  let v7908 : BitVec 32 := Scalar.muli arg63 c8_i32_6187
  let c4_i32_6188 : BitVec 32 := 4#32
  let v7909 : BitVec 32 := Scalar.addi v7908 c4_i32_6188
  let v7910 : BitVec 32 := Scalar.addi v7909 c0_i32_6189
  let v7911 : Index := Scalar.indexCast v7910
  let c2_6190 : Index := 2#32
  let c0_6191 : Index := 0#32
  ![v7911.toNat, 2, 0]
def k0_off74 (k0_t1 : Fin k0_t1_loop.trips) (c0_i32_6197 : BitVec 32) : Fin 3 → Nat :=
  let c0_i32_922 : BitVec 32 := 0#32
  let c1_i32_924 : BitVec 32 := 1#32
  let arg63 : BitVec 32 := Scf.iv c0_i32_922 c1_i32_924 k0_t1
  let c8_i32_6195 : BitVec 32 := 8#32
  let v7921 : BitVec 32 := Scalar.muli arg63 c8_i32_6195
  let c4_i32_6196 : BitVec 32 := 4#32
  let v7922 : BitVec 32 := Scalar.addi v7921 c4_i32_6196
  let v7923 : BitVec 32 := Scalar.addi v7922 c0_i32_6197
  let v7924 : Index := Scalar.indexCast v7923
  let c3_6198 : Index := 3#32
  let c0_6199 : Index := 0#32
  ![v7924.toNat, 3, 0]
def k0_off75 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c0_i32_6299 : BitVec 32 := 0#32
  let c0_i32_6300 : BitVec 32 := 0#32
  let c0_i32_6301 : BitVec 32 := 0#32
  ![arg63.toNat, 0, 0, 0]
def k0_off76 (k0_t1 : Fin k0_t1_loop.trips) (c0_i32_6325 : BitVec 32) : Fin 2 → Nat :=
  let c0_i32_922 : BitVec 32 := 0#32
  let c1_i32_924 : BitVec 32 := 1#32
  let arg63 : BitVec 32 := Scf.iv c0_i32_922 c1_i32_924 k0_t1
  let c8_i32_6323 : BitVec 32 := 8#32
  let v8112 : BitVec 32 := Scalar.muli arg63 c8_i32_6323
  let c4_i32_6324 : BitVec 32 := 4#32
  let v8113 : BitVec 32 := Scalar.addi v8112 c4_i32_6324
  let v8114 : BitVec 32 := Scalar.addi v8113 c0_i32_6325
  let v8115 : Index := Scalar.indexCast v8114
  let c0_6326 : Index := 0#32
  ![v8115.toNat, 0]
def k0_mult43 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c1_i32_6354 : BitVec 32 := 1#32
  let v8162 : BitVec 32 := Scalar.subi v8161 c1_i32_6354
  let c64_i32_6355 : BitVec 32 := 64#32
  let v8163 : BitVec 32 := Scalar.muli v8162 c64_i32_6355
  v8163
def k0_cond4 (k0_t1 : Fin k0_t1_loop.trips) : BitVec 1 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_6420 : BitVec 32 := 2#32
  let v8205 : BitVec 1 := Scalar.cmpi .sge v8161 c2_i32_6420
  let v8206 : BitVec 32 := Scalar.extui v8205
  let c0_i32_6421 : BitVec 32 := 0#32
  let v8207 : BitVec 1 := Scalar.cmpi .ne v8206 c0_i32_6421
  v8207

def k0_mult44 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7047 : BitVec 32 := 2#32
  let v9064 : BitVec 32 := Scalar.subi v8161 c2_i32_7047
  let c512_i32_7048 : BitVec 32 := 512#32
  let v9065 : BitVec 32 := Scalar.muli v9064 c512_i32_7048
  let c0_i32_7049 : BitVec 32 := 0#32
  let v9066 : BitVec 32 := Scalar.addi v9065 c0_i32_7049
  v9066
def k0_mult45 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7047 : BitVec 32 := 2#32
  let v9064 : BitVec 32 := Scalar.subi v8161 c2_i32_7047
  let c512_i32_7050 : BitVec 32 := 512#32
  let v9068 : BitVec 32 := Scalar.muli v9064 c512_i32_7050
  let c128_i32_7051 : BitVec 32 := 128#32
  let v9069 : BitVec 32 := Scalar.addi v9068 c128_i32_7051
  v9069
def k0_mult46 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7047 : BitVec 32 := 2#32
  let v9064 : BitVec 32 := Scalar.subi v8161 c2_i32_7047
  let c512_i32_7052 : BitVec 32 := 512#32
  let v9071 : BitVec 32 := Scalar.muli v9064 c512_i32_7052
  let c256_i32_7053 : BitVec 32 := 256#32
  let v9072 : BitVec 32 := Scalar.addi v9071 c256_i32_7053
  v9072
def k0_mult47 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7047 : BitVec 32 := 2#32
  let v9064 : BitVec 32 := Scalar.subi v8161 c2_i32_7047
  let c512_i32_7054 : BitVec 32 := 512#32
  let v9074 : BitVec 32 := Scalar.muli v9064 c512_i32_7054
  let c384_i32_7055 : BitVec 32 := 384#32
  let v9075 : BitVec 32 := Scalar.addi v9074 c384_i32_7055
  v9075
def k0_off77 (k0_t1 : Fin k0_t1_loop.trips) (c0_i32_7049 : BitVec 32) : Fin 3 → Nat :=
  let c0_i32_7059 : BitVec 32 := 0#32
  let c0_i32_7060 : BitVec 32 := 0#32
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7047 : BitVec 32 := 2#32
  let v9064 : BitVec 32 := Scalar.subi v8161 c2_i32_7047
  let c512_i32_7048 : BitVec 32 := 512#32
  let v9065 : BitVec 32 := Scalar.muli v9064 c512_i32_7048
  let v9066 : BitVec 32 := Scalar.addi v9065 c0_i32_7049
  let v9067 : BitVec 32 := v9066
  ![0, 0, v9067.toNat]
def k0_mult48 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  v9098
def k0_off78 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7093 : BitVec 32 := 0#32
  let c0_i32_7094 : BitVec 32 := 0#32
  ![v9099.toNat, 0, 0]
def k0_off79 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7101 : BitVec 32 := 0#32
  let c128_i32_7102 : BitVec 32 := 128#32
  ![v9099.toNat, 0, 128]
def k0_off80 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7109 : BitVec 32 := 0#32
  let c256_i32_7110 : BitVec 32 := 256#32
  ![v9099.toNat, 0, 256]
def k0_off81 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7117 : BitVec 32 := 0#32
  let c384_i32_7118 : BitVec 32 := 384#32
  ![v9099.toNat, 0, 384]
def k0_off82 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7125 : BitVec 32 := 0#32
  let c512_i32_7126 : BitVec 32 := 512#32
  ![v9099.toNat, 0, 512]
def k0_off83 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7133 : BitVec 32 := 0#32
  let c640_i32_7134 : BitVec 32 := 640#32
  ![v9099.toNat, 0, 640]
def k0_off84 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7141 : BitVec 32 := 0#32
  let c768_i32_7142 : BitVec 32 := 768#32
  ![v9099.toNat, 0, 768]
def k0_off85 (k0_t1 : Fin k0_t1_loop.trips) : Fin 3 → Nat :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c2_i32_7088 : BitVec 32 := 2#32
  let v9097 : BitVec 32 := Scalar.subi v8161 c2_i32_7088
  let c64_i32_7089 : BitVec 32 := 64#32
  let v9098 : BitVec 32 := Scalar.muli v9097 c64_i32_7089
  let v9099 : BitVec 32 := v9098
  let c0_i32_7149 : BitVec 32 := 0#32
  let c896_i32_7150 : BitVec 32 := 896#32
  ![v9099.toNat, 0, 896]
def k0_cond5 (k0_t1 : Fin k0_t1_loop.trips) : BitVec 1 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_6422 : BitVec 32 := 3#32
  let v8208 : BitVec 1 := Scalar.cmpi .sge v8161 c3_i32_6422
  let v8209 : BitVec 32 := Scalar.extui v8208
  let c0_i32_6423 : BitVec 32 := 0#32
  let v8210 : BitVec 1 := Scalar.cmpi .ne v8209 c0_i32_6423
  v8210

def k0_mult49 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_7047 : BitVec 32 := 3#32
  let v9064 : BitVec 32 := Scalar.subi v8161 c3_i32_7047
  let c512_i32_7048 : BitVec 32 := 512#32
  let v9065 : BitVec 32 := Scalar.muli v9064 c512_i32_7048
  let c0_i32_7049 : BitVec 32 := 0#32
  let v9066 : BitVec 32 := Scalar.addi v9065 c0_i32_7049
  v9066
def k0_mult50 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_7047 : BitVec 32 := 3#32
  let v9064 : BitVec 32 := Scalar.subi v8161 c3_i32_7047
  let c512_i32_7050 : BitVec 32 := 512#32
  let v9068 : BitVec 32 := Scalar.muli v9064 c512_i32_7050
  let c128_i32_7051 : BitVec 32 := 128#32
  let v9069 : BitVec 32 := Scalar.addi v9068 c128_i32_7051
  v9069
def k0_mult51 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_7047 : BitVec 32 := 3#32
  let v9064 : BitVec 32 := Scalar.subi v8161 c3_i32_7047
  let c512_i32_7052 : BitVec 32 := 512#32
  let v9071 : BitVec 32 := Scalar.muli v9064 c512_i32_7052
  let c256_i32_7053 : BitVec 32 := 256#32
  let v9072 : BitVec 32 := Scalar.addi v9071 c256_i32_7053
  v9072
def k0_mult52 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_7047 : BitVec 32 := 3#32
  let v9064 : BitVec 32 := Scalar.subi v8161 c3_i32_7047
  let c512_i32_7054 : BitVec 32 := 512#32
  let v9074 : BitVec 32 := Scalar.muli v9064 c512_i32_7054
  let c384_i32_7055 : BitVec 32 := 384#32
  let v9075 : BitVec 32 := Scalar.addi v9074 c384_i32_7055
  v9075
def k0_off86 (k0_t1 : Fin k0_t1_loop.trips) (c0_i32_7049 : BitVec 32) : Fin 3 → Nat :=
  let c0_i32_7059 : BitVec 32 := 0#32
  let c0_i32_7060 : BitVec 32 := 0#32
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c3_i32_7047 : BitVec 32 := 3#32
  let v9064 : BitVec 32 := Scalar.subi v8161 c3_i32_7047
  let c512_i32_7048 : BitVec 32 := 512#32
  let v9065 : BitVec 32 := Scalar.muli v9064 c512_i32_7048
  let v9066 : BitVec 32 := Scalar.addi v9065 c0_i32_7049
  let v9067 : BitVec 32 := v9066
  ![0, 0, v9067.toNat]
def k0_mult53 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c1_i32_6424 : BitVec 32 := 1#32
  let v8211 : BitVec 32 := Scalar.addi v8161 c1_i32_6424
  let c512_i32_6425 : BitVec 32 := 512#32
  let v8212 : BitVec 32 := Scalar.muli v8211 c512_i32_6425
  v8212
def k0_mult54 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c1_i32_6429 : BitVec 32 := 1#32
  let v8219 : BitVec 32 := Scalar.addi v8161 c1_i32_6429
  let c512_i32_6430 : BitVec 32 := 512#32
  let v8220 : BitVec 32 := Scalar.muli v8219 c512_i32_6430
  v8220
def k0_mult55 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c1_i32_6434 : BitVec 32 := 1#32
  let v8227 : BitVec 32 := Scalar.subi v8161 c1_i32_6434
  let c512_i32_6435 : BitVec 32 := 512#32
  let v8228 : BitVec 32 := Scalar.muli v8227 c512_i32_6435
  v8228
def k0_cond6 (k0_t1 : Fin k0_t1_loop.trips) : BitVec 1 :=
  let c0_i32_922 : BitVec 32 := 0#32
  let c1_i32_924 : BitVec 32 := 1#32
  let arg63 : BitVec 32 := Scf.iv c0_i32_922 c1_i32_924 k0_t1
  let c1_i32_6439 : BitVec 32 := 1#32
  let v8235 : BitVec 32 := Scalar.addi arg63 c1_i32_6439
  let c3_i32_6440 : BitVec 32 := 3#32
  let v8236 : BitVec 1 := Scalar.cmpi .slt v8235 c3_i32_6440
  let v8237 : BitVec 32 := Scalar.extui v8236
  let c0_i32_6441 : BitVec 32 := 0#32
  let v8238 : BitVec 1 := Scalar.cmpi .ne v8237 c0_i32_6441
  v8238

def k0_off87 (k0_t1 : Fin k0_t1_loop.trips) : Fin 1 → Nat :=
  let c0_i32_922 : BitVec 32 := 0#32
  let c1_i32_924 : BitVec 32 := 1#32
  let arg63 : BitVec 32 := Scf.iv c0_i32_922 c1_i32_924 k0_t1
  let c1_i32_7047 : BitVec 32 := 1#32
  let v9064 : BitVec 32 := Scalar.addi arg63 c1_i32_7047
  ![v9064.toNat]
def k0_off88 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c1_i32_7047 : BitVec 32 := 1#32
  let v9064 : BitVec 32 := Scalar.addi arg63 c1_i32_7047
  let c0_i32_7048 : BitVec 32 := 0#32
  let c0_i32_7049 : BitVec 32 := 0#32
  let c0_i32_7050 : BitVec 32 := 0#32
  ![v9064.toNat, 0, 0, 0]
def k0_off89 (k0_t1 : Fin k0_t1_loop.trips) : Fin 4 → Nat :=
  let c0_i32_7051 : BitVec 32 := 0#32
  let c0_i32_922 : BitVec 32 := 0#32
  let c1_i32_924 : BitVec 32 := 1#32
  let arg63 : BitVec 32 := Scf.iv c0_i32_922 c1_i32_924 k0_t1
  let c1_i32_7047 : BitVec 32 := 1#32
  let v9064 : BitVec 32 := Scalar.addi arg63 c1_i32_7047
  let c0_i32_7052 : BitVec 32 := 0#32
  let c0_i32_7053 : BitVec 32 := 0#32
  ![0, v9064.toNat, 0, 0]
def k0_off90 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c1_i32_7054 : BitVec 32 := 1#32
  let v9071 : BitVec 32 := Scalar.addi arg63 c1_i32_7054
  let c0_i32_7055 : BitVec 32 := 0#32
  let c0_i32_7056 : BitVec 32 := 0#32
  let c0_i32_7057 : BitVec 32 := 0#32
  ![v9071.toNat, 0, 0, 0]
def k0_off91 (k0_t1 : Fin k0_t1_loop.trips) : Fin 4 → Nat :=
  let c0_i32_7058 : BitVec 32 := 0#32
  let c0_i32_922 : BitVec 32 := 0#32
  let c1_i32_924 : BitVec 32 := 1#32
  let arg63 : BitVec 32 := Scf.iv c0_i32_922 c1_i32_924 k0_t1
  let c1_i32_7054 : BitVec 32 := 1#32
  let v9071 : BitVec 32 := Scalar.addi arg63 c1_i32_7054
  let c0_i32_7059 : BitVec 32 := 0#32
  let c0_i32_7060 : BitVec 32 := 0#32
  ![0, v9071.toNat, 0, 0]
def k0_mult56 (k0_t1 : Fin k0_t1_loop.trips) : BitVec 32 :=
  let c2_i32_6351 : BitVec 32 := 2#32
  let c0_i32_922 : BitVec 32 := 0#32
  let c1_i32_924 : BitVec 32 := 1#32
  let arg63 : BitVec 32 := Scf.iv c0_i32_922 c1_i32_924 k0_t1
  let v8159 : BitVec 32 := Scalar.muli c2_i32_6351 arg63
  let c1_i32_6352 : BitVec 32 := 1#32
  let v8160 : BitVec 32 := Scalar.addi v8159 c1_i32_6352
  let c1_i32_6353 : BitVec 32 := 1#32
  let v8161 : BitVec 32 := Scalar.addi v8160 c1_i32_6353
  let c1_i32_6535 : BitVec 32 := 1#32
  let v8348 : BitVec 32 := Scalar.subi v8161 c1_i32_6535
  let c512_i32_6538 : BitVec 32 := 512#32
  let v8353 : BitVec 32 := Scalar.muli v8348 c512_i32_6538
  v8353
def k0_off92 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8728 : Index := Scalar.indexCast arg63
  let c0_6812 : Index := 0#32
  let c4_6813 : Index := 4#32
  let c0_6814 : Index := 0#32
  ![v8728.toNat, 0, 4, 0]
def k0_off93 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8728 : Index := Scalar.indexCast arg63
  let c0_6812 : Index := 0#32
  let c4_6813 : Index := 4#32
  let c0_6814 : Index := 0#32
  ![v8728.toNat, 0, 4, 0]
def k0_off94 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8736 : Index := Scalar.indexCast arg63
  let c0_6817 : Index := 0#32
  let c5_6818 : Index := 5#32
  let c0_6819 : Index := 0#32
  ![v8736.toNat, 0, 5, 0]
def k0_off95 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8736 : Index := Scalar.indexCast arg63
  let c0_6817 : Index := 0#32
  let c0_6819 : Index := 0#32
  ![v8736.toNat, 0, 4, 0]
def k0_off96 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8744 : Index := Scalar.indexCast arg63
  let c0_6822 : Index := 0#32
  let c6_6823 : Index := 6#32
  let c0_6824 : Index := 0#32
  ![v8744.toNat, 0, 6, 0]
def k0_off97 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8744 : Index := Scalar.indexCast arg63
  let c0_6822 : Index := 0#32
  let c6_6823 : Index := 6#32
  let c0_6824 : Index := 0#32
  ![v8744.toNat, 0, 6, 0]
def k0_off98 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8752 : Index := Scalar.indexCast arg63
  let c0_6827 : Index := 0#32
  let c7_6828 : Index := 7#32
  let c0_6829 : Index := 0#32
  ![v8752.toNat, 0, 7, 0]
def k0_off99 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let v8752 : Index := Scalar.indexCast arg63
  let c0_6827 : Index := 0#32
  let c0_6829 : Index := 0#32
  ![v8752.toNat, 0, 6, 0]
def k0_off100 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c0_i32_6843 : BitVec 32 := 0#32
  let c0_i32_6844 : BitVec 32 := 0#32
  let c0_i32_6845 : BitVec 32 := 0#32
  ![v8767.toNat, 0, 0, 0]
def k0_off101 (k0_t1 : Fin k0_t1_loop.trips) (c0_i32_6869 : BitVec 32) : Fin 3 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c8_i32_6867 : BitVec 32 := 8#32
  let v8787 : BitVec 32 := Scalar.muli v8767 c8_i32_6867
  let c0_i32_6868 : BitVec 32 := 0#32
  let v8788 : BitVec 32 := Scalar.addi v8787 c0_i32_6868
  let v8789 : BitVec 32 := Scalar.addi v8788 c0_i32_6869
  let v8790 : Index := Scalar.indexCast v8789
  let c0_6870 : Index := 0#32
  let c0_6871 : Index := 0#32
  ![v8790.toNat, 0, 0]
def k0_off102 (k0_t1 : Fin k0_t1_loop.trips) (c0_i32_6877 : BitVec 32) : Fin 3 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c8_i32_6875 : BitVec 32 := 8#32
  let v8800 : BitVec 32 := Scalar.muli v8767 c8_i32_6875
  let c0_i32_6876 : BitVec 32 := 0#32
  let v8801 : BitVec 32 := Scalar.addi v8800 c0_i32_6876
  let v8802 : BitVec 32 := Scalar.addi v8801 c0_i32_6877
  let v8803 : Index := Scalar.indexCast v8802
  let c1_6878 : Index := 1#32
  let c0_6879 : Index := 0#32
  ![v8803.toNat, 1, 0]
def k0_off103 (k0_t1 : Fin k0_t1_loop.trips) (c0_i32_6885 : BitVec 32) : Fin 3 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c8_i32_6883 : BitVec 32 := 8#32
  let v8813 : BitVec 32 := Scalar.muli v8767 c8_i32_6883
  let c0_i32_6884 : BitVec 32 := 0#32
  let v8814 : BitVec 32 := Scalar.addi v8813 c0_i32_6884
  let v8815 : BitVec 32 := Scalar.addi v8814 c0_i32_6885
  let v8816 : Index := Scalar.indexCast v8815
  let c2_6886 : Index := 2#32
  let c0_6887 : Index := 0#32
  ![v8816.toNat, 2, 0]
def k0_off104 (k0_t1 : Fin k0_t1_loop.trips) (c0_i32_6893 : BitVec 32) : Fin 3 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c8_i32_6891 : BitVec 32 := 8#32
  let v8826 : BitVec 32 := Scalar.muli v8767 c8_i32_6891
  let c0_i32_6892 : BitVec 32 := 0#32
  let v8827 : BitVec 32 := Scalar.addi v8826 c0_i32_6892
  let v8828 : BitVec 32 := Scalar.addi v8827 c0_i32_6893
  let v8829 : Index := Scalar.indexCast v8828
  let c3_6894 : Index := 3#32
  let c0_6895 : Index := 0#32
  ![v8829.toNat, 3, 0]
def k0_off105 (k0_t1 : Fin k0_t1_loop.trips) : Fin 4 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c0_i32_6995 : BitVec 32 := 0#32
  let c0_i32_6996 : BitVec 32 := 0#32
  let c0_i32_6997 : BitVec 32 := 0#32
  ![v8767.toNat, 0, 0, 0]
def k0_off106 (k0_t1 : Fin k0_t1_loop.trips) (c0_i32_7021 : BitVec 32) : Fin 2 → Nat :=
  let c0_i32_922 : BitVec 32 := 0#32
  let c1_i32_924 : BitVec 32 := 1#32
  let arg63 : BitVec 32 := Scf.iv c0_i32_922 c1_i32_924 k0_t1
  let c1_i32_6841 : BitVec 32 := 1#32
  let v8766 : BitVec 32 := Scalar.addi arg63 c1_i32_6841
  let c2_i32_6842 : BitVec 32 := 2#32
  let v8767 : BitVec 32 := Scalar.minsi v8766 c2_i32_6842
  let c8_i32_7019 : BitVec 32 := 8#32
  let v9017 : BitVec 32 := Scalar.muli v8767 c8_i32_7019
  let c0_i32_7020 : BitVec 32 := 0#32
  let v9018 : BitVec 32 := Scalar.addi v9017 c0_i32_7020
  let v9019 : BitVec 32 := Scalar.addi v9018 c0_i32_7021
  let v9020 : Index := Scalar.indexCast v9019
  let c0_7022 : Index := 0#32
  ![v9020.toNat, 0]
def k0_mult57 : BitVec 32 :=
  let c384_i32 : BitVec 32 := 384#32
  c384_i32
def k0_mult58 : BitVec 32 :=
  let c2560_i32_985 : BitVec 32 := 2560#32
  c2560_i32_985
def k0_mult59 : BitVec 32 :=
  let c2688_i32 : BitVec 32 := 2688#32
  c2688_i32
def k0_mult60 : BitVec 32 :=
  let c2816_i32 : BitVec 32 := 2816#32
  c2816_i32
def k0_mult61 : BitVec 32 :=
  let c2944_i32 : BitVec 32 := 2944#32
  c2944_i32
def k0_mult62 : BitVec 32 :=
  let c320_i32 : BitVec 32 := 320#32
  c320_i32
def k0_mult63 : BitVec 32 :=
  let c2048_i32_1091 : BitVec 32 := 2048#32
  c2048_i32_1091
def k0_mult64 : BitVec 32 :=
  let c2176_i32 : BitVec 32 := 2176#32
  c2176_i32
def k0_mult65 : BitVec 32 :=
  let c2304_i32 : BitVec 32 := 2304#32
  c2304_i32
def k0_mult66 : BitVec 32 :=
  let c2432_i32 : BitVec 32 := 2432#32
  c2432_i32
def k0_mult67 : BitVec 32 :=
  let c3072_i32_1124 : BitVec 32 := 3072#32
  c3072_i32_1124
def k0_mult68 : BitVec 32 :=
  let c3584_i32_1130 : BitVec 32 := 3584#32
  c3584_i32_1130
def k0_mult69 : BitVec 32 :=
  let c3072_i32_1173 : BitVec 32 := 3072#32
  c3072_i32_1173
def k0_mult70 : BitVec 32 :=
  let c3072_i32_1471 : BitVec 32 := 3072#32
  c3072_i32_1471
def k0_mult71 : BitVec 32 :=
  let c3200_i32 : BitVec 32 := 3200#32
  c3200_i32
def k0_mult72 : BitVec 32 :=
  let c3328_i32 : BitVec 32 := 3328#32
  c3328_i32
def k0_mult73 : BitVec 32 :=
  let c3456_i32 : BitVec 32 := 3456#32
  c3456_i32
def k0_mult74 : BitVec 32 :=
  let c2560_i32_1504 : BitVec 32 := 2560#32
  c2560_i32_1504
def k0_mult75 : BitVec 32 :=
  let c2688_i32_1505 : BitVec 32 := 2688#32
  c2688_i32_1505
def k0_mult76 : BitVec 32 :=
  let c2816_i32_1506 : BitVec 32 := 2816#32
  c2816_i32_1506
def k0_mult77 : BitVec 32 :=
  let c2944_i32_1507 : BitVec 32 := 2944#32
  c2944_i32_1507
def k0_mult78 : BitVec 32 :=
  let c3584_i32_1543 : BitVec 32 := 3584#32
  c3584_i32_1543
def k0_mult79 : BitVec 32 :=
  let c3584_i32_5269 : BitVec 32 := 3584#32
  c3584_i32_5269
def k0_mult80 : BitVec 32 :=
  let c3712_i32 : BitVec 32 := 3712#32
  c3712_i32
def k0_mult81 : BitVec 32 :=
  let c3840_i32 : BitVec 32 := 3840#32
  c3840_i32
def k0_mult82 : BitVec 32 :=
  let c3968_i32 : BitVec 32 := 3968#32
  c3968_i32
def k0_mult83 : BitVec 32 :=
  let c448_i32 : BitVec 32 := 448#32
  c448_i32
def k0_mult84 : BitVec 32 :=
  let c3072_i32_5393 : BitVec 32 := 3072#32
  c3072_i32_5393
def k0_mult85 : BitVec 32 :=
  let c3200_i32_5394 : BitVec 32 := 3200#32
  c3200_i32_5394
def k0_mult86 : BitVec 32 :=
  let c3328_i32_5395 : BitVec 32 := 3328#32
  c3328_i32_5395
def k0_mult87 : BitVec 32 :=
  let c3456_i32_5396 : BitVec 32 := 3456#32
  c3456_i32_5396
def k0_mult88 : BitVec 32 :=
  let c384_i32_5429 : BitVec 32 := 384#32
  c384_i32_5429
def k0_mult89 : BitVec 32 :=
  let c3584_i32_5494 : BitVec 32 := 3584#32
  c3584_i32_5494
def k0_mult90 : BitVec 32 :=
  let c3712_i32_5495 : BitVec 32 := 3712#32
  c3712_i32_5495
def k0_mult91 : BitVec 32 :=
  let c3840_i32_5496 : BitVec 32 := 3840#32
  c3840_i32_5496
def k0_mult92 : BitVec 32 :=
  let c3968_i32_5497 : BitVec 32 := 3968#32
  c3968_i32_5497
def k0_mult93 : BitVec 32 :=
  let c448_i32_5530 : BitVec 32 := 448#32
  c448_i32_5530
-- ==== ReferenceIdeal.lean ====
abbrev S1x512x1024 : Shape := ⟨3, ![1, 512, 1024]⟩
abbrev S1x512x32 : Shape := ⟨3, ![1, 512, 32]⟩
abbrev S1x512x3x8x128 : Shape := ⟨5, ![1, 512, 3, 8, 128]⟩
abbrev S1x512x3x8x4 : Shape := ⟨5, ![1, 512, 3, 8, 4]⟩
abbrev S1x512 : Shape := ⟨2, ![1, 512]⟩
abbrev S1024 : Shape := ⟨1, ![1024]⟩
abbrev S1x512x4096 : Shape := ⟨3, ![1, 512, 4096]⟩
abbrev S1x512x128 : Shape := ⟨3, ![1, 512, 128]⟩
abbrev S1024x4096 : Shape := ⟨2, ![1024, 4096]⟩
abbrev S4096 : Shape := ⟨1, ![4096]⟩
abbrev S1024x3x8x128 : Shape := ⟨4, ![1024, 3, 8, 128]⟩
abbrev S3x8x128 : Shape := ⟨3, ![3, 8, 128]⟩
abbrev S64x8x1024 : Shape := ⟨3, ![64, 8, 1024]⟩
abbrev S128x8x4096 : Shape := ⟨3, ![128, 8, 4096]⟩
abbrev S512x8x1024 : Shape := ⟨3, ![512, 8, 1024]⟩
abbrev S1x1024 : Shape := ⟨2, ![1, 1024]⟩
abbrev S1x512x32x1 : Shape := ⟨4, ![1, 512, 32, 1]⟩
abbrev S1x512x32x32 : Shape := ⟨4, ![1, 512, 32, 32]⟩
abbrev S1x512x3x8x4x1 : Shape := ⟨6, ![1, 512, 3, 8, 4, 1]⟩
abbrev S1x512x3x8x4x32 : Shape := ⟨6, ![1, 512, 3, 8, 4, 32]⟩
abbrev S1x512x1 : Shape := ⟨3, ![1, 512, 1]⟩
abbrev S1x4096 : Shape := ⟨2, ![1, 4096]⟩
abbrev S1x3x8x128 : Shape := ⟨4, ![1, 3, 8, 128]⟩
abbrev S1x512x128x1 : Shape := ⟨4, ![1, 512, 128, 1]⟩
abbrev S1x512x128x32 : Shape := ⟨4, ![1, 512, 128, 32]⟩
abbrev S4096x1024 : Shape := ⟨2, ![4096, 1024]⟩
abbrev S1024x1 : Shape := ⟨2, ![1024, 1]⟩
abbrev S1024x1x1x1 : Shape := ⟨4, ![1024, 1, 1, 1]⟩
abbrev S1x1x1024 : Shape := ⟨3, ![1, 1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x512x1024, .fp8e5m2⟩
  | .hbm, ⟨1, _⟩ => ⟨S1x512x32, .f32⟩
  | .hbm, ⟨2, _⟩ => ⟨S1x512x3x8x128, .fp8e5m2⟩
  | .hbm, ⟨3, _⟩ => ⟨S1x512x3x8x4, .f32⟩
  | .hbm, ⟨4, _⟩ => ⟨S1x512x1024, .fp8e4m3⟩
  | .hbm, ⟨5, _⟩ => ⟨S1x512, .f32⟩
  | .hbm, ⟨6, _⟩ => ⟨S1x512, .f32⟩
  | .hbm, ⟨7, _⟩ => ⟨S1024, .f32⟩
  | .hbm, ⟨8, _⟩ => ⟨S1x512x4096, .fp8e5m2⟩
  | .hbm, ⟨9, _⟩ => ⟨S1x512x128, .f32⟩
  | .hbm, ⟨10, _⟩ => ⟨S1x512x4096, .fp8e4m3⟩
  | .hbm, ⟨11, _⟩ => ⟨S1x512, .f32⟩
  | .hbm, ⟨12, _⟩ => ⟨S1024x4096, .fp8e4m3⟩
  | .hbm, ⟨13, _⟩ => ⟨S4096, .f32⟩
  | .hbm, ⟨14, _⟩ => ⟨S1024x3x8x128, .fp8e4m3⟩
  | .hbm, ⟨15, _⟩ => ⟨S3x8x128, .f32⟩
  | .hbm, ⟨16, _⟩ => ⟨S64x8x1024, .bf16⟩
  | .hbm, ⟨17, _⟩ => ⟨S128x8x4096, .bf16⟩
  | .hbm, ⟨18, _⟩ => ⟨S512x8x1024, .bf16⟩
  | .hbm, ⟨19, _⟩ => ⟨S1024x3x8x128, .bf16⟩
  | .hbm, ⟨20, _⟩ => ⟨S1x1024, .f32⟩
  | .local _ .vmem, ⟨0, _⟩ => ⟨S1x512x1024, .fp8e5m2⟩
  | .local _ .vmem, ⟨1, _⟩ => ⟨S1x512x32, .f32⟩
  | .local _ .vmem, ⟨2, _⟩ => ⟨S1x512x3x8x128, .fp8e5m2⟩
  | .local _ .vmem, ⟨3, _⟩ => ⟨S1x512x3x8x4, .f32⟩
  | .local _ .vmem, ⟨4, _⟩ => ⟨S1x512x1024, .fp8e4m3⟩
  | .local _ .vmem, ⟨5, _⟩ => ⟨S1x512, .f32⟩
  | .local _ .vmem, ⟨6, _⟩ => ⟨S1x512, .f32⟩
  | .local _ .vmem, ⟨7, _⟩ => ⟨S1024, .f32⟩
  | .local _ .vmem, ⟨8, _⟩ => ⟨S1x512x4096, .fp8e5m2⟩
  | .local _ .vmem, ⟨9, _⟩ => ⟨S1x512x128, .f32⟩
  | .local _ .vmem, ⟨10, _⟩ => ⟨S1x512x4096, .fp8e4m3⟩
  | .local _ .vmem, ⟨11, _⟩ => ⟨S1x512, .f32⟩
  | .local _ .vmem, ⟨12, _⟩ => ⟨S1024x4096, .fp8e4m3⟩
  | .local _ .vmem, ⟨13, _⟩ => ⟨S4096, .f32⟩
  | .local _ .vmem, ⟨14, _⟩ => ⟨S1024x3x8x128, .fp8e4m3⟩
  | .local _ .vmem, ⟨15, _⟩ => ⟨S3x8x128, .f32⟩
  | .local _ .vmem, ⟨16, _⟩ => ⟨S64x8x1024, .bf16⟩
  | .local _ .vmem, ⟨17, _⟩ => ⟨S128x8x4096, .bf16⟩
  | .local _ .vmem, ⟨18, _⟩ => ⟨S512x8x1024, .bf16⟩
  | .local _ .vmem, ⟨19, _⟩ => ⟨S1024x3x8x128, .bf16⟩
  | .local _ .vmem, ⟨20, _⟩ => ⟨S1x1024, .f32⟩
  | _, _ => ⟨S1x512x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x3x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x3x8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512x4096 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x3x8x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x8x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x8x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x8x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x3x8x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.KBase.lean ====
module

public import proofs.«01_k».proof.Proof.Gen.Kernel
public import proofs.«01_k».proof.Proof.Gen.Kernel.Points

/-! The kernel's body written by its stages: each buffer, each slice the body copies or reads, and each stage as
a small program over them. -/

@[expose] public section

noncomputable section

namespace Cert.Kernel.Hand

open Idealize.ShloMosaic Idealize.ShloMosaic.TcCoe
open Idealize.SL Idealize.SL.Sem
open Cert.Kernel.Gen

variable {F : FTy → Type} [FloatOps F]

/-! ### The buffers -/

abbrev mDyH : Memref sig .tc .hbm S512x1024 .fp8e5m2 := Memref.whole main_v0
abbrev mDysH : Memref sig .tc .hbm S32x512 .f32 := Memref.whole main_v2
abbrev mDqH : Memref sig .tc .hbm S512x3x8x128 .fp8e5m2 := Memref.whole main_v3
abbrev mDqsH : Memref sig .tc .hbm S24x4x512 .f32 := Memref.whole main_v5
abbrev mXhH : Memref sig .tc .hbm S512x1024 .fp8e4m3 := Memref.whole main_v6
abbrev mXsH : Memref sig .tc .hbm S1x512 .f32 := Memref.whole main_arg5
abbrev mGsH : Memref sig .tc .hbm S1x512 .f32 := Memref.whole main_arg11
abbrev mRsH : Memref sig .tc .hbm S1x512 .f32 := Memref.whole main_arg6
abbrev mGamH : Memref sig .tc .hbm S1x1024 .f32 := Memref.whole main_v7
abbrev mAH : Memref sig .tc .hbm S512x4096 .fp8e5m2 := Memref.whole main_v8
abbrev mDsH : Memref sig .tc .hbm S8x16x512 .f32 := Memref.whole main_v11
abbrev mGH : Memref sig .tc .hbm S512x4096 .fp8e4m3 := Memref.whole main_v12
abbrev mWinH : Memref sig .tc .hbm S1024x4096 .fp8e4m3 := Memref.whole main_arg12
abbrev mSinH : Memref sig .tc .hbm S1x4096 .f32 := Memref.whole main_v13
abbrev mWqH : Memref sig .tc .hbm S1024x3x8x128 .fp8e4m3 := Memref.whole main_arg14
abbrev mSqH : Memref sig .tc .hbm S24x128 .f32 := Memref.whole main_v14
abbrev mDxH : Memref sig .tc .hbm S64x8x1024 .bf16 := Memref.whole main_v15_0
abbrev mInH : Memref sig .tc .hbm S128x8x4096 .bf16 := Memref.whole main_v15_1
abbrev mOutH : Memref sig .tc .hbm S512x8x1024 .bf16 := Memref.whole main_v15_2
abbrev mQkvH : Memref sig .tc .hbm S1024x3x8x128 .bf16 := Memref.whole main_v15_3
abbrev mDgH : Memref sig .tc .hbm S1x1024 .f32 := Memref.whole main_v15_4
abbrev mDy : Memref sig .tc .vmem S512x1024 .fp8e5m2 := Memref.whole cc0_scratch0
abbrev mDys : Memref sig .tc .vmem S32x512 .f32 := Memref.whole cc0_scratch1
abbrev mDq : Memref sig .tc .vmem S3x512x8x128 .fp8e5m2 := Memref.whole cc0_scratch2
abbrev mDqs : Memref sig .tc .vmem S24x4x512 .f32 := Memref.whole cc0_scratch3
abbrev mXh : Memref sig .tc .vmem S512x1024 .fp8e4m3 := Memref.whole cc0_scratch4
abbrev mXs : Memref sig .tc .vmem S1x512 .f32 := Memref.whole cc0_scratch5
abbrev mGs : Memref sig .tc .vmem S1x512 .f32 := Memref.whole cc0_scratch6
abbrev mRs : Memref sig .tc .vmem S1x512 .f32 := Memref.whole cc0_scratch7
abbrev mGam : Memref sig .tc .vmem S1x1024 .f32 := Memref.whole cc0_scratch8
abbrev mA : Memref sig .tc .vmem S8x512x512 .fp8e5m2 := Memref.whole cc0_scratch9
abbrev mG : Memref sig .tc .vmem S8x512x512 .fp8e4m3 := Memref.whole cc0_scratch10
abbrev mWin : Memref sig .tc .vmem S8x1024x512 .fp8e4m3 := Memref.whole cc0_scratch11
abbrev mSin : Memref sig .tc .vmem S1x4096 .f32 := Memref.whole cc0_scratch12
abbrev mWq : Memref sig .tc .vmem S3x1024x8x128 .fp8e4m3 := Memref.whole cc0_scratch13
abbrev mSq : Memref sig .tc .vmem S24x128 .f32 := Memref.whole cc0_scratch14
abbrev mDyt : Memref sig .tc .vmem S1024x512 .bf16 := Memref.whole cc0_scratch15
abbrev mXht : Memref sig .tc .vmem S1024x512 .bf16 := Memref.whole cc0_scratch16
abbrev mDht : Memref sig .tc .vmem S1024x512 .f32 := Memref.whole cc0_scratch17
abbrev mGamc : Memref sig .tc .vmem S1024x128 .f32 := Memref.whole cc0_scratch18
abbrev mAt : Memref sig .tc .vmem S2x512x512 .bf16 := Memref.whole cc0_scratch19
abbrev mGt : Memref sig .tc .vmem S2x512x512 .bf16 := Memref.whole cc0_scratch20
abbrev mDat : Memref sig .tc .vmem S2x512x512 .bf16 := Memref.whole cc0_scratch21
abbrev mDs : Memref sig .tc .vmem S8x16x512 .f32 := Memref.whole cc0_scratch22
abbrev mVt : Memref sig .tc .vmem S2x512x512 .bf16 := Memref.whole cc0_scratch23
abbrev mWqb : Memref sig .tc .vmem S2x1024x512 .bf16 := Memref.whole cc0_scratch24
abbrev mIn : Memref sig .tc .vmem S2x4x128x8x128 .bf16 := Memref.whole cc0_scratch25
abbrev mOut : Memref sig .tc .vmem S2x8x64x8x128 .bf16 := Memref.whole cc0_scratch26
abbrev mQkv : Memref sig .tc .vmem S3x1024x8x128 .bf16 := Memref.whole cc0_scratch27
abbrev mDx : Memref sig .tc .vmem S8x64x8x128 .bf16 := Memref.whole cc0_scratch28
abbrev mDg : Memref sig .tc .vmem S1x1024 .f32 := Memref.whole cc0_scratch29

/-! ### The rectangles: in bounds, whole words, packed rows -/

theorem inb_dy : ∀ n : Fin 32, ∀ a, (![0, 32 * n.val] : Fin 2 → Nat) a + S512x32.size a ≤ S512x1024.size a := by decide
theorem inb_dys : ∀ n : Fin 32, ∀ a, (![n.val, 0] : Fin 2 → Nat) a + S1x512.size a ≤ S32x512.size a := by decide
theorem inb_dyt : ∀ n : Fin 32, ∀ a, (![32 * n.val, 0] : Fin 2 → Nat) a + S32x512.size a ≤ S1024x512.size a := by decide
theorem packed_dyt : ∀ n : Fin 32, (Rect.unit (s := S1024x512) ![32 * n.val, 0] S32x512.size (inb_dyt n)).PackedRows (EltTy.packing .bf16) := by decide
theorem inb_gcol : ∀ t : Fin 8, ∀ a, (![0, 512 * t.val] : Fin 2 → Nat) a + S512x512.size a ≤ S512x4096.size a := by decide
theorem words_gcol : ∀ t : Fin 8, (Rect.unit (s := S512x4096) ![0, 512 * t.val] S512x512.size (inb_gcol t)).WholeWords (EltTy.packing .fp8e4m3) := by decide
theorem inb_g : ∀ t : Fin 8, ∀ a, (![t.val, 0, 0] : Fin 3 → Nat) a + S1x512x512.size a ≤ S8x512x512.size a := by decide
theorem words_g : ∀ t : Fin 8, (Rect.unit (s := S8x512x512) ![t.val, 0, 0] S1x512x512.size (inb_g t)).WholeWords (EltTy.packing .fp8e4m3) := by decide
theorem inb_dqh : ∀ j : Fin 3, ∀ a, (![0, j.val, 0, 0] : Fin 4 → Nat) a + S512x1x8x128.size a ≤ S512x3x8x128.size a := by decide
theorem words_dqh : ∀ j : Fin 3, (Rect.unit (s := S512x3x8x128) ![0, j.val, 0, 0] S512x1x8x128.size (inb_dqh j)).WholeWords (EltTy.packing .fp8e5m2) := by decide
theorem inb_dq : ∀ j : Fin 3, ∀ a, (![j.val, 0, 0, 0] : Fin 4 → Nat) a + S1x512x8x128.size a ≤ S3x512x8x128.size a := by decide
theorem words_dq : ∀ j : Fin 3, (Rect.unit (s := S3x512x8x128) ![j.val, 0, 0, 0] S1x512x8x128.size (inb_dq j)).WholeWords (EltTy.packing .fp8e5m2) := by decide
theorem inb_head : ∀ h : Fin 2, ∀ b : Fin 4, ∀ a, (![0, 4 * h.val + b.val, 0] : Fin 3 → Nat) a + S512x1x128.size a ≤ S512x8x128.size a := by decide
theorem inb_dqs : ∀ j : Fin 3, ∀ h : Fin 2, ∀ b k : Fin 4, ∀ a, (![8 * j.val + (4 * h.val + b.val), k.val, 0] : Fin 3 → Nat) a + S1x1x512.size a ≤ S24x4x512.size a := by decide
theorem inb_slot : ∀ s : Fin 2, ∀ a, (![s.val, 0, 0] : Fin 3 → Nat) a + S1x512x512.size a ≤ S2x512x512.size a := by decide
theorem packed_slot : ∀ s : Fin 2, (Rect.unit (s := S2x512x512) ![s.val, 0, 0] S1x512x512.size (inb_slot s)).PackedRows (EltTy.packing .bf16) := by decide
theorem inb_vt : ∀ h : Fin 2, ∀ b k : Fin 4, ∀ a, (![h.val, 128 * b.val + 32 * k.val, 0] : Fin 3 → Nat) a + S1x32x512.size a ≤ S2x512x512.size a := by decide
theorem packed_vt : ∀ h : Fin 2, ∀ b k : Fin 4, (Rect.unit (s := S2x512x512) ![h.val, 128 * b.val + 32 * k.val, 0] S1x32x512.size (inb_vt h b k)).PackedRows (EltTy.packing .bf16) := by decide
theorem inb_outs : ∀ s : Fin 2, ∀ n : Fin 8, ∀ a, (![s.val, n.val, 0, 0, 0] : Fin 5 → Nat) a + S1x1x64x8x128.size a ≤ S2x8x64x8x128.size a := by decide
theorem words_outs : ∀ s : Fin 2, ∀ n : Fin 8, (Rect.unit (s := S2x8x64x8x128) ![s.val, n.val, 0, 0, 0] S1x1x64x8x128.size (inb_outs s n)).WholeWords (EltTy.packing .bf16) := by decide
theorem packed_outs : ∀ s : Fin 2, ∀ n : Fin 8, (Rect.unit (s := S2x8x64x8x128) ![s.val, n.val, 0, 0, 0] S1x1x64x8x128.size (inb_outs s n)).PackedRows (EltTy.packing .bf16) := by decide
theorem inb_outh : ∀ t n : Fin 8, ∀ a, (![64 * t.val, 0, 128 * n.val] : Fin 3 → Nat) a + S64x8x128.size a ≤ S512x8x1024.size a := by decide
theorem words_outh : ∀ t n : Fin 8, (Rect.unit (s := S512x8x1024) ![64 * t.val, 0, 128 * n.val] S64x8x128.size (inb_outh t n)).WholeWords (EltTy.packing .bf16) := by decide
theorem inb_qkvs : ∀ j : Fin 3, ∀ a, (![j.val, 0, 0, 0] : Fin 4 → Nat) a + S1x1024x8x128.size a ≤ S3x1024x8x128.size a := by decide
theorem words_qkvs : ∀ j : Fin 3, (Rect.unit (s := S3x1024x8x128) ![j.val, 0, 0, 0] S1x1024x8x128.size (inb_qkvs j)).WholeWords (EltTy.packing .bf16) := by decide
theorem inb_qkvp : ∀ j : Fin 3, ∀ h : Fin 2, ∀ k : Fin 4, ∀ a, (![j.val, 0, 4 * h.val + k.val, 0] : Fin 4 → Nat) a + S1x1024x1x128.size a ≤ S3x1024x8x128.size a := by decide
theorem inb_qkvh : ∀ j : Fin 3, ∀ a, (![0, j.val, 0, 0] : Fin 4 → Nat) a + S1024x1x8x128.size a ≤ S1024x3x8x128.size a := by decide
theorem words_qkvh : ∀ j : Fin 3, (Rect.unit (s := S1024x3x8x128) ![0, j.val, 0, 0] S1024x1x8x128.size (inb_qkvh j)).WholeWords (EltTy.packing .bf16) := by decide
theorem inb_sem8 : ∀ t : Fin 8, ∀ a, (![t.val] : Fin 1 → Nat) a + S1.size a ≤ S8.size a := by decide
theorem inb_sem3 : ∀ t : Fin 3, ∀ a, (![t.val] : Fin 1 → Nat) a + S1.size a ≤ S3.size a := by decide
theorem inb_sem2 : ∀ t : Fin 2, ∀ a, (![t.val] : Fin 1 → Nat) a + S1.size a ≤ S2.size a := by decide
theorem slices_o : ∀ n : Fin 8, S512x1024.Slices ![0, 128 * n.val] S512x128 := by decide
theorem slices_r : ∀ k : Fin 4, S1024x512.Slices ![0, 128 * k.val] S1024x128 := by decide
theorem slices_p : ∀ k : Fin 4, S128x512.Slices ![32 * k.val, 0] S32x512 := by decide

theorem words_ga : ∀ t : Fin 8, (Rect.unit (s := S512x4096) ![0, 512 * t.val] S512x512.size (inb_gcol t)).WholeWords (EltTy.packing .fp8e5m2) := by decide
theorem words_a : ∀ t : Fin 8, (Rect.unit (s := S8x512x512) ![t.val, 0, 0] S1x512x512.size (inb_g t)).WholeWords (EltTy.packing .fp8e5m2) := by decide
theorem inb_winh : ∀ t : Fin 8, ∀ a, (![0, 512 * t.val] : Fin 2 → Nat) a + S1024x512.size a ≤ S1024x4096.size a := by decide
theorem words_winh : ∀ t : Fin 8, (Rect.unit (s := S1024x4096) ![0, 512 * t.val] S1024x512.size (inb_winh t)).WholeWords (EltTy.packing .fp8e4m3) := by decide
theorem inb_win : ∀ t : Fin 8, ∀ a, (![t.val, 0, 0] : Fin 3 → Nat) a + S1x1024x512.size a ≤ S8x1024x512.size a := by decide
theorem words_win : ∀ t : Fin 8, (Rect.unit (s := S8x1024x512) ![t.val, 0, 0] S1x1024x512.size (inb_win t)).WholeWords (EltTy.packing .fp8e4m3) := by decide
theorem inb_sin : ∀ t : Fin 8, ∀ a, (![0, 512 * t.val] : Fin 2 → Nat) a + S1x512.size a ≤ S1x4096.size a := by decide
theorem words_wqh : ∀ j : Fin 3, (Rect.unit (s := S1024x3x8x128) ![0, j.val, 0, 0] S1024x1x8x128.size (inb_qkvh j)).WholeWords (EltTy.packing .fp8e4m3) := by decide
theorem words_wq : ∀ j : Fin 3, (Rect.unit (s := S3x1024x8x128) ![j.val, 0, 0, 0] S1x1024x8x128.size (inb_qkvs j)).WholeWords (EltTy.packing .fp8e4m3) := by decide
theorem inb_whead : ∀ h : Fin 2, ∀ b : Fin 4, ∀ a, (![0, 4 * h.val + b.val, 0] : Fin 3 → Nat) a + S1024x1x128.size a ≤ S1024x8x128.size a := by decide
theorem inb_sq : ∀ j : Fin 3, ∀ h : Fin 2, ∀ b : Fin 4, ∀ a, (![8 * j.val + (4 * h.val + b.val), 0] : Fin 2 → Nat) a + S1x128.size a ≤ S24x128.size a := by decide
theorem inb_wqb : ∀ h : Fin 2, ∀ b : Fin 4, ∀ a, (![h.val, 0, 128 * b.val] : Fin 3 → Nat) a + S1x1024x128.size a ≤ S2x1024x512.size a := by decide
theorem packed_wqb : ∀ h : Fin 2, ∀ b : Fin 4, (Rect.unit (s := S2x1024x512) ![h.val, 0, 128 * b.val] S1x1024x128.size (inb_wqb h b)).PackedRows (EltTy.packing .bf16) := by decide
theorem inb_wslot : ∀ h : Fin 2, ∀ a, (![h.val, 0, 0] : Fin 3 → Nat) a + S1x1024x512.size a ≤ S2x1024x512.size a := by decide
theorem inb_blk : ∀ s : Fin 2, ∀ b : Fin 16, ∀ n : Fin 2, ∀ a, (![s.val, 32 * b.val, 256 * n.val] : Fin 3 → Nat) a + S1x32x256.size a ≤ S2x512x512.size a := by decide
theorem packed_blk : ∀ s : Fin 2, ∀ b : Fin 16, ∀ n : Fin 2, (Rect.unit (s := S2x512x512) ![s.val, 32 * b.val, 256 * n.val] S1x32x256.size (inb_blk s b n)).PackedRows (EltTy.packing .bf16) := by decide
theorem inb_ds : ∀ t : Fin 8, ∀ b : Fin 16, ∀ n : Fin 2, ∀ a, (![t.val, b.val, 256 * n.val] : Fin 3 → Nat) a + S1x1x256.size a ≤ S8x16x512.size a := by decide
theorem inb_ins : ∀ s : Fin 2, ∀ n : Fin 4, ∀ a, (![s.val, n.val, 0, 0, 0] : Fin 5 → Nat) a + S1x1x128x8x128.size a ≤ S2x4x128x8x128.size a := by decide
theorem words_ins : ∀ s : Fin 2, ∀ n : Fin 4, (Rect.unit (s := S2x4x128x8x128) ![s.val, n.val, 0, 0, 0] S1x1x128x8x128.size (inb_ins s n)).WholeWords (EltTy.packing .bf16) := by decide
theorem packed_ins : ∀ s : Fin 2, ∀ n : Fin 4, (Rect.unit (s := S2x4x128x8x128) ![s.val, n.val, 0, 0, 0] S1x1x128x8x128.size (inb_ins s n)).PackedRows (EltTy.packing .bf16) := by decide
theorem inb_inh : ∀ t : Fin 8, ∀ n : Fin 4, ∀ a, (![0, 0, 512 * t.val + 128 * n.val] : Fin 3 → Nat) a + S128x8x128.size a ≤ S128x8x4096.size a := by decide
theorem words_inh : ∀ t : Fin 8, ∀ n : Fin 4, (Rect.unit (s := S128x8x4096) ![0, 0, 512 * t.val + 128 * n.val] S128x8x128.size (inb_inh t n)).WholeWords (EltTy.packing .bf16) := by decide
theorem inb_sq128 : ∀ k : Fin 8, ∀ n : Fin 4, ∀ a, (![128 * k.val, 128 * n.val] : Fin 2 → Nat) a + S128x128.size a ≤ S1024x512.size a := by decide
theorem inb_row8 : ∀ n : Fin 4, ∀ k : Fin 128, ∀ a, (![8 * k.val, 128 * n.val] : Fin 2 → Nat) a + S8x128.size a ≤ S1024x512.size a := by decide
theorem inb_gam8 : ∀ k : Fin 128, ∀ a, (![8 * k.val, 0] : Fin 2 → Nat) a + S8x128.size a ≤ S1024x128.size a := by decide
theorem inb_gam128 : ∀ k : Fin 8, ∀ a, (![128 * k.val, 0] : Fin 2 → Nat) a + S128x128.size a ≤ S1024x128.size a := by decide
theorem inb_rs : ∀ n : Fin 4, ∀ a, (![0, 128 * n.val] : Fin 2 → Nat) a + S1x128.size a ≤ S1x512.size a := by decide
theorem inb_dx : ∀ n : Fin 4, ∀ k : Fin 8, ∀ a, (![k.val, 16 * n.val, 0, 0] : Fin 4 → Nat) a + S1x16x8x128.size a ≤ S8x64x8x128.size a := by decide
theorem packed_dx : ∀ n : Fin 4, ∀ k : Fin 8, (Rect.unit (s := S8x64x8x128) ![k.val, 16 * n.val, 0, 0] S1x16x8x128.size (inb_dx n k)).PackedRows (EltTy.packing .bf16) := by decide
theorem inb_dxs : ∀ k : Fin 8, ∀ a, (![k.val, 0, 0, 0] : Fin 4 → Nat) a + S1x64x8x128.size a ≤ S8x64x8x128.size a := by decide
theorem words_dxs : ∀ k : Fin 8, (Rect.unit (s := S8x64x8x128) ![k.val, 0, 0, 0] S1x64x8x128.size (inb_dxs k)).WholeWords (EltTy.packing .bf16) := by decide
theorem inb_dxh : ∀ k : Fin 8, ∀ a, (![0, 0, 128 * k.val] : Fin 3 → Nat) a + S64x8x128.size a ≤ S64x8x1024.size a := by decide
theorem words_dxh : ∀ k : Fin 8, (Rect.unit (s := S64x8x1024) ![0, 0, 128 * k.val] S64x8x128.size (inb_dxh k)).WholeWords (EltTy.packing .bf16) := by decide
theorem inb_dg : ∀ k : Fin 8, ∀ a, (![0, 128 * k.val] : Fin 2 → Nat) a + S1x128.size a ≤ S1x1024.size a := by decide

end Cert.Kernel.Hand

end
-- ==== Proof.KStages.lean ====
module

public import proofs.«01_k».proof.Proof.KBase

/-! The stages of the kernel's body as programs over the buffers of `KBase`: the copies and their waits, the five
computing stages, and the order the body runs them in. -/

@[expose] public section

noncomputable section

namespace Cert.Kernel.Hand

open Idealize.ShloMosaic Idealize.ShloMosaic.TcCoe
open Idealize.SL Idealize.SL.Sem
open Cert.Kernel.Gen

variable {F : FTy → Type} [FloatOps F]

/-- A program of the kernel's core. -/
abbrev P (F : FTy → Type) [FloatOps F] : Type → Type _ := Prog (TpuEff nD τ sig (Elt F) Λ₀ .tc)

/-- One program per entry of a list, in order. -/
def each {α : Type} (l : List α) (f : α → P F PUnit) : P F PUnit :=
  match l with
  | [] => .ret ⟨⟩
  | a :: l => (f a) >>= fun _ => each l f

/-- Load a rectangle. -/
def ld {s : Shape} {e : EltTy} (m : Memref sig .tc .vmem s e) (r : Rect s) (h : 0 < r.shape.numel) : P F (r.shape.Idx → Elt F e) :=
  Prog.lift (.load m r.toLoadRect (View.loadsAt_vmem h))

/-- Store a rectangle; the words it replaces are loaded first and not used. -/
def upd {s : Shape} {e : EltTy} (m : Memref sig .tc .vmem s e) (r : Rect s) (h : 0 < r.shape.numel)
    (hx : (m.access r).Stores Finset.univ) (w : r.shape.Idx → Elt F e) : P F PUnit :=
  (ld m r h) >>= fun _ => Prog.lift (.store m r w Finset.univ hx (.inl rfl))

/-- Start a copy on a semaphore. -/
def dma {sp sp' : Space} {s : Shape} {e : EltTy} (src : Memref sig .tc sp s e) (dst : Memref sig .tc sp' s e) (sm : DmaSem sig)
    (hs : src.view.WordExact) (hd : dst.view.WordExact) (hh : (DmaTarget.here (nD := nD) (p := (.tc : Proc τ)) dst).HostLowered sp (.dma sm)) : P F PUnit :=
  Prog.lift (.enqueueDma src (.here dst) (.dma sm) hs hd ⟨Or.inl rfl, hh⟩)

/-- Wait for a copy. -/
def wt {sp sp' : Space} {s : Shape} {e : EltTy} (src : Memref sig .tc sp s e) (dst : Memref sig .tc sp' s e) (sm : DmaSem sig)
    (hs : src.view.WordExact) (hd : dst.view.WordExact) : P F PUnit :=
  Prog.lift (.waitDma2 sm src dst hs hd)

/-! ### Semaphores -/

abbrev sSmall : DmaSem sig := ((cc0_scratch30.slice (Rect.unit (s := S1) ![0] S1.size inb_S1_S1_0)).squeeze S_ squeezes_S1_S_).sem
abbrev sDy : DmaSem sig := ((cc0_scratch31.slice (Rect.unit (s := S1) ![0] S1.size inb_S1_S1_0)).squeeze S_ squeezes_S1_S_).sem
abbrev sXh : DmaSem sig := ((cc0_scratch32.slice (Rect.unit (s := S1) ![0] S1.size inb_S1_S1_0)).squeeze S_ squeezes_S1_S_).sem
abbrev sA (t : Fin 8) : DmaSem sig := ((cc0_scratch33.slice (Rect.unit (s := S8) ![t.val] S1.size (inb_sem8 t))).squeeze S_ squeezes_S1_S_).sem
abbrev sG (t : Fin 8) : DmaSem sig := ((cc0_scratch34.slice (Rect.unit (s := S8) ![t.val] S1.size (inb_sem8 t))).squeeze S_ squeezes_S1_S_).sem
abbrev sWin (t : Fin 8) : DmaSem sig := ((cc0_scratch35.slice (Rect.unit (s := S8) ![t.val] S1.size (inb_sem8 t))).squeeze S_ squeezes_S1_S_).sem
abbrev sDq (j : Fin 3) : DmaSem sig := ((cc0_scratch36.slice (Rect.unit (s := S3) ![j.val] S1.size (inb_sem3 j))).squeeze S_ squeezes_S1_S_).sem
abbrev sWq (j : Fin 3) : DmaSem sig := ((cc0_scratch37.slice (Rect.unit (s := S3) ![j.val] S1.size (inb_sem3 j))).squeeze S_ squeezes_S1_S_).sem
abbrev sIn (s : Fin 2) : DmaSem sig := ((cc0_scratch38.slice (Rect.unit (s := S2) ![s.val] S1.size (inb_sem2 s))).squeeze S_ squeezes_S1_S_).sem
abbrev sOut (s : Fin 2) : DmaSem sig := ((cc0_scratch39.slice (Rect.unit (s := S2) ![s.val] S1.size (inb_sem2 s))).squeeze S_ squeezes_S1_S_).sem
abbrev sQkv : DmaSem sig := ((cc0_scratch40.slice (Rect.unit (s := S1) ![0] S1.size inb_S1_S1_0)).squeeze S_ squeezes_S1_S_).sem
abbrev sDx : DmaSem sig := ((cc0_scratch41.slice (Rect.unit (s := S2) ![0] S1.size inb_S2_S1_0)).squeeze S_ squeezes_S1_S_).sem
abbrev sLast : DmaSem sig := ((cc0_scratch41.slice (Rect.unit (s := S2) ![1] S1.size inb_S2_S1_1)).squeeze S_ squeezes_S1_S_).sem

/-! ### Slices the copies move -/

abbrev gH (t : Fin 8) : Memref sig .tc .hbm S512x512 .fp8e4m3 :=
  mGH.slice (Rect.unit (s := S512x4096) ![0, 512 * t.val] S512x512.size (inb_gcol t)) (fun _ => rfl)
abbrev gV (t : Fin 8) : Memref sig .tc .vmem S512x512 .fp8e4m3 :=
  (mG.slice (Rect.unit (s := S8x512x512) ![t.val, 0, 0] S1x512x512.size (inb_g t)) (fun _ => rfl)).squeeze S512x512 squeezes_S1x512x512_S512x512
abbrev dqH (j : Fin 3) : Memref sig .tc .hbm S512x8x128 .fp8e5m2 :=
  (mDqH.slice (Rect.unit (s := S512x3x8x128) ![0, j.val, 0, 0] S512x1x8x128.size (inb_dqh j)) (fun _ => rfl)).squeeze S512x8x128 squeezes_S512x1x8x128_S512x8x128
abbrev dqV (j : Fin 3) : Memref sig .tc .vmem S512x8x128 .fp8e5m2 :=
  (mDq.slice (Rect.unit (s := S3x512x8x128) ![j.val, 0, 0, 0] S1x512x8x128.size (inb_dq j)) (fun _ => rfl)).squeeze S512x8x128 squeezes_S1x512x8x128_S512x8x128
abbrev outV (s : Fin 2) (n : Fin 8) : Memref sig .tc .vmem S64x8x128 .bf16 :=
  (mOut.slice (Rect.unit (s := S2x8x64x8x128) ![s.val, n.val, 0, 0, 0] S1x1x64x8x128.size (inb_outs s n)) (fun _ => rfl)).squeeze S64x8x128 squeezes_S1x1x64x8x128_S64x8x128
abbrev outH (t n : Fin 8) : Memref sig .tc .hbm S64x8x128 .bf16 :=
  mOutH.slice (Rect.unit (s := S512x8x1024) ![64 * t.val, 0, 128 * n.val] S64x8x128.size (inb_outh t n)) (fun _ => rfl)
abbrev qkvV (j : Fin 3) : Memref sig .tc .vmem S1024x8x128 .bf16 :=
  (mQkv.slice (Rect.unit (s := S3x1024x8x128) ![j.val, 0, 0, 0] S1x1024x8x128.size (inb_qkvs j)) (fun _ => rfl)).squeeze S1024x8x128 squeezes_S1x1024x8x128_S1024x8x128
abbrev qkvH (j : Fin 3) : Memref sig .tc .hbm S1024x8x128 .bf16 :=
  (mQkvH.slice (Rect.unit (s := S1024x3x8x128) ![0, j.val, 0, 0] S1024x1x8x128.size (inb_qkvh j)) (fun _ => rfl)).squeeze S1024x8x128 squeezes_S1024x1x8x128_S1024x8x128

abbrev aH (t : Fin 8) : Memref sig .tc .hbm S512x512 .fp8e5m2 :=
  mAH.slice (Rect.unit (s := S512x4096) ![0, 512 * t.val] S512x512.size (inb_gcol t)) (fun _ => rfl)
abbrev aV (t : Fin 8) : Memref sig .tc .vmem S512x512 .fp8e5m2 :=
  (mA.slice (Rect.unit (s := S8x512x512) ![t.val, 0, 0] S1x512x512.size (inb_g t)) (fun _ => rfl)).squeeze S512x512 squeezes_S1x512x512_S512x512
abbrev winH (t : Fin 8) : Memref sig .tc .hbm S1024x512 .fp8e4m3 :=
  mWinH.slice (Rect.unit (s := S1024x4096) ![0, 512 * t.val] S1024x512.size (inb_winh t)) (fun _ => rfl)
abbrev winV (t : Fin 8) : Memref sig .tc .vmem S1024x512 .fp8e4m3 :=
  (mWin.slice (Rect.unit (s := S8x1024x512) ![t.val, 0, 0] S1x1024x512.size (inb_win t)) (fun _ => rfl)).squeeze S1024x512 squeezes_S1x1024x512_S1024x512
abbrev wqH (j : Fin 3) : Memref sig .tc .hbm S1024x8x128 .fp8e4m3 :=
  (mWqH.slice (Rect.unit (s := S1024x3x8x128) ![0, j.val, 0, 0] S1024x1x8x128.size (inb_qkvh j)) (fun _ => rfl)).squeeze S1024x8x128 squeezes_S1024x1x8x128_S1024x8x128
abbrev wqV (j : Fin 3) : Memref sig .tc .vmem S1024x8x128 .fp8e4m3 :=
  (mWq.slice (Rect.unit (s := S3x1024x8x128) ![j.val, 0, 0, 0] S1x1024x8x128.size (inb_qkvs j)) (fun _ => rfl)).squeeze S1024x8x128 squeezes_S1x1024x8x128_S1024x8x128
abbrev inV (s : Fin 2) (n : Fin 4) : Memref sig .tc .vmem S128x8x128 .bf16 :=
  (mIn.slice (Rect.unit (s := S2x4x128x8x128) ![s.val, n.val, 0, 0, 0] S1x1x128x8x128.size (inb_ins s n)) (fun _ => rfl)).squeeze S128x8x128 squeezes_S1x1x128x8x128_S128x8x128
abbrev inH (t : Fin 8) (n : Fin 4) : Memref sig .tc .hbm S128x8x128 .bf16 :=
  mInH.slice (Rect.unit (s := S128x8x4096) ![0, 0, 512 * t.val + 128 * n.val] S128x8x128.size (inb_inh t n)) (fun _ => rfl)

abbrev dxV (n : Fin 8) : Memref sig .tc .vmem S64x8x128 .bf16 :=
  (mDx.slice (Rect.unit (s := S8x64x8x128) ![n.val, 0, 0, 0] S1x64x8x128.size (inb_dxs n)) (fun _ => rfl)).squeeze S64x8x128 squeezes_S1x64x8x128_S64x8x128
abbrev dxH (n : Fin 8) : Memref sig .tc .hbm S64x8x128 .bf16 :=
  mDxH.slice (Rect.unit (s := S64x8x1024) ![0, 0, 128 * n.val] S64x8x128.size (inb_dxh n)) (fun _ => rfl)

theorem wx_dxV (n : Fin 8) : (dxV n).view.WordExact := ((Memref.isWhole_whole _).wordExact_slice rfl _ (words_dxs n)).reshape _ _
theorem wx_dxH (n : Fin 8) : (dxH n).view.WordExact := (Memref.isWhole_whole _).wordExact_slice rfl _ (words_dxh n)
theorem wx_aH (t : Fin 8) : (aH t).view.WordExact := (Memref.isWhole_whole _).wordExact_slice rfl _ (words_ga t)
theorem wx_aV (t : Fin 8) : (aV t).view.WordExact := ((Memref.isWhole_whole _).wordExact_slice rfl _ (words_a t)).reshape _ _
theorem wx_winH (t : Fin 8) : (winH t).view.WordExact := (Memref.isWhole_whole _).wordExact_slice rfl _ (words_winh t)
theorem wx_winV (t : Fin 8) : (winV t).view.WordExact := ((Memref.isWhole_whole _).wordExact_slice rfl _ (words_win t)).reshape _ _
theorem wx_wqH (j : Fin 3) : (wqH j).view.WordExact := ((Memref.isWhole_whole _).wordExact_slice rfl _ (words_wqh j)).reshape _ _
theorem wx_wqV (j : Fin 3) : (wqV j).view.WordExact := ((Memref.isWhole_whole _).wordExact_slice rfl _ (words_wq j)).reshape _ _
theorem wx_inV (s : Fin 2) (n : Fin 4) : (inV s n).view.WordExact := ((Memref.isWhole_whole _).wordExact_slice rfl _ (words_ins s n)).reshape _ _
theorem wx_inH (t : Fin 8) (n : Fin 4) : (inH t n).view.WordExact := (Memref.isWhole_whole _).wordExact_slice rfl _ (words_inh t n)
theorem wx_gH (t : Fin 8) : (gH t).view.WordExact := (Memref.isWhole_whole _).wordExact_slice rfl _ (words_gcol t)
theorem wx_gV (t : Fin 8) : (gV t).view.WordExact := ((Memref.isWhole_whole _).wordExact_slice rfl _ (words_g t)).reshape _ _
theorem wx_dqH (j : Fin 3) : (dqH j).view.WordExact := ((Memref.isWhole_whole _).wordExact_slice rfl _ (words_dqh j)).reshape _ _
theorem wx_dqV (j : Fin 3) : (dqV j).view.WordExact := ((Memref.isWhole_whole _).wordExact_slice rfl _ (words_dq j)).reshape _ _
theorem wx_outV (s : Fin 2) (n : Fin 8) : (outV s n).view.WordExact := ((Memref.isWhole_whole _).wordExact_slice rfl _ (words_outs s n)).reshape _ _
theorem wx_outH (t n : Fin 8) : (outH t n).view.WordExact := (Memref.isWhole_whole _).wordExact_slice rfl _ (words_outh t n)
theorem wx_qkvV (j : Fin 3) : (qkvV j).view.WordExact := ((Memref.isWhole_whole _).wordExact_slice rfl _ (words_qkvs j)).reshape _ _
theorem wx_qkvH (j : Fin 3) : (qkvH j).view.WordExact := ((Memref.isWhole_whole _).wordExact_slice rfl _ (words_qkvh j)).reshape _ _

/-! ### The rectangles the stages load and store -/

abbrev rDy (n : Fin 32) : Rect S512x1024 := Rect.unit (s := S512x1024) ![0, 32 * n.val] S512x32.size (inb_dy n)
abbrev rDys (n : Fin 32) : Rect S32x512 := Rect.unit (s := S32x512) ![n.val, 0] S1x512.size (inb_dys n)
abbrev rDyt (n : Fin 32) : Rect S1024x512 := Rect.unit (s := S1024x512) ![32 * n.val, 0] S32x512.size (inb_dyt n)
abbrev rG (t : Fin 8) : Rect S8x512x512 := Rect.unit (s := S8x512x512) ![t.val, 0, 0] S1x512x512.size (inb_g t)
abbrev rSlot (s : Fin 2) : Rect S2x512x512 := Rect.unit (s := S2x512x512) ![s.val, 0, 0] S1x512x512.size (inb_slot s)
abbrev rRow8 (n : Fin 4) (k : Fin 128) : Rect S1024x512 := Rect.unit (s := S1024x512) ![8 * k.val, 128 * n.val] S8x128.size (inb_row8 n k)
abbrev rGam8 (k : Fin 128) : Rect S1024x128 := Rect.unit (s := S1024x128) ![8 * k.val, 0] S8x128.size (inb_gam8 k)
abbrev rGam128 (k : Fin 8) : Rect S1024x128 := Rect.unit (s := S1024x128) ![128 * k.val, 0] S128x128.size (inb_gam128 k)
abbrev rRs (n : Fin 4) : Rect S1x512 := Rect.unit (s := S1x512) ![0, 128 * n.val] S1x128.size (inb_rs n)
abbrev rDx (n : Fin 4) (k : Fin 8) : Rect S8x64x8x128 := Rect.unit (s := S8x64x8x128) ![k.val, 16 * n.val, 0, 0] S1x16x8x128.size (inb_dx n k)
abbrev rRow : Rect S1x512 := Rect.unit (s := S1x512) ![0, 0] S1x512.size inb_S1x512_S1x512_0_0
abbrev rXh : Rect S512x1024 := Rect.unit (s := S512x1024) ![0, 0] S512x1024.size inb_S512x1024_S512x1024_0_0
abbrev rT : Rect S1024x512 := Rect.unit (s := S1024x512) ![0, 0] S1024x512.size inb_S1024x512_S1024x512_0_0
abbrev rGam : Rect S1x1024 := Rect.unit (s := S1x1024) ![0, 0] S1x1024.size inb_S1x1024_S1x1024_0_0
abbrev rGamc : Rect S1024x128 := Rect.unit (s := S1024x128) ![0, 0] S1024x128.size inb_S1024x128_S1024x128_0_0
abbrev rOut (s : Fin 2) (n : Fin 8) : Rect S2x8x64x8x128 := Rect.unit (s := S2x8x64x8x128) ![s.val, n.val, 0, 0, 0] S1x1x64x8x128.size (inb_outs s n)
abbrev rHead (h : Fin 2) (b : Fin 4) : Rect S512x8x128 := Rect.unit (s := S512x8x128) ![0, 4 * h.val + b.val, 0] S512x1x128.size (inb_head h b)
abbrev rDqs (j : Fin 3) (h : Fin 2) (b k : Fin 4) : Rect S24x4x512 :=
  Rect.unit (s := S24x4x512) ![8 * j.val + (4 * h.val + b.val), k.val, 0] S1x1x512.size (inb_dqs j h b k)
abbrev rVt (h : Fin 2) (b k : Fin 4) : Rect S2x512x512 :=
  Rect.unit (s := S2x512x512) ![h.val, 128 * b.val + 32 * k.val, 0] S1x32x512.size (inb_vt h b k)
abbrev rQkv1 (j : Fin 3) (h : Fin 2) (k : Fin 4) : Rect S3x1024x8x128 :=
  Rect.unit (s := S3x1024x8x128) ![j.val, 0, 4 * h.val + k.val, 0] S1x1024x1x128.size (inb_qkvp j h k)

theorem inb_qkv2 : ∀ j : Fin 3, ∀ h p : Fin 2, ∀ a, (![j.val, 0, 4 * h.val + 2 * p.val, 0] : Fin 4 → Nat) a + S1x1024x2x128.size a ≤ S3x1024x8x128.size a := by decide
abbrev rQkv (j : Fin 3) (h p : Fin 2) : Rect S3x1024x8x128 :=
  Rect.unit (s := S3x1024x8x128) ![j.val, 0, 4 * h.val + 2 * p.val, 0] S1x1024x2x128.size (inb_qkv2 j h p)
theorem packed_qkv2 : ∀ j : Fin 3, ∀ h p : Fin 2, (rQkv j h p).PackedRows (EltTy.packing .bf16) := by decide
theorem slices_row : ∀ r : Fin 2, S1x1024x2x128.Slices ![0, 0, r.val, 0] S1x1024x1x128 := by decide

abbrev rWin (t : Fin 8) : Rect S8x1024x512 := Rect.unit (s := S8x1024x512) ![t.val, 0, 0] S1x1024x512.size (inb_win t)
abbrev rSin (t : Fin 8) : Rect S1x4096 := Rect.unit (s := S1x4096) ![0, 512 * t.val] S1x512.size (inb_sin t)
abbrev rBlk (s : Fin 2) (b : Fin 16) (n : Fin 2) : Rect S2x512x512 :=
  Rect.unit (s := S2x512x512) ![s.val, 32 * b.val, 256 * n.val] S1x32x256.size (inb_blk s b n)
abbrev rDs (t : Fin 8) (b : Fin 16) (n : Fin 2) : Rect S8x16x512 :=
  Rect.unit (s := S8x16x512) ![t.val, b.val, 256 * n.val] S1x1x256.size (inb_ds t b n)
abbrev rIn (s : Fin 2) (n : Fin 4) : Rect S2x4x128x8x128 := Rect.unit (s := S2x4x128x8x128) ![s.val, n.val, 0, 0, 0] S1x1x128x8x128.size (inb_ins s n)
abbrev rWHead (h : Fin 2) (b : Fin 4) : Rect S1024x8x128 := Rect.unit (s := S1024x8x128) ![0, 4 * h.val + b.val, 0] S1024x1x128.size (inb_whead h b)
abbrev rSq (j : Fin 3) (h : Fin 2) (b : Fin 4) : Rect S24x128 :=
  Rect.unit (s := S24x128) ![8 * j.val + (4 * h.val + b.val), 0] S1x128.size (inb_sq j h b)
abbrev rWqb (h : Fin 2) (b : Fin 4) : Rect S2x1024x512 := Rect.unit (s := S2x1024x512) ![h.val, 0, 128 * b.val] S1x1024x128.size (inb_wqb h b)
abbrev rWslot (h : Fin 2) : Rect S2x1024x512 := Rect.unit (s := S2x1024x512) ![h.val, 0, 0] S1x1024x512.size (inb_wslot h)
abbrev rBl (k : Fin 8) (n : Fin 4) : Rect S1024x512 := Rect.unit (s := S1024x512) ![128 * k.val, 128 * n.val] S128x128.size (inb_sq128 k n)
abbrev rDg (k : Fin 8) : Rect S1x1024 := Rect.unit (s := S1x1024) ![0, 128 * k.val] S1x128.size (inb_dg k)

theorem st_at (s : Fin 2) : (mAt.access (rSlot s)).Stores Finset.univ :=
  View.stores_vmem h_S1x512x512 ((Memref.isWhole_whole _).storeExact_slice rfl _ (packed_slot s)) (fun _ => rfl)
theorem st_dat (s : Fin 2) (b : Fin 16) (n : Fin 2) : (mDat.access (rBlk s b n)).Stores Finset.univ :=
  View.stores_vmem h_S1x32x256 ((Memref.isWhole_whole _).storeExact_slice rfl _ (packed_blk s b n)) (fun _ => rfl)
theorem st_dht : (mDht.access rT).Stores Finset.univ := View.stores_vmem_bits_univ h_S1024x512 rfl
theorem st_in (s : Fin 2) (n : Fin 4) : (mIn.access (rIn s n)).Stores Finset.univ :=
  View.stores_vmem h_S1x1x128x8x128 ((Memref.isWhole_whole _).storeExact_slice rfl _ (packed_ins s n)) (fun _ => rfl)
theorem st_wqb (h : Fin 2) (b : Fin 4) : (mWqb.access (rWqb h b)).Stores Finset.univ :=
  View.stores_vmem h_S1x1024x128 ((Memref.isWhole_whole _).storeExact_slice rfl _ (packed_wqb h b)) (fun _ => rfl)
theorem st_dx (n : Fin 4) (k : Fin 8) : (mDx.access (rDx n k)).Stores Finset.univ :=
  View.stores_vmem h_S1x16x8x128 ((Memref.isWhole_whole _).storeExact_slice rfl _ (packed_dx n k)) (fun _ => rfl)
theorem st_dg (k : Fin 8) : (mDg.access (rDg k)).Stores Finset.univ := View.stores_vmem_bits_univ h_S1x128 rfl
theorem st_dyt (n : Fin 32) : (mDyt.access (rDyt n)).Stores Finset.univ :=
  View.stores_vmem h_S32x512 ((Memref.isWhole_whole _).storeExact_slice rfl _ (packed_dyt n)) (fun _ => rfl)
theorem st_gt (s : Fin 2) : (mGt.access (rSlot s)).Stores Finset.univ :=
  View.stores_vmem h_S1x512x512 ((Memref.isWhole_whole _).storeExact_slice rfl _ (packed_slot s)) (fun _ => rfl)
theorem st_xht : (mXht.access rT).Stores Finset.univ :=
  View.stores_vmem h_S1024x512 ((Memref.isWhole_whole _).storeExact_slice rfl _ packedbf16_S1024x512_S1024x512_0_0) (fun _ => rfl)
theorem st_gamc : (mGamc.access rGamc).Stores Finset.univ := View.stores_vmem_bits_univ h_S1024x128 rfl
theorem st_out (s : Fin 2) (n : Fin 8) : (mOut.access (rOut s n)).Stores Finset.univ :=
  View.stores_vmem h_S1x1x64x8x128 ((Memref.isWhole_whole _).storeExact_slice rfl _ (packed_outs s n)) (fun _ => rfl)
theorem st_vt (h : Fin 2) (b k : Fin 4) : (mVt.access (rVt h b k)).Stores Finset.univ :=
  View.stores_vmem h_S1x32x512 ((Memref.isWhole_whole _).storeExact_slice rfl _ (packed_vt h b k)) (fun _ => rfl)
theorem st_qkv (j : Fin 3) (h p : Fin 2) : (mQkv.access (rQkv j h p)).Stores Finset.univ :=
  View.stores_vmem h_S1x1024x2x128 ((Memref.isWhole_whole _).storeExact_slice rfl _ (packed_qkv2 j h p)) (fun _ => rfl)

/-! ### What the stages store -/

/-- Row block `n` of the scaled, transposed `dy`. -/
def wDyt (x : Vec F S512x32 .fp8e5m2) (y : Vec F S1x512 .f32) : FVec F S32x512 .bf16 :=
  shapeCast S32x512 (mulf (transpose S32x512 [1, 0] (extf .bf16 x bitsLt_fp8e5m2_bf16) transposes_S512x32_p1_0_S32x512)
    (broadcastTo S32x512 (truncf .bf16 y bitsLt_bf16_f32) broadcasts_S1x512_S32x512)) shapeCasts_S32x512_S32x512

/-- A scaled, transposed tile of `g`. -/
def wGt (x : Vec F S1x512x512 .fp8e4m3) (y : Vec F S1x512 .f32) : FVec F S1x512x512 .bf16 :=
  shapeCast S1x512x512 (mulf (transpose S512x512 [1, 0] (extf .bf16 (shapeCast S512x512 x shapeCasts_S1x512x512_S512x512) bitsLt_fp8e4m3_bf16)
    transposes_S512x512_p1_0_S512x512) (broadcastTo S512x512 (truncf .bf16 y bitsLt_bf16_f32) broadcasts_S1x512_S512x512)) shapeCasts_S512x512_S1x512x512

/-- The scaled, transposed `xhat`. -/
def wXht (x : Vec F S512x1024 .fp8e4m3) (y : Vec F S1x512 .f32) : FVec F S1024x512 .bf16 :=
  shapeCast S1024x512 (mulf (transpose S1024x512 [1, 0] (extf .bf16 x bitsLt_fp8e4m3_bf16) transposes_S512x1024_p1_0_S1024x512)
    (broadcastTo S1024x512 (truncf .bf16 y bitsLt_bf16_f32) broadcasts_S1x512_S1024x512)) shapeCasts_S1024x512_S1024x512

/-- `gamma` down the rows, along the lanes. -/
def wGamc (x : Vec F S1x1024 .f32) : FVec F S1024x128 .f32 :=
  shapeCast S1024x128 (transpose S1024x128 [1, 0] (broadcastTo S128x1024 (shapeCast S1x1024 x shapeCasts_S1x1024_S1x1024)
    broadcasts_S1x1024_S128x1024) transposes_S128x1024_p1_0_S1024x128) shapeCasts_S1024x128_S1024x128

/-- The product of a tile of `g` with `dy`. -/
def wO (x : Vec F S1x512x512 .bf16) (y : Vec F S1024x512 .bf16) : FVec F S512x1024 .f32 :=
  matmul dot_S512x512_S1024x512_S512x1024_1_1_0_0_n_n none (shapeCast S512x512 x shapeCasts_S1x512x512_S512x512) y (constant S512x1024 .f32 0x00000000#32)

/-- Lane block `n` of that product, rounded, in rows of eight. -/
def wOut (r : FVec F S512x1024 .f32) (n : Fin 8) : FVec F S1x1x64x8x128 .bf16 :=
  shapeCast S1x1x64x8x128 (shapeCast S64x8x128 (truncf .bf16 (extractStridedSlice S512x128 ![0, 128 * n.val] r (slices_o n)) bitsLt_bf16_f32)
    shapeCasts_S512x128_S64x8x128) shapeCasts_S64x8x128_S1x1x64x8x128

/-- One head of `dqkv`, transposed. -/
def wHead (x : Vec F S512x1x128 .fp8e5m2) : FVec F S128x512 .bf16 :=
  transpose S128x512 [1, 0] (extf .bf16 (shapeCast S512x128 x shapeCasts_S512x1x128_S512x128) bitsLt_fp8e5m2_bf16) transposes_S512x128_p1_0_S128x512

/-- Row block `k` of a transposed head, scaled. -/
def wVt (x : FVec F S128x512 .bf16) (y : Vec F S1x1x512 .f32) (k : Fin 4) : FVec F S1x32x512 .bf16 :=
  shapeCast S1x32x512 (mulf (extractStridedSlice S32x512 ![32 * k.val, 0] x (slices_p k))
    (broadcastTo S32x512 (truncf .bf16 (shapeCast S1x512 y shapeCasts_S1x1x512_S1x512) bitsLt_bf16_f32) broadcasts_S1x512_S32x512))
    shapeCasts_S32x512_S1x32x512

/-- The product of `xhat` with four heads of `dqkv`. -/
def wR (x : Vec F S1024x512 .bf16) (y : Vec F S1x512x512 .bf16) : FVec F S1024x512 .f32 :=
  matmul dot_S1024x512_S512x512_S1024x512_1_1_0_0_n_n none x (shapeCast S512x512 y shapeCasts_S1x512x512_S512x512) (constant S1024x512 .f32 0x00000000#32)

/-- Head `k` of that product, scaled by `gamma` and rounded. -/
def wQkv (r : FVec F S1024x512 .f32) (g : Vec F S1024x128 .f32) (k : Fin 4) : FVec F S1x1024x1x128 .bf16 :=
  shapeCast S1x1024x1x128 (truncf .bf16 (mulf (extractStridedSlice S1024x128 ![0, 128 * k.val] r (slices_r k)) g) bitsLt_bf16_f32)
    shapeCasts_S1024x128_S1x1024x1x128

/-- A transposed tile of the codes of `da`. -/
def wAt (x : Vec F S1x512x512 .fp8e5m2) : FVec F S1x512x512 .bf16 :=
  shapeCast S1x512x512 (transpose S512x512 [1, 0] (extf .bf16 (shapeCast S512x512 x shapeCasts_S1x512x512_S512x512) bitsLt_fp8e5m2_bf16)
    transposes_S512x512_p1_0_S512x512) shapeCasts_S512x512_S1x512x512

/-- A block of them, scaled. -/
def wDat (x : Vec F S1x32x256 .bf16) (y : Vec F S1x1x256 .f32) : FVec F S1x32x256 .bf16 :=
  shapeCast S1x32x256 (mulf (shapeCast S32x256 x shapeCasts_S1x32x256_S32x256)
    (broadcastTo S32x256 (truncf .bf16 (shapeCast S1x256 y shapeCasts_S1x1x256_S1x256) bitsLt_bf16_f32) broadcasts_S1x256_S32x256))
    shapeCasts_S32x256_S1x32x256

/-- Lane block `n` of a product, scaled by `gamma` and rounded, in rows of eight. -/
def wIn (r : FVec F S1024x512 .f32) (g : Vec F S1024x128 .f32) (n : Fin 4) : FVec F S1x1x128x8x128 .bf16 :=
  shapeCast S1x1x128x8x128 (shapeCast S128x8x128 (truncf .bf16 (mulf (extractStridedSlice S1024x128 ![0, 128 * n.val] r (slices_r n)) g) bitsLt_bf16_f32)
    shapeCasts_S1024x128_S128x8x128) shapeCasts_S128x8x128_S1x1x128x8x128

/-- Zeros. -/
def wZero : FVec F S1024x512 .f32 :=
  shapeCast S1024x512 (broadcast S1024x512 (Scalar.ofBits .f32 0x00000000#32)) shapeCasts_S1024x512_S1024x512

/-- A sum and the product of a scaled tile of `w_in` with a tile of `da`. -/
def wH (x : Vec F S1x1024x512 .fp8e4m3) (y : Vec F S1x512 .f32) (a : Vec F S1024x512 .f32) (d : Vec F S1x512x512 .bf16) : FVec F S1024x512 .f32 :=
  shapeCast S1024x512 (addf a (matmul dot_S1024x512_S512x512_S1024x512_1_0_0_1_n_n none
    (mulf (extf .bf16 (shapeCast S1024x512 x shapeCasts_S1x1024x512_S1024x512) bitsLt_fp8e4m3_bf16)
      (broadcastTo S1024x512 (truncf .bf16 y bitsLt_bf16_f32) broadcasts_S1x512_S1024x512))
    (shapeCast S512x512 d shapeCasts_S1x512x512_S512x512) (constant S1024x512 .f32 0x00000000#32))) shapeCasts_S1024x512_S1024x512

/-- One head of `w_qkv`, scaled. -/
def wWqb (x : Vec F S1024x1x128 .fp8e4m3) (y : Vec F S1x128 .f32) : FVec F S1x1024x128 .bf16 :=
  shapeCast S1x1024x128 (mulf (extf .bf16 (shapeCast S1024x128 x shapeCasts_S1024x1x128_S1024x128) bitsLt_fp8e4m3_bf16)
    (broadcastTo S1024x128 (truncf .bf16 y bitsLt_bf16_f32) broadcasts_S1x128_S1024x128)) shapeCasts_S1024x128_S1x1024x128

/-- A sum and the product of four heads of `w_qkv` with four heads of `dqkv`. -/
def wRh (a : Vec F S1024x512 .f32) (w : Vec F S1x1024x512 .bf16) (v : Vec F S1x512x512 .bf16) : FVec F S1024x512 .f32 :=
  shapeCast S1024x512 (addf a (matmul dot_S1024x512_S512x512_S1024x512_1_0_0_1_n_n none
    (shapeCast S1024x512 w shapeCasts_S1x1024x512_S1024x512) (shapeCast S512x512 v shapeCasts_S1x512x512_S512x512)
    (constant S1024x512 .f32 0x00000000#32))) shapeCasts_S1024x512_S1024x512

/-- The sums down the rows of four blocks of `dh`, each times its block of `xhat`. -/
def wDg (x0 : Vec F S128x128 .f32) (y0 : Vec F S128x128 .bf16) (x1 : Vec F S128x128 .f32) (y1 : Vec F S128x128 .bf16)
    (x2 : Vec F S128x128 .f32) (y2 : Vec F S128x128 .bf16) (x3 : Vec F S128x128 .f32) (y3 : Vec F S128x128 .bf16) : FVec F S1x128 .f32 :=
  shapeCast S1x128 (shapeCast S1x128 (multiReduction .add [0] S128 (transpose S128x128 [1, 0]
    (addf (addf (addf (mulf x0 (extf .f32 y0 bitsLt_bf16_f32)) (mulf x1 (extf .f32 y1 bitsLt_bf16_f32)))
      (mulf x2 (extf .f32 y2 bitsLt_bf16_f32))) (mulf x3 (extf .f32 y3 bitsLt_bf16_f32)))
    transposes_S128x128_p1_0_S128x128) 0x00000000#32 reduces_S128x128_S128 (.inl rfl) rfl) shapeCasts_S128_S1x128) shapeCasts_S1x128_S1x128

/-- Four sums of rows of eight of `dh` times `gamma`, and four of the same times `xhat`; the next row goes to the first. -/
structure Acc (F : FTy → Type) [FloatOps F] where
  x0 : FVec F S8x128 .f32
  x1 : FVec F S8x128 .f32
  x2 : FVec F S8x128 .f32
  x3 : FVec F S8x128 .f32
  y0 : FVec F S8x128 .f32
  y1 : FVec F S8x128 .f32
  y2 : FVec F S8x128 .f32
  y3 : FVec F S8x128 .f32

/-- Eight rows of zeros. -/
def wZero8 : FVec F S8x128 .f32 := broadcast S8x128 (Scalar.ofBits .f32 0x00000000#32)

def acc0 : Acc F := ⟨wZero8, wZero8, wZero8, wZero8, wZero8, wZero8, wZero8, wZero8⟩

/-- One row more. -/
def accStep (d g : Vec F S8x128 .f32) (x : Vec F S8x128 .bf16) (a : Acc F) : Acc F :=
  ⟨a.x1, a.x2, a.x3, addf a.x0 (mulf d g), a.y1, a.y2, a.y3, addf a.y0 (mulf (mulf d g) (extf .f32 x bitsLt_bf16_f32))⟩

/-- The mean of four such sums. -/
def wMean (a b c d : FVec F S8x128 .f32) : FVec F S1x128 .f32 :=
  mulf (shapeCast S1x128 (multiReduction .add [0] S128 (addf (addf a b) (addf c d)) 0x00000000#32 reduces_S8x128_S128 (.inl rfl) rfl)
    shapeCasts_S128_S1x128) (broadcast S1x128 (Scalar.ofBits .f32 0x3A800000#32))

/-- A block of `dx`, in rows of eight. -/
def wDx (d g : Vec F S128x128 .f32) (x y : Vec F S128x128 .bf16) (m1 m2 : FVec F S1x128 .f32) (r : Vec F S1x128 .f32) : FVec F S1x16x8x128 .bf16 :=
  shapeCast S1x16x8x128 (shapeCast S16x8x128 (transpose S128x128 [1, 0] (truncf .bf16 (addf (extf .f32 y bitsLt_bf16_f32)
    (mulf (broadcastTo S128x128 r broadcasts_S1x128_S128x128) (subf (subf (mulf d g) (broadcastTo S128x128 m1 broadcasts_S1x128_S128x128))
      (mulf (extf .f32 x bitsLt_bf16_f32) (broadcastTo S128x128 m2 broadcasts_S1x128_S128x128))))) bitsLt_bf16_f32)
    transposes_S128x128_p1_0_S128x128) shapeCasts_S128x128_S16x8x128) shapeCasts_S16x8x128_S1x16x8x128

/-! ### The stages -/

def startA (t : Fin 8) : P F PUnit := dma (aH t) (aV t) (sA t) (wx_aH t) (wx_aV t) trivial
def waitA (t : Fin 8) : P F PUnit := wt (aH t) (aV t) (sA t) (wx_aH t) (wx_aV t)
def startWin (t : Fin 8) : P F PUnit := dma (winH t) (winV t) (sWin t) (wx_winH t) (wx_winV t) trivial
def waitWin (t : Fin 8) : P F PUnit := wt (winH t) (winV t) (sWin t) (wx_winH t) (wx_winV t)
def startWq (j : Fin 3) : P F PUnit := dma (wqH j) (wqV j) (sWq j) (wx_wqH j) (wx_wqV j) trivial
def waitWq (j : Fin 3) : P F PUnit := wt (wqH j) (wqV j) (sWq j) (wx_wqH j) (wx_wqV j)
def startIn1 (t : Fin 8) (s : Fin 2) (n : Fin 4) : P F PUnit := dma (inV s n) (inH t n) (sIn s) (wx_inV s n) (wx_inH t n) trivial
def waitIn1 (t : Fin 8) (s : Fin 2) (n : Fin 4) : P F PUnit := wt (inV s n) (inH t n) (sIn s) (wx_inV s n) (wx_inH t n)
def startIn (t : Fin 8) (s : Fin 2) : P F PUnit := each [0, 1, 2, 3] (startIn1 t s)
def waitIn (t : Fin 8) (s : Fin 2) : P F PUnit := each [0, 1, 2, 3] (waitIn1 t s)
def startDx1 (n : Fin 8) : P F PUnit := dma (dxV n) (dxH n) sDx (wx_dxV n) (wx_dxH n) trivial
def waitDx1 (n : Fin 8) : P F PUnit := wt (dxV n) (dxH n) sDx (wx_dxV n) (wx_dxH n)
def startDx : P F PUnit := each [0, 1, 2, 3, 4, 5, 6, 7] startDx1
def waitDx : P F PUnit := each [0, 1, 2, 3, 4, 5, 6, 7] waitDx1
def startLast : P F PUnit := dma mDg mDgH sLast (Memref.isWhole_whole _).wordExact (Memref.isWhole_whole _).wordExact trivial
def waitLast : P F PUnit := wt mDg mDgH sLast (Memref.isWhole_whole _).wordExact (Memref.isWhole_whole _).wordExact

def startG (t : Fin 8) : P F PUnit := dma (gH t) (gV t) (sG t) (wx_gH t) (wx_gV t) trivial
def waitG (t : Fin 8) : P F PUnit := wt (gH t) (gV t) (sG t) (wx_gH t) (wx_gV t)
def startDq (j : Fin 3) : P F PUnit := dma (dqH j) (dqV j) (sDq j) (wx_dqH j) (wx_dqV j) trivial
def waitDq (j : Fin 3) : P F PUnit := wt (dqH j) (dqV j) (sDq j) (wx_dqH j) (wx_dqV j)
def startOut1 (t : Fin 8) (s : Fin 2) (n : Fin 8) : P F PUnit := dma (outV s n) (outH t n) (sOut s) (wx_outV s n) (wx_outH t n) trivial
def waitOut1 (t : Fin 8) (s : Fin 2) (n : Fin 8) : P F PUnit := wt (outV s n) (outH t n) (sOut s) (wx_outV s n) (wx_outH t n)
def startOut (t : Fin 8) (s : Fin 2) : P F PUnit := each [0, 1, 2, 3, 4, 5, 6, 7] (startOut1 t s)
def waitOut (t : Fin 8) (s : Fin 2) : P F PUnit := each [0, 1, 2, 3, 4, 5, 6, 7] (waitOut1 t s)
def startQkv (j : Fin 3) : P F PUnit := dma (qkvV j) (qkvH j) sQkv (wx_qkvV j) (wx_qkvH j) trivial
def waitQkv (j : Fin 3) : P F PUnit := wt (qkvV j) (qkvH j) sQkv (wx_qkvV j) (wx_qkvH j)

def dyt1 (n : Fin 32) : P F PUnit := do
  let x ← ld mDy (rDy n) h_S512x32
  let y ← ld mDys (rDys n) h_S1x512
  upd mDyt (rDyt n) h_S32x512 (st_dyt n) (wDyt x y)

def stageX (t : Fin 8) (s : Fin 2) : P F PUnit := do
  let a ← ld mA (rG t) h_S1x512x512
  upd mAt (rSlot s) h_S1x512x512 (st_at s) (wAt a)
  let x ← ld mG (rG t) h_S1x512x512
  let y ← ld mGs rRow h_S1x512
  upd mGt (rSlot s) h_S1x512x512 (st_gt s) (wGt x y)

def stageXht : P F PUnit := do
  let x ← ld mXh rXh h_S512x1024
  let y ← ld mXs rRow h_S1x512
  upd mXht rT h_S1024x512 st_xht (wXht x y)

def stageGamc : P F PUnit := do
  let x ← ld mGam rGam h_S1x1024
  upd mGamc rGamc h_S1024x128 st_gamc (wGamc x)

def out1 (s : Fin 2) (r : FVec F S512x1024 .f32) (n : Fin 8) : P F PUnit :=
  upd mOut (rOut s n) h_S1x1x64x8x128 (st_out s n) (wOut r n)

def stageO (s : Fin 2) : P F PUnit := do
  let x ← ld mGt (rSlot s) h_S1x512x512
  let y ← ld mDyt rT h_S1024x512
  each [0, 1, 2, 3, 4, 5, 6, 7] (out1 s (wO x y))

def vt1 (j : Fin 3) (h : Fin 2) (b : Fin 4) (x : FVec F S128x512 .bf16) (k : Fin 4) : P F PUnit := do
  let y ← ld mDqs (rDqs j h b k) h_S1x1x512
  upd mVt (rVt h b k) h_S1x32x512 (st_vt h b k) (wVt x y k)

def stageP (j : Fin 3) (h : Fin 2) : P F PUnit := do
  let x0 ← ld (dqV j) (rHead h 0) h_S512x1x128
  let x1 ← ld (dqV j) (rHead h 1) h_S512x1x128
  let x2 ← ld (dqV j) (rHead h 2) h_S512x1x128
  let x3 ← ld (dqV j) (rHead h 3) h_S512x1x128
  each [0, 1, 2, 3] (vt1 j h 0 (wHead x0))
  each [0, 1, 2, 3] (vt1 j h 1 (wHead x1))
  each [0, 1, 2, 3] (vt1 j h 2 (wHead x2))
  each [0, 1, 2, 3] (vt1 j h 3 (wHead x3))

def qkv1 (j : Fin 3) (h p : Fin 2) (r : FVec F S1024x512 .f32) (i : Fin 2) (k : Fin 4) : P F PUnit := do
  let g ← ld mGamc rGamc h_S1024x128
  let _ ← ld mQkv (rQkv1 j h k) h_S1x1024x1x128
  storeSubelements mQkv (rQkv j h p) (fun old => updateSlice old (wQkv r g k) ![0, 0, i.val, 0] (slices_row i))
    (View.loadsAt_vmem h_S1x1024x2x128) (st_qkv j h p)

def stageR (j : Fin 3) (h : Fin 2) : P F PUnit := do
  let x ← ld mXht rT h_S1024x512
  let y ← ld mVt (rSlot h) h_S1x512x512
  qkv1 j h 0 (wR x y) 0 0
  qkv1 j h 0 (wR x y) 1 1
  qkv1 j h 1 (wR x y) 0 2
  qkv1 j h 1 (wR x y) 1 3

def stageZero : P F PUnit := upd mDht rT h_S1024x512 st_dht wZero

def dat1 (t : Fin 8) (s : Fin 2) (b : Fin 16) (n : Fin 2) : P F PUnit := do
  let x ← ld mAt (rBlk s b n) h_S1x32x256
  let y ← ld mDs (rDs t b n) h_S1x1x256
  upd mDat (rBlk s b n) h_S1x32x256 (st_dat s b n) (wDat x y)

def stageB (t : Fin 8) (s : Fin 2) : P F PUnit := each (List.finRange 16) fun b => each [0, 1] (dat1 t s b)

def in1 (s : Fin 2) (r : FVec F S1024x512 .f32) (n : Fin 4) : P F PUnit := do
  let g ← ld mGamc rGamc h_S1024x128
  upd mIn (rIn s n) h_S1x1x128x8x128 (st_in s n) (wIn r g n)

def stageI (s : Fin 2) : P F PUnit := do
  let x ← ld mXht rT h_S1024x512
  let y ← ld mDat (rSlot s) h_S1x512x512
  each [0, 1, 2, 3] (in1 s (wR x y))

def stageH (t : Fin 8) (s : Fin 2) : P F PUnit := do
  let x ← ld mWin (rWin t) h_S1x1024x512
  let y ← ld mSin (rSin t) h_S1x512
  let a ← ld mDht rT h_S1024x512
  let d ← ld mDat (rSlot s) h_S1x512x512
  upd mDht rT h_S1024x512 st_dht (wH x y a d)

def wqb1 (j : Fin 3) (h : Fin 2) (b : Fin 4) (x : Vec F S1024x1x128 .fp8e4m3) : P F PUnit := do
  let y ← ld mSq (rSq j h b) h_S1x128
  upd mWqb (rWqb h b) h_S1x1024x128 (st_wqb h b) (wWqb x y)

def stageW (j : Fin 3) (h : Fin 2) : P F PUnit := do
  let x0 ← ld (wqV j) (rWHead h 0) h_S1024x1x128
  let x1 ← ld (wqV j) (rWHead h 1) h_S1024x1x128
  let x2 ← ld (wqV j) (rWHead h 2) h_S1024x1x128
  let x3 ← ld (wqV j) (rWHead h 3) h_S1024x1x128
  wqb1 j h 0 x0
  wqb1 j h 1 x1
  wqb1 j h 2 x2
  wqb1 j h 3 x3

def stageRh (h : Fin 2) : P F PUnit := do
  let a ← ld mDht rT h_S1024x512
  let w ← ld mWqb (rWslot h) h_S1x1024x512
  let v ← ld mVt (rSlot h) h_S1x512x512
  upd mDht rT h_S1024x512 st_dht (wRh a w v)

def dg1 (k : Fin 8) : P F PUnit := do
  let x0 ← ld mDht (rBl k 0) h_S128x128
  let y0 ← ld mXht (rBl k 0) h_S128x128
  let x1 ← ld mDht (rBl k 1) h_S128x128
  let y1 ← ld mXht (rBl k 1) h_S128x128
  let x2 ← ld mDht (rBl k 2) h_S128x128
  let y2 ← ld mXht (rBl k 2) h_S128x128
  let x3 ← ld mDht (rBl k 3) h_S128x128
  let y3 ← ld mXht (rBl k 3) h_S128x128
  upd mDg (rDg k) h_S1x128 (st_dg k) (wDg x0 y0 x1 y1 x2 y2 x3 y3)

def stageDg : P F PUnit := each (List.finRange 8) dg1

/-- The sums down the rows of lane block `n`. -/
def rowsDx (n : Fin 4) : List (Fin 128) → Acc F → P F (Acc F)
  | [], a => .ret a
  | k :: l, a => do
    let d ← ld mDht (rRow8 n k) h_S8x128
    let g ← ld mGamc (rGam8 k) h_S8x128
    let x ← ld mXht (rRow8 n k) h_S8x128
    rowsDx n l (accStep d g x a)

def dx1 (n : Fin 4) (m1 m2 : FVec F S1x128 .f32) (r : Vec F S1x128 .f32) (k : Fin 8) : P F PUnit := do
  let d ← ld mDht (rBl k n) h_S128x128
  let g ← ld mGamc (rGam128 k) h_S128x128
  let x ← ld mXht (rBl k n) h_S128x128
  let y ← ld mDyt (rBl k n) h_S128x128
  upd mDx (rDx n k) h_S1x16x8x128 (st_dx n k) (wDx d g x y m1 m2 r)

def dxLane (n : Fin 4) : P F PUnit := do
  let a ← rowsDx n (List.finRange 128) acc0
  let r ← ld mRs (rRs n) h_S1x128
  each (List.finRange 8) (dx1 n (wMean a.x0 a.x1 a.x2 a.x3) (wMean a.y0 a.y1 a.y2 a.y3) r)

def stageDx : P F PUnit := each (List.finRange 4) dxLane

/-! ### The body -/

/-- The copies of small arrays, all on one semaphore. -/
def startSmall : P F PUnit := do
  dma mDysH mDys sSmall (Memref.isWhole_whole _).wordExact (Memref.isWhole_whole _).wordExact trivial
  dma mDsH mDs sSmall (Memref.isWhole_whole _).wordExact (Memref.isWhole_whole _).wordExact trivial
  dma mXsH mXs sSmall (Memref.isWhole_whole _).wordExact (Memref.isWhole_whole _).wordExact trivial
  dma mGsH mGs sSmall (Memref.isWhole_whole _).wordExact (Memref.isWhole_whole _).wordExact trivial
  dma mRsH mRs sSmall (Memref.isWhole_whole _).wordExact (Memref.isWhole_whole _).wordExact trivial
  dma mGamH mGam sSmall (Memref.isWhole_whole _).wordExact (Memref.isWhole_whole _).wordExact trivial
  dma mSinH mSin sSmall (Memref.isWhole_whole _).wordExact (Memref.isWhole_whole _).wordExact trivial
  dma mSqH mSq sSmall (Memref.isWhole_whole _).wordExact (Memref.isWhole_whole _).wordExact trivial
  dma mDqsH mDqs sSmall (Memref.isWhole_whole _).wordExact (Memref.isWhole_whole _).wordExact trivial

def waitSmall : P F PUnit := do
  wt mDysH mDys sSmall (Memref.isWhole_whole _).wordExact (Memref.isWhole_whole _).wordExact
  wt mDsH mDs sSmall (Memref.isWhole_whole _).wordExact (Memref.isWhole_whole _).wordExact
  wt mXsH mXs sSmall (Memref.isWhole_whole _).wordExact (Memref.isWhole_whole _).wordExact
  wt mGsH mGs sSmall (Memref.isWhole_whole _).wordExact (Memref.isWhole_whole _).wordExact
  wt mRsH mRs sSmall (Memref.isWhole_whole _).wordExact (Memref.isWhole_whole _).wordExact
  wt mGamH mGam sSmall (Memref.isWhole_whole _).wordExact (Memref.isWhole_whole _).wordExact
  wt mSinH mSin sSmall (Memref.isWhole_whole _).wordExact (Memref.isWhole_whole _).wordExact
  wt mSqH mSq sSmall (Memref.isWhole_whole _).wordExact (Memref.isWhole_whole _).wordExact
  wt mDqsH mDqs sSmall (Memref.isWhole_whole _).wordExact (Memref.isWhole_whole _).wordExact

/-- The tiles of `da`, `g` and `w_in` wanted together. -/
def startAG (t : Fin 8) : P F PUnit := do
  startA t
  startG t
def waitAG (t : Fin 8) : P F PUnit := do
  waitA t
  waitG t
/-- The parts of `dqkv` and `w_qkv` wanted together. -/
def startDW (j : Fin 3) : P F PUnit := do
  startDq j
  startWq j
def waitDW (j : Fin 3) : P F PUnit := do
  waitDq j
  waitWq j

/-- The copies the body starts first. -/
def starts : P F PUnit := do
  dma mDyH mDy sDy (Memref.isWhole_whole _).wordExact (Memref.isWhole_whole _).wordExact trivial
  startSmall
  dma mXhH mXh sXh (Memref.isWhole_whole _).wordExact (Memref.isWhole_whole _).wordExact trivial
  startAG 0
  startAG 1
  startDW 0
  startAG 2
  startWin 0
  startAG 3
  startWin 1
  startDW 1
  startAG 4
  startWin 2
  startAG 5
  startWin 3
  startDW 2
  startAG 6
  startWin 4
  startAG 7
  startWin 5
  startWin 6
  startWin 7

/-- Everything before the loop. -/
def pre : P F PUnit := do
  starts
  waitSmall
  wt mDyH mDy sDy (Memref.isWhole_whole _).wordExact (Memref.isWhole_whole _).wordExact
  each (List.finRange 32) dyt1
  wt mXhH mXh sXh (Memref.isWhole_whole _).wordExact (Memref.isWhole_whole _).wordExact
  waitAG 0
  stageX 0 0
  stageXht
  stageGamc
  stageZero
  waitAG 1
  waitDW 0
  stageO 0
  stageX 1 1
  stageB 0 0
  stageP 0 0
  stageW 0 0

/-- The waits and the computing stages of the first half of trip `k`; -/
def halfA (k : Fin 3) : P F PUnit := do
  waitAG ⟨2 * k.val + 2, by omega⟩
  waitWin ⟨2 * k.val, by omega⟩
  stageO 1
  stageX ⟨2 * k.val + 2, by omega⟩ 0
  stageI 0
  stageH ⟨2 * k.val, by omega⟩ 0
  stageB ⟨2 * k.val + 1, by omega⟩ 1
  stageR k 0
  stageRh 0
  stageP k 1
  stageW k 1

/-- The first half of trip `k` at `k = 0`: no tile written yet to wait for; -/
def tripA0 : P F PUnit := do
  startOut 0 0
  halfA 0

/-- and at `k ≥ 1`. -/
def tripA (k : Fin 3) (j : Fin 3) : P F PUnit := do
  startOut ⟨2 * k.val, by omega⟩ 0
  startIn ⟨2 * k.val - 1, by omega⟩ 1
  waitOut ⟨2 * k.val - 1, by omega⟩ 1
  waitIn ⟨2 * k.val - 2, by omega⟩ 0
  startQkv j
  halfA k

/-- The computing stages of the second half of trip `k`, the heads prepared being those of `j`; -/
def halfB (k j : Fin 3) : P F PUnit := do
  stageO 0
  stageX ⟨2 * k.val + 3, by omega⟩ 1
  stageI 1
  stageH ⟨2 * k.val + 1, by omega⟩ 1
  stageB ⟨2 * k.val + 2, by omega⟩ 0
  stageR k 1
  stageRh 1
  stageP j 0
  stageW j 0

/-- The copies of the second half of trip `k`. -/
def copiesB (k : Fin 3) : P F PUnit := do
  startOut ⟨2 * k.val + 1, by omega⟩ 1
  startIn ⟨2 * k.val, by omega⟩ 0
  waitOut ⟨2 * k.val, by omega⟩ 0

/-- The tiles waited for in the second half of trip `k`. -/
def waitsB (k : Fin 3) : P F PUnit := do
  waitAG ⟨2 * k.val + 3, by omega⟩
  waitWin ⟨2 * k.val + 1, by omega⟩

def trip : Fin 3 → P F PUnit
  | 0 => do tripA0; copiesB 0; waitsB 0; waitDW 1; halfB 0 1
  | 1 => do tripA 1 0; copiesB 1; waitIn 1 1; waitsB 1; waitDW 2; halfB 1 2
  | 2 => do tripA 2 1; copiesB 2; waitIn 3 1; waitsB 2; halfB 2 2

/-- Everything after the loop, cut where the printed program cuts it. -/
def epi1 : P F PUnit := .ret ⟨⟩
def epi2 : P F PUnit := do
  startOut 6 0
  startIn 5 1
  startQkv 2
  waitOut 5 1
  waitIn 4 0
  waitWin 6
  waitWin 7
  stageI 0
  stageH 6 0
  stageB 7 1
  startIn 6 0
def epi3 : P F PUnit := do
  waitIn 5 1
  stageH 7 1
  stageI 1
  stageO 1
  stageDx
  stageDg
  startDx
  startLast
  startIn 7 1
  startOut 7 1
  waitQkv 0
  waitQkv 1
  waitQkv 2
  waitIn 6 0
  waitOut 6 0
  waitIn 7 1
  waitOut 7 1
  waitDx
  waitLast

def epi : P F PUnit := do
  startOut 6 0
  startIn 5 1
  startQkv 2
  waitOut 5 1
  waitIn 4 0
  waitWin 6
  waitWin 7
  stageI 0
  stageH 6 0
  stageB 7 1
  startIn 6 0
  waitIn 5 1
  stageH 7 1
  stageI 1
  stageO 1
  stageDx
  stageDg
  startDx
  startLast
  startIn 7 1
  startOut 7 1
  waitQkv 0
  waitQkv 1
  waitQkv 2
  waitIn 6 0
  waitOut 6 0
  waitIn 7 1
  waitOut 7 1
  waitDx
  waitLast

end Cert.Kernel.Hand

end
-- ==== Proof.KOwn.lean ====
module

public import proofs.«01_k».proof.Proof.KStages
public import Idealize.ShloMosaic.Lib.MixedBatch
public import Idealize.ShloMosaic.Lib.Ring
public import Idealize.ShloMosaic.Lib.Writes
public import Idealize.ShloMosaic.Lib.Tactic
public import Idealize.ShloMosaic.Lib.Pipeline.FrameBody

/-! Ownership of the words under a view at known contents, and the rules of the kernel's operations over it. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The words under `v` are held and read `w`. -/
def own (c : Dev nD) {sp : Space} {s : Shape} {e : EltTy} (v : View sig .tc sp s e) (w : s.Idx → Elt F e) : sProp 𝕄 :=
  iprop(∃ f, ⌜v.read (Elt F) f = w⌝ ∗ (v.loc (c : Thread nD τ) ↦[v.set]{fullShare} f))

/-- The words under `v` are held at anything. -/
def anyv (c : Dev nD) {sp : Space} {s : Shape} {e : EltTy} (v : View sig .tc sp s e) : sProp 𝕄 :=
  iprop(∃ f, (v.loc (c : Thread nD τ) ↦[v.set]{fullShare} f))

instance own_storable (c : Dev nD) {sp : Space} {s : Shape} {e : EltTy} (v : View sig .tc sp s e) (w : s.Idx → Elt F e) :
    Storable (upEmb : UEmb _ 𝕄) (own c v w) := by unfold own; infer_instance

theorem own_any (c : Dev nD) {sp : Space} {s : Shape} {e : EltTy} (v : View sig .tc sp s e) (w : s.Idx → Elt F e) :
    own c v w ⊢ (anyv c v : sProp 𝕄) := by
  unfold own anyv
  iintro ⟨%f, -, H⟩
  iexists f; iexact H

/-- The weakest precondition of a program of the kernel's core. -/
abbrev W {α : Type} (c : Dev nD) (p : P F α) (Q : α → sProp 𝕄) : sProp 𝕄 :=
  wp frame (wpE (defs₀ (F := F)) Variants.none (c : Thread nD τ) none) Set.univ p Q

/-- What is owed and waited for so far. -/
def owesA (c : Dev nD) : sProp 𝕄 := iprop(∃ Ws, owes (c : Thread nD τ) 0 Ws)

variable {α : Type} {c : Dev nD} {Q : α → sProp (MT nD τ sig Unit (Elt F) ℕ (Pipeline.UD sig nD τ) ℕ)}

theorem ld_rule {s : Shape} {e : EltTy} (m : Memref sig .tc .vmem s e) (r : Rect s) (h : 0 < r.shape.numel)
    (w : r.shape.Idx → Elt F e) (k : (r.shape.Idx → Elt F e) → P F α) :
    own c (m.access r) w ⊢ iprop((own c (m.access r) w -∗ W c (k w) Q) -∗ W c (ld m r h >>= k) Q) := by
  unfold own
  iintro ⟨%f, %hf, H⟩ Hk
  subst hf
  iapply (wp_load_rect (c := (c : Thread nD τ)) Variants.none none Set.univ (m := m) (r := r) (k := k) (Finset.Subset.refl _)) $$ H
  iintro H
  iapply Hk
  iexists f
  isplitr; · ipureintro; rfl
  iexact H

theorem upd_rule {s : Shape} {e : EltTy} (m : Memref sig .tc .vmem s e) (r : Rect s) (h : 0 < r.shape.numel)
    (hx : (m.access r).Stores Finset.univ) (w : r.shape.Idx → Elt F e) (k : PUnit → P F α) :
    anyv c (m.access r) ⊢ iprop((own c (m.access r) w -∗ W c (k ⟨⟩) Q) -∗ W c (upd m r h hx w >>= k) Q) := by
  unfold own anyv
  iintro ⟨%f, H⟩ Hk
  iapply (wp_load_rect (c := (c : Thread nD τ)) Variants.none none Set.univ (m := m) (r := r)
    (k := fun _ => Prog.lift (.store m r w Finset.univ hx (.inl rfl)) >>= k) (Finset.Subset.refl _)) $$ H
  iintro H
  iapply (wp_store (c := (c : Thread nD τ)) Variants.none none Set.univ (m := m) (r := r) (w := w) (Mk := Finset.univ) (k := k) (S := (m.access r).set) (Finset.Subset.refl _)) $$ H
  iintro H
  iapply Hk
  iexists _
  isplitr; swap; · iexact H
  ipureintro; exact View.read_write_univ _ _

/-- The counters' place in the proof's algebra. -/
abbrev EC : UEmb Counters 𝕄 := countersEmb (U := Pipeline.UD sig nD τ)

/-- What a finished copy hands back. -/
abbrev moved (c : Dev nD) {sp sp' : Space} {s : Shape} {e : EltTy} (src : Memref sig .tc sp s e) (dst : Memref sig .tc sp' s e)
    (w : s.Idx → Elt F e) : sProp 𝕄 := iprop(own c dst.view w ∗ own c src.view w)

/-- A copy in flight, alone on its semaphore. -/
abbrev flight (c : Dev nD) {sp sp' : Space} {s : Shape} {e : EltTy} (src : Memref sig .tc sp s e) (dst : Memref sig .tc sp' s e)
    (sm : DmaSem sig) (w : s.Idx → Elt F e) : sProp 𝕄 :=
  Transfers.Flight (Lvl := ℕ) EC (c : Thread nD τ) (.dma sm) () (dst.view.amount (SemLoc.dma sm)) (moved c src dst w)

theorem dma_rule {sp sp' : Space} {s : Shape} {e : EltTy} (src : Memref sig .tc sp s e) (dst : Memref sig .tc sp' s e) (sm : DmaSem sig)
    (hs : src.view.WordExact) (hd : dst.view.WordExact) (hh : (DmaTarget.here (nD := nD) (p := (.tc : Proc τ)) dst).HostLowered sp (.dma sm))
    (hN : 0 < dst.view.amount (SemLoc.dma sm)) (w : s.Idx → Elt F e) (k : PUnit → P F α) :
    iprop(own c src.view w ∗ anyv c dst.view ∗ semVal ((c : Thread nD τ), SemLoc.dma sm) 0)
      ⊢ iprop((flight c src dst sm w -∗ W c (k ⟨⟩) Q) -∗ W c (dma src dst sm hs hd hh >>= k) Q) := by
  unfold own anyv
  iintro ⟨⟨%f, %hf, H⟩, ⟨%g, Hg⟩, Hv⟩ Hk
  subst hf
  iapply (Transfers.wp_dmaLocal (Lvl := ℕ) EC Variants.none (c : Thread nD τ) none (src := src) (dst := dst) (sm := .dma sm) (k := k)
    () _ rfl hN (Finset.Subset.refl _)) $$ [H Hg Hv]
  · isplitl [H]; · iexact H
    isplitl [Hg]; · iexact Hg
    iexact Hv
  iintro Hf
  iapply Hk
  iapply (Transfers.Flight_mono (Lvl := ℕ) EC (c : Thread nD τ)) $$ Hf
  unfold moved own
  iintro ⟨Hd, Hs⟩
  isplitl [Hd]
  · iexists _
    isplitr; swap; · iexact Hd
    ipureintro; exact View.read_write_univ _ _
  · iexists f
    isplitr; · ipureintro; rfl
    iexact Hs

theorem wt_rule {sp sp' : Space} {s : Shape} {e : EltTy} (src : Memref sig .tc sp s e) (dst : Memref sig .tc sp' s e) (sm : DmaSem sig)
    (hs : src.view.WordExact) (hd : dst.view.WordExact) (w : s.Idx → Elt F e) (k : PUnit → P F α) :
    iprop(flight c src dst sm w ∗ owesA c)
      ⊢ iprop((iprop(moved c src dst w ∗ semVal ((c : Thread nD τ), SemLoc.dma sm) 0 ∗ owesA c) -∗ W c (k ⟨⟩) Q)
          -∗ W c (wt src dst sm hs hd >>= k) Q) := by
  unfold owesA
  iintro ⟨Hf, ⟨%Ws, Ho⟩⟩ Hk
  iapply (Transfers.wp_waitLocal (Lvl := ℕ) EC Variants.none (c : Thread nD τ) none (srcw := src) (dstw := dst) (sem := sm) (k := k)
    () (N := dst.view.amount (SemLoc.dma sm)) rfl) $$ [Hf Ho]
  · isplitl [Hf]; · iexact Hf
    iexact Ho
  iintro ⟨Hd, Hv, Ho⟩
  iapply Hk
  isplitl [Hd]; · iexact Hd
  isplitl [Hv]; · iexact Hv
  iexists _; iexact Ho

/-- Several copies of one size on one semaphore: `j` of them started, `u` units waited for. -/
abbrev batch (c : Dev nD) {n : ℕ} (sm : DmaSem sig) (N : ℕ) (D : Fin n → sProp 𝕄) (j u : ℕ) : sProp 𝕄 :=
  Transfers.Batch (Lvl := ℕ) EC (c : Thread nD τ) (.dma sm) () N D j u

theorem batch_new {n : ℕ} (sm : DmaSem sig) (N : ℕ) (D : Fin n → sProp 𝕄) [∀ t, Storable (upEmb : UEmb _ 𝕄) (D t)] {E : Set ℕ} :
    (semVal ((c : Thread nD τ), SemLoc.dma sm) 0 : sProp 𝕄) ⊢ |={E}=> batch c sm N D 0 0 :=
  Transfers.batch_alloc' (Lvl := ℕ) EC (c : Thread nD τ) () N D

theorem batch_dma {n : ℕ} {sp sp' : Space} {s : Shape} {e : EltTy} (src : Memref sig .tc sp s e) (dst : Memref sig .tc sp' s e) (sm : DmaSem sig)
    (hs : src.view.WordExact) (hd : dst.view.WordExact) (hh : (DmaTarget.here (nD := nD) (p := (.tc : Proc τ)) dst).HostLowered sp (.dma sm))
    {N : ℕ} (hN : dst.view.amount (SemLoc.dma sm) = N) {D : Fin n → sProp 𝕄} {j u : ℕ} (hj : j < n) (hu : u ≤ j * N)
    (w : s.Idx → Elt F e) (hD : moved c src dst w ⊢ D ⟨j, hj⟩) (k : PUnit → P F α) :
    iprop(own c src.view w ∗ anyv c dst.view ∗ batch c sm N D j u)
      ⊢ iprop((batch c sm N D (j + 1) u -∗ W c (k ⟨⟩) Q) -∗ W c (dma src dst sm hs hd hh >>= k) Q) := by
  have hmv : ∀ f g, src.view.read (Elt F) f = w → iprop((dst.view.loc (c : Thread nD τ) ↦[dst.view.set]{fullShare}
        (dst.view.write (Elt F) g (ReadAs.same.apply (src.view.read (Elt F) f)) Finset.univ))
      ∗ (src.view.loc (c : Thread nD τ) ↦[src.view.set]{fullShare} f)) ⊢ (moved c src dst w : sProp 𝕄) := by
    intro f g hf
    subst hf
    unfold moved own
    iintro ⟨Hd, Hs⟩
    isplitl [Hd]
    · iexists _
      isplitr; swap; · iexact Hd
      ipureintro; exact View.read_write_univ _ _
    · iexists f
      isplitr; · ipureintro; rfl
      iexact Hs
  unfold own anyv
  iintro ⟨⟨%f, %hf, H⟩, ⟨%g, Hg⟩, Hv⟩ Hk
  iapply (Transfers.wp_dmaBatch (Lvl := ℕ) EC Variants.none (c : Thread nD τ) none (src := src) (dst := dst) (sm := .dma sm) (k := k)
    () N hN (Finset.Subset.refl _) hj hu ((hmv f g hf).trans hD)) $$ [H Hg Hv]
  · isplitl [H]; · iexact H
    isplitl [Hg]; · iexact Hg
    iexact Hv
  iintro Hf
  iapply Hk
  iexact Hf

theorem batch_wt {n : ℕ} {sp sp' : Space} {s : Shape} {e : EltTy} (src : Memref sig .tc sp s e) (dst : Memref sig .tc sp' s e) (sm : DmaSem sig)
    (hs : src.view.WordExact) (hd : dst.view.WordExact) {N : ℕ} (hN : dst.view.dmaCredit = N) {D : Fin n → sProp 𝕄} {u : ℕ}
    (hu : u + N < N * n) (k : PUnit → P F α) :
    iprop(batch c sm N D n u ∗ owesA c)
      ⊢ iprop((iprop(batch c sm N D n (u + N) ∗ owesA c) -∗ W c (k ⟨⟩) Q) -∗ W c (wt src dst sm hs hd >>= k) Q) := by
  unfold owesA
  iintro ⟨Hf, ⟨%Ws, Ho⟩⟩ Hk
  iapply (Transfers.wp_waitBatch (Lvl := ℕ) EC Variants.none (c : Thread nD τ) none (srcw := src) (dstw := dst) (sem := sm) (k := k)
    () hN hu) $$ [Hf Ho]
  · isplitl [Hf]; · iexact Hf
    iexact Ho
  iintro ⟨Hf, Ho⟩
  iapply Hk
  isplitl [Hf]; · iexact Hf
  iexists _; iexact Ho

theorem batch_wtLast {n : ℕ} {sp sp' : Space} {s : Shape} {e : EltTy} (src : Memref sig .tc sp s e) (dst : Memref sig .tc sp' s e) (sm : DmaSem sig)
    (hs : src.view.WordExact) (hd : dst.view.WordExact) {N : ℕ} (hN : dst.view.dmaCredit = N) (hN0 : 0 < N) {D : Fin n → sProp 𝕄} {u : ℕ}
    (hu : u + N = N * n) (k : PUnit → P F α) :
    iprop(batch c sm N D n u ∗ owesA c)
      ⊢ iprop((iprop(bigSep Finset.univ D ∗ semVal ((c : Thread nD τ), SemLoc.dma sm) 0 ∗ owesA c) -∗ W c (k ⟨⟩) Q)
          -∗ W c (wt src dst sm hs hd >>= k) Q) := by
  unfold owesA
  iintro ⟨Hf, ⟨%Ws, Ho⟩⟩ Hk
  iapply (Transfers.wp_waitBatchLast (Lvl := ℕ) EC Variants.none (c : Thread nD τ) none (srcw := src) (dstw := dst) (sem := sm) (k := k)
    () hN hN0 hu) $$ [Hf Ho]
  · isplitl [Hf]; · iexact Hf
    iexact Ho
  iintro ⟨Hd, Hv, Ho⟩
  iapply Hk
  isplitl [Hd]; · iexact Hd
  isplitl [Hv]; · iexact Hv
  iexists _; iexact Ho

/-- Several copies of different sizes on one semaphore. -/
abbrev mixed (c : Dev nD) {n : ℕ} (sm : DmaSem sig) (A : Fin n → ℕ) (D : Fin n → sProp 𝕄) (j u : ℕ) : sProp 𝕄 :=
  Transfers.MixedBatch (Lvl := ℕ) EC (c : Thread nD τ) (.dma sm) () A D j u

theorem mixed_new {n : ℕ} (sm : DmaSem sig) (A : Fin n → ℕ) (D : Fin n → sProp 𝕄) [∀ t, Storable (upEmb : UEmb _ 𝕄) (D t)] {E : Set ℕ} :
    (semVal ((c : Thread nD τ), SemLoc.dma sm) 0 : sProp 𝕄) ⊢ |={E}=> mixed c sm A D 0 0 :=
  Transfers.mixedBatch_alloc' (Lvl := ℕ) EC (c : Thread nD τ) () A D

theorem mixed_dma {n : ℕ} {sp sp' : Space} {s : Shape} {e : EltTy} (src : Memref sig .tc sp s e) (dst : Memref sig .tc sp' s e) (sm : DmaSem sig)
    (hs : src.view.WordExact) (hd : dst.view.WordExact) (hh : (DmaTarget.here (nD := nD) (p := (.tc : Proc τ)) dst).HostLowered sp (.dma sm))
    {A : Fin n → ℕ} {D : Fin n → sProp 𝕄} {j u : ℕ} (hj : j < n) (hA : dst.view.amount (SemLoc.dma sm) = A ⟨j, hj⟩) (hu : u ≤ Transfers.sumTo A j)
    (w : s.Idx → Elt F e) (hD : moved c src dst w ⊢ D ⟨j, hj⟩) (k : PUnit → P F α) :
    iprop(own c src.view w ∗ anyv c dst.view ∗ mixed c sm A D j u)
      ⊢ iprop((mixed c sm A D (j + 1) u -∗ W c (k ⟨⟩) Q) -∗ W c (dma src dst sm hs hd hh >>= k) Q) := by
  have hmv : ∀ f g, src.view.read (Elt F) f = w → iprop((dst.view.loc (c : Thread nD τ) ↦[dst.view.set]{fullShare}
        (dst.view.write (Elt F) g (ReadAs.same.apply (src.view.read (Elt F) f)) Finset.univ))
      ∗ (src.view.loc (c : Thread nD τ) ↦[src.view.set]{fullShare} f)) ⊢ (moved c src dst w : sProp 𝕄) := by
    intro f g hf
    subst hf
    unfold moved own
    iintro ⟨Hd, Hs⟩
    isplitl [Hd]
    · iexists _
      isplitr; swap; · iexact Hd
      ipureintro; exact View.read_write_univ _ _
    · iexists f
      isplitr; · ipureintro; rfl
      iexact Hs
  unfold own anyv
  iintro ⟨⟨%f, %hf, H⟩, ⟨%g, Hg⟩, Hv⟩ Hk
  iapply (Transfers.wp_dmaMixedBatch (Lvl := ℕ) EC Variants.none (c : Thread nD τ) none (src := src) (dst := dst) (sm := .dma sm) (k := k)
    () A (Finset.Subset.refl _) hj hA hu ((hmv f g hf).trans hD)) $$ [H Hg Hv]
  · isplitl [H]; · iexact H
    isplitl [Hg]; · iexact Hg
    iexact Hv
  iintro Hf
  iapply Hk
  iexact Hf

theorem mixed_wt {n : ℕ} {sp sp' : Space} {s : Shape} {e : EltTy} (src : Memref sig .tc sp s e) (dst : Memref sig .tc sp' s e) (sm : DmaSem sig)
    (hs : src.view.WordExact) (hd : dst.view.WordExact) {J : ℕ} (hJ : dst.view.dmaCredit = J) {A : Fin n → ℕ} {D : Fin n → sProp 𝕄} {u : ℕ}
    (hu : u + J ≤ Transfers.sumTo A n) (k : PUnit → P F α) :
    iprop(mixed c sm A D n u ∗ owesA c)
      ⊢ iprop((iprop(mixed c sm A D n (u + J) ∗ owesA c) -∗ W c (k ⟨⟩) Q) -∗ W c (wt src dst sm hs hd >>= k) Q) := by
  unfold owesA
  iintro ⟨Hf, ⟨%Ws, Ho⟩⟩ Hk
  iapply (Transfers.wp_waitMixedBatch (Lvl := ℕ) EC Variants.none (c : Thread nD τ) none (srcw := src) (dstw := dst) (sem := sm) (k := k)
    () hJ hu) $$ [Hf Ho]
  · isplitl [Hf]; · iexact Hf
    iexact Ho
  iintro ⟨Hf, Ho⟩
  iapply Hk
  isplitl [Hf]; · iexact Hf
  iexists _; iexact Ho

theorem mixed_wtLast {n : ℕ} {sp sp' : Space} {s : Shape} {e : EltTy} (src : Memref sig .tc sp s e) (dst : Memref sig .tc sp' s e) (sm : DmaSem sig)
    (hs : src.view.WordExact) (hd : dst.view.WordExact) {J : ℕ} (hJ : dst.view.dmaCredit = J) {A : Fin n → ℕ} (hA0 : ∀ t, 0 < A t)
    {D : Fin n → sProp 𝕄} {u : ℕ} (hu : u + J = Transfers.sumTo A n) (k : PUnit → P F α) :
    iprop(mixed c sm A D n u ∗ owesA c)
      ⊢ iprop((iprop(bigSep Finset.univ D ∗ semVal ((c : Thread nD τ), SemLoc.dma sm) 0 ∗ owesA c) -∗ W c (k ⟨⟩) Q)
          -∗ W c (wt src dst sm hs hd >>= k) Q) := by
  unfold owesA
  iintro ⟨Hf, ⟨%Ws, Ho⟩⟩ Hk
  iapply (Transfers.wp_waitMixedBatchAll (Lvl := ℕ) EC Variants.none (c : Thread nD τ) none (srcw := src) (dstw := dst) (sem := sm) (k := k)
    () hJ hA0 hu) $$ [Hf Ho]
  · isplitl [Hf]; · iexact Hf
    iexact Ho
  iintro ⟨Hd, Hv, Ho⟩
  iapply Hk
  isplitl [Hd]; · iexact Hd
  isplitl [Hv]; · iexact Hv
  iexists _; iexact Ho

theorem sep_insert {β : Type} [DecidableEq β] {s : Finset β} {a : β} (h : a ∉ s) (Φ : β → sProp 𝕄) :
    bigSep (insert a s) Φ = iprop(Φ a ∗ bigSep s Φ) := bigSep_insert h

/-- One program per entry, each turning its own assertion over and handing a shared one on. -/
theorem each_list {β : Type} [DecidableEq β] {R : sProp 𝕄} {A B : β → sProp 𝕄} {f : β → P F PUnit}
    (h : ∀ a (k : PUnit → P F α), iprop(R ∗ A a) ⊢ iprop((iprop(R ∗ B a) -∗ W c (k ⟨⟩) Q) -∗ W c (f a >>= k) Q)) (l : List β) (hl : l.Nodup)
    (k : PUnit → P F α) :
    iprop(R ∗ bigSep l.toFinset A) ⊢ iprop((iprop(R ∗ bigSep l.toFinset B) -∗ W c (k ⟨⟩) Q) -∗ W c (each l f >>= k) Q) := by
  induction l with
  | nil =>
    rw [List.toFinset_nil, bigSep_empty, bigSep_empty]
    iintro ⟨HR, HA⟩ Hk
    iapply Hk
    isplitl [HR]; · iexact HR
    iexact HA
  | cons a l ih =>
    have e : (each (a :: l) f >>= k) = (f a >>= fun _ => each l f >>= k) := Prog.bind_assoc _ _ _
    have hn : a ∉ l.toFinset := by simpa using (List.nodup_cons.mp hl).1
    rw [e, List.toFinset_cons, sep_insert hn, sep_insert hn]
    iintro ⟨HR, Ha, HA⟩ Hk
    iapply (h a (fun _ => each l f >>= k)) $$ [HR Ha]
    · isplitl [HR]; · iexact HR
      iexact Ha
    iintro ⟨HR, Hb⟩
    iapply (ih (List.nodup_cons.mp hl).2) $$ [HR HA]
    · isplitl [HR]; · iexact HR
      iexact HA
    iintro ⟨HR, HB⟩
    iapply Hk
    isplitl [HR]; · iexact HR
    isplitl [Hb]; · iexact Hb
    iexact HB

/-- The same over every index of a type. -/
theorem each_rule {β : Type} [DecidableEq β] [Fintype β] {R : sProp 𝕄} {A B : β → sProp 𝕄} {f : β → P F PUnit}
    (h : ∀ a (k : PUnit → P F α), iprop(R ∗ A a) ⊢ iprop((iprop(R ∗ B a) -∗ W c (k ⟨⟩) Q) -∗ W c (f a >>= k) Q)) {l : List β} (hl : l.Nodup)
    (hu : l.toFinset = Finset.univ) (k : PUnit → P F α) :
    iprop(R ∗ bigSep Finset.univ A) ⊢ iprop((iprop(R ∗ bigSep Finset.univ B) -∗ W c (k ⟨⟩) Q) -∗ W c (each l f >>= k) Q) := by
  rw [← hu]; exact each_list h l hl k

/-! ### Pieces of a buffer -/

section pieces

variable {sp : Space} {s : Shape} {e : EltTy}

/-- Two contents that read alike under a view agree on its words. -/
theorem read_inj (v : View sig .tc sp s e) {f g : v.ty.Contents (Elt F)} (h : v.read (Elt F) f = v.read (Elt F) g) :
    ∀ i ∈ v.set, f i = g i := by
  intro i hi
  obtain ⟨x, -, rfl⟩ := Finset.mem_map.mp hi
  exact (cast_bijective (congrArg (Elt F) v.elt_eq)).1 (congrFun h x)

theorem own_to (v : View sig .tc sp s e) (f : v.ty.Contents (Elt F)) (w : s.Idx → Elt F e) (h : v.read (Elt F) f = w) :
    own c v w ⊢ (v.loc (c : Thread nD τ) ↦[v.set]{fullShare} f : sProp 𝕄) := by
  subst h
  unfold own
  iintro ⟨%g, %hg, H⟩
  have e := pointsTo_congr (Ix := Unit) (Name := ℕ) (U := Pipeline.UD sig nD τ) (Lvl := ℕ) (ℓ := v.loc (c : Thread nD τ)) (q := fullShare) (f := f) (g := g) (I := v.set)
    (read_inj v hg.symm)
  rw [e]
  iexact H

theorem own_of (v : View sig .tc sp s e) (f : v.ty.Contents (Elt F)) :
    (v.loc (c : Thread nD τ) ↦[v.set]{fullShare} f : sProp 𝕄) ⊢ own c v (v.read (Elt F) f) := by
  unfold own
  iintro H
  iexists f
  isplitr; · ipureintro; rfl
  iexact H

theorem any_of (v : View sig .tc sp s e) (f : v.ty.Contents (Elt F)) :
    (v.loc (c : Thread nD τ) ↦[v.set]{fullShare} f : sProp 𝕄) ⊢ anyv c v := by
  unfold anyv
  iintro H
  iexists f; iexact H

theorem own_reshape (v : View sig .tc sp s e) {s' : Shape} (h : s'.numel = s.numel) (w : s.Idx → Elt F e) :
    own c v w ⊢ (own c (v.reshape s' h) (fun i => w (Shape.reshapeEquiv h i)) : sProp 𝕄) := by
  unfold own
  rw [View.set_reshape]
  iintro ⟨%f, %hf, H⟩
  subst hf
  iexists f
  isplitr; · ipureintro; rfl
  iexact H

theorem reshape_own (v : View sig .tc sp s e) {s' : Shape} (h : s'.numel = s.numel) (w : s'.Idx → Elt F e) :
    own c (v.reshape s' h) w ⊢ (own c v (fun i => w ((Shape.reshapeEquiv h).symm i)) : sProp 𝕄) := by
  unfold own
  rw [View.set_reshape]
  iintro ⟨%f, %hf, H⟩
  subst hf
  iexists f
  isplitr
  · ipureintro
    funext i
    show _ = v.read (Elt F) f (Shape.reshapeEquiv h ((Shape.reshapeEquiv h).symm i))
    rw [Equiv.apply_symm_apply]
  iexact H

theorem any_reshape (v : View sig .tc sp s e) {s' : Shape} (h : s'.numel = s.numel) :
    anyv c v ⊢ (anyv c (v.reshape s' h) : sProp 𝕄) := by
  unfold anyv
  rw [View.set_reshape]

/-- The part of an array under a rectangle. -/
def sub {β : Type} (X : s.Idx → β) (r : Rect s) : r.shape.Idx → β := fun i => X (r.emb i)

/-- An array put together from its parts. -/
def glue {A : Type} {β : Type} (r : A → Rect s) (w : ∀ a, (r a).shape.Idx → β) (d : β) : s.Idx → β := fun i =>
  open Classical in if h : ∃ p : (a : A) × (r a).shape.Idx, (r p.1).emb p.2 = i then w h.choose.1 h.choose.2 else d

theorem glue_emb {A : Type} {β : Type} (r : A → Rect s) (hd : ∀ a b, a ≠ b → Disjoint (r a).set (r b).set)
    (w : ∀ a, (r a).shape.Idx → β) (d : β) (a : A) (y : (r a).shape.Idx) : glue r w d ((r a).emb y) = w a y := by
  have h : ∃ p : (a : A) × (r a).shape.Idx, (r p.1).emb p.2 = (r a).emb y := ⟨⟨a, y⟩, rfl⟩
  unfold glue
  rw [dif_pos h]
  have hc := h.choose_spec
  generalize h.choose = p at hc
  obtain ⟨b, z⟩ := p
  have hab : b = a := by
    by_contra hne
    have h1 : (r a).emb y ∈ (r b).set := by
      rw [← Rect.map_emb_univ]; exact Finset.mem_map.mpr ⟨z, Finset.mem_univ _, hc⟩
    have h2 : (r a).emb y ∈ (r a).set := by
      rw [← Rect.map_emb_univ]; exact Finset.mem_map.mpr ⟨y, Finset.mem_univ _, rfl⟩
    exact Finset.disjoint_left.mp (hd b a hne) h1 h2
  subst hab
  rw [(r b).emb.injective hc]

variable (m : Memref sig .tc sp s e)

theorem access_disjoint {r r' : Rect s} (h : Disjoint r.set r'.set) : Disjoint (m.access r).set (m.access r').set := by
  rw [View.set_slice, View.set_slice]
  exact (Finset.disjoint_map _).mpr h

/-- A view's words are those of rectangles that cover it. -/
theorem access_cover {A : Type} [Fintype A] (r : A → Rect s) (R : Finset s.Idx) (h : ∀ i, i ∈ R ↔ ∃ a, i ∈ (r a).set) :
    (Finset.univ.biUnion fun a => (m.access (r a)).set) = R.map m.view.emb := by
  ext i
  simp only [Finset.mem_biUnion, Finset.mem_univ, true_and, View.set_slice, Finset.mem_map]
  constructor
  · rintro ⟨a, x, hx, rfl⟩
    exact ⟨x, (h x).mpr ⟨a, hx⟩, rfl⟩
  · rintro ⟨x, hx, rfl⟩
    obtain ⟨a, ha⟩ := (h x).mp hx
    exact ⟨a, x, ha, rfl⟩

/-- Words held, cut along disjoint rectangles that cover them. -/
theorem cut {A : Type} [Fintype A] [DecidableEq A] (r : A → Rect s) (hd : ∀ a b, a ≠ b → Disjoint (r a).set (r b).set) (R : Finset s.Idx)
    (h : ∀ i, i ∈ R ↔ ∃ a, i ∈ (r a).set) (f : m.view.ty.Contents (Elt F)) :
    (m.view.loc (c : Thread nD τ) ↦[R.map m.view.emb]{fullShare} f : sProp 𝕄)
      = bigSep Finset.univ fun a => (m.view.loc (c : Thread nD τ) ↦[(m.access (r a)).set]{fullShare} f) := by
  rw [← access_cover m r R h]
  exact pointsTo_biUnion Finset.univ _ fun a _ b _ hab => access_disjoint m (hd a b hab)

/-- Cut at anything. -/
theorem cut_any {A : Type} [Fintype A] [DecidableEq A] (r : A → Rect s) (hd : ∀ a b, a ≠ b → Disjoint (r a).set (r b).set) (R : Finset s.Idx)
    (h : ∀ i, i ∈ R ↔ ∃ a, i ∈ (r a).set) (f : m.view.ty.Contents (Elt F)) :
    (m.view.loc (c : Thread nD τ) ↦[R.map m.view.emb]{fullShare} f : sProp 𝕄) ⊢ bigSep Finset.univ fun a => anyv c (m.access (r a)) := by
  rw [cut m r hd R h]
  exact bigSep_mono fun a _ => any_of (m.access (r a)) f

/-- Cut at known contents. -/
theorem cut_own {A : Type} [Fintype A] [DecidableEq A] (r : A → Rect s) (hd : ∀ a b, a ≠ b → Disjoint (r a).set (r b).set) (R : Finset s.Idx)
    (h : ∀ i, i ∈ R ↔ ∃ a, i ∈ (r a).set) (f : m.view.ty.Contents (Elt F)) :
    (m.view.loc (c : Thread nD τ) ↦[R.map m.view.emb]{fullShare} f : sProp 𝕄)
      ⊢ bigSep Finset.univ fun a => own c (m.access (r a)) (sub (m.view.read (Elt F) f) (r a)) := by
  rw [cut m r hd R h]
  exact bigSep_mono fun a _ => own_of (m.access (r a)) f

/-- Pieces held put together at contents that read each of them. -/
theorem paste {A : Type} [Fintype A] [DecidableEq A] (r : A → Rect s) (hd : ∀ a b, a ≠ b → Disjoint (r a).set (r b).set) (R : Finset s.Idx)
    (h : ∀ i, i ∈ R ↔ ∃ a, i ∈ (r a).set) (f : m.view.ty.Contents (Elt F)) (w : ∀ a, (r a).shape.Idx → Elt F e)
    (hf : ∀ a y, m.view.read (Elt F) f ((r a).emb y) = w a y) :
    bigSep Finset.univ (fun a => own c (m.access (r a)) (w a)) ⊢ (m.view.loc (c : Thread nD τ) ↦[R.map m.view.emb]{fullShare} f : sProp 𝕄) := by
  rw [cut m r hd R h]
  exact bigSep_mono fun a _ => own_to (m.access (r a)) f (w a) (funext fun y => hf a y)

/-- The words under a rectangle, held at anything, in pieces. -/
theorem any_cut {A : Type} [Fintype A] [DecidableEq A] (r : A → Rect s) (hd : ∀ a b, a ≠ b → Disjoint (r a).set (r b).set) (R : Rect s)
    (h : ∀ i, i ∈ R.set ↔ ∃ a, i ∈ (r a).set) :
    anyv c (m.access R) ⊢ (bigSep Finset.univ fun a => anyv c (m.access (r a)) : sProp 𝕄) := by
  unfold anyv
  iintro ⟨%f, H⟩
  rw [View.set_slice]
  iapply (cut_any m r hd R.set h f) $$ H

/-- A buffer held at anything, in pieces. -/
theorem any_cut_all {A : Type} [Fintype A] [DecidableEq A] (r : A → Rect s) (hd : ∀ a b, a ≠ b → Disjoint (r a).set (r b).set)
    (h : ∀ i, ∃ a, i ∈ (r a).set) :
    anyv c m.view ⊢ (bigSep Finset.univ fun a => anyv c (m.access (r a)) : sProp 𝕄) := by
  unfold anyv
  iintro ⟨%f, H⟩
  have e : (m.view.loc (c : Thread nD τ) ↦[m.view.set]{fullShare} f : sProp 𝕄) ⊢ _ :=
    cut_any (c := c) m r hd Finset.univ (fun i => ⟨fun _ => h i, fun _ => Finset.mem_univ _⟩) f
  unfold anyv at e
  iapply e $$ H

/-- A buffer held at known contents, in pieces. -/
theorem own_cut_all {A : Type} [Fintype A] [DecidableEq A] (r : A → Rect s) (hd : ∀ a b, a ≠ b → Disjoint (r a).set (r b).set)
    (h : ∀ i, ∃ a, i ∈ (r a).set) (w : s.Idx → Elt F e) :
    own c m.view w ⊢ (bigSep Finset.univ fun a => own c (m.access (r a)) (sub w (r a)) : sProp 𝕄) := by
  unfold own
  iintro ⟨%f, %hf, H⟩
  subst hf
  have e : (m.view.loc (c : Thread nD τ) ↦[m.view.set]{fullShare} f : sProp 𝕄) ⊢ _ :=
    cut_own (c := c) m r hd Finset.univ (fun i => ⟨fun _ => h i, fun _ => Finset.mem_univ _⟩) f
  unfold own at e
  iapply e $$ H

/-- Pieces put together under a rectangle; -/
theorem own_paste {A : Type} [Fintype A] [DecidableEq A] (r : A → Rect s) (hd : ∀ a b, a ≠ b → Disjoint (r a).set (r b).set) (R : Rect s)
    (h : ∀ i, i ∈ R.set ↔ ∃ a, i ∈ (r a).set) (g : m.view.ty.Contents (Elt F)) (X : s.Idx → Elt F e) (w : ∀ a, (r a).shape.Idx → Elt F e)
    (hX : ∀ a y, X ((r a).emb y) = w a y) :
    bigSep Finset.univ (fun a => own c (m.access (r a)) (w a)) ⊢ (own c (m.access R) (sub X R) : sProp 𝕄) := by
  have hr := View.read_write_univ (Val := Elt F) (v := m.view) g X
  refine (paste m r hd R.set h (m.view.write (Elt F) g X Finset.univ) w (fun a y => (congrFun hr _).trans (hX a y))).trans ?_
  rw [← View.set_slice]
  refine (own_of (m.access R) _).trans ?_
  have e : (m.access R).read (Elt F) (m.view.write (Elt F) g X Finset.univ) = sub X R := funext fun y => congrFun hr _
  rw [e]

/-- and a whole buffer. -/
theorem own_paste_all {A : Type} [Fintype A] [DecidableEq A] (r : A → Rect s) (hd : ∀ a b, a ≠ b → Disjoint (r a).set (r b).set)
    (h : ∀ i, ∃ a, i ∈ (r a).set) (g : m.view.ty.Contents (Elt F)) (X : s.Idx → Elt F e) (w : ∀ a, (r a).shape.Idx → Elt F e)
    (hX : ∀ a y, X ((r a).emb y) = w a y) :
    bigSep Finset.univ (fun a => own c (m.access (r a)) (w a)) ⊢ (own c m.view X : sProp 𝕄) := by
  have hr := View.read_write_univ (Val := Elt F) (v := m.view) g X
  refine (paste m r hd Finset.univ (fun i => ⟨fun _ => h i, fun _ => Finset.mem_univ _⟩) (m.view.write (Elt F) g X Finset.univ) w
    (fun a y => (congrFun hr _).trans (hX a y))).trans ?_
  refine (own_of m.view _).trans ?_
  rw [hr]

end pieces

/-- Load a part of what is held. -/
theorem ld_in {s : Shape} {e : EltTy} (m : Memref sig .tc .vmem s e) (r : Rect s) (h : 0 < r.shape.numel)
    (w : s.Idx → Elt F e) (k : (r.shape.Idx → Elt F e) → P F α) :
    own c m.view w ⊢ iprop((own c m.view w -∗ W c (k (sub w r)) Q) -∗ W c (ld m r h >>= k) Q) := by
  unfold own
  iintro ⟨%f, %hf, H⟩ Hk
  subst hf
  iapply (wp_load_rect (c := (c : Thread nD τ)) Variants.none none Set.univ (m := m) (r := r) (k := k) (View.set_slice_subset _ _)) $$ H
  iintro H
  iapply Hk
  iexists f
  isplitr; · ipureintro; rfl
  iexact H

/-- Store over a whole buffer. -/
theorem upd_all {s : Shape} {e : EltTy} (m : Memref sig .tc .vmem s e) (r : Rect s) (h : 0 < r.shape.numel)
    (hx : (m.access r).Stores Finset.univ) (hr : ∀ i, i ∈ r.set) (w : r.shape.Idx → Elt F e) (X : s.Idx → Elt F e)
    (hX : ∀ y, X (r.emb y) = w y) (k : PUnit → P F α) :
    anyv c m.view ⊢ iprop((own c m.view X -∗ W c (k ⟨⟩) Q) -∗ W c (upd m r h hx w >>= k) Q) := by
  unfold anyv
  iintro ⟨%g, H⟩ Hk
  have h1 : (m.view.loc (c : Thread nD τ) ↦[m.view.set]{fullShare} g : sProp 𝕄) ⊢ _ := cut_any (c := c) m (fun _ : Unit => r) (fun a b hab => absurd rfl hab) Finset.univ (fun i => ⟨fun _ => ⟨(), hr i⟩, fun _ => Finset.mem_univ _⟩) g
  have h2 := own_paste_all (c := c) m (fun _ : Unit => r) (fun a b hab => absurd rfl hab) (fun i => ⟨(), hr i⟩) g X (fun _ => w) (fun _ y => hX y)
  rw [Finset.univ_unique, bigSep_singleton] at h1 h2
  iapply (upd_rule m r h hx w k) $$ [H]
  · iapply h1; iexact H
  iintro H
  iapply Hk
  iapply h2; iexact H

end Cert.Kernel.Hand

end
-- ==== Proof.KVals.lean ====
module

public import proofs.«01_k».proof.Proof.KOwn

/-! What each buffer of the kernel's body holds, as functions of the kernel's operands, and how the pieces the body
writes divide each buffer. -/

@[expose] public section

noncomputable section

namespace Cert.Kernel.Hand

open Cert.Kernel Cert.Kernel.Gen
open Idealize.ShloMosaic Idealize.ShloMosaic.TcCoe

variable {F : FTy → Type} [FloatOps F]

/-- The kernel's operands. -/
structure In (F : FTy → Type) [FloatOps F] where
  dy : S512x1024.Idx → Elt F .fp8e5m2
  dys : S32x512.Idx → Elt F .f32
  dq : S512x3x8x128.Idx → Elt F .fp8e5m2
  dqs : S24x4x512.Idx → Elt F .f32
  xh : S512x1024.Idx → Elt F .fp8e4m3
  xs : S1x512.Idx → Elt F .f32
  gs : S1x512.Idx → Elt F .f32
  rs : S1x512.Idx → Elt F .f32
  gam : S1x1024.Idx → Elt F .f32
  a : S512x4096.Idx → Elt F .fp8e5m2
  ds : S8x16x512.Idx → Elt F .f32
  g : S512x4096.Idx → Elt F .fp8e4m3
  win : S1024x4096.Idx → Elt F .fp8e4m3
  sin : S1x4096.Idx → Elt F .f32
  wq : S1024x3x8x128.Idx → Elt F .fp8e4m3
  sq : S24x128.Idx → Elt F .f32

/-! ### Rectangles -/

abbrev rGcol (t : Fin 8) : Rect S512x4096 := Rect.unit (s := S512x4096) ![0, 512 * t.val] S512x512.size (inb_gcol t)
abbrev rDqH (j : Fin 3) : Rect S512x3x8x128 := Rect.unit (s := S512x3x8x128) ![0, j.val, 0, 0] S512x1x8x128.size (inb_dqh j)
abbrev rDq (j : Fin 3) : Rect S3x512x8x128 := Rect.unit (s := S3x512x8x128) ![j.val, 0, 0, 0] S1x512x8x128.size (inb_dq j)
abbrev rOutH (p : Fin 8 × Fin 8) : Rect S512x8x1024 :=
  Rect.unit (s := S512x8x1024) ![64 * p.1.val, 0, 128 * p.2.val] S64x8x128.size (inb_outh p.1 p.2)
abbrev rQkvS (j : Fin 3) : Rect S3x1024x8x128 := Rect.unit (s := S3x1024x8x128) ![j.val, 0, 0, 0] S1x1024x8x128.size (inb_qkvs j)
abbrev rQkvH (j : Fin 3) : Rect S1024x3x8x128 := Rect.unit (s := S1024x3x8x128) ![0, j.val, 0, 0] S1024x1x8x128.size (inb_qkvh j)

theorem dj_dyt (a b : Fin 32) (h : a ≠ b) : Disjoint (rDyt a).set (rDyt b).set :=
  Rect.unit_disjoint 0 (by have : a.val ≠ b.val := fun e => h (Fin.ext e); show 32 * a.val + 32 ≤ 32 * b.val ∨ 32 * b.val + 32 ≤ 32 * a.val; omega)
theorem cv_dyt (i : S1024x512.Idx) : ∃ n, i ∈ (rDyt n).set := by
  have h0 : (i 0).val < 1024 := (i 0).isLt
  have h1 : (i 1).val < 512 := (i 1).isLt
  refine ⟨⟨(i 0).val / 32, by omega⟩, Rect.mem_set_unit.mpr ?_⟩
  intro a; fin_cases a
  · show 32 * ((i 0).val / 32) ≤ (i 0).val ∧ (i 0).val < 32 * ((i 0).val / 32) + 32; omega
  · show 0 ≤ (i 1).val ∧ (i 1).val < 0 + 512; omega

theorem dj_g (a b : Fin 8) (h : a ≠ b) : Disjoint (rG a).set (rG b).set :=
  Rect.unit_disjoint 0 (by have : a.val ≠ b.val := fun e => h (Fin.ext e); show a.val + 1 ≤ b.val ∨ b.val + 1 ≤ a.val; omega)
theorem cv_g (i : S8x512x512.Idx) : ∃ n, i ∈ (rG n).set := by
  have h1 : (i 1).val < 512 := (i 1).isLt
  have h2 : (i 2).val < 512 := (i 2).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 512; omega
  · show 0 ≤ (i 2).val ∧ (i 2).val < 0 + 512; omega

theorem dj_slot (a b : Fin 2) (h : a ≠ b) : Disjoint (rSlot a).set (rSlot b).set :=
  Rect.unit_disjoint 0 (by have : a.val ≠ b.val := fun e => h (Fin.ext e); show a.val + 1 ≤ b.val ∨ b.val + 1 ≤ a.val; omega)
theorem cv_slot (i : S2x512x512.Idx) : ∃ n, i ∈ (rSlot n).set := by
  have h1 : (i 1).val < 512 := (i 1).isLt
  have h2 : (i 2).val < 512 := (i 2).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 512; omega
  · show 0 ≤ (i 2).val ∧ (i 2).val < 0 + 512; omega

theorem dj_gcol (a b : Fin 8) (h : a ≠ b) : Disjoint (rGcol a).set (rGcol b).set :=
  Rect.unit_disjoint 1 (by have : a.val ≠ b.val := fun e => h (Fin.ext e); show 512 * a.val + 512 ≤ 512 * b.val ∨ 512 * b.val + 512 ≤ 512 * a.val; omega)
theorem cv_gcol (i : S512x4096.Idx) : ∃ n, i ∈ (rGcol n).set := by
  have h0 : (i 0).val < 512 := (i 0).isLt
  have h1 : (i 1).val < 4096 := (i 1).isLt
  refine ⟨⟨(i 1).val / 512, by omega⟩, Rect.mem_set_unit.mpr ?_⟩
  intro a; fin_cases a
  · show 0 ≤ (i 0).val ∧ (i 0).val < 0 + 512; omega
  · show 512 * ((i 1).val / 512) ≤ (i 1).val ∧ (i 1).val < 512 * ((i 1).val / 512) + 512; omega

theorem dj_dqh (a b : Fin 3) (h : a ≠ b) : Disjoint (rDqH a).set (rDqH b).set :=
  Rect.unit_disjoint 1 (by have : a.val ≠ b.val := fun e => h (Fin.ext e); show a.val + 1 ≤ b.val ∨ b.val + 1 ≤ a.val; omega)
theorem cv_dqh (i : S512x3x8x128.Idx) : ∃ n, i ∈ (rDqH n).set := by
  have h0 : (i 0).val < 512 := (i 0).isLt
  have h2 : (i 2).val < 8 := (i 2).isLt
  have h3 : (i 3).val < 128 := (i 3).isLt
  refine ⟨i 1, Rect.mem_set_unit.mpr ?_⟩
  intro a; fin_cases a
  · show 0 ≤ (i 0).val ∧ (i 0).val < 0 + 512; omega
  · show (i 1).val ≤ (i 1).val ∧ (i 1).val < (i 1).val + 1; omega
  · show 0 ≤ (i 2).val ∧ (i 2).val < 0 + 8; omega
  · show 0 ≤ (i 3).val ∧ (i 3).val < 0 + 128; omega

theorem dj_dq (a b : Fin 3) (h : a ≠ b) : Disjoint (rDq a).set (rDq b).set :=
  Rect.unit_disjoint 0 (by have : a.val ≠ b.val := fun e => h (Fin.ext e); show a.val + 1 ≤ b.val ∨ b.val + 1 ≤ a.val; omega)
theorem cv_dq (i : S3x512x8x128.Idx) : ∃ n, i ∈ (rDq n).set := by
  have h1 : (i 1).val < 512 := (i 1).isLt
  have h2 : (i 2).val < 8 := (i 2).isLt
  have h3 : (i 3).val < 128 := (i 3).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 512; omega
  · show 0 ≤ (i 2).val ∧ (i 2).val < 0 + 8; omega
  · show 0 ≤ (i 3).val ∧ (i 3).val < 0 + 128; omega

theorem dj_qkvs (a b : Fin 3) (h : a ≠ b) : Disjoint (rQkvS a).set (rQkvS b).set :=
  Rect.unit_disjoint 0 (by have : a.val ≠ b.val := fun e => h (Fin.ext e); show a.val + 1 ≤ b.val ∨ b.val + 1 ≤ a.val; omega)
theorem cv_qkvs (i : S3x1024x8x128.Idx) : ∃ n, i ∈ (rQkvS n).set := by
  have h1 : (i 1).val < 1024 := (i 1).isLt
  have h2 : (i 2).val < 8 := (i 2).isLt
  have h3 : (i 3).val < 128 := (i 3).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 1024; omega
  · show 0 ≤ (i 2).val ∧ (i 2).val < 0 + 8; omega
  · show 0 ≤ (i 3).val ∧ (i 3).val < 0 + 128; omega

theorem dj_qkvh (a b : Fin 3) (h : a ≠ b) : Disjoint (rQkvH a).set (rQkvH b).set :=
  Rect.unit_disjoint 1 (by have : a.val ≠ b.val := fun e => h (Fin.ext e); show a.val + 1 ≤ b.val ∨ b.val + 1 ≤ a.val; omega)
theorem cv_qkvh (i : S1024x3x8x128.Idx) : ∃ n, i ∈ (rQkvH n).set := by
  have h0 : (i 0).val < 1024 := (i 0).isLt
  have h2 : (i 2).val < 8 := (i 2).isLt
  have h3 : (i 3).val < 128 := (i 3).isLt
  refine ⟨i 1, Rect.mem_set_unit.mpr ?_⟩
  intro a; fin_cases a
  · show 0 ≤ (i 0).val ∧ (i 0).val < 0 + 1024; omega
  · show (i 1).val ≤ (i 1).val ∧ (i 1).val < (i 1).val + 1; omega
  · show 0 ≤ (i 2).val ∧ (i 2).val < 0 + 8; omega
  · show 0 ≤ (i 3).val ∧ (i 3).val < 0 + 128; omega

abbrev rOutP (p : Fin 2 × Fin 8) : Rect S2x8x64x8x128 := rOut p.1 p.2

theorem ne_prod {A B : Type} {a b : A × B} (h : a ≠ b) : a.1 ≠ b.1 ∨ a.2 ≠ b.2 := by
  by_contra hc
  rw [not_or, not_not, not_not] at hc
  exact h (Prod.ext hc.1 hc.2)

theorem dj_out (a b : Fin 2 × Fin 8) (h : a ≠ b) : Disjoint (rOutP a).set (rOutP b).set := by
  rcases ne_prod h with h | h
  · exact Rect.unit_disjoint 0 (by have : a.1.val ≠ b.1.val := fun e => h (Fin.ext e); show a.1.val + 1 ≤ b.1.val ∨ b.1.val + 1 ≤ a.1.val; omega)
  · exact Rect.unit_disjoint 1 (by have : a.2.val ≠ b.2.val := fun e => h (Fin.ext e); show a.2.val + 1 ≤ b.2.val ∨ b.2.val + 1 ≤ a.2.val; omega)
theorem cv_out (i : S2x8x64x8x128.Idx) : ∃ n, i ∈ (rOutP n).set := by
  have h2 : (i 2).val < 64 := (i 2).isLt
  have h3 : (i 3).val < 8 := (i 3).isLt
  have h4 : (i 4).val < 128 := (i 4).isLt
  refine ⟨(i 0, i 1), Rect.mem_set_unit.mpr ?_⟩
  intro a; fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 64; omega
  · show 0 ≤ (i 3).val ∧ (i 3).val < 0 + 8; omega
  · show 0 ≤ (i 4).val ∧ (i 4).val < 0 + 128; omega

theorem dj_outh (a b : Fin 8 × Fin 8) (h : a ≠ b) : Disjoint (rOutH a).set (rOutH b).set := by
  rcases ne_prod h with h | h
  · exact Rect.unit_disjoint 0 (by have : a.1.val ≠ b.1.val := fun e => h (Fin.ext e); show 64 * a.1.val + 64 ≤ 64 * b.1.val ∨ 64 * b.1.val + 64 ≤ 64 * a.1.val; omega)
  · exact Rect.unit_disjoint 2 (by have : a.2.val ≠ b.2.val := fun e => h (Fin.ext e); show 128 * a.2.val + 128 ≤ 128 * b.2.val ∨ 128 * b.2.val + 128 ≤ 128 * a.2.val; omega)
theorem cv_outh (i : S512x8x1024.Idx) : ∃ n, i ∈ (rOutH n).set := by
  have h0 : (i 0).val < 512 := (i 0).isLt
  have h1 : (i 1).val < 8 := (i 1).isLt
  have h2 : (i 2).val < 1024 := (i 2).isLt
  refine ⟨(⟨(i 0).val / 64, by omega⟩, ⟨(i 2).val / 128, by omega⟩), Rect.mem_set_unit.mpr ?_⟩
  intro a; fin_cases a
  · show 64 * ((i 0).val / 64) ≤ (i 0).val ∧ (i 0).val < 64 * ((i 0).val / 64) + 64; omega
  · show 0 ≤ (i 1).val ∧ (i 1).val < 0 + 8; omega
  · show 128 * ((i 2).val / 128) ≤ (i 2).val ∧ (i 2).val < 128 * ((i 2).val / 128) + 128; omega

abbrev rVtP (h : Fin 2) (p : Fin 4 × Fin 4) : Rect S2x512x512 := rVt h p.1 p.2

theorem dj_vt (h : Fin 2) (a b : Fin 4 × Fin 4) (hab : a ≠ b) : Disjoint (rVtP h a).set (rVtP h b).set :=
  Rect.unit_disjoint 1 (by
    have h1 : a.1.val ≠ b.1.val ∨ a.2.val ≠ b.2.val := (ne_prod hab).imp (fun h e => h (Fin.ext e)) (fun h e => h (Fin.ext e))
    have := a.2.isLt
    have := b.2.isLt
    show 128 * a.1.val + 32 * a.2.val + 32 ≤ 128 * b.1.val + 32 * b.2.val ∨ 128 * b.1.val + 32 * b.2.val + 32 ≤ 128 * a.1.val + 32 * a.2.val; omega)
theorem cv_vt (h : Fin 2) (i : S2x512x512.Idx) : i ∈ (rSlot h).set ↔ ∃ p, i ∈ (rVtP h p).set := by
  have h1 : (i 1).val < 512 := (i 1).isLt
  have h2 : (i 2).val < 512 := (i 2).isLt
  constructor
  · intro hi
    have h0 : h.val ≤ (i 0).val ∧ (i 0).val < h.val + 1 := Rect.mem_set_unit.mp hi 0
    refine ⟨(⟨(i 1).val / 128, by omega⟩, ⟨(i 1).val % 128 / 32, by omega⟩), Rect.mem_set_unit.mpr ?_⟩
    intro a; fin_cases a
    · exact h0
    · show 128 * ((i 1).val / 128) + 32 * ((i 1).val % 128 / 32) ≤ (i 1).val
        ∧ (i 1).val < 128 * ((i 1).val / 128) + 32 * ((i 1).val % 128 / 32) + 32; omega
    · show 0 ≤ (i 2).val ∧ (i 2).val < 0 + 512; omega
  · rintro ⟨p, hp⟩
    have h0 : h.val ≤ (i 0).val ∧ (i 0).val < h.val + 1 := Rect.mem_set_unit.mp hp 0
    refine Rect.mem_set_unit.mpr ?_
    intro a; fin_cases a
    · exact h0
    · show 0 ≤ (i 1).val ∧ (i 1).val < 0 + 512; omega
    · show 0 ≤ (i 2).val ∧ (i 2).val < 0 + 512; omega

abbrev rQkvP (j : Fin 3) (p : Fin 2 × Fin 2) : Rect S3x1024x8x128 := rQkv j p.1 p.2

theorem dj_qkv (j : Fin 3) (a b : Fin 2 × Fin 2) (hab : a ≠ b) : Disjoint (rQkvP j a).set (rQkvP j b).set :=
  Rect.unit_disjoint 2 (by
    have h1 : a.1.val ≠ b.1.val ∨ a.2.val ≠ b.2.val := (ne_prod hab).imp (fun h e => h (Fin.ext e)) (fun h e => h (Fin.ext e))
    have := a.2.isLt
    have := b.2.isLt
    show 4 * a.1.val + 2 * a.2.val + 2 ≤ 4 * b.1.val + 2 * b.2.val ∨ 4 * b.1.val + 2 * b.2.val + 2 ≤ 4 * a.1.val + 2 * a.2.val; omega)
theorem cv_qkv (j : Fin 3) (i : S3x1024x8x128.Idx) : i ∈ (rQkvS j).set ↔ ∃ p, i ∈ (rQkvP j p).set := by
  have h1 : (i 1).val < 1024 := (i 1).isLt
  have h2 : (i 2).val < 8 := (i 2).isLt
  have h3 : (i 3).val < 128 := (i 3).isLt
  constructor
  · intro hi
    have h0 : j.val ≤ (i 0).val ∧ (i 0).val < j.val + 1 := Rect.mem_set_unit.mp hi 0
    refine ⟨(⟨(i 2).val / 4, by omega⟩, ⟨(i 2).val % 4 / 2, by omega⟩), Rect.mem_set_unit.mpr ?_⟩
    intro a; fin_cases a
    · exact h0
    · show 0 ≤ (i 1).val ∧ (i 1).val < 0 + 1024; omega
    · show 4 * ((i 2).val / 4) + 2 * ((i 2).val % 4 / 2) ≤ (i 2).val ∧ (i 2).val < 4 * ((i 2).val / 4) + 2 * ((i 2).val % 4 / 2) + 2; omega
    · show 0 ≤ (i 3).val ∧ (i 3).val < 0 + 128; omega
  · rintro ⟨p, hp⟩
    have h0 : j.val ≤ (i 0).val ∧ (i 0).val < j.val + 1 := Rect.mem_set_unit.mp hp 0
    refine Rect.mem_set_unit.mpr ?_
    intro a; fin_cases a
    · exact h0
    · show 0 ≤ (i 1).val ∧ (i 1).val < 0 + 1024; omega
    · show 0 ≤ (i 2).val ∧ (i 2).val < 0 + 8; omega
    · show 0 ≤ (i 3).val ∧ (i 3).val < 0 + 128; omega

theorem all_T (i : S1024x512.Idx) : i ∈ rT.set := by
  refine Rect.mem_set_unit.mpr fun a => ?_
  fin_cases a
  · show 0 ≤ (i 0).val ∧ (i 0).val < 0 + 1024; have h : (i 0).val < 1024 := (i 0).isLt; omega
  · show 0 ≤ (i 1).val ∧ (i 1).val < 0 + 512; have h : (i 1).val < 512 := (i 1).isLt; omega
theorem all_Gamc (i : S1024x128.Idx) : i ∈ rGamc.set := by
  refine Rect.mem_set_unit.mpr fun a => ?_
  fin_cases a
  · show 0 ≤ (i 0).val ∧ (i 0).val < 0 + 1024; have h : (i 0).val < 1024 := (i 0).isLt; omega
  · show 0 ≤ (i 1).val ∧ (i 1).val < 0 + 128; have h : (i 1).val < 128 := (i 1).isLt; omega
theorem emb_T (y : S1024x512.Idx) : rT.emb y = y := by
  funext a; apply Fin.ext; fin_cases a
  · show 0 + 1 * (y 0).val = (y 0).val; omega
  · show 0 + 1 * (y 1).val = (y 1).val; omega
theorem emb_Gamc (y : S1024x128.Idx) : rGamc.emb y = y := by
  funext a; apply Fin.ext; fin_cases a
  · show 0 + 1 * (y 0).val = (y 0).val; omega
  · show 0 + 1 * (y 1).val = (y 1).val; omega

/-! ### What the buffers hold -/

variable (I : In F)

/-- A bf16 word for places no piece covers. -/
def dflt : Elt F .bf16 := constant (F := F) S1 .bf16 0x0000#16 (fun a => ⟨0, by fin_cases a; decide⟩)

theorem nm_g : S512x512.numel = S1x512x512.numel := by decide
theorem nm_dqh : S512x8x128.numel = S512x1x8x128.numel := by decide
theorem nm_dq : S512x8x128.numel = S1x512x8x128.numel := by decide
theorem nm_out : S64x8x128.numel = S1x1x64x8x128.numel := by decide
theorem nm_qkvs : S1024x8x128.numel = S1x1024x8x128.numel := by decide
theorem nm_qkvh : S1024x8x128.numel = S1024x1x8x128.numel := by decide

/-- The scaled, transposed `dy`. -/
def vDyt : S1024x512.Idx → Elt F .bf16 := glue rDyt (fun n => wDyt (sub I.dy (rDy n)) (sub I.dys (rDys n))) dflt
/-- The scaled, transposed `xhat`. -/
def vXht : S1024x512.Idx → Elt F .bf16 := wXht (sub I.xh rXh) (sub I.xs rRow)
/-- `gamma` down the rows. -/
def vGamc : S1024x128.Idx → Elt F .f32 := wGamc (sub I.gam rGam)
/-- Tile `t` of `g`, in its slot. -/
def vG (t : Fin 8) : S1x512x512.Idx → Elt F .fp8e4m3 := fun i => sub I.g (rGcol t) ((Shape.reshapeEquiv nm_g).symm i)
/-- Tile `t` of `g`, scaled and transposed. -/
def vGt (t : Fin 8) : S1x512x512.Idx → Elt F .bf16 := wGt (vG I t) (sub I.gs rRow)
/-- Its product with `dy`. -/
def vO (t : Fin 8) : FVec F S512x1024 .f32 := wO (vGt I t) (sub (vDyt I) rT)
/-- Lane block `n` of the product. -/
def vOut (t n : Fin 8) : S64x8x128.Idx → Elt F .bf16 := fun i => wOut (vO I t) n (Shape.reshapeEquiv nm_out i)
/-- Part `j` of `dqkv`. -/
def vDq (j : Fin 3) : S512x8x128.Idx → Elt F .fp8e5m2 := fun i => sub I.dq (rDqH j) (Shape.reshapeEquiv nm_dqh i)
/-- Four heads of part `j`, scaled and transposed, in their slot. -/
def vVt (j : Fin 3) (h : Fin 2) : S2x512x512.Idx → Elt F .bf16 :=
  glue (rVtP h) (fun p => wVt (wHead (sub (vDq I j) (rHead h p.1))) (sub I.dqs (rDqs j h p.1 p.2)) p.2) dflt
/-- Their product with `xhat`. -/
def vR (j : Fin 3) (h : Fin 2) : FVec F S1024x512 .f32 := wR (sub (vXht I) rT) (sub (vVt I j h) (rSlot h))
/-- One head of it, scaled. -/
def vHead (j : Fin 3) (h : Fin 2) (k : Fin 4) : FVec F S1x1024x1x128 .bf16 := wQkv (vR I j h) (sub (vGamc I) rGamc) k
/-- Two heads side by side. -/
def vPair (j : Fin 3) (h p : Fin 2) : S1x1024x2x128.Idx → Elt F .bf16 :=
  updateSlice (updateSlice (fun _ => dflt) (vHead I j h ⟨2 * p.val, by omega⟩) ![0, 0, 0, 0] (slices_row 0))
    (vHead I j h ⟨2 * p.val + 1, by omega⟩) ![0, 0, 1, 0] (slices_row 1)
/-- All eight heads of part `j`, in their slot; -/
def vQkvS (j : Fin 3) : S3x1024x8x128.Idx → Elt F .bf16 := glue (rQkvP j) (fun p => vPair I j p.1 p.2) dflt
/-- and as the copy takes them. -/
def vQkv (j : Fin 3) : S1024x8x128.Idx → Elt F .bf16 := fun i => sub (vQkvS I j) (rQkvS j) (Shape.reshapeEquiv nm_qkvs i)

/-- The second result. -/
def vRes0 : S512x8x1024.Idx → Elt F .bf16 := glue rOutH (fun p => vOut I p.1 p.2) dflt
/-- The third result. -/
def vRes1 : S1024x3x8x128.Idx → Elt F .bf16 :=
  glue rQkvH (fun j => fun i => vQkv I j ((Shape.reshapeEquiv nm_qkvh).symm i)) dflt

end Cert.Kernel.Hand

end
-- ==== Proof.KValsB.lean ====
module

public import proofs.«01_k».proof.Proof.KVals

/-! What the buffers of the work on `da` hold, as functions of the kernel's operands, and how the pieces the body
writes divide each buffer. -/

@[expose] public section

noncomputable section

namespace Cert.Kernel.Hand

open Cert.Kernel Cert.Kernel.Gen
open Idealize.ShloMosaic Idealize.ShloMosaic.TcCoe

variable {F : FTy → Type} [FloatOps F]

/-! ### Rectangles -/

abbrev rWinH (t : Fin 8) : Rect S1024x4096 := Rect.unit (s := S1024x4096) ![0, 512 * t.val] S1024x512.size (inb_winh t)
abbrev rInH (p : Fin 8 × Fin 4) : Rect S128x8x4096 :=
  Rect.unit (s := S128x8x4096) ![0, 0, 512 * p.1.val + 128 * p.2.val] S128x8x128.size (inb_inh p.1 p.2)
abbrev rInP (p : Fin 2 × Fin 4) : Rect S2x4x128x8x128 := rIn p.1 p.2
abbrev rBlkP (s : Fin 2) (p : Fin 16 × Fin 2) : Rect S2x512x512 := rBlk s p.1 p.2

theorem inb_b (b : Fin 16) (n : Fin 2) : ∀ a, (![0, 32 * b.val, 256 * n.val] : Fin 3 → ℕ) a + S1x32x256.size a ≤ S1x512x512.size a := by
  intro a; have := b.isLt; have := n.isLt; fin_cases a
  · show 0 + 1 ≤ 1; omega
  · show 32 * b.val + 32 ≤ 512; omega
  · show 256 * n.val + 256 ≤ 512; omega
/-- A block within its slot. -/
abbrev rB (p : Fin 16 × Fin 2) : Rect S1x512x512 := Rect.unit (s := S1x512x512) ![0, 32 * p.1.val, 256 * p.2.val] S1x32x256.size (inb_b p.1 p.2)

theorem dj_b (a b : Fin 16 × Fin 2) (h : a ≠ b) : Disjoint (rB a).set (rB b).set := by
  rcases ne_prod h with h | h
  · exact Rect.unit_disjoint 1 (by have : a.1.val ≠ b.1.val := fun e => h (Fin.ext e); show 32 * a.1.val + 32 ≤ 32 * b.1.val ∨ 32 * b.1.val + 32 ≤ 32 * a.1.val; omega)
  · exact Rect.unit_disjoint 2 (by have : a.2.val ≠ b.2.val := fun e => h (Fin.ext e); show 256 * a.2.val + 256 ≤ 256 * b.2.val ∨ 256 * b.2.val + 256 ≤ 256 * a.2.val; omega)
theorem dj_blk (s : Fin 2) (a b : Fin 16 × Fin 2) (h : a ≠ b) : Disjoint (rBlkP s a).set (rBlkP s b).set := by
  rcases ne_prod h with h | h
  · exact Rect.unit_disjoint 1 (by have : a.1.val ≠ b.1.val := fun e => h (Fin.ext e); show 32 * a.1.val + 32 ≤ 32 * b.1.val ∨ 32 * b.1.val + 32 ≤ 32 * a.1.val; omega)
  · exact Rect.unit_disjoint 2 (by have : a.2.val ≠ b.2.val := fun e => h (Fin.ext e); show 256 * a.2.val + 256 ≤ 256 * b.2.val ∨ 256 * b.2.val + 256 ≤ 256 * a.2.val; omega)
theorem cv_blk (s : Fin 2) (i : S2x512x512.Idx) : i ∈ (rSlot s).set ↔ ∃ p, i ∈ (rBlkP s p).set := by
  have h1 : (i 1).val < 512 := (i 1).isLt
  have h2 : (i 2).val < 512 := (i 2).isLt
  constructor
  · intro hi
    have h0 : s.val ≤ (i 0).val ∧ (i 0).val < s.val + 1 := Rect.mem_set_unit.mp hi 0
    refine ⟨(⟨(i 1).val / 32, by omega⟩, ⟨(i 2).val / 256, by omega⟩), Rect.mem_set_unit.mpr ?_⟩
    intro a; fin_cases a
    · exact h0
    · show 32 * ((i 1).val / 32) ≤ (i 1).val ∧ (i 1).val < 32 * ((i 1).val / 32) + 32; omega
    · show 256 * ((i 2).val / 256) ≤ (i 2).val ∧ (i 2).val < 256 * ((i 2).val / 256) + 256; omega
  · rintro ⟨p, hp⟩
    have h0 : s.val ≤ (i 0).val ∧ (i 0).val < s.val + 1 := Rect.mem_set_unit.mp hp 0
    refine Rect.mem_set_unit.mpr ?_
    intro a; fin_cases a
    · exact h0
    · show 0 ≤ (i 1).val ∧ (i 1).val < 0 + 512; omega
    · show 0 ≤ (i 2).val ∧ (i 2).val < 0 + 512; omega

/-- A place of either slot, as a place of a slot alone. -/
def inSlot (i : S2x512x512.Idx) : S1x512x512.Idx := fun a => match a with | 0 => (0 : Fin 1) | 1 => i 1 | 2 => i 2

theorem inSlot_slot (s : Fin 2) (y : S1x512x512.Idx) : inSlot ((rSlot s).emb y) = y := by
  funext a; apply Fin.ext; fin_cases a
  · have h : (y 0).val < 1 := (y 0).isLt
    show 0 = (y 0).val; omega
  · show 0 + 1 * (y 1).val = (y 1).val; omega
  · show 0 + 1 * (y 2).val = (y 2).val; omega
theorem inSlot_blk (s : Fin 2) (p : Fin 16 × Fin 2) (y : S1x32x256.Idx) : inSlot ((rBlkP s p).emb y) = (rB p).emb y := by
  funext a; apply Fin.ext; fin_cases a
  · have h : (y 0).val < 1 := (y 0).isLt
    show 0 = 0 + 1 * (y 0).val; omega
  · rfl
  · rfl
theorem slot_blk (s : Fin 2) (p : Fin 16 × Fin 2) (y : S1x32x256.Idx) : (rBlkP s p).emb y = (rSlot s).emb ((rB p).emb y) := by
  funext a; apply Fin.ext; fin_cases a
  · show s.val + 1 * (y 0).val = s.val + 1 * (0 + 1 * (y 0).val); omega
  · show 32 * p.1.val + 1 * (y 1).val = 0 + 1 * (32 * p.1.val + 1 * (y 1).val); omega
  · show 256 * p.2.val + 1 * (y 2).val = 0 + 1 * (256 * p.2.val + 1 * (y 2).val); omega

theorem dj_win (a b : Fin 8) (h : a ≠ b) : Disjoint (rWin a).set (rWin b).set :=
  Rect.unit_disjoint 0 (by have : a.val ≠ b.val := fun e => h (Fin.ext e); show a.val + 1 ≤ b.val ∨ b.val + 1 ≤ a.val; omega)
theorem cv_win (i : S8x1024x512.Idx) : ∃ n, i ∈ (rWin n).set := by
  have h1 : (i 1).val < 1024 := (i 1).isLt
  have h2 : (i 2).val < 512 := (i 2).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 1024; omega
  · show 0 ≤ (i 2).val ∧ (i 2).val < 0 + 512; omega

theorem dj_winh (a b : Fin 8) (h : a ≠ b) : Disjoint (rWinH a).set (rWinH b).set :=
  Rect.unit_disjoint 1 (by have : a.val ≠ b.val := fun e => h (Fin.ext e); show 512 * a.val + 512 ≤ 512 * b.val ∨ 512 * b.val + 512 ≤ 512 * a.val; omega)
theorem cv_winh (i : S1024x4096.Idx) : ∃ n, i ∈ (rWinH n).set := by
  have h0 : (i 0).val < 1024 := (i 0).isLt
  have h1 : (i 1).val < 4096 := (i 1).isLt
  refine ⟨⟨(i 1).val / 512, by omega⟩, Rect.mem_set_unit.mpr ?_⟩
  intro a; fin_cases a
  · show 0 ≤ (i 0).val ∧ (i 0).val < 0 + 1024; omega
  · show 512 * ((i 1).val / 512) ≤ (i 1).val ∧ (i 1).val < 512 * ((i 1).val / 512) + 512; omega

theorem dj_wslot (a b : Fin 2) (h : a ≠ b) : Disjoint (rWslot a).set (rWslot b).set :=
  Rect.unit_disjoint 0 (by have : a.val ≠ b.val := fun e => h (Fin.ext e); show a.val + 1 ≤ b.val ∨ b.val + 1 ≤ a.val; omega)
theorem cv_wslot (i : S2x1024x512.Idx) : ∃ n, i ∈ (rWslot n).set := by
  have h1 : (i 1).val < 1024 := (i 1).isLt
  have h2 : (i 2).val < 512 := (i 2).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 1024; omega
  · show 0 ≤ (i 2).val ∧ (i 2).val < 0 + 512; omega

theorem dj_wqb (h : Fin 2) (a b : Fin 4) (hab : a ≠ b) : Disjoint (rWqb h a).set (rWqb h b).set :=
  Rect.unit_disjoint 2 (by have : a.val ≠ b.val := fun e => hab (Fin.ext e); show 128 * a.val + 128 ≤ 128 * b.val ∨ 128 * b.val + 128 ≤ 128 * a.val; omega)
theorem cv_wqb (h : Fin 2) (i : S2x1024x512.Idx) : i ∈ (rWslot h).set ↔ ∃ b, i ∈ (rWqb h b).set := by
  have h1 : (i 1).val < 1024 := (i 1).isLt
  have h2 : (i 2).val < 512 := (i 2).isLt
  constructor
  · intro hi
    have h0 : h.val ≤ (i 0).val ∧ (i 0).val < h.val + 1 := Rect.mem_set_unit.mp hi 0
    refine ⟨⟨(i 2).val / 128, by omega⟩, Rect.mem_set_unit.mpr ?_⟩
    intro a; fin_cases a
    · exact h0
    · show 0 ≤ (i 1).val ∧ (i 1).val < 0 + 1024; omega
    · show 128 * ((i 2).val / 128) ≤ (i 2).val ∧ (i 2).val < 128 * ((i 2).val / 128) + 128; omega
  · rintro ⟨p, hp⟩
    have h0 : h.val ≤ (i 0).val ∧ (i 0).val < h.val + 1 := Rect.mem_set_unit.mp hp 0
    refine Rect.mem_set_unit.mpr ?_
    intro a; fin_cases a
    · exact h0
    · show 0 ≤ (i 1).val ∧ (i 1).val < 0 + 1024; omega
    · show 0 ≤ (i 2).val ∧ (i 2).val < 0 + 512; omega

theorem dj_in (a b : Fin 2 × Fin 4) (h : a ≠ b) : Disjoint (rInP a).set (rInP b).set := by
  rcases ne_prod h with h | h
  · exact Rect.unit_disjoint 0 (by have : a.1.val ≠ b.1.val := fun e => h (Fin.ext e); show a.1.val + 1 ≤ b.1.val ∨ b.1.val + 1 ≤ a.1.val; omega)
  · exact Rect.unit_disjoint 1 (by have : a.2.val ≠ b.2.val := fun e => h (Fin.ext e); show a.2.val + 1 ≤ b.2.val ∨ b.2.val + 1 ≤ a.2.val; omega)
theorem cv_in (i : S2x4x128x8x128.Idx) : ∃ n, i ∈ (rInP n).set := by
  have h2 : (i 2).val < 128 := (i 2).isLt
  have h3 : (i 3).val < 8 := (i 3).isLt
  have h4 : (i 4).val < 128 := (i 4).isLt
  refine ⟨(i 0, i 1), Rect.mem_set_unit.mpr ?_⟩
  intro a; fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 128; omega
  · show 0 ≤ (i 3).val ∧ (i 3).val < 0 + 8; omega
  · show 0 ≤ (i 4).val ∧ (i 4).val < 0 + 128; omega

theorem dj_inh (a b : Fin 8 × Fin 4) (h : a ≠ b) : Disjoint (rInH a).set (rInH b).set :=
  Rect.unit_disjoint 2 (by
    have h1 : a.1.val ≠ b.1.val ∨ a.2.val ≠ b.2.val := (ne_prod h).imp (fun h e => h (Fin.ext e)) (fun h e => h (Fin.ext e))
    have := a.2.isLt
    have := b.2.isLt
    show 512 * a.1.val + 128 * a.2.val + 128 ≤ 512 * b.1.val + 128 * b.2.val ∨ 512 * b.1.val + 128 * b.2.val + 128 ≤ 512 * a.1.val + 128 * a.2.val; omega)
theorem cv_inh (i : S128x8x4096.Idx) : ∃ n, i ∈ (rInH n).set := by
  have h0 : (i 0).val < 128 := (i 0).isLt
  have h1 : (i 1).val < 8 := (i 1).isLt
  have h2 : (i 2).val < 4096 := (i 2).isLt
  refine ⟨(⟨(i 2).val / 512, by omega⟩, ⟨(i 2).val % 512 / 128, by omega⟩), Rect.mem_set_unit.mpr ?_⟩
  intro a; fin_cases a
  · show 0 ≤ (i 0).val ∧ (i 0).val < 0 + 128; omega
  · show 0 ≤ (i 1).val ∧ (i 1).val < 0 + 8; omega
  · show 512 * ((i 2).val / 512) + 128 * ((i 2).val % 512 / 128) ≤ (i 2).val
      ∧ (i 2).val < 512 * ((i 2).val / 512) + 128 * ((i 2).val % 512 / 128) + 128; omega

theorem dj_dg (a b : Fin 8) (h : a ≠ b) : Disjoint (rDg a).set (rDg b).set :=
  Rect.unit_disjoint 1 (by have : a.val ≠ b.val := fun e => h (Fin.ext e); show 128 * a.val + 128 ≤ 128 * b.val ∨ 128 * b.val + 128 ≤ 128 * a.val; omega)
theorem cv_dg (i : S1x1024.Idx) : ∃ n, i ∈ (rDg n).set := by
  have h0 : (i 0).val < 1 := (i 0).isLt
  have h1 : (i 1).val < 1024 := (i 1).isLt
  refine ⟨⟨(i 1).val / 128, by omega⟩, Rect.mem_set_unit.mpr ?_⟩
  intro a; fin_cases a
  · show 0 ≤ (i 0).val ∧ (i 0).val < 0 + 1; omega
  · show 128 * ((i 1).val / 128) ≤ (i 1).val ∧ (i 1).val < 128 * ((i 1).val / 128) + 128; omega

abbrev rDxP (p : Fin 4 × Fin 8) : Rect S8x64x8x128 := rDx p.1 p.2
abbrev rDxS (k : Fin 8) : Rect S8x64x8x128 := Rect.unit (s := S8x64x8x128) ![k.val, 0, 0, 0] S1x64x8x128.size (inb_dxs k)
abbrev rDxH (k : Fin 8) : Rect S64x8x1024 := Rect.unit (s := S64x8x1024) ![0, 0, 128 * k.val] S64x8x128.size (inb_dxh k)

theorem dj_dxp (a b : Fin 4 × Fin 8) (h : a ≠ b) : Disjoint (rDxP a).set (rDxP b).set := by
  rcases ne_prod h with h | h
  · exact Rect.unit_disjoint 1 (by have : a.1.val ≠ b.1.val := fun e => h (Fin.ext e); show 16 * a.1.val + 16 ≤ 16 * b.1.val ∨ 16 * b.1.val + 16 ≤ 16 * a.1.val; omega)
  · exact Rect.unit_disjoint 0 (by have : a.2.val ≠ b.2.val := fun e => h (Fin.ext e); show a.2.val + 1 ≤ b.2.val ∨ b.2.val + 1 ≤ a.2.val; omega)
theorem cv_dxp (i : S8x64x8x128.Idx) : ∃ n, i ∈ (rDxP n).set := by
  have h1 : (i 1).val < 64 := (i 1).isLt
  have h2 : (i 2).val < 8 := (i 2).isLt
  have h3 : (i 3).val < 128 := (i 3).isLt
  refine ⟨(⟨(i 1).val / 16, by omega⟩, i 0), Rect.mem_set_unit.mpr ?_⟩
  intro a; fin_cases a
  · show (i 0).val ≤ (i 0).val ∧ (i 0).val < (i 0).val + 1; omega
  · show 16 * ((i 1).val / 16) ≤ (i 1).val ∧ (i 1).val < 16 * ((i 1).val / 16) + 16; omega
  · show 0 ≤ (i 2).val ∧ (i 2).val < 0 + 8; omega
  · show 0 ≤ (i 3).val ∧ (i 3).val < 0 + 128; omega
theorem dj_dxs (a b : Fin 8) (h : a ≠ b) : Disjoint (rDxS a).set (rDxS b).set :=
  Rect.unit_disjoint 0 (by have : a.val ≠ b.val := fun e => h (Fin.ext e); show a.val + 1 ≤ b.val ∨ b.val + 1 ≤ a.val; omega)
theorem cv_dxs (i : S8x64x8x128.Idx) : ∃ n, i ∈ (rDxS n).set := by
  have h1 : (i 1).val < 64 := (i 1).isLt
  have h2 : (i 2).val < 8 := (i 2).isLt
  have h3 : (i 3).val < 128 := (i 3).isLt
  refine ⟨i 0, Rect.mem_set_unit.mpr ?_⟩
  intro a; fin_cases a
  · show (i 0).val ≤ (i 0).val ∧ (i 0).val < (i 0).val + 1; omega
  · show 0 ≤ (i 1).val ∧ (i 1).val < 0 + 64; omega
  · show 0 ≤ (i 2).val ∧ (i 2).val < 0 + 8; omega
  · show 0 ≤ (i 3).val ∧ (i 3).val < 0 + 128; omega
theorem dj_dxh (a b : Fin 8) (h : a ≠ b) : Disjoint (rDxH a).set (rDxH b).set :=
  Rect.unit_disjoint 2 (by have : a.val ≠ b.val := fun e => h (Fin.ext e); show 128 * a.val + 128 ≤ 128 * b.val ∨ 128 * b.val + 128 ≤ 128 * a.val; omega)
theorem cv_dxh (i : S64x8x1024.Idx) : ∃ n, i ∈ (rDxH n).set := by
  have h0 : (i 0).val < 64 := (i 0).isLt
  have h1 : (i 1).val < 8 := (i 1).isLt
  have h2 : (i 2).val < 1024 := (i 2).isLt
  refine ⟨⟨(i 2).val / 128, by omega⟩, Rect.mem_set_unit.mpr ?_⟩
  intro a; fin_cases a
  · show 0 ≤ (i 0).val ∧ (i 0).val < 0 + 64; omega
  · show 0 ≤ (i 1).val ∧ (i 1).val < 0 + 8; omega
  · show 128 * ((i 2).val / 128) ≤ (i 2).val ∧ (i 2).val < 128 * ((i 2).val / 128) + 128; omega

/-! ### What the buffers hold -/

variable (I : In F)

theorem nm_win : S1024x512.numel = S1x1024x512.numel := by decide
theorem nm_in : S128x8x128.numel = S1x1x128x8x128.numel := by decide

/-- An f32 word for places no piece covers. -/
def dfl32 : Elt F .f32 := constant (F := F) S1 .f32 0x00000000#32 (fun a => ⟨0, by fin_cases a; decide⟩)

/-- Tile `t` of the codes of `da`, in its slot; -/
def vA (t : Fin 8) : S1x512x512.Idx → Elt F .fp8e5m2 := fun i => sub I.a (rGcol t) ((Shape.reshapeEquiv nm_g).symm i)
/-- transposed; -/
def vAt (t : Fin 8) : S1x512x512.Idx → Elt F .bf16 := wAt (vA I t)
/-- and scaled. -/
def vDat (t : Fin 8) : S1x512x512.Idx → Elt F .bf16 := glue rB (fun p => wDat (sub (vAt I t) (rB p)) (sub I.ds (rDs t p.1 p.2))) dflt
/-- Its product with `xhat`. -/
def vI (t : Fin 8) : FVec F S1024x512 .f32 := wR (sub (vXht I) rT) (vDat I t)
/-- Lane block `n` of the product, scaled. -/
def vIn (t : Fin 8) (n : Fin 4) : S128x8x128.Idx → Elt F .bf16 := fun i => wIn (vI I t) (sub (vGamc I) rGamc) n (Shape.reshapeEquiv nm_in i)
/-- Tile `t` of `w_in`, in its slot. -/
def vWin (t : Fin 8) : S1x1024x512.Idx → Elt F .fp8e4m3 := fun i => sub I.win (rWinH t) ((Shape.reshapeEquiv nm_win).symm i)
/-- Part `j` of `w_qkv`. -/
def vWq (j : Fin 3) : S1024x8x128.Idx → Elt F .fp8e4m3 := fun i => sub I.wq (rQkvH j) (Shape.reshapeEquiv nm_qkvh i)
/-- Four heads of it, scaled, in their slot. -/
def vWqb (j : Fin 3) (h : Fin 2) : S2x1024x512.Idx → Elt F .bf16 :=
  glue (rWqb h) (fun b => wWqb (sub (vWq I j) (rWHead h b)) (sub I.sq (rSq j h b))) dflt

/-- A sum with the product of tile `t` of `w_in` and of `da` added; -/
def accH (t : Fin 8) (X : S1024x512.Idx → Elt F .f32) : S1024x512.Idx → Elt F .f32 := wH (vWin I t) (sub I.sin (rSin t)) (sub X rT) (vDat I t)
/-- a sum with the product of four heads of `w_qkv` and of `dqkv` added. -/
def accR (j : Fin 3) (h : Fin 2) (X : S1024x512.Idx → Elt F .f32) : S1024x512.Idx → Elt F .f32 :=
  wRh (sub X rT) (sub (vWqb I j h) (rWslot h)) (sub (vVt I j h) (rSlot h))
/-- `dh` after both sums of half a trip. -/
def acc (t : Fin 8) (j : Fin 3) (h : Fin 2) (X : S1024x512.Idx → Elt F .f32) : S1024x512.Idx → Elt F .f32 := accR I j h (accH I t X)

/-- `dh` after 0, 1, …, 6 halves of trips, -/
def vD0 : S1024x512.Idx → Elt F .f32 := wZero
def vD1 : S1024x512.Idx → Elt F .f32 := acc I 0 0 0 vD0
def vD2 : S1024x512.Idx → Elt F .f32 := acc I 1 0 1 (vD1 I)
def vD3 : S1024x512.Idx → Elt F .f32 := acc I 2 1 0 (vD2 I)
def vD4 : S1024x512.Idx → Elt F .f32 := acc I 3 1 1 (vD3 I)
def vD5 : S1024x512.Idx → Elt F .f32 := acc I 4 2 0 (vD4 I)
def vD6 : S1024x512.Idx → Elt F .f32 := acc I 5 2 1 (vD5 I)
/-- and in the end. -/
def vDh : S1024x512.Idx → Elt F .f32 := accH I 7 (accH I 6 (vD6 I))

/-- 128 places of `dgamma`. -/
def vDgk (k : Fin 8) : FVec F S1x128 .f32 :=
  wDg (sub (vDh I) (rBl k 0)) (sub (vXht I) (rBl k 0)) (sub (vDh I) (rBl k 1)) (sub (vXht I) (rBl k 1))
    (sub (vDh I) (rBl k 2)) (sub (vXht I) (rBl k 2)) (sub (vDh I) (rBl k 3)) (sub (vXht I) (rBl k 3))

/-- One row of eight more in the sums of lane block `n`; -/
def stepDx (n : Fin 4) (a : Acc F) (k : Fin 128) : Acc F :=
  accStep (sub (vDh I) (rRow8 n k)) (sub (vGamc I) (rGam8 k)) (sub (vXht I) (rRow8 n k)) a
/-- all of them; -/
def vAcc (n : Fin 4) : Acc F := (List.finRange 128).foldl (stepDx I n) acc0
/-- and the means. -/
def vM1 (n : Fin 4) : FVec F S1x128 .f32 := wMean (vAcc I n).x0 (vAcc I n).x1 (vAcc I n).x2 (vAcc I n).x3
def vM2 (n : Fin 4) : FVec F S1x128 .f32 := wMean (vAcc I n).y0 (vAcc I n).y1 (vAcc I n).y2 (vAcc I n).y3
/-- A block of `dx`. -/
def vDxk (n : Fin 4) (k : Fin 8) : FVec F S1x16x8x128 .bf16 :=
  wDx (sub (vDh I) (rBl k n)) (sub (vGamc I) (rGam128 k)) (sub (vXht I) (rBl k n)) (sub (vDyt I) (rBl k n)) (vM1 I n) (vM2 I n) (sub I.rs (rRs n))
/-- All of them in their buffer; -/
def vDxS : S8x64x8x128.Idx → Elt F .bf16 := glue rDxP (fun p => vDxk I p.1 p.2) dflt

theorem nm_dx : S64x8x128.numel = S1x64x8x128.numel := by decide

/-- and as the copies take them. -/
def vDx (k : Fin 8) : S64x8x128.Idx → Elt F .bf16 := fun i => sub (vDxS I) (rDxS k) (Shape.reshapeEquiv nm_dx i)

/-- `dx`. -/
def vRes4 : S64x8x1024.Idx → Elt F .bf16 := glue rDxH (vDx I) dflt
/-- The first result, -/
def vRes2 : S128x8x4096.Idx → Elt F .bf16 := glue rInH (fun p => vIn I p.1 p.2) dflt
/-- and the last. -/
def vRes3 : S1x1024.Idx → Elt F .f32 := glue rDg (vDgk I) dfl32

end Cert.Kernel.Hand

end
-- ==== Proof.KRules.lean ====
module

public import proofs.«01_k».proof.Proof.KValsB

/-! One rule per stage of the kernel's body: what the stage takes and what it leaves, with the contents of `KVals`. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-! ### The computing stages -/

theorem dyt1_rule (n : Fin 32) (k : PUnit → P F α) :
    iprop(iprop(own c mDy.view I.dy ∗ own c mDys.view I.dys) ∗ anyv c (mDyt.access (rDyt n)))
      ⊢ iprop((iprop(iprop(own c mDy.view I.dy ∗ own c mDys.view I.dys)
            ∗ own c (mDyt.access (rDyt n)) (wDyt (sub I.dy (rDy n)) (sub I.dys (rDys n)))) -∗ W c (k ⟨⟩) Q) -∗ W c (dyt1 n >>= k) Q) := by
  unfold dyt1
  simp only [bind_assoc]
  iintro ⟨⟨Hy, Hs⟩, Ht⟩ Hk
  iapply (ld_in mDy (rDy n) h_S512x32 I.dy _) $$ Hy
  iintro Hy
  iapply (ld_in mDys (rDys n) h_S1x512 I.dys _) $$ Hs
  iintro Hs
  iapply (upd_rule mDyt (rDyt n) h_S32x512 (st_dyt n) _ _) $$ Ht
  iintro Ht
  iapply Hk
  isplitl [Hy Hs]
  · isplitl [Hy]; · iexact Hy
    iexact Hs
  iexact Ht

theorem dyt_rule (k : PUnit → P F α) :
    iprop(own c mDy.view I.dy ∗ own c mDys.view I.dys ∗ anyv c mDyt.view)
      ⊢ iprop((iprop(own c mDy.view I.dy ∗ own c mDys.view I.dys ∗ own c mDyt.view (vDyt I)) -∗ W c (k ⟨⟩) Q)
          -∗ W c (each (List.finRange 32) dyt1 >>= k) Q) := by
  iintro ⟨Hy, Hs, Ht⟩ Hk
  ihave Ht := (any_cut_all (c := c) mDyt rDyt dj_dyt cv_dyt) $$ Ht
  iapply (each_rule (fun n k => dyt1_rule (c := c) (Q := Q) I n k) (List.nodup_finRange 32) (List.toFinset_finRange 32) k) $$ [Hy Hs Ht]
  · isplitl [Hy Hs]
    · isplitl [Hy]; · iexact Hy
      iexact Hs
    iexact Ht
  iintro ⟨⟨Hy, Hs⟩, Ht⟩
  iapply Hk
  isplitl [Hy]; · iexact Hy
  isplitl [Hs]; · iexact Hs
  iapply (own_paste_all (c := c) mDyt rDyt dj_dyt cv_dyt (fun _ => dflt) (vDyt I) _ (fun n y => glue_emb rDyt dj_dyt _ dflt n y)) $$ Ht

theorem stageX_rule (t : Fin 8) (s : Fin 2) (k : PUnit → P F α) :
    iprop(own c (mA.access (rG t)) (vA I t) ∗ anyv c (mAt.access (rSlot s)) ∗ own c (mG.access (rG t)) (vG I t) ∗ own c mGs.view I.gs ∗ anyv c (mGt.access (rSlot s)))
      ⊢ iprop((iprop(own c (mA.access (rG t)) (vA I t) ∗ own c (mAt.access (rSlot s)) (vAt I t) ∗ own c (mG.access (rG t)) (vG I t) ∗ own c mGs.view I.gs
            ∗ own c (mGt.access (rSlot s)) (vGt I t)) -∗ W c (k ⟨⟩) Q)
          -∗ W c (stageX t s >>= k) Q) := by
  unfold stageX
  simp only [bind_assoc]
  iintro ⟨Ha, Hat, Hg, Hs, Ht⟩ Hk
  iapply (ld_rule mA (rG t) h_S1x512x512 (vA I t) _) $$ Ha
  iintro Ha
  iapply (upd_rule mAt (rSlot s) h_S1x512x512 (st_at s) _ _) $$ Hat
  iintro Hat
  iapply (ld_rule mG (rG t) h_S1x512x512 (vG I t) _) $$ Hg
  iintro Hg
  iapply (ld_in mGs rRow h_S1x512 I.gs _) $$ Hs
  iintro Hs
  iapply (upd_rule mGt (rSlot s) h_S1x512x512 (st_gt s) _ _) $$ Ht
  iintro Ht
  iapply Hk
  isplitl [Ha]; · iexact Ha
  isplitl [Hat]; · iexact Hat
  isplitl [Hg]; · iexact Hg
  isplitl [Hs]; · iexact Hs
  iexact Ht

theorem stageXht_rule (k : PUnit → P F α) :
    iprop(own c mXh.view I.xh ∗ own c mXs.view I.xs ∗ anyv c mXht.view)
      ⊢ iprop((iprop(own c mXh.view I.xh ∗ own c mXs.view I.xs ∗ own c mXht.view (vXht I)) -∗ W c (k ⟨⟩) Q)
          -∗ W c (stageXht >>= k) Q) := by
  unfold stageXht
  simp only [bind_assoc]
  iintro ⟨Hg, Hs, Ht⟩ Hk
  iapply (ld_in mXh rXh h_S512x1024 I.xh _) $$ Hg
  iintro Hg
  iapply (ld_in mXs rRow h_S1x512 I.xs _) $$ Hs
  iintro Hs
  iapply (upd_all mXht rT h_S1024x512 st_xht all_T _ (vXht I) (fun y => congrArg (vXht I) (emb_T y)) _) $$ Ht
  iintro Ht
  iapply Hk
  isplitl [Hg]; · iexact Hg
  isplitl [Hs]; · iexact Hs
  iexact Ht

theorem stageGamc_rule (k : PUnit → P F α) :
    iprop(own c mGam.view I.gam ∗ anyv c mGamc.view)
      ⊢ iprop((iprop(own c mGam.view I.gam ∗ own c mGamc.view (vGamc I)) -∗ W c (k ⟨⟩) Q)
          -∗ W c (stageGamc >>= k) Q) := by
  unfold stageGamc
  simp only [bind_assoc]
  iintro ⟨Hg, Ht⟩ Hk
  iapply (ld_in mGam rGam h_S1x1024 I.gam _) $$ Hg
  iintro Hg
  iapply (upd_all mGamc rGamc h_S1024x128 st_gamc all_Gamc _ (vGamc I) (fun y => congrArg (vGamc I) (emb_Gamc y)) _) $$ Ht
  iintro Ht
  iapply Hk
  isplitl [Hg]; · iexact Hg
  iexact Ht

/-- The output slot `s`, held at anything; -/
def OutFree (c : Dev nD) (s : Fin 2) : sProp 𝕄 := bigSep Finset.univ fun n : Fin 8 => anyv c (mOut.access (rOut s n))
/-- and holding the pieces of tile `t`. -/
def OutReady (c : Dev nD) (t : Fin 8) (s : Fin 2) : sProp 𝕄 := bigSep Finset.univ fun n : Fin 8 => own c (outV s n).view (vOut I t n)

theorem out1_rule (t : Fin 8) (s : Fin 2) (n : Fin 8) (k : PUnit → P F α) :
    iprop(iprop(emp) ∗ anyv c (mOut.access (rOut s n)))
      ⊢ iprop((iprop(iprop(emp) ∗ own c (outV s n).view (vOut I t n)) -∗ W c (k ⟨⟩) Q) -∗ W c (out1 s (vO I t) n >>= k) Q) := by
  unfold out1
  iintro ⟨-, Ht⟩ Hk
  iapply (upd_rule mOut (rOut s n) h_S1x1x64x8x128 (st_out s n) _ _) $$ Ht
  iintro Ht
  iapply Hk
  isplitr; · iempintro
  iapply (own_reshape (c := c) (mOut.access (rOut s n)) nm_out (wOut (vO I t) n)) $$ Ht

theorem stageO_rule (t : Fin 8) (s : Fin 2) (k : PUnit → P F α) :
    iprop(own c (mGt.access (rSlot s)) (vGt I t) ∗ own c mDyt.view (vDyt I) ∗ OutFree c s)
      ⊢ iprop((iprop(own c (mGt.access (rSlot s)) (vGt I t) ∗ own c mDyt.view (vDyt I) ∗ OutReady I c t s) -∗ W c (k ⟨⟩) Q)
          -∗ W c (stageO s >>= k) Q) := by
  unfold stageO
  simp only [bind_assoc]
  iintro ⟨Hg, Hs, Ht⟩ Hk
  iapply (ld_rule mGt (rSlot s) h_S1x512x512 (vGt I t) _) $$ Hg
  iintro Hg
  iapply (ld_in mDyt rT h_S1024x512 (vDyt I) _) $$ Hs
  iintro Hs
  iapply (each_rule (fun n k => out1_rule (c := c) (Q := Q) I t s n k) (l := [0, 1, 2, 3, 4, 5, 6, 7]) (by decide) (by decide) k) $$ [Ht]
  · isplitr; · iempintro
    unfold OutFree; iexact Ht
  iintro ⟨-, Ht⟩
  iapply Hk
  isplitl [Hg]; · iexact Hg
  isplitl [Hs]; · iexact Hs
  unfold OutReady; iexact Ht

theorem vt1_rule (j : Fin 3) (h : Fin 2) (b : Fin 4) (p : Fin 4) (k : PUnit → P F α) :
    iprop(own c mDqs.view I.dqs ∗ anyv c (mVt.access (rVt h b p)))
      ⊢ iprop((iprop(own c mDqs.view I.dqs
            ∗ own c (mVt.access (rVt h b p)) (wVt (wHead (sub (vDq I j) (rHead h b))) (sub I.dqs (rDqs j h b p)) p)) -∗ W c (k ⟨⟩) Q)
          -∗ W c (vt1 j h b (wHead (sub (vDq I j) (rHead h b))) p >>= k) Q) := by
  unfold vt1
  simp only [bind_assoc]
  iintro ⟨Hs, Ht⟩ Hk
  iapply (ld_in mDqs (rDqs j h b p) h_S1x1x512 I.dqs _) $$ Hs
  iintro Hs
  iapply (upd_rule mVt (rVt h b p) h_S1x32x512 (st_vt h b p) _ _) $$ Ht
  iintro Ht
  iapply Hk
  isplitl [Hs]; · iexact Hs
  iexact Ht

theorem vts_rule (j : Fin 3) (h : Fin 2) (b : Fin 4) (k : PUnit → P F α) :
    iprop(own c mDqs.view I.dqs ∗ bigSep Finset.univ fun p => anyv c (mVt.access (rVt h b p)))
      ⊢ iprop((iprop(own c mDqs.view I.dqs
            ∗ bigSep Finset.univ fun p => own c (mVt.access (rVt h b p)) (wVt (wHead (sub (vDq I j) (rHead h b))) (sub I.dqs (rDqs j h b p)) p))
              -∗ W c (k ⟨⟩) Q)
          -∗ W c (each [0, 1, 2, 3] (vt1 j h b (wHead (sub (vDq I j) (rHead h b)))) >>= k) Q) :=
  each_rule (fun p k => vt1_rule I j h b p k) (by decide) (by decide) k

theorem sep_univ4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_univ2 (Φ : Fin 2 → sProp 𝕄) : bigSep Finset.univ Φ = iprop(Φ 0 ∗ Φ 1) :=
  bigSep_univ_eq_bigSepL [0, 1] (by decide) (by decide) Φ
theorem sep_univ3 (Φ : Fin 3 → sProp 𝕄) : bigSep Finset.univ Φ = iprop(Φ 0 ∗ Φ 1 ∗ Φ 2) :=
  bigSep_univ_eq_bigSepL [0, 1, 2] (by decide) (by decide) Φ
theorem sep_univ8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A slot of `vt`, held at anything, in its sixteen pieces. -/
theorem vt_cut (h : Fin 2) : anyv c (mVt.access (rSlot h)) ⊢
    (iprop((bigSep Finset.univ fun p : Fin 4 => anyv c (mVt.access (rVt h 0 p))) ∗ (bigSep Finset.univ fun p : Fin 4 => anyv c (mVt.access (rVt h 1 p)))
      ∗ (bigSep Finset.univ fun p : Fin 4 => anyv c (mVt.access (rVt h 2 p))) ∗ bigSep Finset.univ fun p : Fin 4 => anyv c (mVt.access (rVt h 3 p))) : sProp 𝕄) := by
  refine (any_cut (c := c) mVt (rVtP h) (dj_vt h) (rSlot h) (cv_vt h)).trans ?_
  rw [bigSep_univ_prod, sep_univ4]

theorem vt_paste (j : Fin 3) (h : Fin 2) :
    (iprop((bigSep Finset.univ fun p : Fin 4 => own c (mVt.access (rVt h 0 p)) (wVt (wHead (sub (vDq I j) (rHead h 0))) (sub I.dqs (rDqs j h 0 p)) p))
      ∗ (bigSep Finset.univ fun p : Fin 4 => own c (mVt.access (rVt h 1 p)) (wVt (wHead (sub (vDq I j) (rHead h 1))) (sub I.dqs (rDqs j h 1 p)) p))
      ∗ (bigSep Finset.univ fun p : Fin 4 => own c (mVt.access (rVt h 2 p)) (wVt (wHead (sub (vDq I j) (rHead h 2))) (sub I.dqs (rDqs j h 2 p)) p))
      ∗ (bigSep Finset.univ fun p : Fin 4 => own c (mVt.access (rVt h 3 p)) (wVt (wHead (sub (vDq I j) (rHead h 3))) (sub I.dqs (rDqs j h 3 p)) p))) : sProp 𝕄)
      ⊢ (own c (mVt.access (rSlot h)) (sub (vVt I j h) (rSlot h)) : sProp 𝕄) := by
  refine .trans ?_ (own_paste (c := c) mVt (rVtP h) (dj_vt h) (rSlot h) (cv_vt h) (fun _ => dflt) (vVt I j h) _
    (fun p y => glue_emb (rVtP h) (dj_vt h) _ dflt p y))
  rw [bigSep_univ_prod]
  exact .of_eq (sep_univ4 fun b : Fin 4 => bigSep Finset.univ fun p : Fin 4 =>
    own c (mVt.access (rVt h b p)) (wVt (wHead (sub (vDq I j) (rHead h b))) (sub I.dqs (rDqs j h b p)) p)).symm

theorem stageP_rule (j : Fin 3) (h : Fin 2) (k : PUnit → P F α) :
    iprop(own c (dqV j).view (vDq I j) ∗ own c mDqs.view I.dqs ∗ anyv c (mVt.access (rSlot h)))
      ⊢ iprop((iprop(own c (dqV j).view (vDq I j) ∗ own c mDqs.view I.dqs ∗ own c (mVt.access (rSlot h)) (sub (vVt I j h) (rSlot h))) -∗ W c (k ⟨⟩) Q)
          -∗ W c (stageP j h >>= k) Q) := by
  unfold stageP
  simp only [bind_assoc]
  iintro ⟨Hg, Hs, Ht⟩ Hk
  iapply (ld_in (dqV j) (rHead h 0) h_S512x1x128 (vDq I j) _) $$ Hg
  iintro Hg
  iapply (ld_in (dqV j) (rHead h 1) h_S512x1x128 (vDq I j) _) $$ Hg
  iintro Hg
  iapply (ld_in (dqV j) (rHead h 2) h_S512x1x128 (vDq I j) _) $$ Hg
  iintro Hg
  iapply (ld_in (dqV j) (rHead h 3) h_S512x1x128 (vDq I j) _) $$ Hg
  iintro Hg
  ihave Ht := (vt_cut (c := c) h) $$ Ht
  icases Ht with ⟨H0, H1, H2, H3⟩
  iapply (vts_rule I j h 0 _) $$ [Hs H0]
  · isplitl [Hs]; · iexact Hs
    iexact H0
  iintro ⟨Hs, H0⟩
  iapply (vts_rule I j h 1 _) $$ [Hs H1]
  · isplitl [Hs]; · iexact Hs
    iexact H1
  iintro ⟨Hs, H1⟩
  iapply (vts_rule I j h 2 _) $$ [Hs H2]
  · isplitl [Hs]; · iexact Hs
    iexact H2
  iintro ⟨Hs, H2⟩
  iapply (vts_rule I j h 3 _) $$ [Hs H3]
  · isplitl [Hs]; · iexact Hs
    iexact H3
  iintro ⟨Hs, H3⟩
  iapply Hk
  isplitl [Hg]; · iexact Hg
  isplitl [Hs]; · iexact Hs
  iapply (vt_paste (c := c) I j h)
  isplitl [H0]; · iexact H0
  isplitl [H1]; · iexact H1
  isplitl [H2]; · iexact H2
  iexact H3

/-- Two rows written one after the other leave nothing of what was there. -/
theorem pair_any (a b : FVec F S1x1024x1x128 .bf16) (x y : S1x1024x2x128.Idx → Elt F .bf16) :
    updateSlice (updateSlice x a ![0, 0, 0, 0] (slices_row 0)) b ![0, 0, 1, 0] (slices_row 1)
      = updateSlice (updateSlice y a ![0, 0, 0, 0] (slices_row 0)) b ![0, 0, 1, 0] (slices_row 1) := by
  funext i
  unfold updateSlice
  split
  · rfl
  · rename_i h1
    split
    · rfl
    · rename_i h0
      exfalso
      have i0 : (i 0).val < 1 := (i 0).isLt
      have i1 : (i 1).val < 1024 := (i 1).isLt
      have i2 : (i 2).val < 2 := (i 2).isLt
      have i3 : (i 3).val < 128 := (i 3).isLt
      by_cases hz : (i 2).val = 0
      · apply h0
        intro q
        fin_cases q
        · show 0 ≤ (i 0).val ∧ (i 0).val < 0 + 1; omega
        · show 0 ≤ (i 1).val ∧ (i 1).val < 0 + 1024; omega
        · show 0 ≤ (i 2).val ∧ (i 2).val < 0 + 1; omega
        · show 0 ≤ (i 3).val ∧ (i 3).val < 0 + 128; omega
      · apply h1
        intro q
        fin_cases q
        · show 0 ≤ (i 0).val ∧ (i 0).val < 0 + 1; omega
        · show 0 ≤ (i 1).val ∧ (i 1).val < 0 + 1024; omega
        · show 1 ≤ (i 2).val ∧ (i 2).val < 1 + 1; omega
        · show 0 ≤ (i 3).val ∧ (i 3).val < 0 + 128; omega

theorem row_sub (j : Fin 3) (h p : Fin 2) (i : Fin 2) (k : Fin 4) (hk : k.val = 2 * p.val + i.val) :
    (mQkv.access (rQkv1 j h k)).set ⊆ (mQkv.access (rQkv j h p)).set := by
  rw [View.set_slice, View.set_slice]
  refine Finset.map_subset_map.mpr fun x hx => ?_
  have h0 : j.val ≤ (x 0).val ∧ (x 0).val < j.val + 1 := Rect.mem_set_unit.mp hx 0
  have h1 : 0 ≤ (x 1).val ∧ (x 1).val < 0 + 1024 := Rect.mem_set_unit.mp hx 1
  have h2 : 4 * h.val + k.val ≤ (x 2).val ∧ (x 2).val < 4 * h.val + k.val + 1 := Rect.mem_set_unit.mp hx 2
  have h3 : 0 ≤ (x 3).val ∧ (x 3).val < 0 + 128 := Rect.mem_set_unit.mp hx 3
  have hi := i.isLt
  refine Rect.mem_set_unit.mpr fun a => ?_
  fin_cases a
  · exact h0
  · exact h1
  · show 4 * h.val + 2 * p.val ≤ (x 2).val ∧ (x 2).val < 4 * h.val + 2 * p.val + 2; omega
  · exact h3

/-- One head stored into its row of the two the words hold. -/
theorem qkv1_rule (j : Fin 3) (h p : Fin 2) (i : Fin 2) (q : Fin 4) (hq : q.val = 2 * p.val + i.val) (r : FVec F S1024x512 .f32)
    (old : S1x1024x2x128.Idx → Elt F .bf16) (k : PUnit → P F α) :
    iprop(own c mGamc.view (vGamc I) ∗ own c (mQkv.access (rQkv j h p)) old)
      ⊢ iprop((iprop(own c mGamc.view (vGamc I)
            ∗ own c (mQkv.access (rQkv j h p)) (updateSlice old (wQkv r (sub (vGamc I) rGamc) q) ![0, 0, i.val, 0] (slices_row i))) -∗ W c (k ⟨⟩) Q)
          -∗ W c (qkv1 j h p r i q >>= k) Q) := by
  unfold qkv1 storeSubelements
  simp only [bind_assoc]
  iintro ⟨Hs, Ht⟩ Hk
  iapply (ld_in mGamc rGamc h_S1024x128 (vGamc I) _) $$ Hs
  iintro Hs
  unfold own
  icases Ht with ⟨%f, %hf, H⟩
  subst hf
  iapply (wp_load_rect (c := (c : Thread nD τ)) Variants.none none Set.univ (m := mQkv) (r := rQkv1 j h q) (row_sub j h p i q hq)) $$ H
  iintro H
  iapply (wp_load_rect (c := (c : Thread nD τ)) Variants.none none Set.univ (m := mQkv) (r := rQkv j h p) (Finset.Subset.refl _)) $$ H
  iintro H
  iapply (wp_store (c := (c : Thread nD τ)) Variants.none none Set.univ (m := mQkv) (r := rQkv j h p)
    (w := updateSlice ((mQkv.access (rQkv j h p)).read (Elt F) f) (wQkv r (sub (vGamc I) rGamc) q) ![0, 0, i.val, 0] (slices_row i))
    (Mk := Finset.univ) (k := k) (S := (mQkv.access (rQkv j h p)).set) (Finset.Subset.refl _)) $$ H
  iintro H
  iapply Hk
  isplitl [Hs]; · iexact Hs
  iexists _
  isplitr; swap; · iexact H
  ipureintro; exact View.read_write_univ _ _

theorem pair_rule (j : Fin 3) (h p : Fin 2) (k : PUnit → P F α) :
    iprop(own c mGamc.view (vGamc I) ∗ anyv c (mQkv.access (rQkv j h p)))
      ⊢ iprop((iprop(own c mGamc.view (vGamc I) ∗ own c (mQkv.access (rQkv j h p)) (vPair I j h p)) -∗ W c (k ⟨⟩) Q)
          -∗ W c (qkv1 j h p (vR I j h) 0 ⟨2 * p.val, by omega⟩ >>= fun _ => qkv1 j h p (vR I j h) 1 ⟨2 * p.val + 1, by omega⟩ >>= k) Q) := by
  unfold anyv
  iintro ⟨Hs, %f, Ht⟩ Hk
  ihave Ht := (own_of (c := c) (mQkv.access (rQkv j h p)) f) $$ Ht
  iapply (qkv1_rule I j h p 0 ⟨2 * p.val, _⟩ rfl (vR I j h) _ _) $$ [Hs Ht]
  · isplitl [Hs]; · iexact Hs
    iexact Ht
  iintro ⟨Hs, Ht⟩
  iapply (qkv1_rule I j h p 1 ⟨2 * p.val + 1, _⟩ rfl (vR I j h) _ _) $$ [Hs Ht]
  · isplitl [Hs]; · iexact Hs
    iexact Ht
  iintro ⟨Hs, Ht⟩
  iapply Hk
  isplitl [Hs]; · iexact Hs
  have e : vPair I j h p = updateSlice (updateSlice ((mQkv.access (rQkv j h p)).read (Elt F) f) (vHead I j h ⟨2 * p.val, by omega⟩) ![0, 0, 0, 0] (slices_row 0))
      (vHead I j h ⟨2 * p.val + 1, by omega⟩) ![0, 0, 1, 0] (slices_row 1) := pair_any _ _ _ _
  rw [e]
  iexact Ht

/-- Half `h` of the slot of part `j` of the third result, held at anything; -/
def QFree (c : Dev nD) (j : Fin 3) (h : Fin 2) : sProp 𝕄 := iprop(anyv c (mQkv.access (rQkv j h 0)) ∗ anyv c (mQkv.access (rQkv j h 1)))
/-- and holding its four heads. -/
def QDone (c : Dev nD) (j : Fin 3) (h : Fin 2) : sProp 𝕄 :=
  iprop(own c (mQkv.access (rQkv j h 0)) (vPair I j h 0) ∗ own c (mQkv.access (rQkv j h 1)) (vPair I j h 1))

theorem stageR_rule (j : Fin 3) (h : Fin 2) (k : PUnit → P F α) :
    iprop(own c mXht.view (vXht I) ∗ own c (mVt.access (rSlot h)) (sub (vVt I j h) (rSlot h)) ∗ own c mGamc.view (vGamc I) ∗ QFree c j h)
      ⊢ iprop((iprop(own c mXht.view (vXht I) ∗ own c (mVt.access (rSlot h)) (sub (vVt I j h) (rSlot h)) ∗ own c mGamc.view (vGamc I) ∗ QDone I c j h) -∗ W c (k ⟨⟩) Q)
          -∗ W c (stageR j h >>= k) Q) := by
  unfold stageR QFree QDone
  simp only [bind_assoc]
  iintro ⟨Hg, Hs, Hm, ⟨H0, H1⟩⟩ Hk
  iapply (ld_in mXht rT h_S1024x512 (vXht I) _) $$ Hg
  iintro Hg
  iapply (ld_rule mVt (rSlot h) h_S1x512x512 _ _) $$ Hs
  iintro Hs
  iapply (pair_rule I j h 0 _) $$ [Hm H0]
  · isplitl [Hm]; · iexact Hm
    iexact H0
  iintro ⟨Hm, H0⟩
  iapply (pair_rule I j h 1 _) $$ [Hm H1]
  · isplitl [Hm]; · iexact Hm
    iexact H1
  iintro ⟨Hm, H1⟩
  iapply Hk
  isplitl [Hg]; · iexact Hg
  isplitl [Hs]; · iexact Hs
  isplitl [Hm]; · iexact Hm
  isplitl [H0]; · iexact H0
  iexact H1

end Cert.Kernel.Hand

end
-- ==== Proof.KRulesB.lean ====
module

public import proofs.«01_k».proof.Proof.KRules

/-! One rule per stage of the work on `da`: what the stage takes and what it leaves, with the contents of `KValsB`. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-- Load a part of a rectangle held. -/
theorem ld_part {s : Shape} {e : EltTy} (m : Memref sig .tc .vmem s e) (R r : Rect s) (h : 0 < r.shape.numel) (hs : r.set ⊆ R.set)
    (f : r.shape.Idx → R.shape.Idx) (hf : ∀ y, r.emb y = R.emb (f y)) (w : R.shape.Idx → Elt F e) (k : (r.shape.Idx → Elt F e) → P F α) :
    own c (m.access R) w ⊢ iprop((own c (m.access R) w -∗ W c (k fun y => w (f y)) Q) -∗ W c (ld m r h >>= k) Q) := by
  unfold own
  iintro ⟨%g, %hg, H⟩ Hk
  subst hg
  have hv : (fun y => (m.access R).read (Elt F) g (f y)) = (m.access r).read (Elt F) g :=
    funext fun y => (congrArg (m.view.read (Elt F) g) (hf y)).symm
  have hss : (m.access r).set ⊆ (m.access R).set := by
    rw [View.set_slice, View.set_slice]
    exact Finset.map_subset_map.mpr hs
  iapply (wp_load_rect (c := (c : Thread nD τ)) Variants.none none Set.univ (m := m) (r := r) (k := k) hss) $$ H
  iintro H
  rw [hv]
  iapply Hk
  iexists g
  isplitr; · ipureintro; rfl
  iexact H

/-! ### Tiles of `da` -/

theorem dat1_rule (t : Fin 8) (s : Fin 2) (b : Fin 16) (n : Fin 2) (k : PUnit → P F α) :
    iprop(iprop(own c (mAt.access (rSlot s)) (vAt I t) ∗ own c mDs.view I.ds) ∗ anyv c (mDat.access (rBlk s b n)))
      ⊢ iprop((iprop(iprop(own c (mAt.access (rSlot s)) (vAt I t) ∗ own c mDs.view I.ds)
            ∗ own c (mDat.access (rBlk s b n)) (wDat (sub (vAt I t) (rB (b, n))) (sub I.ds (rDs t b n)))) -∗ W c (k ⟨⟩) Q) -∗ W c (dat1 t s b n >>= k) Q) := by
  unfold dat1
  simp only [bind_assoc]
  iintro ⟨⟨Hy, Hs⟩, Ht⟩ Hk
  iapply (ld_part mAt (rSlot s) (rBlk s b n) h_S1x32x256 (fun x hx => (cv_blk s x).mpr ⟨(b, n), hx⟩) (rB (b, n)).emb (fun y => slot_blk s (b, n) y) (vAt I t) _) $$ Hy
  iintro Hy
  iapply (ld_in mDs (rDs t b n) h_S1x1x256 I.ds _) $$ Hs
  iintro Hs
  iapply (upd_rule mDat (rBlk s b n) h_S1x32x256 (st_dat s b n) _ _) $$ Ht
  iintro Ht
  iapply Hk
  isplitl [Hy Hs]
  · isplitl [Hy]; · iexact Hy
    iexact Hs
  iexact Ht

theorem stageB_rule (t : Fin 8) (s : Fin 2) (k : PUnit → P F α) :
    iprop(own c (mAt.access (rSlot s)) (vAt I t) ∗ own c mDs.view I.ds ∗ anyv c (mDat.access (rSlot s)))
      ⊢ iprop((iprop(own c (mAt.access (rSlot s)) (vAt I t) ∗ own c mDs.view I.ds ∗ own c (mDat.access (rSlot s)) (vDat I t)) -∗ W c (k ⟨⟩) Q)
          -∗ W c (stageB t s >>= k) Q) := by
  unfold stageB
  have hc : anyv c (mDat.access (rSlot s)) ⊢ (bigSep Finset.univ fun b : Fin 16 => bigSep Finset.univ fun n : Fin 2 => anyv c (mDat.access (rBlk s b n)) : sProp 𝕄) := by
    refine (any_cut (c := c) mDat (rBlkP s) (dj_blk s) (rSlot s) (cv_blk s)).trans ?_
    rw [bigSep_univ_prod]
  have hp : (bigSep Finset.univ fun b : Fin 16 => bigSep Finset.univ fun n : Fin 2 =>
      own c (mDat.access (rBlk s b n)) (wDat (sub (vAt I t) (rB (b, n))) (sub I.ds (rDs t b n))) : sProp 𝕄) ⊢ own c (mDat.access (rSlot s)) (vDat I t) := by
    have h := own_paste (c := c) mDat (rBlkP s) (dj_blk s) (rSlot s) (cv_blk s) (fun _ => dflt) (fun i => vDat I t (inSlot i))
      (fun p => wDat (sub (vAt I t) (rB p)) (sub I.ds (rDs t p.1 p.2)))
      (fun p y => (congrArg (vDat I t) (inSlot_blk s p y)).trans (glue_emb rB dj_b _ dflt p y))
    rw [bigSep_univ_prod, show sub (fun i => vDat I t (inSlot i)) (rSlot s) = vDat I t from funext fun y => congrArg (vDat I t) (inSlot_slot s y)] at h
    exact h
  iintro ⟨Hy, Hs, Ht⟩ Hk
  ihave Ht := hc $$ Ht
  iapply (each_rule (fun b k => each_rule (fun n k => dat1_rule (c := c) (Q := Q) I t s b n k) (l := [0, 1]) (by decide) (by decide) k)
    (List.nodup_finRange 16) (List.toFinset_finRange 16) k) $$ [Hy Hs Ht]
  · isplitl [Hy Hs]
    · isplitl [Hy]; · iexact Hy
      iexact Hs
    iexact Ht
  iintro ⟨⟨Hy, Hs⟩, Ht⟩
  iapply Hk
  isplitl [Hy]; · iexact Hy
  isplitl [Hs]; · iexact Hs
  iapply hp $$ Ht

/-! ### The first result's tiles -/

/-- The slot of the first result, held at anything; -/
def InFree (c : Dev nD) (s : Fin 2) : sProp 𝕄 := bigSep Finset.univ fun n : Fin 4 => anyv c (mIn.access (rIn s n))
/-- and holding the pieces of tile `t`. -/
def InReady (c : Dev nD) (t : Fin 8) (s : Fin 2) : sProp 𝕄 := bigSep Finset.univ fun n : Fin 4 => own c (inV s n).view (vIn I t n)

theorem in1_rule (t : Fin 8) (s : Fin 2) (n : Fin 4) (k : PUnit → P F α) :
    iprop(own c mGamc.view (vGamc I) ∗ anyv c (mIn.access (rIn s n)))
      ⊢ iprop((iprop(own c mGamc.view (vGamc I) ∗ own c (inV s n).view (vIn I t n)) -∗ W c (k ⟨⟩) Q) -∗ W c (in1 s (vI I t) n >>= k) Q) := by
  unfold in1
  simp only [bind_assoc]
  iintro ⟨Hg, Ht⟩ Hk
  iapply (ld_in mGamc rGamc h_S1024x128 (vGamc I) _) $$ Hg
  iintro Hg
  iapply (upd_rule mIn (rIn s n) h_S1x1x128x8x128 (st_in s n) _ _) $$ Ht
  iintro Ht
  iapply Hk
  isplitl [Hg]; · iexact Hg
  iapply (own_reshape (c := c) (mIn.access (rIn s n)) nm_in (wIn (vI I t) (sub (vGamc I) rGamc) n)) $$ Ht

theorem stageI_rule (t : Fin 8) (s : Fin 2) (k : PUnit → P F α) :
    iprop(own c (mDat.access (rSlot s)) (vDat I t) ∗ own c mXht.view (vXht I) ∗ own c mGamc.view (vGamc I) ∗ InFree c s)
      ⊢ iprop((iprop(own c (mDat.access (rSlot s)) (vDat I t) ∗ own c mXht.view (vXht I) ∗ own c mGamc.view (vGamc I) ∗ InReady I c t s) -∗ W c (k ⟨⟩) Q)
          -∗ W c (stageI s >>= k) Q) := by
  unfold stageI
  simp only [bind_assoc]
  iintro ⟨Hd, Hx, Hg, Ht⟩ Hk
  iapply (ld_in mXht rT h_S1024x512 (vXht I) _) $$ Hx
  iintro Hx
  iapply (ld_rule mDat (rSlot s) h_S1x512x512 (vDat I t) _) $$ Hd
  iintro Hd
  iapply (each_rule (fun n k => in1_rule (c := c) (Q := Q) I t s n k) (l := [0, 1, 2, 3]) (by decide) (by decide) k) $$ [Hg Ht]
  · isplitl [Hg]; · iexact Hg
    unfold InFree; iexact Ht
  iintro ⟨Hg, Ht⟩
  iapply Hk
  isplitl [Hd]; · iexact Hd
  isplitl [Hx]; · iexact Hx
  isplitl [Hg]; · iexact Hg
  unfold InReady; iexact Ht

/-! ### The sums -/

theorem stageZero_rule (k : PUnit → P F α) :
    anyv c mDht.view ⊢ iprop((own c mDht.view vD0 -∗ W c (k ⟨⟩) Q) -∗ W c (stageZero >>= k) Q) := by
  unfold stageZero
  exact upd_all mDht rT h_S1024x512 st_dht all_T _ vD0 (fun y => congrArg vD0 (emb_T y)) _

theorem stageH_rule (t : Fin 8) (s : Fin 2) (X : S1024x512.Idx → Elt F .f32) (k : PUnit → P F α) :
    iprop(own c (mWin.access (rWin t)) (vWin I t) ∗ own c mSin.view I.sin ∗ own c (mDat.access (rSlot s)) (vDat I t) ∗ own c mDht.view X)
      ⊢ iprop((iprop(own c (mWin.access (rWin t)) (vWin I t) ∗ own c mSin.view I.sin ∗ own c (mDat.access (rSlot s)) (vDat I t) ∗ own c mDht.view (accH I t X)) -∗ W c (k ⟨⟩) Q)
          -∗ W c (stageH t s >>= k) Q) := by
  unfold stageH
  simp only [bind_assoc]
  iintro ⟨Hw, Hs, Hd, Ht⟩ Hk
  iapply (ld_rule mWin (rWin t) h_S1x1024x512 (vWin I t) _) $$ Hw
  iintro Hw
  iapply (ld_in mSin (rSin t) h_S1x512 I.sin _) $$ Hs
  iintro Hs
  iapply (ld_in mDht rT h_S1024x512 X _) $$ Ht
  iintro Ht
  iapply (ld_rule mDat (rSlot s) h_S1x512x512 (vDat I t) _) $$ Hd
  iintro Hd
  ihave Ht := (own_any c mDht.view X) $$ Ht
  iapply (upd_all mDht rT h_S1024x512 st_dht all_T _ (accH I t X) (fun y => congrArg (accH I t X) (emb_T y)) _) $$ Ht
  iintro Ht
  iapply Hk
  isplitl [Hw]; · iexact Hw
  isplitl [Hs]; · iexact Hs
  isplitl [Hd]; · iexact Hd
  iexact Ht

theorem wqb1_rule (j : Fin 3) (h : Fin 2) (b : Fin 4) (k : PUnit → P F α) :
    iprop(own c mSq.view I.sq ∗ anyv c (mWqb.access (rWqb h b)))
      ⊢ iprop((iprop(own c mSq.view I.sq ∗ own c (mWqb.access (rWqb h b)) (wWqb (sub (vWq I j) (rWHead h b)) (sub I.sq (rSq j h b)))) -∗ W c (k ⟨⟩) Q)
          -∗ W c (wqb1 j h b (sub (vWq I j) (rWHead h b)) >>= k) Q) := by
  unfold wqb1
  simp only [bind_assoc]
  iintro ⟨Hs, Ht⟩ Hk
  iapply (ld_in mSq (rSq j h b) h_S1x128 I.sq _) $$ Hs
  iintro Hs
  iapply (upd_rule mWqb (rWqb h b) h_S1x1024x128 (st_wqb h b) _ _) $$ Ht
  iintro Ht
  iapply Hk
  isplitl [Hs]; · iexact Hs
  iexact Ht

theorem stageW_rule (j : Fin 3) (h : Fin 2) (k : PUnit → P F α) :
    iprop(own c (wqV j).view (vWq I j) ∗ own c mSq.view I.sq ∗ anyv c (mWqb.access (rWslot h)))
      ⊢ iprop((iprop(own c (wqV j).view (vWq I j) ∗ own c mSq.view I.sq ∗ own c (mWqb.access (rWslot h)) (sub (vWqb I j h) (rWslot h))) -∗ W c (k ⟨⟩) Q)
          -∗ W c (stageW j h >>= k) Q) := by
  have hp := own_paste (c := c) mWqb (rWqb h) (dj_wqb h) (rWslot h) (cv_wqb h) (fun _ => dflt) (vWqb I j h)
    (fun b => wWqb (sub (vWq I j) (rWHead h b)) (sub I.sq (rSq j h b))) (fun b y => glue_emb (rWqb h) (dj_wqb h) _ dflt b y)
  have hc := any_cut (F := F) (c := c) mWqb (rWqb h) (dj_wqb h) (rWslot h) (cv_wqb h)
  rw [sep_univ4] at hp hc
  unfold stageW
  simp only [bind_assoc]
  iintro ⟨Hg, Hs, Ht⟩ Hk
  iapply (ld_in (wqV j) (rWHead h 0) h_S1024x1x128 (vWq I j) _) $$ Hg
  iintro Hg
  iapply (ld_in (wqV j) (rWHead h 1) h_S1024x1x128 (vWq I j) _) $$ Hg
  iintro Hg
  iapply (ld_in (wqV j) (rWHead h 2) h_S1024x1x128 (vWq I j) _) $$ Hg
  iintro Hg
  iapply (ld_in (wqV j) (rWHead h 3) h_S1024x1x128 (vWq I j) _) $$ Hg
  iintro Hg
  ihave Ht := hc $$ Ht
  icases Ht with ⟨H0, H1, H2, H3⟩
  iapply (wqb1_rule I j h 0 _) $$ [Hs H0]
  · isplitl [Hs]; · iexact Hs
    iexact H0
  iintro ⟨Hs, H0⟩
  iapply (wqb1_rule I j h 1 _) $$ [Hs H1]
  · isplitl [Hs]; · iexact Hs
    iexact H1
  iintro ⟨Hs, H1⟩
  iapply (wqb1_rule I j h 2 _) $$ [Hs H2]
  · isplitl [Hs]; · iexact Hs
    iexact H2
  iintro ⟨Hs, H2⟩
  iapply (wqb1_rule I j h 3 _) $$ [Hs H3]
  · isplitl [Hs]; · iexact Hs
    iexact H3
  iintro ⟨Hs, H3⟩
  iapply Hk
  isplitl [Hg]; · iexact Hg
  isplitl [Hs]; · iexact Hs
  iapply hp
  isplitl [H0]; · iexact H0
  isplitl [H1]; · iexact H1
  isplitl [H2]; · iexact H2
  iexact H3

theorem stageRh_rule (j : Fin 3) (h : Fin 2) (X : S1024x512.Idx → Elt F .f32) (k : PUnit → P F α) :
    iprop(own c (mWqb.access (rWslot h)) (sub (vWqb I j h) (rWslot h)) ∗ own c (mVt.access (rSlot h)) (sub (vVt I j h) (rSlot h)) ∗ own c mDht.view X)
      ⊢ iprop((iprop(own c (mWqb.access (rWslot h)) (sub (vWqb I j h) (rWslot h)) ∗ own c (mVt.access (rSlot h)) (sub (vVt I j h) (rSlot h))
            ∗ own c mDht.view (accR I j h X)) -∗ W c (k ⟨⟩) Q)
          -∗ W c (stageRh h >>= k) Q) := by
  unfold stageRh
  simp only [bind_assoc]
  iintro ⟨Hw, Hv, Ht⟩ Hk
  iapply (ld_in mDht rT h_S1024x512 X _) $$ Ht
  iintro Ht
  iapply (ld_rule mWqb (rWslot h) h_S1x1024x512 _ _) $$ Hw
  iintro Hw
  iapply (ld_rule mVt (rSlot h) h_S1x512x512 _ _) $$ Hv
  iintro Hv
  ihave Ht := (own_any c mDht.view X) $$ Ht
  iapply (upd_all mDht rT h_S1024x512 st_dht all_T _ (accR I j h X) (fun y => congrArg (accR I j h X) (emb_T y)) _) $$ Ht
  iintro Ht
  iapply Hk
  isplitl [Hw]; · iexact Hw
  isplitl [Hv]; · iexact Hv
  iexact Ht

/-! ### `dgamma` -/

theorem dg1_rule (n : Fin 8) (k : PUnit → P F α) :
    iprop(iprop(own c mDht.view (vDh I) ∗ own c mXht.view (vXht I)) ∗ anyv c (mDg.access (rDg n)))
      ⊢ iprop((iprop(iprop(own c mDht.view (vDh I) ∗ own c mXht.view (vXht I)) ∗ own c (mDg.access (rDg n)) (vDgk I n)) -∗ W c (k ⟨⟩) Q)
          -∗ W c (dg1 n >>= k) Q) := by
  unfold dg1
  simp only [bind_assoc]
  iintro ⟨⟨Hd, Hx⟩, Ht⟩ Hk
  iapply (ld_in mDht (rBl n 0) h_S128x128 (vDh I) _) $$ Hd
  iintro Hd
  iapply (ld_in mXht (rBl n 0) h_S128x128 (vXht I) _) $$ Hx
  iintro Hx
  iapply (ld_in mDht (rBl n 1) h_S128x128 (vDh I) _) $$ Hd
  iintro Hd
  iapply (ld_in mXht (rBl n 1) h_S128x128 (vXht I) _) $$ Hx
  iintro Hx
  iapply (ld_in mDht (rBl n 2) h_S128x128 (vDh I) _) $$ Hd
  iintro Hd
  iapply (ld_in mXht (rBl n 2) h_S128x128 (vXht I) _) $$ Hx
  iintro Hx
  iapply (ld_in mDht (rBl n 3) h_S128x128 (vDh I) _) $$ Hd
  iintro Hd
  iapply (ld_in mXht (rBl n 3) h_S128x128 (vXht I) _) $$ Hx
  iintro Hx
  iapply (upd_rule mDg (rDg n) h_S1x128 (st_dg n) _ _) $$ Ht
  iintro Ht
  iapply Hk
  isplitl [Hd Hx]
  · isplitl [Hd]; · iexact Hd
    iexact Hx
  iexact Ht

theorem stageDg_rule (k : PUnit → P F α) :
    iprop(own c mDht.view (vDh I) ∗ own c mXht.view (vXht I) ∗ anyv c mDg.view)
      ⊢ iprop((iprop(own c mDht.view (vDh I) ∗ own c mXht.view (vXht I) ∗ own c mDg.view (vRes3 I)) -∗ W c (k ⟨⟩) Q) -∗ W c (stageDg >>= k) Q) := by
  unfold stageDg
  iintro ⟨Hd, Hx, Ht⟩ Hk
  ihave Ht := (any_cut_all (c := c) mDg rDg dj_dg cv_dg) $$ Ht
  iapply (each_rule (fun n k => dg1_rule (c := c) (Q := Q) I n k) (List.nodup_finRange 8) (List.toFinset_finRange 8) k) $$ [Hd Hx Ht]
  · isplitl [Hd Hx]
    · isplitl [Hd]; · iexact Hd
      iexact Hx
    iexact Ht
  iintro ⟨⟨Hd, Hx⟩, Ht⟩
  iapply Hk
  isplitl [Hd]; · iexact Hd
  isplitl [Hx]; · iexact Hx
  iapply (own_paste_all (c := c) mDg rDg dj_dg cv_dg (fun _ => dfl32) (vRes3 I) _ (fun n y => glue_emb rDg dj_dg _ dfl32 n y)) $$ Ht

end Cert.Kernel.Hand

end
-- ==== Proof.KCopies.lean ====
module

public import proofs.«01_k».proof.Proof.KRules

/-! One rule per copy or group of copies of the kernel's body. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-- A semaphore at zero. -/
abbrev zero (c : Dev nD) (sm : DmaSem sig) : sProp 𝕄 := semVal ((c : Thread nD τ), SemLoc.dma sm) 0

/-! ### Tiles of `g` and parts of `dqkv` -/

/-- Tile `t` of `g` in flight; -/
def GFly (c : Dev nD) (t : Fin 8) : sProp 𝕄 := flight c (gH t) (gV t) (sG t) (sub I.g (rGcol t))
/-- and arrived. -/
def GIn (c : Dev nD) (t : Fin 8) : sProp 𝕄 := iprop(own c (mG.access (rG t)) (vG I t) ∗ own c (gH t).view (sub I.g (rGcol t)) ∗ zero c (sG t))

theorem startG_rule (t : Fin 8) (k : PUnit → P F α) :
    iprop(own c (gH t).view (sub I.g (rGcol t)) ∗ anyv c (mG.access (rG t)) ∗ zero c (sG t))
      ⊢ iprop((GFly I c t -∗ W c (k ⟨⟩) Q) -∗ W c (startG t >>= k) Q) := by
  unfold startG GFly
  iintro ⟨Hh, Hv, Hs⟩ Hk
  iapply (dma_rule (c := c) (gH t) (gV t) (sG t) (wx_gH t) (wx_gV t) trivial (View.dmaCredit_pos _ (by decide)) (sub I.g (rGcol t)) k) $$ [Hh Hv Hs]
  · isplitl [Hh]; · iexact Hh
    isplitl [Hv]
    · iapply (any_reshape (c := c) (mG.access (rG t)) (s' := S512x512) nm_g) $$ Hv
    iexact Hs
  iexact Hk

theorem waitG_rule (t : Fin 8) (k : PUnit → P F α) :
    iprop(GFly I c t ∗ owesA c)
      ⊢ iprop((iprop(GIn I c t ∗ owesA c) -∗ W c (k ⟨⟩) Q) -∗ W c (waitG t >>= k) Q) := by
  unfold waitG GFly GIn
  iintro ⟨Hf, Ho⟩ Hk
  iapply (wt_rule (c := c) (gH t) (gV t) (sG t) (wx_gH t) (wx_gV t) (sub I.g (rGcol t)) k) $$ [Hf Ho]
  · isplitl [Hf]; · iexact Hf
    iexact Ho
  iintro ⟨⟨Hv, Hh⟩, Hs, Ho⟩
  iapply Hk
  isplitl [Hv Hh Hs]
  · isplitl [Hv]
    · iapply (reshape_own (c := c) (mG.access (rG t)) (s' := S512x512) nm_g (sub I.g (rGcol t))) $$ Hv
    isplitl [Hh]; · iexact Hh
    iexact Hs
  iexact Ho

/-- Part `j` of `dqkv` in flight; -/
def DqFly (c : Dev nD) (j : Fin 3) : sProp 𝕄 := flight c (dqH j) (dqV j) (sDq j) (vDq I j)
/-- and arrived. -/
def DqIn (c : Dev nD) (j : Fin 3) : sProp 𝕄 := iprop(own c (dqV j).view (vDq I j) ∗ own c (dqH j).view (vDq I j) ∗ zero c (sDq j))

theorem startDq_rule (j : Fin 3) (k : PUnit → P F α) :
    iprop(own c (mDqH.access (rDqH j)) (sub I.dq (rDqH j)) ∗ anyv c (mDq.access (rDq j)) ∗ zero c (sDq j))
      ⊢ iprop((DqFly I c j -∗ W c (k ⟨⟩) Q) -∗ W c (startDq j >>= k) Q) := by
  unfold startDq DqFly
  iintro ⟨Hh, Hv, Hs⟩ Hk
  iapply (dma_rule (c := c) (dqH j) (dqV j) (sDq j) (wx_dqH j) (wx_dqV j) trivial (View.dmaCredit_pos _ (by decide)) (vDq I j) k) $$ [Hh Hv Hs]
  · isplitl [Hh]
    · iapply (own_reshape (c := c) (mDqH.access (rDqH j)) (s' := S512x8x128) nm_dqh (sub I.dq (rDqH j))) $$ Hh
    isplitl [Hv]
    · iapply (any_reshape (c := c) (mDq.access (rDq j)) (s' := S512x8x128) nm_dq) $$ Hv
    iexact Hs
  iexact Hk

theorem waitDq_rule (j : Fin 3) (k : PUnit → P F α) :
    iprop(DqFly I c j ∗ owesA c)
      ⊢ iprop((iprop(DqIn I c j ∗ owesA c) -∗ W c (k ⟨⟩) Q) -∗ W c (waitDq j >>= k) Q) := by
  unfold waitDq DqFly DqIn
  iintro ⟨Hf, Ho⟩ Hk
  iapply (wt_rule (c := c) (dqH j) (dqV j) (sDq j) (wx_dqH j) (wx_dqV j) (vDq I j) k) $$ [Hf Ho]
  · isplitl [Hf]; · iexact Hf
    iexact Ho
  iintro ⟨⟨Hv, Hh⟩, Hs, Ho⟩
  iapply Hk
  isplitl [Hv Hh Hs]
  · isplitl [Hv]; · iexact Hv
    isplitl [Hh]; · iexact Hh
    iexact Hs
  iexact Ho

/-! ### The second result's tiles -/

/-- The units one piece adds to its semaphore. -/
abbrev nOut : ℕ := (outH 0 0).view.dmaCredit

theorem nOut_pos : 0 < nOut := View.dmaCredit_pos _ (by decide)
theorem nOut_eq (t n : Fin 8) : (outH t n).view.dmaCredit = nOut := rfl

/-- Row tile `t` of the second result, held at anything; -/
def HFree (c : Dev nD) (t : Fin 8) : sProp 𝕄 := bigSep Finset.univ fun n : Fin 8 => anyv c (outH t n).view
/-- written; -/
def HDone (c : Dev nD) (t : Fin 8) : sProp 𝕄 := bigSep Finset.univ fun n : Fin 8 => own c (outH t n).view (vOut I t n)
/-- and on its way from slot `s`. -/
abbrev outD (c : Dev nD) (t : Fin 8) (s : Fin 2) : Fin 8 → sProp 𝕄 := fun n => moved c (outV s n) (outH t n) (vOut I t n)
def OutFly (c : Dev nD) (t : Fin 8) (s : Fin 2) : sProp 𝕄 := batch c (sOut s) nOut (outD I c t s) 8 0

theorem startOut1_rule (t : Fin 8) (s : Fin 2) (n : Fin 8) (k : PUnit → P F α) :
    iprop(own c (outV s n).view (vOut I t n) ∗ anyv c (outH t n).view ∗ batch c (sOut s) nOut (outD I c t s) n.val 0)
      ⊢ iprop((batch c (sOut s) nOut (outD I c t s) (n.val + 1) 0 -∗ W c (k ⟨⟩) Q) -∗ W c (startOut1 t s n >>= k) Q) :=
  batch_dma (c := c) (outV s n) (outH t n) (sOut s) (wx_outV s n) (wx_outH t n) trivial (nOut_eq t n) n.isLt (Nat.zero_le _) (vOut I t n) .rfl k

theorem each_cons {β : Type} (a : β) (l : List β) (f : β → P F PUnit) (k : PUnit → P F α) :
    (each (a :: l) f >>= k) = (f a >>= fun _ => each l f >>= k) := Prog.bind_assoc _ _ _

theorem startOut_rule (t : Fin 8) (s : Fin 2) (k : PUnit → P F α) :
    iprop(OutReady I c t s ∗ HFree c t ∗ zero c (sOut s))
      ⊢ iprop((OutFly I c t s -∗ W c (k ⟨⟩) Q) -∗ W c (startOut t s >>= k) Q) := by
  unfold startOut OutReady HFree OutFly
  rw [sep_univ8, sep_univ8]
  simp only [each_cons]
  iintro ⟨⟨A0, A1, A2, A3, A4, A5, A6, A7⟩, ⟨B0, B1, B2, B3, B4, B5, B6, B7⟩, Hs⟩ Hk
  imod (batch_new (c := c) (sOut s) nOut (outD I c t s) (E := Set.univ)) $$ Hs with Hb
  iapply (startOut1_rule I t s 0 _) $$ [A0 B0 Hb]
  · isplitl [A0]; · iexact A0
    isplitl [B0]; · iexact B0
    iexact Hb
  iintro Hb
  iapply (startOut1_rule I t s 1 _) $$ [A1 B1 Hb]
  · isplitl [A1]; · iexact A1
    isplitl [B1]; · iexact B1
    iexact Hb
  iintro Hb
  iapply (startOut1_rule I t s 2 _) $$ [A2 B2 Hb]
  · isplitl [A2]; · iexact A2
    isplitl [B2]; · iexact B2
    iexact Hb
  iintro Hb
  iapply (startOut1_rule I t s 3 _) $$ [A3 B3 Hb]
  · isplitl [A3]; · iexact A3
    isplitl [B3]; · iexact B3
    iexact Hb
  iintro Hb
  iapply (startOut1_rule I t s 4 _) $$ [A4 B4 Hb]
  · isplitl [A4]; · iexact A4
    isplitl [B4]; · iexact B4
    iexact Hb
  iintro Hb
  iapply (startOut1_rule I t s 5 _) $$ [A5 B5 Hb]
  · isplitl [A5]; · iexact A5
    isplitl [B5]; · iexact B5
    iexact Hb
  iintro Hb
  iapply (startOut1_rule I t s 6 _) $$ [A6 B6 Hb]
  · isplitl [A6]; · iexact A6
    isplitl [B6]; · iexact B6
    iexact Hb
  iintro Hb
  iapply (startOut1_rule I t s 7 _) $$ [A7 B7 Hb]
  · isplitl [A7]; · iexact A7
    isplitl [B7]; · iexact B7
    iexact Hb
  iintro Hb
  iapply Hk
  iexact Hb

/-- One wait before the last. -/
theorem waitOut1_rule (t : Fin 8) (s : Fin 2) (n : Fin 8) (hn : n.val < 7) (k : PUnit → P F α) :
    iprop(batch c (sOut s) nOut (outD I c t s) 8 (n.val * nOut) ∗ owesA c)
      ⊢ iprop((iprop(batch c (sOut s) nOut (outD I c t s) 8 ((n.val + 1) * nOut) ∗ owesA c) -∗ W c (k ⟨⟩) Q) -∗ W c (waitOut1 t s n >>= k) Q) := by
  have h := batch_wt (c := c) (Q := Q) (outV s n) (outH t n) (sOut s) (wx_outV s n) (wx_outH t n) (nOut_eq t n) (D := outD I c t s) (u := n.val * nOut)
    (by have := nOut_pos; have h7 : n.val + 1 < 8 := by omega
        calc n.val * nOut + nOut = (n.val + 1) * nOut := (Nat.succ_mul _ _).symm
          _ < 8 * nOut := Nat.mul_lt_mul_of_pos_right h7 this
          _ = nOut * 8 := Nat.mul_comm _ _) k
  rw [← Nat.succ_mul] at h
  exact h

theorem waitOut_rule (t : Fin 8) (s : Fin 2) (k : PUnit → P F α) :
    iprop(OutFly I c t s ∗ owesA c)
      ⊢ iprop((iprop(HDone I c t ∗ OutFree c s ∗ zero c (sOut s) ∗ owesA c) -∗ W c (k ⟨⟩) Q) -∗ W c (waitOut t s >>= k) Q) := by
  have hmv : (bigSep Finset.univ (outD I c t s) : sProp 𝕄) ⊢ iprop(HDone I c t ∗ OutFree c s) := by
    unfold HDone OutFree
    refine .trans ?_ (.of_eq (bigSep_sep' Finset.univ _ _))
    refine bigSep_mono fun n _ => ?_
    show iprop(own c (outH t n).view (vOut I t n) ∗ own c (outV s n).view (vOut I t n)) ⊢ _
    iintro ⟨Hh, Hv⟩
    isplitl [Hh]; · iexact Hh
    ihave Hv := (reshape_own (c := c) (mOut.access (rOut s n)) (s' := S64x8x128) nm_out (vOut I t n)) $$ Hv
    iapply (own_any c (mOut.access (rOut s n))) $$ Hv
  have h0 := waitOut1_rule (c := c) (Q := Q) I t s 0 (by decide)
  rw [show ((0 : Fin 8).val * nOut) = 0 from Nat.zero_mul _] at h0
  unfold waitOut OutFly
  simp only [each_cons]
  iintro ⟨Hb, Ho⟩ Hk
  iapply (h0 _) $$ [Hb Ho]
  · isplitl [Hb]; · iexact Hb
    iexact Ho
  iintro ⟨Hb, Ho⟩
  iapply (waitOut1_rule I t s 1 (by decide) _) $$ [Hb Ho]
  · isplitl [Hb]; · iexact Hb
    iexact Ho
  iintro ⟨Hb, Ho⟩
  iapply (waitOut1_rule I t s 2 (by decide) _) $$ [Hb Ho]
  · isplitl [Hb]; · iexact Hb
    iexact Ho
  iintro ⟨Hb, Ho⟩
  iapply (waitOut1_rule I t s 3 (by decide) _) $$ [Hb Ho]
  · isplitl [Hb]; · iexact Hb
    iexact Ho
  iintro ⟨Hb, Ho⟩
  iapply (waitOut1_rule I t s 4 (by decide) _) $$ [Hb Ho]
  · isplitl [Hb]; · iexact Hb
    iexact Ho
  iintro ⟨Hb, Ho⟩
  iapply (waitOut1_rule I t s 5 (by decide) _) $$ [Hb Ho]
  · isplitl [Hb]; · iexact Hb
    iexact Ho
  iintro ⟨Hb, Ho⟩
  iapply (waitOut1_rule I t s 6 (by decide) _) $$ [Hb Ho]
  · isplitl [Hb]; · iexact Hb
    iexact Ho
  iintro ⟨Hb, Ho⟩
  iapply (batch_wtLast (c := c) (outV s 7) (outH t 7) (sOut s) (wx_outV s 7) (wx_outH t 7) (nOut_eq t 7) nOut_pos (D := outD I c t s)
    (u := 7 * nOut) (by rw [← Nat.succ_mul]; exact Nat.mul_comm _ _) _) $$ [Hb Ho]
  · isplitl [Hb]; · iexact Hb
    iexact Ho
  iintro ⟨HD, Hs, Ho⟩
  ihave HD := hmv $$ HD
  icases HD with ⟨HD, HF⟩
  iapply Hk
  isplitl [HD]; · iexact HD
  isplitl [HF]; · iexact HF
  isplitl [Hs]; · iexact Hs
  iexact Ho

/-! ### The third result's parts -/

/-- The units one part adds to the semaphore. -/
abbrev nQkv : ℕ := (qkvH 0).view.dmaCredit

theorem nQkv_pos : 0 < nQkv := View.dmaCredit_pos _ (by decide)
theorem nQkv_eq (j : Fin 3) : (qkvH j).view.dmaCredit = nQkv := rfl

/-- The three copies of the third result, `i` of them started and `u` units waited for. -/
abbrev qkvD (c : Dev nD) : Fin 3 → sProp 𝕄 := fun j => moved c (qkvV j) (qkvH j) (vQkv I j)
def QFly (c : Dev nD) (i u : ℕ) : sProp 𝕄 := batch c sQkv nQkv (qkvD I c) i u

theorem qkv_paste (j : Fin 3) : iprop(QDone I c j 0 ∗ QDone I c j 1) ⊢ (own c (qkvV j).view (vQkv I j) : sProp 𝕄) := by
  have h : iprop(QDone I c j 0 ∗ QDone I c j 1) ⊢ (own c (mQkv.access (rQkvS j)) (sub (vQkvS I j) (rQkvS j)) : sProp 𝕄) := by
    refine .trans ?_ (own_paste (c := c) mQkv (rQkvP j) (dj_qkv j) (rQkvS j) (cv_qkv j) (fun _ => dflt) (vQkvS I j) _
      (fun p y => glue_emb (rQkvP j) (dj_qkv j) _ dflt p y))
    rw [bigSep_univ_prod]
    refine .trans ?_ (.of_eq (sep_univ2 fun h : Fin 2 => bigSep Finset.univ fun p : Fin 2 => own c (mQkv.access (rQkv j h p)) (vPair I j h p)).symm)
    have e := fun h : Fin 2 => (sep_univ2 (F := F) fun p : Fin 2 => own c (mQkv.access (rQkv j h p)) (vPair I j h p))
    rw [e 0, e 1]
    unfold QDone
    exact .rfl
  exact h.trans (own_reshape (c := c) (mQkv.access (rQkvS j)) (s' := S1024x8x128) nm_qkvs (sub (vQkvS I j) (rQkvS j)))

theorem startQkv_rule (j : Fin 3) (k : PUnit → P F α) :
    iprop(QDone I c j 0 ∗ QDone I c j 1 ∗ anyv c (mQkvH.access (rQkvH j)) ∗ QFly I c j.val 0)
      ⊢ iprop((QFly I c (j.val + 1) 0 -∗ W c (k ⟨⟩) Q) -∗ W c (startQkv j >>= k) Q) := by
  unfold startQkv QFly
  iintro ⟨H0, H1, Hh, Hb⟩ Hk
  iapply (batch_dma (c := c) (qkvV j) (qkvH j) sQkv (wx_qkvV j) (wx_qkvH j) trivial (nQkv_eq j) j.isLt (Nat.zero_le _) (D := qkvD I c) (vQkv I j) .rfl k) $$ [H0 H1 Hh Hb]
  · isplitl [H0 H1]
    · iapply (qkv_paste (c := c) I j)
      isplitl [H0]; · iexact H0
      iexact H1
    isplitl [Hh]
    · iapply (any_reshape (c := c) (mQkvH.access (rQkvH j)) (s' := S1024x8x128) nm_qkvh) $$ Hh
    iexact Hb
  iexact Hk

theorem waitQkvs_rule (k : PUnit → P F α) :
    iprop(QFly I c 3 0 ∗ owesA c)
      ⊢ iprop((iprop(bigSep Finset.univ (qkvD I c) ∗ zero c sQkv ∗ owesA c) -∗ W c (k ⟨⟩) Q)
          -∗ W c (waitQkv 0 >>= fun _ => waitQkv 1 >>= fun _ => waitQkv 2 >>= k) Q) := by
  have hp := nQkv_pos
  unfold waitQkv QFly
  iintro ⟨Hb, Ho⟩ Hk
  iapply (batch_wt (c := c) (qkvV 0) (qkvH 0) sQkv (wx_qkvV 0) (wx_qkvH 0) (nQkv_eq 0) (D := qkvD I c) (u := 0) (by omega) _) $$ [Hb Ho]
  · isplitl [Hb]; · iexact Hb
    iexact Ho
  iintro ⟨Hb, Ho⟩
  iapply (batch_wt (c := c) (qkvV 1) (qkvH 1) sQkv (wx_qkvV 1) (wx_qkvH 1) (nQkv_eq 1) (D := qkvD I c) (u := 0 + nQkv) (by omega) _) $$ [Hb Ho]
  · isplitl [Hb]; · iexact Hb
    iexact Ho
  iintro ⟨Hb, Ho⟩
  iapply (batch_wtLast (c := c) (qkvV 2) (qkvH 2) sQkv (wx_qkvV 2) (wx_qkvH 2) (nQkv_eq 2) hp (D := qkvD I c) (u := 0 + nQkv + nQkv) (by omega) _) $$ [Hb Ho]
  · isplitl [Hb]; · iexact Hb
    iexact Ho
  iexact Hk

end Cert.Kernel.Hand

end
-- ==== Proof.KCopiesB.lean ====
module

public import proofs.«01_k».proof.Proof.KRulesB
public import proofs.«01_k».proof.Proof.KCopies

/-! One rule per copy or group of copies of the work on `da`. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-! ### Tiles of `da` and `w_in`, parts of `w_qkv` -/

/-- Tile `t` of the codes of `da` in flight; -/
def AFly (c : Dev nD) (t : Fin 8) : sProp 𝕄 := flight c (aH t) (aV t) (sA t) (sub I.a (rGcol t))
/-- and arrived. -/
def AIn (c : Dev nD) (t : Fin 8) : sProp 𝕄 := iprop(own c (mA.access (rG t)) (vA I t) ∗ own c (aH t).view (sub I.a (rGcol t)) ∗ zero c (sA t))

theorem startA_rule (t : Fin 8) (k : PUnit → P F α) :
    iprop(own c (aH t).view (sub I.a (rGcol t)) ∗ anyv c (mA.access (rG t)) ∗ zero c (sA t))
      ⊢ iprop((AFly I c t -∗ W c (k ⟨⟩) Q) -∗ W c (startA t >>= k) Q) := by
  unfold startA AFly
  iintro ⟨Hh, Hv, Hs⟩ Hk
  iapply (dma_rule (c := c) (aH t) (aV t) (sA t) (wx_aH t) (wx_aV t) trivial (View.dmaCredit_pos _ (by decide)) (sub I.a (rGcol t)) k) $$ [Hh Hv Hs]
  · isplitl [Hh]; · iexact Hh
    isplitl [Hv]
    · iapply (any_reshape (c := c) (mA.access (rG t)) (s' := S512x512) nm_g) $$ Hv
    iexact Hs
  iexact Hk

theorem waitA_rule (t : Fin 8) (k : PUnit → P F α) :
    iprop(AFly I c t ∗ owesA c)
      ⊢ iprop((iprop(AIn I c t ∗ owesA c) -∗ W c (k ⟨⟩) Q) -∗ W c (waitA t >>= k) Q) := by
  unfold waitA AFly AIn
  iintro ⟨Hf, Ho⟩ Hk
  iapply (wt_rule (c := c) (aH t) (aV t) (sA t) (wx_aH t) (wx_aV t) (sub I.a (rGcol t)) k) $$ [Hf Ho]
  · isplitl [Hf]; · iexact Hf
    iexact Ho
  iintro ⟨⟨Hv, Hh⟩, Hs, Ho⟩
  iapply Hk
  isplitl [Hv Hh Hs]
  · isplitl [Hv]
    · iapply (reshape_own (c := c) (mA.access (rG t)) (s' := S512x512) nm_g (sub I.a (rGcol t))) $$ Hv
    isplitl [Hh]; · iexact Hh
    iexact Hs
  iexact Ho

/-- Tile `t` of `w_in` in flight; -/
def WinFly (c : Dev nD) (t : Fin 8) : sProp 𝕄 := flight c (winH t) (winV t) (sWin t) (sub I.win (rWinH t))
/-- and arrived. -/
def WinIn (c : Dev nD) (t : Fin 8) : sProp 𝕄 := iprop(own c (mWin.access (rWin t)) (vWin I t) ∗ own c (winH t).view (sub I.win (rWinH t)) ∗ zero c (sWin t))

theorem startWin_rule (t : Fin 8) (k : PUnit → P F α) :
    iprop(own c (winH t).view (sub I.win (rWinH t)) ∗ anyv c (mWin.access (rWin t)) ∗ zero c (sWin t))
      ⊢ iprop((WinFly I c t -∗ W c (k ⟨⟩) Q) -∗ W c (startWin t >>= k) Q) := by
  unfold startWin WinFly
  iintro ⟨Hh, Hv, Hs⟩ Hk
  iapply (dma_rule (c := c) (winH t) (winV t) (sWin t) (wx_winH t) (wx_winV t) trivial (View.dmaCredit_pos _ (by decide)) (sub I.win (rWinH t)) k) $$ [Hh Hv Hs]
  · isplitl [Hh]; · iexact Hh
    isplitl [Hv]
    · iapply (any_reshape (c := c) (mWin.access (rWin t)) (s' := S1024x512) nm_win) $$ Hv
    iexact Hs
  iexact Hk

theorem waitWin_rule (t : Fin 8) (k : PUnit → P F α) :
    iprop(WinFly I c t ∗ owesA c)
      ⊢ iprop((iprop(WinIn I c t ∗ owesA c) -∗ W c (k ⟨⟩) Q) -∗ W c (waitWin t >>= k) Q) := by
  unfold waitWin WinFly WinIn
  iintro ⟨Hf, Ho⟩ Hk
  iapply (wt_rule (c := c) (winH t) (winV t) (sWin t) (wx_winH t) (wx_winV t) (sub I.win (rWinH t)) k) $$ [Hf Ho]
  · isplitl [Hf]; · iexact Hf
    iexact Ho
  iintro ⟨⟨Hv, Hh⟩, Hs, Ho⟩
  iapply Hk
  isplitl [Hv Hh Hs]
  · isplitl [Hv]
    · iapply (reshape_own (c := c) (mWin.access (rWin t)) (s' := S1024x512) nm_win (sub I.win (rWinH t))) $$ Hv
    isplitl [Hh]; · iexact Hh
    iexact Hs
  iexact Ho

/-- Part `j` of `w_qkv` in flight; -/
def WqFly (c : Dev nD) (j : Fin 3) : sProp 𝕄 := flight c (wqH j) (wqV j) (sWq j) (vWq I j)
/-- and arrived. -/
def WqIn (c : Dev nD) (j : Fin 3) : sProp 𝕄 := iprop(own c (wqV j).view (vWq I j) ∗ own c (wqH j).view (vWq I j) ∗ zero c (sWq j))

theorem startWq_rule (j : Fin 3) (k : PUnit → P F α) :
    iprop(own c (mWqH.access (rQkvH j)) (sub I.wq (rQkvH j)) ∗ anyv c (mWq.access (rQkvS j)) ∗ zero c (sWq j))
      ⊢ iprop((WqFly I c j -∗ W c (k ⟨⟩) Q) -∗ W c (startWq j >>= k) Q) := by
  unfold startWq WqFly
  iintro ⟨Hh, Hv, Hs⟩ Hk
  iapply (dma_rule (c := c) (wqH j) (wqV j) (sWq j) (wx_wqH j) (wx_wqV j) trivial (View.dmaCredit_pos _ (by decide)) (vWq I j) k) $$ [Hh Hv Hs]
  · isplitl [Hh]
    · iapply (own_reshape (c := c) (mWqH.access (rQkvH j)) (s' := S1024x8x128) nm_qkvh (sub I.wq (rQkvH j))) $$ Hh
    isplitl [Hv]
    · iapply (any_reshape (c := c) (mWq.access (rQkvS j)) (s' := S1024x8x128) nm_qkvs) $$ Hv
    iexact Hs
  iexact Hk

theorem waitWq_rule (j : Fin 3) (k : PUnit → P F α) :
    iprop(WqFly I c j ∗ owesA c)
      ⊢ iprop((iprop(WqIn I c j ∗ owesA c) -∗ W c (k ⟨⟩) Q) -∗ W c (waitWq j >>= k) Q) := by
  unfold waitWq WqFly WqIn
  iintro ⟨Hf, Ho⟩ Hk
  iapply (wt_rule (c := c) (wqH j) (wqV j) (sWq j) (wx_wqH j) (wx_wqV j) (vWq I j) k) $$ [Hf Ho]
  · isplitl [Hf]; · iexact Hf
    iexact Ho
  iintro ⟨⟨Hv, Hh⟩, Hs, Ho⟩
  iapply Hk
  isplitl [Hv Hh Hs]
  · isplitl [Hv]; · iexact Hv
    isplitl [Hh]; · iexact Hh
    iexact Hs
  iexact Ho

/-! ### Tiles and parts wanted together -/

/-- Tiles `t` of `da` and of `g` in flight; -/
def AGFly (c : Dev nD) (t : Fin 8) : sProp 𝕄 := iprop(AFly I c t ∗ GFly I c t)
/-- and arrived. -/
def AGIn (c : Dev nD) (t : Fin 8) : sProp 𝕄 := iprop(AIn I c t ∗ GIn I c t)
/-- What starting them takes. -/
def AGFree (c : Dev nD) (t : Fin 8) : sProp 𝕄 :=
  iprop((own c (aH t).view (sub I.a (rGcol t)) ∗ anyv c (mA.access (rG t)) ∗ zero c (sA t))
    ∗ (own c (gH t).view (sub I.g (rGcol t)) ∗ anyv c (mG.access (rG t)) ∗ zero c (sG t)))

theorem startAG_rule (t : Fin 8) (k : PUnit → P F α) :
    AGFree I c t ⊢ iprop((AGFly I c t -∗ W c (k ⟨⟩) Q) -∗ W c (startAG t >>= k) Q) := by
  unfold startAG AGFree AGFly
  simp only [bind_assoc]
  iintro ⟨Ha, Hg⟩ Hk
  iapply (startA_rule I t _) $$ Ha
  iintro Ha
  iapply (startG_rule I t _) $$ Hg
  iintro Hg
  iapply Hk
  iframe

theorem waitAG_rule (t : Fin 8) (k : PUnit → P F α) :
    iprop(AGFly I c t ∗ owesA c) ⊢ iprop((iprop(AGIn I c t ∗ owesA c) -∗ W c (k ⟨⟩) Q) -∗ W c (waitAG t >>= k) Q) := by
  unfold waitAG AGFly AGIn
  simp only [bind_assoc]
  iintro ⟨⟨Ha, Hg⟩, Ho⟩ Hk
  iapply (waitA_rule I t _) $$ [Ha Ho]
  · iframe
  iintro ⟨Ha, Ho⟩
  iapply (waitG_rule I t _) $$ [Hg Ho]
  · iframe
  iintro ⟨Hg, Ho⟩
  iapply Hk
  iframe

/-- Parts `j` of `dqkv` and of `w_qkv` in flight; -/
def DWFly (c : Dev nD) (j : Fin 3) : sProp 𝕄 := iprop(DqFly I c j ∗ WqFly I c j)
/-- and arrived. -/
def DWIn (c : Dev nD) (j : Fin 3) : sProp 𝕄 := iprop(DqIn I c j ∗ WqIn I c j)
/-- What starting them takes. -/
def DWFree (c : Dev nD) (j : Fin 3) : sProp 𝕄 :=
  iprop((own c (mDqH.access (rDqH j)) (sub I.dq (rDqH j)) ∗ anyv c (mDq.access (rDq j)) ∗ zero c (sDq j))
    ∗ (own c (mWqH.access (rQkvH j)) (sub I.wq (rQkvH j)) ∗ anyv c (mWq.access (rQkvS j)) ∗ zero c (sWq j)))

theorem startDW_rule (j : Fin 3) (k : PUnit → P F α) :
    DWFree I c j ⊢ iprop((DWFly I c j -∗ W c (k ⟨⟩) Q) -∗ W c (startDW j >>= k) Q) := by
  unfold startDW DWFree DWFly
  simp only [bind_assoc]
  iintro ⟨Ha, Hg⟩ Hk
  iapply (startDq_rule I j _) $$ Ha
  iintro Ha
  iapply (startWq_rule I j _) $$ Hg
  iintro Hg
  iapply Hk
  iframe

theorem waitDW_rule (j : Fin 3) (k : PUnit → P F α) :
    iprop(DWFly I c j ∗ owesA c) ⊢ iprop((iprop(DWIn I c j ∗ owesA c) -∗ W c (k ⟨⟩) Q) -∗ W c (waitDW j >>= k) Q) := by
  unfold waitDW DWFly DWIn
  simp only [bind_assoc]
  iintro ⟨⟨Ha, Hg⟩, Ho⟩ Hk
  iapply (waitDq_rule I j _) $$ [Ha Ho]
  · iframe
  iintro ⟨Ha, Ho⟩
  iapply (waitWq_rule I j _) $$ [Hg Ho]
  · iframe
  iintro ⟨Hg, Ho⟩
  iapply Hk
  iframe

/-! ### The first result's tiles -/

/-- The units one piece adds to its semaphore. -/
abbrev nIn : ℕ := (inH 0 0).view.dmaCredit

theorem nIn_pos : 0 < nIn := View.dmaCredit_pos _ (by decide)
theorem nIn_eq (t : Fin 8) (n : Fin 4) : (inH t n).view.dmaCredit = nIn := rfl

/-- Column tile `t` of the first result, held at anything; -/
def IFree (c : Dev nD) (t : Fin 8) : sProp 𝕄 := bigSep Finset.univ fun n : Fin 4 => anyv c (inH t n).view
/-- written; -/
def IDone (c : Dev nD) (t : Fin 8) : sProp 𝕄 := bigSep Finset.univ fun n : Fin 4 => own c (inH t n).view (vIn I t n)
/-- and on its way from slot `s`. -/
abbrev inD (c : Dev nD) (t : Fin 8) (s : Fin 2) : Fin 4 → sProp 𝕄 := fun n => moved c (inV s n) (inH t n) (vIn I t n)
def InFly (c : Dev nD) (t : Fin 8) (s : Fin 2) : sProp 𝕄 := batch c (sIn s) nIn (inD I c t s) 4 0

theorem startIn1_rule (t : Fin 8) (s : Fin 2) (n : Fin 4) (k : PUnit → P F α) :
    iprop(own c (inV s n).view (vIn I t n) ∗ anyv c (inH t n).view ∗ batch c (sIn s) nIn (inD I c t s) n.val 0)
      ⊢ iprop((batch c (sIn s) nIn (inD I c t s) (n.val + 1) 0 -∗ W c (k ⟨⟩) Q) -∗ W c (startIn1 t s n >>= k) Q) :=
  batch_dma (c := c) (inV s n) (inH t n) (sIn s) (wx_inV s n) (wx_inH t n) trivial (nIn_eq t n) n.isLt (Nat.zero_le _) (vIn I t n) .rfl k

theorem startIn_rule (t : Fin 8) (s : Fin 2) (k : PUnit → P F α) :
    iprop(InReady I c t s ∗ IFree c t ∗ zero c (sIn s))
      ⊢ iprop((InFly I c t s -∗ W c (k ⟨⟩) Q) -∗ W c (startIn t s >>= k) Q) := by
  unfold startIn InReady IFree InFly
  rw [sep_univ4, sep_univ4]
  simp only [each_cons]
  iintro ⟨⟨A0, A1, A2, A3⟩, ⟨B0, B1, B2, B3⟩, Hs⟩ Hk
  imod (batch_new (c := c) (sIn s) nIn (inD I c t s) (E := Set.univ)) $$ Hs with Hb
  iapply (startIn1_rule I t s 0 _) $$ [A0 B0 Hb]
  · isplitl [A0]; · iexact A0
    isplitl [B0]; · iexact B0
    iexact Hb
  iintro Hb
  iapply (startIn1_rule I t s 1 _) $$ [A1 B1 Hb]
  · isplitl [A1]; · iexact A1
    isplitl [B1]; · iexact B1
    iexact Hb
  iintro Hb
  iapply (startIn1_rule I t s 2 _) $$ [A2 B2 Hb]
  · isplitl [A2]; · iexact A2
    isplitl [B2]; · iexact B2
    iexact Hb
  iintro Hb
  iapply (startIn1_rule I t s 3 _) $$ [A3 B3 Hb]
  · isplitl [A3]; · iexact A3
    isplitl [B3]; · iexact B3
    iexact Hb
  iintro Hb
  iapply Hk
  iexact Hb

/-- One wait before the last. -/
theorem waitIn1_rule (t : Fin 8) (s : Fin 2) (n : Fin 4) (hn : n.val < 3) (k : PUnit → P F α) :
    iprop(batch c (sIn s) nIn (inD I c t s) 4 (n.val * nIn) ∗ owesA c)
      ⊢ iprop((iprop(batch c (sIn s) nIn (inD I c t s) 4 ((n.val + 1) * nIn) ∗ owesA c) -∗ W c (k ⟨⟩) Q) -∗ W c (waitIn1 t s n >>= k) Q) := by
  have h := batch_wt (c := c) (Q := Q) (inV s n) (inH t n) (sIn s) (wx_inV s n) (wx_inH t n) (nIn_eq t n) (D := inD I c t s) (u := n.val * nIn)
    (by have := nIn_pos; have h7 : n.val + 1 < 4 := by omega
        calc n.val * nIn + nIn = (n.val + 1) * nIn := (Nat.succ_mul _ _).symm
          _ < 4 * nIn := Nat.mul_lt_mul_of_pos_right h7 this
          _ = nIn * 4 := Nat.mul_comm _ _) k
  rw [← Nat.succ_mul] at h
  exact h

theorem waitIn_rule (t : Fin 8) (s : Fin 2) (k : PUnit → P F α) :
    iprop(InFly I c t s ∗ owesA c)
      ⊢ iprop((iprop(IDone I c t ∗ InFree c s ∗ zero c (sIn s) ∗ owesA c) -∗ W c (k ⟨⟩) Q) -∗ W c (waitIn t s >>= k) Q) := by
  have hmv : (bigSep Finset.univ (inD I c t s) : sProp 𝕄) ⊢ iprop(IDone I c t ∗ InFree c s) := by
    unfold IDone InFree
    refine .trans ?_ (.of_eq (bigSep_sep' Finset.univ _ _))
    refine bigSep_mono fun n _ => ?_
    show iprop(own c (inH t n).view (vIn I t n) ∗ own c (inV s n).view (vIn I t n)) ⊢ _
    iintro ⟨Hh, Hv⟩
    isplitl [Hh]; · iexact Hh
    ihave Hv := (reshape_own (c := c) (mIn.access (rIn s n)) (s' := S128x8x128) nm_in (vIn I t n)) $$ Hv
    iapply (own_any c (mIn.access (rIn s n))) $$ Hv
  have h0 := waitIn1_rule (c := c) (Q := Q) I t s 0 (by decide)
  rw [show ((0 : Fin 4).val * nIn) = 0 from Nat.zero_mul _] at h0
  unfold waitIn InFly
  simp only [each_cons]
  iintro ⟨Hb, Ho⟩ Hk
  iapply (h0 _) $$ [Hb Ho]
  · isplitl [Hb]; · iexact Hb
    iexact Ho
  iintro ⟨Hb, Ho⟩
  iapply (waitIn1_rule I t s 1 (by decide) _) $$ [Hb Ho]
  · isplitl [Hb]; · iexact Hb
    iexact Ho
  iintro ⟨Hb, Ho⟩
  iapply (waitIn1_rule I t s 2 (by decide) _) $$ [Hb Ho]
  · isplitl [Hb]; · iexact Hb
    iexact Ho
  iintro ⟨Hb, Ho⟩
  iapply (batch_wtLast (c := c) (inV s 3) (inH t 3) (sIn s) (wx_inV s 3) (wx_inH t 3) (nIn_eq t 3) nIn_pos (D := inD I c t s)
    (u := 3 * nIn) (by rw [← Nat.succ_mul]; exact Nat.mul_comm _ _) _) $$ [Hb Ho]
  · isplitl [Hb]; · iexact Hb
    iexact Ho
  iintro ⟨HD, Hs, Ho⟩
  ihave HD := hmv $$ HD
  icases HD with ⟨HD, HF⟩
  iapply Hk
  isplitl [HD]; · iexact HD
  isplitl [HF]; · iexact HF
  isplitl [Hs]; · iexact Hs
  iexact Ho

/-! ### `dgamma` -/

/-- `dgamma` on its way. -/
def LastFly (c : Dev nD) : sProp 𝕄 := flight c mDg mDgH sLast (vRes3 I)

theorem startLast_rule (k : PUnit → P F α) :
    iprop(own c mDg.view (vRes3 I) ∗ anyv c mDgH.view ∗ zero c sLast)
      ⊢ iprop((LastFly I c -∗ W c (k ⟨⟩) Q) -∗ W c (startLast >>= k) Q) := by
  unfold startLast LastFly
  exact dma_rule (c := c) mDg mDgH sLast _ _ trivial (View.dmaCredit_pos _ (by decide)) (vRes3 I) k

theorem waitLast_rule (k : PUnit → P F α) :
    iprop(LastFly I c ∗ owesA c)
      ⊢ iprop((iprop(moved c mDg mDgH (vRes3 I) ∗ zero c sLast ∗ owesA c) -∗ W c (k ⟨⟩) Q) -∗ W c (waitLast >>= k) Q) := by
  unfold waitLast LastFly
  exact wt_rule (c := c) mDg mDgH sLast _ _ (vRes3 I) k

end Cert.Kernel.Hand

end
-- ==== Proof.KDx.lean ====
module

public import proofs.«01_k».proof.Proof.KCopiesB

/-! The stage that writes `dx`, and the copies that move it out. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-! ### The stage -/

/-- What the stage reads. -/
def DxSrc (c : Dev nD) : sProp 𝕄 :=
  iprop(own c mDht.view (vDh I) ∗ own c mGamc.view (vGamc I) ∗ own c mXht.view (vXht I) ∗ own c mDyt.view (vDyt I) ∗ own c mRs.view I.rs)

theorem rowsDx_rule (n : Fin 4) (l : List (Fin 128)) (a : Acc F) (k : Acc F → P F α) :
    DxSrc I c ⊢ iprop((DxSrc I c -∗ W c (k (l.foldl (stepDx I n) a)) Q) -∗ W c (rowsDx n l a >>= k) Q) := by
  induction l generalizing a with
  | nil =>
    change DxSrc I c ⊢ iprop((DxSrc I c -∗ W c (k a) Q) -∗ W c (k a) Q)
    iintro H Hk
    iapply Hk
    iexact H
  | cons b l ih =>
    unfold rowsDx
    simp only [bind_assoc]
    iintro H Hk
    unfold DxSrc
    icases H with ⟨Hd, Hg, Hx, Hy, Hr⟩
    iapply (ld_in mDht (rRow8 n b) h_S8x128 (vDh I) _) $$ Hd
    iintro Hd
    iapply (ld_in mGamc (rGam8 b) h_S8x128 (vGamc I) _) $$ Hg
    iintro Hg
    iapply (ld_in mXht (rRow8 n b) h_S8x128 (vXht I) _) $$ Hx
    iintro Hx
    iapply (ih (stepDx I n a b)) $$ [Hd Hg Hx Hy Hr]
    · unfold DxSrc
      isplitl [Hd]; · iexact Hd
      isplitl [Hg]; · iexact Hg
      isplitl [Hx]; · iexact Hx
      isplitl [Hy]; · iexact Hy
      iexact Hr
    unfold DxSrc
    iexact Hk

theorem dx1_rule (n : Fin 4) (b : Fin 8) (k : PUnit → P F α) :
    iprop(DxSrc I c ∗ anyv c (mDx.access (rDx n b)))
      ⊢ iprop((iprop(DxSrc I c ∗ own c (mDx.access (rDx n b)) (vDxk I n b)) -∗ W c (k ⟨⟩) Q)
          -∗ W c (dx1 n (vM1 I n) (vM2 I n) (sub I.rs (rRs n)) b >>= k) Q) := by
  unfold dx1 DxSrc
  simp only [bind_assoc]
  iintro ⟨⟨Hd, Hg, Hx, Hy, Hr⟩, Ht⟩ Hk
  iapply (ld_in mDht (rBl b n) h_S128x128 (vDh I) _) $$ Hd
  iintro Hd
  iapply (ld_in mGamc (rGam128 b) h_S128x128 (vGamc I) _) $$ Hg
  iintro Hg
  iapply (ld_in mXht (rBl b n) h_S128x128 (vXht I) _) $$ Hx
  iintro Hx
  iapply (ld_in mDyt (rBl b n) h_S128x128 (vDyt I) _) $$ Hy
  iintro Hy
  iapply (upd_rule mDx (rDx n b) h_S1x16x8x128 (st_dx n b) _ _) $$ Ht
  iintro Ht
  iapply Hk
  isplitl [Hd Hg Hx Hy Hr]
  · isplitl [Hd]; · iexact Hd
    isplitl [Hg]; · iexact Hg
    isplitl [Hx]; · iexact Hx
    isplitl [Hy]; · iexact Hy
    iexact Hr
  iexact Ht

theorem dxLane_rule (n : Fin 4) (k : PUnit → P F α) :
    iprop(DxSrc I c ∗ bigSep Finset.univ fun b : Fin 8 => anyv c (mDx.access (rDx n b)))
      ⊢ iprop((iprop(DxSrc I c ∗ bigSep Finset.univ fun b : Fin 8 => own c (mDx.access (rDx n b)) (vDxk I n b)) -∗ W c (k ⟨⟩) Q)
          -∗ W c (dxLane n >>= k) Q) := by
  unfold dxLane
  simp only [bind_assoc]
  iintro ⟨H, Ht⟩ Hk
  iapply (rowsDx_rule I n (List.finRange 128) acc0 _) $$ H
  iintro H
  unfold DxSrc
  icases H with ⟨Hd, Hg, Hx, Hy, Hr⟩
  iapply (ld_in mRs (rRs n) h_S1x128 I.rs _) $$ Hr
  iintro Hr
  iapply (each_rule (fun b k => dx1_rule (c := c) (Q := Q) I n b k) (List.nodup_finRange 8) (List.toFinset_finRange 8) k) $$ [Hd Hg Hx Hy Hr Ht]
  · isplitl [Hd Hg Hx Hy Hr]
    · unfold DxSrc
      isplitl [Hd]; · iexact Hd
      isplitl [Hg]; · iexact Hg
      isplitl [Hx]; · iexact Hx
      isplitl [Hy]; · iexact Hy
      iexact Hr
    iexact Ht
  unfold DxSrc
  iexact Hk

/-- The pieces of `dx`, ready to be moved. -/
def DxReady (c : Dev nD) : sProp 𝕄 := bigSep Finset.univ fun n : Fin 8 => own c (dxV n).view (vDx I n)

theorem stageDx_rule (k : PUnit → P F α) :
    iprop(DxSrc I c ∗ anyv c mDx.view) ⊢ iprop((iprop(DxSrc I c ∗ DxReady I c) -∗ W c (k ⟨⟩) Q) -∗ W c (stageDx >>= k) Q) := by
  unfold stageDx
  have hc : anyv c mDx.view ⊢ (bigSep Finset.univ fun n : Fin 4 => bigSep Finset.univ fun b : Fin 8 => anyv c (mDx.access (rDx n b)) : sProp 𝕄) := by
    refine (any_cut_all (c := c) mDx rDxP dj_dxp cv_dxp).trans ?_
    rw [bigSep_univ_prod]
  have hp : (bigSep Finset.univ fun n : Fin 4 => bigSep Finset.univ fun b : Fin 8 => own c (mDx.access (rDx n b)) (vDxk I n b) : sProp 𝕄)
      ⊢ own c mDx.view (vDxS I) := by
    have h := own_paste_all (c := c) mDx rDxP dj_dxp cv_dxp (fun _ => dflt) (vDxS I) (fun p => vDxk I p.1 p.2)
      (fun p y => glue_emb rDxP dj_dxp _ dflt p y)
    rw [bigSep_univ_prod] at h
    exact h
  have hr : own c mDx.view (vDxS I) ⊢ (DxReady I c : sProp 𝕄) := by
    refine (own_cut_all (c := c) mDx rDxS dj_dxs cv_dxs (vDxS I)).trans ?_
    unfold DxReady
    exact bigSep_mono fun n _ => own_reshape (c := c) (mDx.access (rDxS n)) nm_dx (sub (vDxS I) (rDxS n))
  iintro ⟨H, Ht⟩ Hk
  ihave Ht := hc $$ Ht
  iapply (each_rule (fun n k => dxLane_rule (c := c) (Q := Q) I n k) (List.nodup_finRange 4) (List.toFinset_finRange 4) k) $$ [H Ht]
  · isplitl [H]; · iexact H
    iexact Ht
  iintro ⟨H, Ht⟩
  iapply Hk
  isplitl [H]; · iexact H
  iapply hr
  iapply hp $$ Ht

/-! ### The copies -/

/-- The units one piece adds to its semaphore. -/
abbrev nDx : ℕ := (dxH 0).view.dmaCredit

theorem nDx_pos : 0 < nDx := View.dmaCredit_pos _ (by decide)
theorem nDx_eq (n : Fin 8) : (dxH n).view.dmaCredit = nDx := rfl

/-- The result, held at anything; -/
def DxHFree (c : Dev nD) : sProp 𝕄 := anyv c mDxH.view
/-- written; -/
def DxHDone (c : Dev nD) : sProp 𝕄 := own c mDxH.view (vRes4 I)
/-- and its pieces on their way. -/
abbrev dxD (c : Dev nD) : Fin 8 → sProp 𝕄 := fun n => moved c (dxV n) (dxH n) (vDx I n)
def DxFly (c : Dev nD) : sProp 𝕄 := batch c sDx nDx (dxD I c) 8 0

theorem startDx1_rule (n : Fin 8) (k : PUnit → P F α) :
    iprop(own c (dxV n).view (vDx I n) ∗ anyv c (dxH n).view ∗ batch c sDx nDx (dxD I c) n.val 0)
      ⊢ iprop((batch c sDx nDx (dxD I c) (n.val + 1) 0 -∗ W c (k ⟨⟩) Q) -∗ W c (startDx1 n >>= k) Q) :=
  batch_dma (c := c) (dxV n) (dxH n) sDx (wx_dxV n) (wx_dxH n) trivial (nDx_eq n) n.isLt (Nat.zero_le _) (vDx I n) .rfl k

theorem startDx_rule (k : PUnit → P F α) :
    iprop(DxReady I c ∗ DxHFree c ∗ zero c sDx)
      ⊢ iprop((DxFly I c -∗ W c (k ⟨⟩) Q) -∗ W c (startDx >>= k) Q) := by
  have hc : DxHFree c ⊢ (bigSep Finset.univ fun n : Fin 8 => anyv c (dxH n).view : sProp 𝕄) :=
    any_cut_all (c := c) mDxH rDxH dj_dxh cv_dxh
  rw [sep_univ8] at hc
  unfold startDx DxReady DxFly
  rw [sep_univ8]
  simp only [each_cons]
  iintro ⟨⟨A0, A1, A2, A3, A4, A5, A6, A7⟩, HB, Hs⟩ Hk
  ihave HB := hc $$ HB
  icases HB with ⟨B0, B1, B2, B3, B4, B5, B6, B7⟩
  imod (batch_new (c := c) sDx nDx (dxD I c) (E := Set.univ)) $$ Hs with Hb
  iapply (startDx1_rule I 0 _) $$ [A0 B0 Hb]
  · isplitl [A0]; · iexact A0
    isplitl [B0]; · iexact B0
    iexact Hb
  iintro Hb
  iapply (startDx1_rule I 1 _) $$ [A1 B1 Hb]
  · isplitl [A1]; · iexact A1
    isplitl [B1]; · iexact B1
    iexact Hb
  iintro Hb
  iapply (startDx1_rule I 2 _) $$ [A2 B2 Hb]
  · isplitl [A2]; · iexact A2
    isplitl [B2]; · iexact B2
    iexact Hb
  iintro Hb
  iapply (startDx1_rule I 3 _) $$ [A3 B3 Hb]
  · isplitl [A3]; · iexact A3
    isplitl [B3]; · iexact B3
    iexact Hb
  iintro Hb
  iapply (startDx1_rule I 4 _) $$ [A4 B4 Hb]
  · isplitl [A4]; · iexact A4
    isplitl [B4]; · iexact B4
    iexact Hb
  iintro Hb
  iapply (startDx1_rule I 5 _) $$ [A5 B5 Hb]
  · isplitl [A5]; · iexact A5
    isplitl [B5]; · iexact B5
    iexact Hb
  iintro Hb
  iapply (startDx1_rule I 6 _) $$ [A6 B6 Hb]
  · isplitl [A6]; · iexact A6
    isplitl [B6]; · iexact B6
    iexact Hb
  iintro Hb
  iapply (startDx1_rule I 7 _) $$ [A7 B7 Hb]
  · isplitl [A7]; · iexact A7
    isplitl [B7]; · iexact B7
    iexact Hb
  iintro Hb
  iapply Hk
  iexact Hb

/-- One wait before the last. -/
theorem waitDx1_rule (n : Fin 8) (hn : n.val < 7) (k : PUnit → P F α) :
    iprop(batch c sDx nDx (dxD I c) 8 (n.val * nDx) ∗ owesA c)
      ⊢ iprop((iprop(batch c sDx nDx (dxD I c) 8 ((n.val + 1) * nDx) ∗ owesA c) -∗ W c (k ⟨⟩) Q) -∗ W c (waitDx1 n >>= k) Q) := by
  have h := batch_wt (c := c) (Q := Q) (dxV n) (dxH n) sDx (wx_dxV n) (wx_dxH n) (nDx_eq n) (D := dxD I c) (u := n.val * nDx)
    (by have := nDx_pos; have h7 : n.val + 1 < 8 := by omega
        calc n.val * nDx + nDx = (n.val + 1) * nDx := (Nat.succ_mul _ _).symm
          _ < 8 * nDx := Nat.mul_lt_mul_of_pos_right h7 this
          _ = nDx * 8 := Nat.mul_comm _ _) k
  rw [← Nat.succ_mul] at h
  exact h

theorem waitDx_rule (k : PUnit → P F α) :
    iprop(DxFly I c ∗ owesA c)
      ⊢ iprop((iprop(DxHDone I c ∗ anyv c mDx.view ∗ zero c sDx ∗ owesA c) -∗ W c (k ⟨⟩) Q) -∗ W c (waitDx >>= k) Q) := by
  have hmv : (bigSep Finset.univ (dxD I c) : sProp 𝕄) ⊢ iprop(DxHDone I c ∗ anyv c mDx.view) := by
    have h1 : (bigSep Finset.univ (dxD I c) : sProp 𝕄) ⊢ iprop((bigSep Finset.univ fun n : Fin 8 => own c (mDxH.access (rDxH n)) (vDx I n))
        ∗ bigSep Finset.univ fun n : Fin 8 => own c (mDx.access (rDxS n)) (sub (vDxS I) (rDxS n))) := by
      refine .trans ?_ (.of_eq (bigSep_sep' Finset.univ _ _))
      refine bigSep_mono fun n _ => ?_
      show iprop(own c (dxH n).view (vDx I n) ∗ own c (dxV n).view (vDx I n)) ⊢ _
      iintro ⟨Hh, Hv⟩
      isplitl [Hh]; · iexact Hh
      ihave Hv := (reshape_own (c := c) (mDx.access (rDxS n)) (s' := S64x8x128) nm_dx (vDx I n)) $$ Hv
      have he : (fun i => vDx I n ((Shape.reshapeEquiv nm_dx).symm i)) = sub (vDxS I) (rDxS n) :=
        funext fun i => congrArg (sub (vDxS I) (rDxS n)) (Equiv.apply_symm_apply _ _)
      rw [← he]
      iexact Hv
    refine h1.trans ?_
    iintro ⟨Hh, Hv⟩
    isplitl [Hh]
    · unfold DxHDone
      iapply (own_paste_all (c := c) mDxH rDxH dj_dxh cv_dxh (fun _ => dflt) (vRes4 I) (vDx I) (fun n y => glue_emb rDxH dj_dxh _ dflt n y)) $$ Hh
    ihave Hv := (own_paste_all (c := c) mDx rDxS dj_dxs cv_dxs (fun _ => dflt) (vDxS I) (fun n => sub (vDxS I) (rDxS n)) (fun n y => rfl)) $$ Hv
    iapply (own_any c mDx.view) $$ Hv
  have h0 := waitDx1_rule (c := c) (Q := Q) I 0 (by decide)
  rw [show ((0 : Fin 8).val * nDx) = 0 from Nat.zero_mul _] at h0
  unfold waitDx DxFly
  simp only [each_cons]
  iintro ⟨Hb, Ho⟩ Hk
  iapply (h0 _) $$ [Hb Ho]
  · isplitl [Hb]; · iexact Hb
    iexact Ho
  iintro ⟨Hb, Ho⟩
  iapply (waitDx1_rule I 1 (by decide) _) $$ [Hb Ho]
  · isplitl [Hb]; · iexact Hb
    iexact Ho
  iintro ⟨Hb, Ho⟩
  iapply (waitDx1_rule I 2 (by decide) _) $$ [Hb Ho]
  · isplitl [Hb]; · iexact Hb
    iexact Ho
  iintro ⟨Hb, Ho⟩
  iapply (waitDx1_rule I 3 (by decide) _) $$ [Hb Ho]
  · isplitl [Hb]; · iexact Hb
    iexact Ho
  iintro ⟨Hb, Ho⟩
  iapply (waitDx1_rule I 4 (by decide) _) $$ [Hb Ho]
  · isplitl [Hb]; · iexact Hb
    iexact Ho
  iintro ⟨Hb, Ho⟩
  iapply (waitDx1_rule I 5 (by decide) _) $$ [Hb Ho]
  · isplitl [Hb]; · iexact Hb
    iexact Ho
  iintro ⟨Hb, Ho⟩
  iapply (waitDx1_rule I 6 (by decide) _) $$ [Hb Ho]
  · isplitl [Hb]; · iexact Hb
    iexact Ho
  iintro ⟨Hb, Ho⟩
  iapply (batch_wtLast (c := c) (dxV 7) (dxH 7) sDx (wx_dxV 7) (wx_dxH 7) (nDx_eq 7) nDx_pos (D := dxD I c)
    (u := 7 * nDx) (by rw [← Nat.succ_mul]; exact Nat.mul_comm _ _) _) $$ [Hb Ho]
  · isplitl [Hb]; · iexact Hb
    iexact Ho
  iintro ⟨HD, Hs, Ho⟩
  ihave HD := hmv $$ HD
  icases HD with ⟨HD, HF⟩
  iapply Hk
  isplitl [HD]; · iexact HD
  isplitl [HF]; · iexact HF
  isplitl [Hs]; · iexact Hs
  iexact Ho

end Cert.Kernel.Hand

end
-- ==== Proof.KRun.lean ====
module

public import proofs.«01_k».proof.Proof.KDx

/-! The kernel's body run: the first copies, the prologue, the halves of a trip, and the whole. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-! ### The small copies -/

/-- The units each small copy adds to its semaphore, in the order the copies start. -/
def smallA : Fin 9 → ℕ
  | 0 => mDys.view.dmaCredit
  | 1 => mDs.view.dmaCredit
  | 2 => mXs.view.dmaCredit
  | 3 => mGs.view.dmaCredit
  | 4 => mRs.view.dmaCredit
  | 5 => mGam.view.dmaCredit
  | 6 => mSin.view.dmaCredit
  | 7 => mSq.view.dmaCredit
  | 8 => mDqs.view.dmaCredit

/-- What each hands back. -/
def smallD (c : Dev nD) : Fin 9 → sProp 𝕄
  | 0 => moved c mDysH mDys I.dys
  | 1 => moved c mDsH mDs I.ds
  | 2 => moved c mXsH mXs I.xs
  | 3 => moved c mGsH mGs I.gs
  | 4 => moved c mRsH mRs I.rs
  | 5 => moved c mGamH mGam I.gam
  | 6 => moved c mSinH mSin I.sin
  | 7 => moved c mSqH mSq I.sq
  | 8 => moved c mDqsH mDqs I.dqs

instance smallD_storable (c : Dev nD) (t : Fin 9) : Storable (upEmb : UEmb _ 𝕄) (smallD I c t) := by
  fin_cases t <;> simp only [smallD] <;> infer_instance

/-- The small copies, `j` of them started and `u` units waited for. -/
def SmallFly (c : Dev nD) (j u : ℕ) : sProp 𝕄 := mixed c sSmall smallA (smallD I c) j u

theorem small_pos (t : Fin 9) : 0 < smallA t := by
  fin_cases t <;> exact View.dmaCredit_pos _ (by decide)

theorem small_sum : Transfers.sumTo smallA 9 = smallA 0 + smallA 1 + smallA 2 + smallA 3 + smallA 4 + smallA 5 + smallA 6 + smallA 7 + smallA 8 := by
  rw [Transfers.sumTo_succ _ (by decide), Transfers.sumTo_succ _ (by decide), Transfers.sumTo_succ _ (by decide), Transfers.sumTo_succ _ (by decide), Transfers.sumTo_succ _ (by decide), Transfers.sumTo_succ _ (by decide), Transfers.sumTo_succ _ (by decide), Transfers.sumTo_succ _ (by decide), Transfers.sumTo_succ _ (by decide),
    Transfers.sumTo_zero, Nat.zero_add]
  rfl

/-- The small operands where the launch put them. -/
def SmallH (c : Dev nD) : sProp 𝕄 :=
  iprop(own c mDysH.view I.dys ∗ own c mDsH.view I.ds ∗ own c mXsH.view I.xs ∗ own c mGsH.view I.gs ∗ own c mRsH.view I.rs ∗ own c mGamH.view I.gam ∗ own c mSinH.view I.sin ∗ own c mSqH.view I.sq ∗ own c mDqsH.view I.dqs)
/-- Their places in vector memory, at anything; -/
def SmallFree (c : Dev nD) : sProp 𝕄 :=
  iprop(anyv c mDys.view ∗ anyv c mDs.view ∗ anyv c mXs.view ∗ anyv c mGs.view ∗ anyv c mRs.view ∗ anyv c mGam.view ∗ anyv c mSin.view ∗ anyv c mSq.view ∗ anyv c mDqs.view)
/-- and filled. -/
def SmallIn (c : Dev nD) : sProp 𝕄 :=
  iprop(own c mDys.view I.dys ∗ own c mDs.view I.ds ∗ own c mXs.view I.xs ∗ own c mGs.view I.gs ∗ own c mRs.view I.rs ∗ own c mGam.view I.gam ∗ own c mSin.view I.sin ∗ own c mSq.view I.sq ∗ own c mDqs.view I.dqs)

theorem startSmall_rule (k : PUnit → P F α) :
    iprop(SmallH I c ∗ SmallFree c ∗ zero c sSmall)
      ⊢ iprop((SmallFly I c 9 0 -∗ W c (k ⟨⟩) Q) -∗ W c (startSmall >>= k) Q) := by
  unfold startSmall SmallH SmallFree SmallFly
  simp only [bind_assoc]
  iintro ⟨⟨A0, A1, A2, A3, A4, A5, A6, A7, A8⟩, ⟨B0, B1, B2, B3, B4, B5, B6, B7, B8⟩, Hs⟩ Hk
  imod (mixed_new (c := c) sSmall smallA (smallD I c) (E := Set.univ)) $$ Hs with Hb
  iapply (mixed_dma (c := c) mDysH mDys sSmall _ _ trivial (A := smallA) (D := smallD I c) (j := 0) (u := 0) (by decide) rfl (Nat.zero_le _) I.dys .rfl _) $$ [A0 B0 Hb]
  · iframe
  iintro Hb
  iapply (mixed_dma (c := c) mDsH mDs sSmall _ _ trivial (A := smallA) (D := smallD I c) (j := 1) (u := 0) (by decide) rfl (Nat.zero_le _) I.ds .rfl _) $$ [A1 B1 Hb]
  · iframe
  iintro Hb
  iapply (mixed_dma (c := c) mXsH mXs sSmall _ _ trivial (A := smallA) (D := smallD I c) (j := 2) (u := 0) (by decide) rfl (Nat.zero_le _) I.xs .rfl _) $$ [A2 B2 Hb]
  · iframe
  iintro Hb
  iapply (mixed_dma (c := c) mGsH mGs sSmall _ _ trivial (A := smallA) (D := smallD I c) (j := 3) (u := 0) (by decide) rfl (Nat.zero_le _) I.gs .rfl _) $$ [A3 B3 Hb]
  · iframe
  iintro Hb
  iapply (mixed_dma (c := c) mRsH mRs sSmall _ _ trivial (A := smallA) (D := smallD I c) (j := 4) (u := 0) (by decide) rfl (Nat.zero_le _) I.rs .rfl _) $$ [A4 B4 Hb]
  · iframe
  iintro Hb
  iapply (mixed_dma (c := c) mGamH mGam sSmall _ _ trivial (A := smallA) (D := smallD I c) (j := 5) (u := 0) (by decide) rfl (Nat.zero_le _) I.gam .rfl _) $$ [A5 B5 Hb]
  · iframe
  iintro Hb
  iapply (mixed_dma (c := c) mSinH mSin sSmall _ _ trivial (A := smallA) (D := smallD I c) (j := 6) (u := 0) (by decide) rfl (Nat.zero_le _) I.sin .rfl _) $$ [A6 B6 Hb]
  · iframe
  iintro Hb
  iapply (mixed_dma (c := c) mSqH mSq sSmall _ _ trivial (A := smallA) (D := smallD I c) (j := 7) (u := 0) (by decide) rfl (Nat.zero_le _) I.sq .rfl _) $$ [A7 B7 Hb]
  · iframe
  iintro Hb
  iapply (mixed_dma (c := c) mDqsH mDqs sSmall _ _ trivial (A := smallA) (D := smallD I c) (j := 8) (u := 0) (by decide) rfl (Nat.zero_le _) I.dqs .rfl _) $$ [A8 B8 Hb]
  · iframe
  iexact Hk

theorem sep_small (c : Dev nD) : (bigSep Finset.univ (smallD I c) : sProp 𝕄) ⊢ iprop(SmallIn I c ∗ SmallH I c) := by
  refine (Entails.of_eq (bigSep_univ_eq_bigSepL [0, 1, 2, 3, 4, 5, 6, 7, 8] (by decide) (by decide) (smallD I c))).trans ?_
  show iprop(moved c mDysH mDys I.dys ∗ moved c mDsH mDs I.ds ∗ moved c mXsH mXs I.xs ∗ moved c mGsH mGs I.gs ∗ moved c mRsH mRs I.rs ∗ moved c mGamH mGam I.gam ∗ moved c mSinH mSin I.sin ∗ moved c mSqH mSq I.sq ∗ moved c mDqsH mDqs I.dqs) ⊢ _
  unfold SmallIn SmallH
  iintro ⟨⟨A0, B0⟩, ⟨A1, B1⟩, ⟨A2, B2⟩, ⟨A3, B3⟩, ⟨A4, B4⟩, ⟨A5, B5⟩, ⟨A6, B6⟩, ⟨A7, B7⟩, ⟨A8, B8⟩⟩
  isplitl [A0 A1 A2 A3 A4 A5 A6 A7 A8]
  · iframe
  iframe

theorem waitSmall_rule (k : PUnit → P F α) :
    iprop(SmallFly I c 9 0 ∗ owesA c)
      ⊢ iprop((iprop(SmallIn I c ∗ SmallH I c ∗ zero c sSmall ∗ owesA c) -∗ W c (k ⟨⟩) Q) -∗ W c (waitSmall >>= k) Q) := by
  have hs := small_sum
  unfold waitSmall SmallFly
  simp only [bind_assoc]
  iintro ⟨Hb, Ho⟩ Hk
  iapply (mixed_wt (c := c) mDysH mDys sSmall _ _ (J := smallA 0) rfl (A := smallA) (D := smallD I c) (u := 0) (by omega) _) $$ [Hb Ho]
  · iframe
  iintro ⟨Hb, Ho⟩
  iapply (mixed_wt (c := c) mDsH mDs sSmall _ _ (J := smallA 1) rfl (A := smallA) (D := smallD I c) (u := 0 + smallA 0) (by omega) _) $$ [Hb Ho]
  · iframe
  iintro ⟨Hb, Ho⟩
  iapply (mixed_wt (c := c) mXsH mXs sSmall _ _ (J := smallA 2) rfl (A := smallA) (D := smallD I c) (u := 0 + smallA 0 + smallA 1) (by omega) _) $$ [Hb Ho]
  · iframe
  iintro ⟨Hb, Ho⟩
  iapply (mixed_wt (c := c) mGsH mGs sSmall _ _ (J := smallA 3) rfl (A := smallA) (D := smallD I c) (u := 0 + smallA 0 + smallA 1 + smallA 2) (by omega) _) $$ [Hb Ho]
  · iframe
  iintro ⟨Hb, Ho⟩
  iapply (mixed_wt (c := c) mRsH mRs sSmall _ _ (J := smallA 4) rfl (A := smallA) (D := smallD I c) (u := 0 + smallA 0 + smallA 1 + smallA 2 + smallA 3) (by omega) _) $$ [Hb Ho]
  · iframe
  iintro ⟨Hb, Ho⟩
  iapply (mixed_wt (c := c) mGamH mGam sSmall _ _ (J := smallA 5) rfl (A := smallA) (D := smallD I c) (u := 0 + smallA 0 + smallA 1 + smallA 2 + smallA 3 + smallA 4) (by omega) _) $$ [Hb Ho]
  · iframe
  iintro ⟨Hb, Ho⟩
  iapply (mixed_wt (c := c) mSinH mSin sSmall _ _ (J := smallA 6) rfl (A := smallA) (D := smallD I c) (u := 0 + smallA 0 + smallA 1 + smallA 2 + smallA 3 + smallA 4 + smallA 5) (by omega) _) $$ [Hb Ho]
  · iframe
  iintro ⟨Hb, Ho⟩
  iapply (mixed_wt (c := c) mSqH mSq sSmall _ _ (J := smallA 7) rfl (A := smallA) (D := smallD I c) (u := 0 + smallA 0 + smallA 1 + smallA 2 + smallA 3 + smallA 4 + smallA 5 + smallA 6) (by omega) _) $$ [Hb Ho]
  · iframe
  iintro ⟨Hb, Ho⟩
  iapply (mixed_wtLast (c := c) mDqsH mDqs sSmall _ _ (J := smallA 8) rfl (A := smallA) small_pos (D := smallD I c)
    (u := 0 + smallA 0 + smallA 1 + smallA 2 + smallA 3 + smallA 4 + smallA 5 + smallA 6 + smallA 7) (by omega) _) $$ [Hb Ho]
  · iframe
  iintro ⟨HD, Hs, Ho⟩
  ihave HD := (sep_small I c) $$ HD
  icases HD with ⟨HD, HH⟩
  iapply Hk
  iframe

/-! ### The first copies -/

/-- `dy` and `xhat` in flight. -/
def DyFly (c : Dev nD) : sProp 𝕄 := flight c mDyH mDy sDy I.dy
def XhFly (c : Dev nD) : sProp 𝕄 := flight c mXhH mXh sXh I.xh

/-- What starting tile `t` of `w_in` takes. -/
def WinFree (c : Dev nD) (t : Fin 8) : sProp 𝕄 :=
  iprop(own c (winH t).view (sub I.win (rWinH t)) ∗ anyv c (mWin.access (rWin t)) ∗ zero c (sWin t))

/-- What the first copies take; -/
def StartIn (c : Dev nD) : sProp 𝕄 :=
  iprop(own c mDyH.view I.dy ∗ anyv c mDy.view ∗ zero c sDy ∗ own c mXhH.view I.xh ∗ anyv c mXh.view ∗ zero c sXh
    ∗ SmallH I c ∗ SmallFree c ∗ zero c sSmall
    ∗ (AGFree I c 0 ∗ AGFree I c 1 ∗ AGFree I c 2 ∗ AGFree I c 3 ∗ AGFree I c 4 ∗ AGFree I c 5 ∗ AGFree I c 6 ∗ AGFree I c 7)
    ∗ (WinFree I c 0 ∗ WinFree I c 1 ∗ WinFree I c 2 ∗ WinFree I c 3 ∗ WinFree I c 4 ∗ WinFree I c 5 ∗ WinFree I c 6 ∗ WinFree I c 7)
    ∗ (DWFree I c 0 ∗ DWFree I c 1 ∗ DWFree I c 2))

/-- and what they leave. -/
def StartOut (c : Dev nD) : sProp 𝕄 :=
  iprop(DyFly I c ∗ XhFly I c ∗ SmallFly I c 9 0 ∗ AGFly I c 0 ∗ AGFly I c 1 ∗ AGFly I c 2 ∗ AGFly I c 3 ∗ AGFly I c 4 ∗ AGFly I c 5 ∗ AGFly I c 6 ∗ AGFly I c 7
    ∗ WinFly I c 0 ∗ WinFly I c 1 ∗ WinFly I c 2 ∗ WinFly I c 3 ∗ WinFly I c 4 ∗ WinFly I c 5 ∗ WinFly I c 6 ∗ WinFly I c 7
    ∗ DWFly I c 0 ∗ DWFly I c 1 ∗ DWFly I c 2)

theorem starts_rule (k : PUnit → P F α) :
    StartIn I c ⊢ iprop((StartOut I c -∗ W c (k ⟨⟩) Q) -∗ W c (starts >>= k) Q) := by
  unfold starts StartIn StartOut WinFree
  simp only [bind_assoc]
  iintro ⟨D0, D1, D2, X0, X1, X2, SH, SF, SZ, ⟨G0, G1, G2, G3, G4, G5, G6, G7⟩, ⟨V0, V1, V2, V3, V4, V5, V6, V7⟩, ⟨J0, J1, J2⟩⟩ Hk
  iapply (dma_rule (c := c) mDyH mDy sDy _ _ trivial (View.dmaCredit_pos _ (by decide)) I.dy _) $$ [D0 D1 D2]
  · iframe
  iintro HD
  iapply (startSmall_rule I _) $$ [SH SF SZ]
  · iframe
  iintro HS
  iapply (dma_rule (c := c) mXhH mXh sXh _ _ trivial (View.dmaCredit_pos _ (by decide)) I.xh _) $$ [X0 X1 X2]
  · iframe
  iintro HX
  iapply (startAG_rule I 0 _) $$ G0
  iintro G0
  iapply (startAG_rule I 1 _) $$ G1
  iintro G1
  iapply (startDW_rule I 0 _) $$ J0
  iintro J0
  iapply (startAG_rule I 2 _) $$ G2
  iintro G2
  iapply (startWin_rule I 0 _) $$ V0
  iintro V0
  iapply (startAG_rule I 3 _) $$ G3
  iintro G3
  iapply (startWin_rule I 1 _) $$ V1
  iintro V1
  iapply (startDW_rule I 1 _) $$ J1
  iintro J1
  iapply (startAG_rule I 4 _) $$ G4
  iintro G4
  iapply (startWin_rule I 2 _) $$ V2
  iintro V2
  iapply (startAG_rule I 5 _) $$ G5
  iintro G5
  iapply (startWin_rule I 3 _) $$ V3
  iintro V3
  iapply (startDW_rule I 2 _) $$ J2
  iintro J2
  iapply (startAG_rule I 6 _) $$ G6
  iintro G6
  iapply (startWin_rule I 4 _) $$ V4
  iintro V4
  iapply (startAG_rule I 7 _) $$ G7
  iintro G7
  iapply (startWin_rule I 5 _) $$ V5
  iintro V5
  iapply (startWin_rule I 6 _) $$ V6
  iintro V6
  iapply (startWin_rule I 7 _) $$ V7
  iintro V7
  iapply Hk
  unfold DyFly XhFly
  iframe

/-! ### The prologue -/

/-- Tile `t` of `g`, scaled and transposed, in slot `s`. -/
abbrev Gt (c : Dev nD) (t : Fin 8) (s : Fin 2) : sProp 𝕄 := own c (mGt.access (rSlot s)) (vGt I t)
/-- Tile `t` of the codes of `da`, transposed; -/
abbrev At (c : Dev nD) (t : Fin 8) (s : Fin 2) : sProp 𝕄 := own c (mAt.access (rSlot s)) (vAt I t)
/-- and scaled. -/
abbrev Dt (c : Dev nD) (t : Fin 8) (s : Fin 2) : sProp 𝕄 := own c (mDat.access (rSlot s)) (vDat I t)
/-- Half the heads of part `j` in their slot. -/
abbrev Vt (c : Dev nD) (j : Fin 3) (h : Fin 2) : sProp 𝕄 := own c (mVt.access (rSlot h)) (sub (vVt I j h) (rSlot h))
/-- Those of `w_qkv`. -/
abbrev Wb (c : Dev nD) (j : Fin 3) (h : Fin 2) : sProp 𝕄 := own c (mWqb.access (rWslot h)) (sub (vWqb I j h) (rWslot h))
abbrev GtAny (c : Dev nD) (s : Fin 2) : sProp 𝕄 := anyv c (mGt.access (rSlot s))
abbrev AtAny (c : Dev nD) (s : Fin 2) : sProp 𝕄 := anyv c (mAt.access (rSlot s))
abbrev DtAny (c : Dev nD) (s : Fin 2) : sProp 𝕄 := anyv c (mDat.access (rSlot s))
abbrev VtAny (c : Dev nD) (s : Fin 2) : sProp 𝕄 := anyv c (mVt.access (rSlot s))
abbrev WbAny (c : Dev nD) (s : Fin 2) : sProp 𝕄 := anyv c (mWqb.access (rWslot s))
/-- The sum so far. -/
abbrev Dh (c : Dev nD) (X : S1024x512.Idx → Elt F .f32) : sProp 𝕄 := own c mDht.view X

/-- What the loop reads throughout. -/
def Con (c : Dev nD) : sProp 𝕄 :=
  iprop(own c mGs.view I.gs ∗ own c mDqs.view I.dqs ∗ own c mDyt.view (vDyt I) ∗ own c mXht.view (vXht I) ∗ own c mGamc.view (vGamc I)
    ∗ own c mDs.view I.ds ∗ own c mSin.view I.sin ∗ own c mSq.view I.sq)

/-- What the prologue is done with. -/
def Rest (c : Dev nD) : sProp 𝕄 :=
  iprop(own c mRs.view I.rs ∗ SmallH I c ∗ own c mDyH.view I.dy ∗ own c mXhH.view I.xh ∗ own c mDy.view I.dy ∗ own c mXh.view I.xh ∗ own c mDys.view I.dys ∗ own c mXs.view I.xs
    ∗ own c mGam.view I.gam ∗ zero c sSmall ∗ zero c sDy ∗ zero c sXh)

theorem pre_rule (k : PUnit → P F α) :
    iprop(StartIn I c ∗ anyv c mDyt.view ∗ anyv c mXht.view ∗ anyv c mGamc.view ∗ anyv c mDht.view ∗ GtAny c 0 ∗ GtAny c 1 ∗ AtAny c 0 ∗ AtAny c 1 ∗ DtAny c 0
        ∗ VtAny c 0 ∗ WbAny c 0 ∗ OutFree c 0 ∗ owesA c)
      ⊢ iprop((iprop(Con I c ∗ Rest I c ∗ AGIn I c 0 ∗ AGIn I c 1 ∗ AGFly I c 2 ∗ AGFly I c 3 ∗ AGFly I c 4 ∗ AGFly I c 5 ∗ AGFly I c 6 ∗ AGFly I c 7
            ∗ WinFly I c 0 ∗ WinFly I c 1 ∗ WinFly I c 2 ∗ WinFly I c 3 ∗ WinFly I c 4 ∗ WinFly I c 5 ∗ WinFly I c 6 ∗ WinFly I c 7
            ∗ DWIn I c 0 ∗ DWFly I c 1 ∗ DWFly I c 2 ∗ GtAny c 0 ∗ Gt I c 1 1 ∗ AtAny c 0 ∗ At I c 1 1 ∗ Dt I c 0 0 ∗ Vt I c 0 0 ∗ Wb I c 0 0
            ∗ OutReady I c 0 0 ∗ Dh c vD0 ∗ owesA c) -∗ W c (k ⟨⟩) Q)
          -∗ W c (pre >>= k) Q) := by
  unfold pre
  simp only [bind_assoc]
  iintro ⟨HI, Hdyt, Hxht, Hgamc, Hd, Ht0, Ht1, Ha0, Ha1, Hb0, Hv0, Hw0, Hout, Ho⟩ Hk
  iapply (starts_rule I _) $$ HI
  unfold StartOut
  iintro ⟨HD, HX, HS, G0, G1, G2, G3, G4, G5, G6, G7, V0, V1, V2, V3, V4, V5, V6, V7, J0, J1, J2⟩
  iapply (waitSmall_rule I _) $$ [HS Ho]
  · iframe
  unfold SmallIn
  iintro ⟨⟨Sdys, Sds, Sxs, Sgs, Srs, Sgam, Ssin, Ssq, Sdqs⟩, SH, SZ, Ho⟩
  unfold DyFly
  iapply (wt_rule (c := c) mDyH mDy sDy _ _ I.dy _) $$ [HD Ho]
  · iframe
  iintro ⟨⟨D0, D1⟩, DZ, Ho⟩
  iapply (dyt_rule I _) $$ [D0 Sdys Hdyt]
  · iframe
  iintro ⟨D0, Sdys, Hdyt⟩
  unfold XhFly
  iapply (wt_rule (c := c) mXhH mXh sXh _ _ I.xh _) $$ [HX Ho]
  · iframe
  iintro ⟨⟨X0, X1⟩, XZ, Ho⟩
  iapply (waitAG_rule I 0 _) $$ [G0 Ho]
  · iframe
  unfold AGIn AIn GIn
  iintro ⟨⟨⟨G00, G01, G02⟩, ⟨G03, G04, G05⟩⟩, Ho⟩
  iapply (stageX_rule I 0 0 _) $$ [G00 Ha0 G03 Sgs Ht0]
  · iframe
  iintro ⟨G00, Ha0, G03, Sgs, Ht0⟩
  iapply (stageXht_rule I _) $$ [X0 Sxs Hxht]
  · iframe
  iintro ⟨X0, Sxs, Hxht⟩
  iapply (stageGamc_rule I _) $$ [Sgam Hgamc]
  · iframe
  iintro ⟨Sgam, Hgamc⟩
  iapply (stageZero_rule _) $$ Hd
  iintro Hd
  iapply (waitAG_rule I 1 _) $$ [G1 Ho]
  · iframe
  unfold AGIn AIn GIn
  iintro ⟨⟨⟨G10, G11, G12⟩, ⟨G13, G14, G15⟩⟩, Ho⟩
  iapply (waitDW_rule I 0 _) $$ [J0 Ho]
  · iframe
  unfold DWIn DqIn WqIn
  iintro ⟨⟨⟨J00, J01, J02⟩, ⟨J03, J04, J05⟩⟩, Ho⟩
  iapply (stageO_rule I 0 0 _) $$ [Ht0 Hdyt Hout]
  · iframe
  iintro ⟨Ht0, Hdyt, Hout⟩
  iapply (stageX_rule I 1 1 _) $$ [G10 Ha1 G13 Sgs Ht1]
  · iframe
  iintro ⟨G10, Ha1, G13, Sgs, Ht1⟩
  iapply (stageB_rule I 0 0 _) $$ [Ha0 Sds Hb0]
  · iframe
  iintro ⟨Ha0, Sds, Hb0⟩
  iapply (stageP_rule I 0 0 _) $$ [J00 Sdqs Hv0]
  · iframe
  iintro ⟨J00, Sdqs, Hv0⟩
  iapply (stageW_rule I 0 0 _) $$ [J03 Ssq Hw0]
  · iframe
  iintro ⟨J03, Ssq, Hw0⟩
  ihave Ht0 := (own_any c (mGt.access (rSlot 0)) (vGt I 0)) $$ Ht0
  ihave Ha0 := (own_any c (mAt.access (rSlot 0)) (vAt I 0)) $$ Ha0
  iapply Hk
  unfold Con Rest
  iframe

/-! ### The halves of a trip -/

theorem halfA_rule (j : Fin 3) (u t t' : Fin 8) (hu : (⟨2 * j.val, by omega⟩ : Fin 8) = u) (ht : (⟨2 * j.val + 1, by omega⟩ : Fin 8) = t)
    (h' : (⟨2 * j.val + 2, by omega⟩ : Fin 8) = t') (X Y : S1024x512.Idx → Elt F .f32) (hY : acc I u j 0 X = Y) (k : PUnit → P F α) :
    iprop(Con I c ∗ AGFly I c t' ∗ WinFly I c u ∗ Gt I c t 1 ∗ GtAny c 0 ∗ At I c t 1 ∗ AtAny c 0 ∗ Dt I c u 0 ∗ DtAny c 1 ∗ OutFree c 1 ∗ InFree c 0
        ∗ Vt I c j 0 ∗ Wb I c j 0 ∗ QFree c j 0 ∗ DWIn I c j ∗ VtAny c 1 ∗ WbAny c 1 ∗ Dh c X ∗ owesA c)
      ⊢ iprop((iprop(Con I c ∗ AGIn I c t' ∗ WinIn I c u ∗ GtAny c 1 ∗ Gt I c t' 0 ∗ AtAny c 1 ∗ At I c t' 0 ∗ DtAny c 0 ∗ Dt I c t 1 ∗ OutReady I c t 1 ∗ InReady I c u 0
            ∗ VtAny c 0 ∗ WbAny c 0 ∗ QDone I c j 0 ∗ DWIn I c j ∗ Vt I c j 1 ∗ Wb I c j 1 ∗ Dh c Y ∗ owesA c)
            -∗ W c (k ⟨⟩) Q) -∗ W c (halfA j >>= k) Q) := by
  subst hY
  subst h'
  subst ht
  subst hu
  unfold halfA Con DWIn DqIn WqIn
  simp only [bind_assoc]
  iintro ⟨⟨Sgs, Sdqs, Hdyt, Hxht, Hgamc, Sds, Ssin, Ssq⟩, G, V, Ht1, Ht0, Ha1, Ha0, Hb0, Hb1, Hout, Hin, Hv0, Hw0, Hq, ⟨⟨J0, J1, J2⟩, ⟨J3, J4, J5⟩⟩, Hv1, Hw1, Hd, Ho⟩ Hk
  iapply (waitAG_rule I _ _) $$ [G Ho]
  · iframe
  unfold AGIn AIn GIn
  iintro ⟨⟨⟨G0, G1, G2⟩, ⟨G3, G4, G5⟩⟩, Ho⟩
  iapply (waitWin_rule I _ _) $$ [V Ho]
  · iframe
  unfold WinIn
  iintro ⟨⟨V0, V1, V2⟩, Ho⟩
  iapply (stageO_rule I _ 1 _) $$ [Ht1 Hdyt Hout]
  · iframe
  iintro ⟨Ht1, Hdyt, Hout⟩
  iapply (stageX_rule I _ 0 _) $$ [G0 Ha0 G3 Sgs Ht0]
  · iframe
  iintro ⟨G0, Ha0, G3, Sgs, Ht0⟩
  iapply (stageI_rule I _ 0 _) $$ [Hb0 Hxht Hgamc Hin]
  · iframe
  iintro ⟨Hb0, Hxht, Hgamc, Hin⟩
  iapply (stageH_rule I _ 0 X _) $$ [V0 Ssin Hb0 Hd]
  · iframe
  iintro ⟨V0, Ssin, Hb0, Hd⟩
  iapply (stageB_rule I _ 1 _) $$ [Ha1 Sds Hb1]
  · iframe
  iintro ⟨Ha1, Sds, Hb1⟩
  iapply (stageR_rule I j 0 _) $$ [Hxht Hv0 Hgamc Hq]
  · iframe
  iintro ⟨Hxht, Hv0, Hgamc, Hq⟩
  iapply (stageRh_rule I j 0 _ _) $$ [Hw0 Hv0 Hd]
  · iframe
  iintro ⟨Hw0, Hv0, Hd⟩
  iapply (stageP_rule I j 1 _) $$ [J0 Sdqs Hv1]
  · iframe
  iintro ⟨J0, Sdqs, Hv1⟩
  iapply (stageW_rule I j 1 _) $$ [J3 Ssq Hw1]
  · iframe
  iintro ⟨J3, Ssq, Hw1⟩
  ihave Ht1 := (own_any c (mGt.access (rSlot 1)) _) $$ Ht1
  ihave Ha1 := (own_any c (mAt.access (rSlot 1)) _) $$ Ha1
  ihave Hb0 := (own_any c (mDat.access (rSlot 0)) _) $$ Hb0
  ihave Hv0 := (own_any c (mVt.access (rSlot 0)) _) $$ Hv0
  ihave Hw0 := (own_any c (mWqb.access (rWslot 0)) _) $$ Hw0
  iapply Hk
  unfold acc
  iframe

theorem halfB_rule (j i : Fin 3) (u t t' : Fin 8) (hu : (⟨2 * j.val + 1, by omega⟩ : Fin 8) = u) (ht : (⟨2 * j.val + 2, by omega⟩ : Fin 8) = t)
    (h' : (⟨2 * j.val + 3, by omega⟩ : Fin 8) = t') (X Y : S1024x512.Idx → Elt F .f32) (hY : acc I u j 1 X = Y) (k : PUnit → P F α) :
    iprop(Con I c ∗ AGIn I c t' ∗ WinIn I c u ∗ Gt I c t 0 ∗ GtAny c 1 ∗ At I c t 0 ∗ AtAny c 1 ∗ Dt I c u 1 ∗ DtAny c 0 ∗ OutFree c 0 ∗ InFree c 1
        ∗ Vt I c j 1 ∗ Wb I c j 1 ∗ QFree c j 1 ∗ DWIn I c i ∗ VtAny c 0 ∗ WbAny c 0 ∗ Dh c X)
      ⊢ iprop((iprop(Con I c ∗ AGIn I c t' ∗ WinIn I c u ∗ GtAny c 0 ∗ Gt I c t' 1 ∗ AtAny c 0 ∗ At I c t' 1 ∗ DtAny c 1 ∗ Dt I c t 0 ∗ OutReady I c t 0 ∗ InReady I c u 1
            ∗ VtAny c 1 ∗ WbAny c 1 ∗ QDone I c j 1 ∗ DWIn I c i ∗ Vt I c i 0 ∗ Wb I c i 0 ∗ Dh c Y)
            -∗ W c (k ⟨⟩) Q) -∗ W c (halfB j i >>= k) Q) := by
  subst hY
  subst h'
  subst ht
  subst hu
  unfold halfB Con DWIn DqIn WqIn AGIn AIn GIn WinIn
  simp only [bind_assoc]
  iintro ⟨⟨Sgs, Sdqs, Hdyt, Hxht, Hgamc, Sds, Ssin, Ssq⟩, ⟨⟨G0, G1, G2⟩, ⟨G3, G4, G5⟩⟩, ⟨V0, V1, V2⟩, Ht0, Ht1, Ha0, Ha1, Hb1, Hb0, Hout, Hin, Hv1, Hw1, Hq,
    ⟨⟨J0, J1, J2⟩, ⟨J3, J4, J5⟩⟩, Hv0, Hw0, Hd⟩ Hk
  iapply (stageO_rule I _ 0 _) $$ [Ht0 Hdyt Hout]
  · iframe
  iintro ⟨Ht0, Hdyt, Hout⟩
  iapply (stageX_rule I _ 1 _) $$ [G0 Ha1 G3 Sgs Ht1]
  · iframe
  iintro ⟨G0, Ha1, G3, Sgs, Ht1⟩
  iapply (stageI_rule I _ 1 _) $$ [Hb1 Hxht Hgamc Hin]
  · iframe
  iintro ⟨Hb1, Hxht, Hgamc, Hin⟩
  iapply (stageH_rule I _ 1 X _) $$ [V0 Ssin Hb1 Hd]
  · iframe
  iintro ⟨V0, Ssin, Hb1, Hd⟩
  iapply (stageB_rule I _ 0 _) $$ [Ha0 Sds Hb0]
  · iframe
  iintro ⟨Ha0, Sds, Hb0⟩
  iapply (stageR_rule I j 1 _) $$ [Hxht Hv1 Hgamc Hq]
  · iframe
  iintro ⟨Hxht, Hv1, Hgamc, Hq⟩
  iapply (stageRh_rule I j 1 _ _) $$ [Hw1 Hv1 Hd]
  · iframe
  iintro ⟨Hw1, Hv1, Hd⟩
  iapply (stageP_rule I i 0 _) $$ [J0 Sdqs Hv0]
  · iframe
  iintro ⟨J0, Sdqs, Hv0⟩
  iapply (stageW_rule I i 0 _) $$ [J3 Ssq Hw0]
  · iframe
  iintro ⟨J3, Ssq, Hw0⟩
  ihave Ht0 := (own_any c (mGt.access (rSlot 0)) _) $$ Ht0
  ihave Ha0 := (own_any c (mAt.access (rSlot 0)) _) $$ Ha0
  ihave Hb1 := (own_any c (mDat.access (rSlot 1)) _) $$ Hb1
  ihave Hv1 := (own_any c (mVt.access (rSlot 1)) _) $$ Hv1
  ihave Hw1 := (own_any c (mWqb.access (rWslot 1)) _) $$ Hw1
  iapply Hk
  unfold acc
  iframe

end Cert.Kernel.Hand

end
-- ==== Proof.KBody.lean ====
module

public import proofs.«01_k».proof.Proof.KStages
public import Idealize.ShloMosaic.Lib.Pipeline.Regions

/-! The printed body is the stages of `KStages` in order. -/

@[expose] public section

set_option maxRecDepth 65536

noncomputable section

namespace Cert.Kernel.Hand

open Idealize.ShloMosaic Idealize.ShloMosaic.TcCoe
open Idealize.SL Idealize.SL.Sem
open Cert.Kernel.Gen

variable {F : FTy → Type} [FloatOps F]

/-- The loop body as printed. -/
def tripP (k0_t1 : Fin k0_t1_loop.trips) : P F PUnit := do
  let v9060 : FVec F S1024x128 .bf16 ← k0_part65 (Memref.whole main_v0) (Memref.isWhole_whole _) (Memref.whole main_v2) (Memref.isWhole_whole _) (Memref.whole main_v3) (Memref.isWhole_whole _) (Memref.whole main_v5) (Memref.isWhole_whole _) (Memref.whole main_v6) (Memref.isWhole_whole _) (Memref.whole main_arg5) (Memref.isWhole_whole _) (Memref.whole main_arg11) (Memref.isWhole_whole _) (Memref.whole main_arg6) (Memref.isWhole_whole _) (Memref.whole main_v7) (Memref.isWhole_whole _) (Memref.whole main_v8) (Memref.isWhole_whole _) (Memref.whole main_v11) (Memref.isWhole_whole _) (Memref.whole main_v12) (Memref.isWhole_whole _) (Memref.whole main_arg12) (Memref.isWhole_whole _) (Memref.whole main_v13) (Memref.isWhole_whole _) (Memref.whole main_arg14) (Memref.isWhole_whole _) (Memref.whole main_v14) (Memref.isWhole_whole _) (Memref.whole main_v15_0) (Memref.isWhole_whole _) (Memref.whole main_v15_1) (Memref.isWhole_whole _) (Memref.whole main_v15_2) (Memref.isWhole_whole _) (Memref.whole main_v15_3) (Memref.isWhole_whole _) (Memref.whole main_v15_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) cc0_scratch30 cc0_scratch31 cc0_scratch32 cc0_scratch33 cc0_scratch34 cc0_scratch35 cc0_scratch36 cc0_scratch37 cc0_scratch38 cc0_scratch39 cc0_scratch40 cc0_scratch41 0#32 1#32 k0_t1
  let v9061 : Vec F S1x1024x128 .bf16 ← Prog.lift (.load (Memref.whole cc0_scratch24) (Rect.unit (s := S2x1024x512) ![0, 0, 384] S1x1024x128.size inb_S2x1024x512_S1x1024x128_0_0_384).toLoadRect (View.loadsAt_vmem h_S1x1024x128))
  have v9062 : FVec F S1024x128 .bf16 := shapeCast S1024x128 v9061 shapeCasts_S1x1024x128_S1024x128
  have v9063 : FVec F S1x1024x128 .bf16 := shapeCast S1x1024x128 v9060 shapeCasts_S1024x128_S1x1024x128
  Prog.lift (.store (Memref.whole cc0_scratch24) (Rect.unit (s := S2x1024x512) ![0, 0, 384] S1x1024x128.size inb_S2x1024x512_S1x1024x128_0_0_384) v9063 Finset.univ (View.stores_vmem h_S1x1024x128 ((Memref.isWhole_whole _).storeExact_slice rfl _ packedbf16_S2x1024x512_S1x1024x128_0_0_384) (fun _ => rfl)) (.inl rfl))
  pure ⟨⟩

theorem trip0_eq : tripP (F := F) (⟨0, by decide⟩ : Fin 3) = trip 0 := by chain_rfl
theorem trip1_eq : tripP (F := F) (⟨1, by decide⟩ : Fin 3) = trip 1 := by chain_rfl
theorem trip2_eq : tripP (F := F) (⟨2, by decide⟩ : Fin 3) = trip 2 := by chain_rfl

/-- The epilogue is its stages. -/
theorem epi_eq : ((epi1 (F := F)) >>= fun _ => epi2 >>= fun _ => epi3) = epi := by chain_rfl

/-- The body, cut at the loop. -/
theorem body_cut (t : Fin cfg0.N) : bodyAt0 (F := F) t = (pre >>= fun _ =>
    (((Scf.Loop.for k0_t1_loop k0_t1_ok ⟨⟩ fun k _ => tripP k) >>= fun _ => epi1) >>= fun _ => epi2) >>= fun _ => epi3) := by
  chain_rfl

theorem trips_eq : Scf.forFrom (fun k _ => tripP (F := F) k) (List.finRange k0_t1_loop.trips) ⟨⟩
    = (trip 0) >>= fun _ => (trip 1) >>= fun _ => (trip 2) >>= fun _ => .ret ⟨⟩ := by
  have h : List.finRange k0_t1_loop.trips = [(⟨0, by decide⟩ : Fin 3), (⟨1, by decide⟩ : Fin 3), (⟨2, by decide⟩ : Fin 3)] := rfl
  rw [h, ← trip0_eq, ← trip1_eq, ← trip2_eq]
  rfl

/-- The body: the prologue, three trips, the epilogue. -/
theorem body_eq (t : Fin cfg0.N) : bodyAt0 (F := F) t
    = pre >>= fun _ => (trip 0) >>= fun _ => (trip 1) >>= fun _ => (trip 2) >>= fun _ => epi := by
  rw [body_cut, ← epi_eq]
  have h : Scf.Loop.for k0_t1_loop k0_t1_ok ⟨⟩ (fun k _ => tripP (F := F) k)
      = (trip 0) >>= fun _ => (trip 1) >>= fun _ => (trip 2) >>= fun _ => .ret ⟨⟩ := by
    rw [← trips_eq]
    exact Scf.for_eq ..
  rw [h]
  simp only [Prog.bind_assoc]
  rfl

end Cert.Kernel.Hand

end
-- ==== Proof.KAll.lean ====
module

public import proofs.«01_k».proof.Proof.KRun
public import proofs.«01_k».proof.Proof.KBody

/-! The whole body run, from every buffer at the launch's contents to the five results written. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-- A trip, an operation at a time. -/
theorem trip0_eq' (k : PUnit → P F α) : (trip 0 >>= k) = (startOut 0 0 >>= fun _ => halfA 0 >>= fun _ => startOut 1 1 >>= fun _ => startIn 0 0 >>= fun _ => waitOut 0 0 >>= fun _ => waitAG 3 >>= fun _ => waitWin 1 >>= fun _ => waitDW 1 >>= fun _ => halfB 0 1 >>= k) := by
  simp only [trip, tripA0, tripA, copiesB, waitsB, bind_assoc]; rfl
theorem trip1_eq' (k : PUnit → P F α) : (trip 1 >>= k) = (startOut 2 0 >>= fun _ => startIn 1 1 >>= fun _ => waitOut 1 1 >>= fun _ => waitIn 0 0 >>= fun _ => startQkv 0 >>= fun _ => halfA 1 >>= fun _ => startOut 3 1 >>= fun _ => startIn 2 0 >>= fun _ => waitOut 2 0 >>= fun _ => waitIn 1 1 >>= fun _ => waitAG 5 >>= fun _ => waitWin 3 >>= fun _ => waitDW 2 >>= fun _ => halfB 1 2 >>= k) := by
  simp only [trip, tripA0, tripA, copiesB, waitsB, bind_assoc]; rfl
theorem trip2_eq' (k : PUnit → P F α) : (trip 2 >>= k) = (startOut 4 0 >>= fun _ => startIn 3 1 >>= fun _ => waitOut 3 1 >>= fun _ => waitIn 2 0 >>= fun _ => startQkv 1 >>= fun _ => halfA 2 >>= fun _ => startOut 5 1 >>= fun _ => startIn 4 0 >>= fun _ => waitOut 4 0 >>= fun _ => waitIn 3 1 >>= fun _ => waitAG 7 >>= fun _ => waitWin 5 >>= fun _ => halfB 2 2 >>= k) := by
  simp only [trip, tripA0, tripA, copiesB, waitsB, bind_assoc]; rfl

/-- What the body takes: the copies' sources and places, the scratch buffers at anything, and the semaphores at zero; -/
def BodyIn (c : Dev nD) : sProp 𝕄 :=
  iprop(StartIn I c ∗ anyv c mDyt.view ∗ anyv c mXht.view ∗ anyv c mGamc.view ∗ anyv c mDht.view ∗ GtAny c 0 ∗ GtAny c 1 ∗ AtAny c 0 ∗ AtAny c 1 ∗ DtAny c 0 ∗ DtAny c 1
    ∗ VtAny c 0 ∗ VtAny c 1 ∗ WbAny c 0 ∗ WbAny c 1 ∗ OutFree c 0 ∗ OutFree c 1 ∗ InFree c 0 ∗ InFree c 1
    ∗ (QFree c 0 0 ∗ QFree c 0 1 ∗ QFree c 1 0 ∗ QFree c 1 1 ∗ QFree c 2 0 ∗ QFree c 2 1)
    ∗ (HFree c 0 ∗ HFree c 1 ∗ HFree c 2 ∗ HFree c 3 ∗ HFree c 4 ∗ HFree c 5 ∗ HFree c 6 ∗ HFree c 7)
    ∗ (IFree c 0 ∗ IFree c 1 ∗ IFree c 2 ∗ IFree c 3 ∗ IFree c 4 ∗ IFree c 5 ∗ IFree c 6 ∗ IFree c 7)
    ∗ (anyv c (mQkvH.access (rQkvH 0)) ∗ anyv c (mQkvH.access (rQkvH 1)) ∗ anyv c (mQkvH.access (rQkvH 2)))
    ∗ anyv c mDg.view ∗ anyv c mDgH.view ∗ anyv c mDx.view ∗ DxHFree c
    ∗ zero c (sOut 0) ∗ zero c (sOut 1) ∗ zero c (sIn 0) ∗ zero c (sIn 1) ∗ zero c sQkv ∗ zero c sDx ∗ zero c sLast ∗ owesA c)

/-- and what it leaves. -/
def BodyOut (c : Dev nD) : sProp 𝕄 :=
  iprop(Con I c ∗ Rest I c ∗ (AGIn I c 0 ∗ AGIn I c 1 ∗ AGIn I c 2 ∗ AGIn I c 3 ∗ AGIn I c 4 ∗ AGIn I c 5 ∗ AGIn I c 6 ∗ AGIn I c 7)
    ∗ (WinIn I c 0 ∗ WinIn I c 1 ∗ WinIn I c 2 ∗ WinIn I c 3 ∗ WinIn I c 4 ∗ WinIn I c 5 ∗ WinIn I c 6 ∗ WinIn I c 7)
    ∗ (DWIn I c 0 ∗ DWIn I c 1 ∗ DWIn I c 2) ∗ anyv c mDht.view ∗ GtAny c 0 ∗ GtAny c 1 ∗ AtAny c 0 ∗ AtAny c 1 ∗ DtAny c 0 ∗ DtAny c 1
    ∗ VtAny c 0 ∗ VtAny c 1 ∗ WbAny c 0 ∗ WbAny c 1 ∗ OutFree c 0 ∗ OutFree c 1 ∗ InFree c 0 ∗ InFree c 1
    ∗ (HDone I c 0 ∗ HDone I c 1 ∗ HDone I c 2 ∗ HDone I c 3 ∗ HDone I c 4 ∗ HDone I c 5 ∗ HDone I c 6 ∗ HDone I c 7)
    ∗ (IDone I c 0 ∗ IDone I c 1 ∗ IDone I c 2 ∗ IDone I c 3 ∗ IDone I c 4 ∗ IDone I c 5 ∗ IDone I c 6 ∗ IDone I c 7)
    ∗ bigSep Finset.univ (qkvD I c)
    ∗ own c mDgH.view (vRes3 I) ∗ own c mDg.view (vRes3 I) ∗ DxHDone I c ∗ anyv c mDx.view
    ∗ zero c (sOut 0) ∗ zero c (sOut 1) ∗ zero c (sIn 0) ∗ zero c (sIn 1) ∗ zero c sQkv ∗ zero c sDx ∗ zero c sLast ∗ owesA c)

/-- Starting block `j` of the third result, the number of copies in flight a plain number. -/
theorem startQkv_at (j : Fin 3) (n n' : ℕ) (hn : j.val = n) (hn' : n + 1 = n') (k : PUnit → P F α) :
    iprop(QDone I c j 0 ∗ QDone I c j 1 ∗ anyv c (mQkvH.access (rQkvH j)) ∗ QFly I c n 0) ⊢
      iprop((QFly I c n' 0 -∗ W c (k ⟨⟩) Q) -∗ W c (startQkv j >>= k) Q) := by
  subst hn hn'; exact startQkv_rule I j k

theorem body_rule (k : PUnit → P F α) :
    BodyIn I c ⊢ iprop((BodyOut I c -∗ W c (k ⟨⟩) Q)
      -∗ W c (pre >>= fun _ => trip 0 >>= fun _ => trip 1 >>= fun _ => trip 2 >>= fun _ => epi >>= k) Q) := by
  have hDh : accH I 7 (accH I 6 (vD6 I)) = vDh I := rfl
  unfold BodyIn BodyOut epi
  simp only [bind_assoc, trip0_eq', trip1_eq', trip2_eq']
  iintro ⟨HI, Hdyt, Hxht, Hgamc, Hd, Ht0, Ht1, Ha0, Ha1, Hb0, Hb1, Hv0, Hv1, Hw0, Hw1, Ho0, Ho1, Hi0, Hi1, ⟨Q00, Q01, Q10, Q11, Q20, Q21⟩,
    ⟨H0, H1, H2, H3, H4, H5, H6, H7⟩, ⟨K0, K1, K2, K3, K4, K5, K6, K7⟩, ⟨E0, E1, E2⟩, Hdg, HdgH, Hdx, HdxH, Z0, Z1, Y0, Y1, ZQ, ZX, ZL, Ho⟩ Hk
  imod (batch_new (c := c) sQkv nQkv (qkvD I c) (E := Set.univ)) $$ ZQ with HQ
  ihave HQ : (QFly I c 0 0) $$ [HQ]
  · unfold QFly; iexact HQ
  iapply (pre_rule I _) $$ [HI Hdyt Hxht Hgamc Hd Ht0 Ht1 Ha0 Ha1 Hb0 Hv0 Hw0 Ho0 Ho]
  · iframe
  iintro ⟨HC, HR, G0, G1, G2, G3, G4, G5, G6, G7, V0, V1, V2, V3, V4, V5, V6, V7, J0, J1, J2, Ht0, Ht1, Ha0, Ha1, Hb0, Hv0, Hw0, Ho0, Hd, Ho⟩
  iapply (startOut_rule I 0 0 _) $$ [Ho0 H0 Z0]
  · iframe
  iintro Hf0
  iapply (halfA_rule I 0 0 1 2 rfl rfl rfl vD0 (vD1 I) rfl _) $$ [HC G2 V0 Ht1 Ht0 Ha1 Ha0 Hb0 Hb1 Ho1 Hi0 Hv0 Hw0 Q00 J0 Hv1 Hw1 Hd Ho]
  · iframe
  iintro ⟨HC, G2, V0, Ht1, Ht0, Ha1, Ha0, Hb0, Hb1, Ho1, Hi0, Hv0, Hw0, Q00, J0, Hv1, Hw1, Hd, Ho⟩
  iapply (startOut_rule I 1 1 _) $$ [Ho1 H1 Z1]
  · iframe
  iintro Hf1
  iapply (startIn_rule I 0 0 _) $$ [Hi0 K0 Y0]
  · iframe
  iintro Hg0
  iapply (waitOut_rule I 0 0 _) $$ [Hf0 Ho]
  · iframe
  iintro ⟨H0, Ho0, Z0, Ho⟩
  iapply (waitAG_rule I 3 _) $$ [G3 Ho]
  · iframe
  iintro ⟨G3, Ho⟩
  iapply (waitWin_rule I 1 _) $$ [V1 Ho]
  · iframe
  iintro ⟨V1, Ho⟩
  iapply (waitDW_rule I 1 _) $$ [J1 Ho]
  · iframe
  iintro ⟨J1, Ho⟩
  iapply (halfB_rule I 0 1 1 2 3 rfl rfl rfl (vD1 I) (vD2 I) rfl _) $$ [HC G3 V1 Ht0 Ht1 Ha0 Ha1 Hb1 Hb0 Ho0 Hi1 Hv1 Hw1 Q01 J1 Hv0 Hw0 Hd]
  · iframe
  iintro ⟨HC, G3, V1, Ht0, Ht1, Ha0, Ha1, Hb1, Hb0, Ho0, Hi1, Hv1, Hw1, Q01, J1, Hv0, Hw0, Hd⟩
  iapply (startOut_rule I 2 0 _) $$ [Ho0 H2 Z0]
  · iframe
  iintro Hf0
  iapply (startIn_rule I 1 1 _) $$ [Hi1 K1 Y1]
  · iframe
  iintro Hg1
  iapply (waitOut_rule I 1 1 _) $$ [Hf1 Ho]
  · iframe
  iintro ⟨H1, Ho1, Z1, Ho⟩
  iapply (waitIn_rule I 0 0 _) $$ [Hg0 Ho]
  · iframe
  iintro ⟨K0, Hi0, Y0, Ho⟩
  iapply (startQkv_at I 0 0 1 rfl rfl _) $$ [Q00 Q01 E0 HQ]
  · iframe
  iintro HQ
  iapply (halfA_rule I 1 2 3 4 rfl rfl rfl (vD2 I) (vD3 I) rfl _) $$ [HC G4 V2 Ht1 Ht0 Ha1 Ha0 Hb0 Hb1 Ho1 Hi0 Hv0 Hw0 Q10 J1 Hv1 Hw1 Hd Ho]
  · iframe
  iintro ⟨HC, G4, V2, Ht1, Ht0, Ha1, Ha0, Hb0, Hb1, Ho1, Hi0, Hv0, Hw0, Q10, J1, Hv1, Hw1, Hd, Ho⟩
  iapply (startOut_rule I 3 1 _) $$ [Ho1 H3 Z1]
  · iframe
  iintro Hf1
  iapply (startIn_rule I 2 0 _) $$ [Hi0 K2 Y0]
  · iframe
  iintro Hg0
  iapply (waitOut_rule I 2 0 _) $$ [Hf0 Ho]
  · iframe
  iintro ⟨H2, Ho0, Z0, Ho⟩
  iapply (waitIn_rule I 1 1 _) $$ [Hg1 Ho]
  · iframe
  iintro ⟨K1, Hi1, Y1, Ho⟩
  iapply (waitAG_rule I 5 _) $$ [G5 Ho]
  · iframe
  iintro ⟨G5, Ho⟩
  iapply (waitWin_rule I 3 _) $$ [V3 Ho]
  · iframe
  iintro ⟨V3, Ho⟩
  iapply (waitDW_rule I 2 _) $$ [J2 Ho]
  · iframe
  iintro ⟨J2, Ho⟩
  iapply (halfB_rule I 1 2 3 4 5 rfl rfl rfl (vD3 I) (vD4 I) rfl _) $$ [HC G5 V3 Ht0 Ht1 Ha0 Ha1 Hb1 Hb0 Ho0 Hi1 Hv1 Hw1 Q11 J2 Hv0 Hw0 Hd]
  · iframe
  iintro ⟨HC, G5, V3, Ht0, Ht1, Ha0, Ha1, Hb1, Hb0, Ho0, Hi1, Hv1, Hw1, Q11, J2, Hv0, Hw0, Hd⟩
  iapply (startOut_rule I 4 0 _) $$ [Ho0 H4 Z0]
  · iframe
  iintro Hf0
  iapply (startIn_rule I 3 1 _) $$ [Hi1 K3 Y1]
  · iframe
  iintro Hg1
  iapply (waitOut_rule I 3 1 _) $$ [Hf1 Ho]
  · iframe
  iintro ⟨H3, Ho1, Z1, Ho⟩
  iapply (waitIn_rule I 2 0 _) $$ [Hg0 Ho]
  · iframe
  iintro ⟨K2, Hi0, Y0, Ho⟩
  iapply (startQkv_at I 1 1 2 rfl rfl _) $$ [Q10 Q11 E1 HQ]
  · iframe
  iintro HQ
  iapply (halfA_rule I 2 4 5 6 rfl rfl rfl (vD4 I) (vD5 I) rfl _) $$ [HC G6 V4 Ht1 Ht0 Ha1 Ha0 Hb0 Hb1 Ho1 Hi0 Hv0 Hw0 Q20 J2 Hv1 Hw1 Hd Ho]
  · iframe
  iintro ⟨HC, G6, V4, Ht1, Ht0, Ha1, Ha0, Hb0, Hb1, Ho1, Hi0, Hv0, Hw0, Q20, J2, Hv1, Hw1, Hd, Ho⟩
  iapply (startOut_rule I 5 1 _) $$ [Ho1 H5 Z1]
  · iframe
  iintro Hf1
  iapply (startIn_rule I 4 0 _) $$ [Hi0 K4 Y0]
  · iframe
  iintro Hg0
  iapply (waitOut_rule I 4 0 _) $$ [Hf0 Ho]
  · iframe
  iintro ⟨H4, Ho0, Z0, Ho⟩
  iapply (waitIn_rule I 3 1 _) $$ [Hg1 Ho]
  · iframe
  iintro ⟨K3, Hi1, Y1, Ho⟩
  iapply (waitAG_rule I 7 _) $$ [G7 Ho]
  · iframe
  iintro ⟨G7, Ho⟩
  iapply (waitWin_rule I 5 _) $$ [V5 Ho]
  · iframe
  iintro ⟨V5, Ho⟩
  iapply (halfB_rule I 2 2 5 6 7 rfl rfl rfl (vD5 I) (vD6 I) rfl _) $$ [HC G7 V5 Ht0 Ht1 Ha0 Ha1 Hb1 Hb0 Ho0 Hi1 Hv1 Hw1 Q21 J2 Hv0 Hw0 Hd]
  · iframe
  iintro ⟨HC, G7, V5, Ht0, Ht1, Ha0, Ha1, Hb1, Hb0, Ho0, Hi1, Hv1, Hw1, Q21, J2, Hv0, Hw0, Hd⟩
  iapply (startOut_rule I 6 0 _) $$ [Ho0 H6 Z0]
  · iframe
  iintro Hf0
  iapply (startIn_rule I 5 1 _) $$ [Hi1 K5 Y1]
  · iframe
  iintro Hg1
  iapply (startQkv_at I 2 2 3 rfl rfl _) $$ [Q20 Q21 E2 HQ]
  · iframe
  iintro HQ
  iapply (waitOut_rule I 5 1 _) $$ [Hf1 Ho]
  · iframe
  iintro ⟨H5, Ho1, Z1, Ho⟩
  iapply (waitIn_rule I 4 0 _) $$ [Hg0 Ho]
  · iframe
  iintro ⟨K4, Hi0, Y0, Ho⟩
  iapply (waitWin_rule I 6 _) $$ [V6 Ho]
  · iframe
  iintro ⟨V6, Ho⟩
  iapply (waitWin_rule I 7 _) $$ [V7 Ho]
  · iframe
  iintro ⟨V7, Ho⟩
  unfold Con Rest
  icases HC with ⟨Sgs, Sdqs, Hdyt, Hxht, Hgamc, Sds, Ssin, Ssq⟩
  unfold WinIn AGIn
  icases V6 with ⟨V60, V6⟩
  icases V7 with ⟨V70, V7⟩
  iapply (stageI_rule I 6 0 _) $$ [Hb0 Hxht Hgamc Hi0]
  · iframe
  iintro ⟨Hb0, Hxht, Hgamc, Hi0⟩
  iapply (stageH_rule I 6 0 (vD6 I) _) $$ [V60 Ssin Hb0 Hd]
  · iframe
  iintro ⟨V60, Ssin, Hb0, Hd⟩
  iapply (stageB_rule I 7 1 _) $$ [Ha1 Sds Hb1]
  · iframe
  iintro ⟨Ha1, Sds, Hb1⟩
  iapply (startIn_rule I 6 0 _) $$ [Hi0 K6 Y0]
  · iframe
  iintro Hg0
  iapply (waitIn_rule I 5 1 _) $$ [Hg1 Ho]
  · iframe
  iintro ⟨K5, Hi1, Y1, Ho⟩
  iapply (stageH_rule I 7 1 (accH I 6 (vD6 I)) _) $$ [V70 Ssin Hb1 Hd]
  · iframe
  iintro ⟨V70, Ssin, Hb1, Hd⟩
  rw [hDh]
  iapply (stageI_rule I 7 1 _) $$ [Hb1 Hxht Hgamc Hi1]
  · iframe
  iintro ⟨Hb1, Hxht, Hgamc, Hi1⟩
  iapply (stageO_rule I 7 1 _) $$ [Ht1 Hdyt Ho1]
  · iframe
  iintro ⟨Ht1, Hdyt, Ho1⟩
  icases HR with ⟨Srs, HR⟩
  iapply (stageDx_rule I _) $$ [Hd Hgamc Hxht Hdyt Srs Hdx]
  · unfold DxSrc
    iframe
  unfold DxSrc
  iintro ⟨⟨Hd, Hgamc, Hxht, Hdyt, Srs⟩, Hdx⟩
  iapply (stageDg_rule I _) $$ [Hd Hxht Hdg]
  · iframe
  iintro ⟨Hd, Hxht, Hdg⟩
  iapply (startDx_rule I _) $$ [Hdx HdxH ZX]
  · iframe
  iintro HX
  iapply (startLast_rule I _) $$ [Hdg HdgH ZL]
  · iframe
  iintro HL
  iapply (startIn_rule I 7 1 _) $$ [Hi1 K7 Y1]
  · iframe
  iintro Hg1
  iapply (startOut_rule I 7 1 _) $$ [Ho1 H7 Z1]
  · iframe
  iintro Hf1
  iapply (waitQkvs_rule I _) $$ [HQ Ho]
  · iframe
  iintro ⟨HQ, ZQ, Ho⟩
  iapply (waitIn_rule I 6 0 _) $$ [Hg0 Ho]
  · iframe
  iintro ⟨K6, Hi0, Y0, Ho⟩
  iapply (waitOut_rule I 6 0 _) $$ [Hf0 Ho]
  · iframe
  iintro ⟨H6, Ho0, Z0, Ho⟩
  iapply (waitIn_rule I 7 1 _) $$ [Hg1 Ho]
  · iframe
  iintro ⟨K7, Hi1, Y1, Ho⟩
  iapply (waitOut_rule I 7 1 _) $$ [Hf1 Ho]
  · iframe
  iintro ⟨H7, Ho1, Z1, Ho⟩
  iapply (waitDx_rule I _) $$ [HX Ho]
  · iframe
  iintro ⟨HdxH, Hdx, ZX, Ho⟩
  iapply (waitLast_rule I _) $$ [HL Ho]
  · iframe
  iintro ⟨⟨HdgH, Hdg⟩, ZL, Ho⟩
  ihave Hd := (own_any c mDht.view (vDh I)) $$ Hd
  ihave Ht1 := (own_any c (mGt.access (rSlot 1)) (vGt I 7)) $$ Ht1
  ihave Ha1 := (own_any c (mAt.access (rSlot 1)) (vAt I 7)) $$ Ha1
  ihave Hb0 := (own_any c (mDat.access (rSlot 0)) (vDat I 6)) $$ Hb0
  ihave Hb1 := (own_any c (mDat.access (rSlot 1)) (vDat I 7)) $$ Hb1
  ihave Hv0 := (own_any c (mVt.access (rSlot 0)) (sub (vVt I 2 0) (rSlot 0))) $$ Hv0
  ihave Hw0 := (own_any c (mWqb.access (rWslot 0)) (sub (vWqb I 2 0) (rWslot 0))) $$ Hw0
  iapply Hk
  iframe

end Cert.Kernel.Hand

end
-- ==== Proof.KEnds.lean ====
module

public import proofs.«01_k».proof.Proof.KAll

/-! Between whole buffers, as the launch holds them, and the pieces the body's run takes and leaves. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type} {c : Dev nD} {Q : α → sProp (MT nD τ sig Unit (Elt F) ℕ (Pipeline.UD sig nD τ) ℕ)} (I : In F)

/-! ### Pieces -/

variable {sp : Space} {s : Shape} {e : EltTy}

theorem reshape_any (v : View sig .tc sp s e) {s' : Shape} (h : s'.numel = s.numel) : anyv c (v.reshape s' h) ⊢ (anyv c v : sProp 𝕄) := by
  unfold anyv
  rw [View.set_reshape]

theorem any_own (v : View sig .tc sp s e) : anyv c v ⊢ (iprop(∃ w, own c v w) : sProp 𝕄) := by
  unfold anyv
  iintro ⟨%f, H⟩
  iexists v.read (Elt F) f
  iapply (own_of v f) $$ H

/-- The pieces of a buffer, held at anything, are the buffer. -/
theorem any_paste_all [Nonempty (Elt F e)] (m : Memref sig .tc sp s e) (g : m.view.ty.Contents (Elt F)) {A : Type} [Fintype A] [DecidableEq A] (r : A → Rect s)
    (hd : ∀ a b, a ≠ b → Disjoint (r a).set (r b).set) (h : ∀ i, ∃ a, i ∈ (r a).set) :
    bigSep Finset.univ (fun a => anyv c (m.access (r a))) ⊢ (anyv c m.view : sProp 𝕄) := by
  refine (bigSep_mono (fun a _ => any_own (c := c) (m.access (r a)))).trans ?_
  refine (bigSep_exists_pi _ _).trans ?_
  iintro ⟨%w, H⟩
  iapply (own_any c m.view (glue r w (Classical.choice inferInstance)))
  iapply (own_paste_all m r hd h g (glue r w (Classical.choice inferInstance)) w (fun a y => glue_emb r hd w _ a y)) $$ H

/-- A whole buffer. -/
theorem own_whole (m : Memref sig .tc sp s e) (h : m.view.set = Finset.univ) (f : m.view.ty.Contents (Elt F)) :
    (m.view.loc (c : Thread nD τ) ↦{fullShare} f : sProp 𝕄) ⊢ own c m.view (m.view.read (Elt F) f) := by
  refine .trans ?_ (own_of m.view f)
  rw [h]
theorem any_whole (m : Memref sig .tc sp s e) (h : m.view.set = Finset.univ) (f : m.view.ty.Contents (Elt F)) :
    (m.view.loc (c : Thread nD τ) ↦{fullShare} f : sProp 𝕄) ⊢ anyv c m.view := (own_whole m h f).trans (own_any _ _ _)
theorem whole_own (m : Memref sig .tc sp s e) (h : m.view.set = Finset.univ) (f : m.view.ty.Contents (Elt F)) :
    own c m.view (m.view.read (Elt F) f) ⊢ (m.view.loc (c : Thread nD τ) ↦{fullShare} f : sProp 𝕄) := by
  refine (own_to m.view f _ rfl).trans ?_
  rw [h]
theorem whole_any (m : Memref sig .tc sp s e) (h : m.view.set = Finset.univ) :
    anyv c m.view ⊢ (iprop(∃ f, m.view.loc (c : Thread nD τ) ↦{fullShare} f) : sProp 𝕄) := by
  unfold anyv
  rw [h]

/-! ### The whole buffers -/

/-- The scratch buffers, at anything. -/
def Scr (c : Dev nD) : sProp 𝕄 := iprop(anyv c mDy.view ∗ anyv c mDys.view ∗ anyv c mDq.view ∗ anyv c mDqs.view ∗ anyv c mXh.view ∗ anyv c mXs.view ∗ anyv c mGs.view ∗ anyv c mRs.view ∗ anyv c mGam.view ∗ anyv c mA.view ∗ anyv c mG.view ∗ anyv c mWin.view ∗ anyv c mSin.view ∗ anyv c mWq.view ∗ anyv c mSq.view ∗ anyv c mDyt.view ∗ anyv c mXht.view ∗ anyv c mDht.view ∗ anyv c mGamc.view ∗ anyv c mAt.view ∗ anyv c mGt.view ∗ anyv c mDat.view ∗ anyv c mDs.view ∗ anyv c mVt.view ∗ anyv c mWqb.view ∗ anyv c mIn.view ∗ anyv c mOut.view ∗ anyv c mQkv.view ∗ anyv c mDx.view ∗ anyv c mDg.view)
/-- The semaphores, at zero. -/
def Sems (c : Dev nD) : sProp 𝕄 := iprop(zero c sSmall ∗ zero c sDy ∗ zero c sXh ∗ zero c (sA 0) ∗ zero c (sA 1) ∗ zero c (sA 2) ∗ zero c (sA 3) ∗ zero c (sA 4) ∗ zero c (sA 5) ∗ zero c (sA 6) ∗ zero c (sA 7) ∗ zero c (sG 0) ∗ zero c (sG 1) ∗ zero c (sG 2) ∗ zero c (sG 3) ∗ zero c (sG 4) ∗ zero c (sG 5) ∗ zero c (sG 6) ∗ zero c (sG 7) ∗ zero c (sWin 0) ∗ zero c (sWin 1) ∗ zero c (sWin 2) ∗ zero c (sWin 3) ∗ zero c (sWin 4) ∗ zero c (sWin 5) ∗ zero c (sWin 6) ∗ zero c (sWin 7) ∗ zero c (sDq 0) ∗ zero c (sDq 1) ∗ zero c (sDq 2) ∗ zero c (sWq 0) ∗ zero c (sWq 1) ∗ zero c (sWq 2) ∗ zero c (sIn 0) ∗ zero c (sIn 1) ∗ zero c (sOut 0) ∗ zero c (sOut 1) ∗ zero c sQkv ∗ zero c sDx ∗ zero c sLast)
/-- The operands. -/
def HIn (c : Dev nD) : sProp 𝕄 := iprop(own c mDyH.view I.dy ∗ own c mDysH.view I.dys ∗ own c mDqH.view I.dq ∗ own c mDqsH.view I.dqs ∗ own c mXhH.view I.xh ∗ own c mXsH.view I.xs ∗ own c mGsH.view I.gs ∗ own c mRsH.view I.rs ∗ own c mGamH.view I.gam ∗ own c mAH.view I.a ∗ own c mDsH.view I.ds ∗ own c mGH.view I.g ∗ own c mWinH.view I.win ∗ own c mSinH.view I.sin ∗ own c mWqH.view I.wq ∗ own c mSqH.view I.sq)
/-- The results' places, at anything. -/
def HFrees (c : Dev nD) : sProp 𝕄 := iprop(DxHFree c ∗ anyv c mInH.view ∗ anyv c mOutH.view ∗ anyv c mQkvH.view ∗ anyv c mDgH.view)
/-- The results. -/
def HDones (c : Dev nD) : sProp 𝕄 := iprop(DxHDone I c ∗ own c mInH.view (vRes2 I) ∗ own c mOutH.view (vRes0 I) ∗ own c mQkvH.view (vRes1 I) ∗ own c mDgH.view (vRes3 I))

/-! ### Taking apart -/

theorem gh_cut : own c mGH.view I.g ⊢ (iprop(own c (gH 0).view (sub I.g (rGcol 0)) ∗ own c (gH 1).view (sub I.g (rGcol 1)) ∗ own c (gH 2).view (sub I.g (rGcol 2)) ∗ own c (gH 3).view (sub I.g (rGcol 3)) ∗ own c (gH 4).view (sub I.g (rGcol 4)) ∗ own c (gH 5).view (sub I.g (rGcol 5)) ∗ own c (gH 6).view (sub I.g (rGcol 6)) ∗ own c (gH 7).view (sub I.g (rGcol 7))) : sProp 𝕄) :=
  (own_cut_all (c := c) mGH rGcol dj_gcol cv_gcol I.g).trans (.of_eq (sep_univ8 fun t => own c (gH t).view (sub I.g (rGcol t))))
theorem gv_cut : anyv c mG.view ⊢ (iprop(anyv c (mG.access (rG 0)) ∗ anyv c (mG.access (rG 1)) ∗ anyv c (mG.access (rG 2)) ∗ anyv c (mG.access (rG 3)) ∗ anyv c (mG.access (rG 4)) ∗ anyv c (mG.access (rG 5)) ∗ anyv c (mG.access (rG 6)) ∗ anyv c (mG.access (rG 7))) : sProp 𝕄) :=
  (any_cut_all (c := c) mG rG dj_g cv_g).trans (.of_eq (sep_univ8 fun t => anyv c (mG.access (rG t))))
theorem dqh_cut : own c mDqH.view I.dq ⊢ (iprop(own c (mDqH.access (rDqH 0)) (sub I.dq (rDqH 0)) ∗ own c (mDqH.access (rDqH 1)) (sub I.dq (rDqH 1)) ∗ own c (mDqH.access (rDqH 2)) (sub I.dq (rDqH 2))) : sProp 𝕄) :=
  (own_cut_all (c := c) mDqH rDqH dj_dqh cv_dqh I.dq).trans (.of_eq (sep_univ3 fun j => own c (mDqH.access (rDqH j)) (sub I.dq (rDqH j))))
theorem dqv_cut : anyv c mDq.view ⊢ (iprop(anyv c (mDq.access (rDq 0)) ∗ anyv c (mDq.access (rDq 1)) ∗ anyv c (mDq.access (rDq 2))) : sProp 𝕄) :=
  (any_cut_all (c := c) mDq rDq dj_dq cv_dq).trans (.of_eq (sep_univ3 fun j => anyv c (mDq.access (rDq j))))
theorem gt_cut : anyv c mGt.view ⊢ (iprop(GtAny c 0 ∗ GtAny c 1) : sProp 𝕄) :=
  (any_cut_all (c := c) mGt rSlot dj_slot cv_slot).trans (.of_eq (sep_univ2 fun s => GtAny c s))
theorem vts_cut : anyv c mVt.view ⊢ (iprop(VtAny c 0 ∗ VtAny c 1) : sProp 𝕄) :=
  (any_cut_all (c := c) mVt rSlot dj_slot cv_slot).trans (.of_eq (sep_univ2 fun s => VtAny c s))
theorem out_cut : anyv c mOut.view ⊢ (iprop(OutFree c 0 ∗ OutFree c 1) : sProp 𝕄) := by
  refine (any_cut_all (c := c) mOut rOutP dj_out cv_out).trans ?_
  rw [bigSep_univ_prod]
  exact .of_eq (sep_univ2 fun s => OutFree c s)
theorem outh_cut : anyv c mOutH.view ⊢ (iprop(HFree c 0 ∗ HFree c 1 ∗ HFree c 2 ∗ HFree c 3 ∗ HFree c 4 ∗ HFree c 5 ∗ HFree c 6 ∗ HFree c 7) : sProp 𝕄) := by
  refine (any_cut_all (c := c) mOutH rOutH dj_outh cv_outh).trans ?_
  rw [bigSep_univ_prod]
  exact .of_eq (sep_univ8 fun t => HFree c t)
theorem qkvh_cut : anyv c mQkvH.view ⊢ (iprop(anyv c (mQkvH.access (rQkvH 0)) ∗ anyv c (mQkvH.access (rQkvH 1)) ∗ anyv c (mQkvH.access (rQkvH 2))) : sProp 𝕄) :=
  (any_cut_all (c := c) mQkvH rQkvH dj_qkvh cv_qkvh).trans (.of_eq (sep_univ3 fun j => anyv c (mQkvH.access (rQkvH j))))
theorem qkvp_cut (j : Fin 3) : anyv c (mQkv.access (rQkvS j)) ⊢ (iprop(QFree c j 0 ∗ QFree c j 1) : sProp 𝕄) := by
  refine (any_cut (c := c) mQkv (rQkvP j) (dj_qkv j) (rQkvS j) (cv_qkv j)).trans ?_
  rw [bigSep_univ_prod, sep_univ2]
  unfold QFree
  exact .of_eq (congrArg₂ (fun P R => iprop(P ∗ R)) (sep_univ2 fun p => anyv c (mQkv.access (rQkv j 0 p))) (sep_univ2 fun p => anyv c (mQkv.access (rQkv j 1 p))))
theorem qkv_cut : anyv c mQkv.view ⊢ (iprop((QFree c 0 0 ∗ QFree c 0 1) ∗ (QFree c 1 0 ∗ QFree c 1 1) ∗ (QFree c 2 0 ∗ QFree c 2 1)) : sProp 𝕄) := by
  refine (any_cut_all (c := c) mQkv rQkvS dj_qkvs cv_qkvs).trans ?_
  have h : bigSep Finset.univ (fun j : Fin 3 => anyv c (mQkv.access (rQkvS j))) ⊢ (bigSep Finset.univ (fun j : Fin 3 => iprop(QFree c j 0 ∗ QFree c j 1)) : sProp 𝕄) :=
    bigSep_mono (fun j _ => qkvp_cut (c := c) j)
  exact h.trans (.of_eq (sep_univ3 fun j => iprop(QFree c j 0 ∗ QFree c j 1)))

theorem ah_cut : own c mAH.view I.a ⊢ (iprop(own c (aH 0).view (sub I.a (rGcol 0)) ∗ own c (aH 1).view (sub I.a (rGcol 1)) ∗ own c (aH 2).view (sub I.a (rGcol 2)) ∗ own c (aH 3).view (sub I.a (rGcol 3)) ∗ own c (aH 4).view (sub I.a (rGcol 4)) ∗ own c (aH 5).view (sub I.a (rGcol 5)) ∗ own c (aH 6).view (sub I.a (rGcol 6)) ∗ own c (aH 7).view (sub I.a (rGcol 7))) : sProp 𝕄) :=
  (own_cut_all (c := c) mAH rGcol dj_gcol cv_gcol I.a).trans (.of_eq (sep_univ8 fun t => own c (aH t).view (sub I.a (rGcol t))))
theorem av_cut : anyv c mA.view ⊢ (iprop(anyv c (mA.access (rG 0)) ∗ anyv c (mA.access (rG 1)) ∗ anyv c (mA.access (rG 2)) ∗ anyv c (mA.access (rG 3)) ∗ anyv c (mA.access (rG 4)) ∗ anyv c (mA.access (rG 5)) ∗ anyv c (mA.access (rG 6)) ∗ anyv c (mA.access (rG 7))) : sProp 𝕄) :=
  (any_cut_all (c := c) mA rG dj_g cv_g).trans (.of_eq (sep_univ8 fun t => anyv c (mA.access (rG t))))
theorem winh_cut : own c mWinH.view I.win ⊢ (iprop(own c (winH 0).view (sub I.win (rWinH 0)) ∗ own c (winH 1).view (sub I.win (rWinH 1)) ∗ own c (winH 2).view (sub I.win (rWinH 2)) ∗ own c (winH 3).view (sub I.win (rWinH 3)) ∗ own c (winH 4).view (sub I.win (rWinH 4)) ∗ own c (winH 5).view (sub I.win (rWinH 5)) ∗ own c (winH 6).view (sub I.win (rWinH 6)) ∗ own c (winH 7).view (sub I.win (rWinH 7))) : sProp 𝕄) :=
  (own_cut_all (c := c) mWinH rWinH dj_winh cv_winh I.win).trans (.of_eq (sep_univ8 fun t => own c (winH t).view (sub I.win (rWinH t))))
theorem winv_cut : anyv c mWin.view ⊢ (iprop(anyv c (mWin.access (rWin 0)) ∗ anyv c (mWin.access (rWin 1)) ∗ anyv c (mWin.access (rWin 2)) ∗ anyv c (mWin.access (rWin 3)) ∗ anyv c (mWin.access (rWin 4)) ∗ anyv c (mWin.access (rWin 5)) ∗ anyv c (mWin.access (rWin 6)) ∗ anyv c (mWin.access (rWin 7))) : sProp 𝕄) :=
  (any_cut_all (c := c) mWin rWin dj_win cv_win).trans (.of_eq (sep_univ8 fun t => anyv c (mWin.access (rWin t))))
theorem wqh_cut : own c mWqH.view I.wq ⊢ (iprop(own c (mWqH.access (rQkvH 0)) (sub I.wq (rQkvH 0)) ∗ own c (mWqH.access (rQkvH 1)) (sub I.wq (rQkvH 1)) ∗ own c (mWqH.access (rQkvH 2)) (sub I.wq (rQkvH 2))) : sProp 𝕄) :=
  (own_cut_all (c := c) mWqH rQkvH dj_qkvh cv_qkvh I.wq).trans (.of_eq (sep_univ3 fun j => own c (mWqH.access (rQkvH j)) (sub I.wq (rQkvH j))))
theorem wqv_cut : anyv c mWq.view ⊢ (iprop(anyv c (mWq.access (rQkvS 0)) ∗ anyv c (mWq.access (rQkvS 1)) ∗ anyv c (mWq.access (rQkvS 2))) : sProp 𝕄) :=
  (any_cut_all (c := c) mWq rQkvS dj_qkvs cv_qkvs).trans (.of_eq (sep_univ3 fun j => anyv c (mWq.access (rQkvS j))))
theorem at_cut : anyv c mAt.view ⊢ (iprop(AtAny c 0 ∗ AtAny c 1) : sProp 𝕄) :=
  (any_cut_all (c := c) mAt rSlot dj_slot cv_slot).trans (.of_eq (sep_univ2 fun s => AtAny c s))
theorem dat_cut : anyv c mDat.view ⊢ (iprop(DtAny c 0 ∗ DtAny c 1) : sProp 𝕄) :=
  (any_cut_all (c := c) mDat rSlot dj_slot cv_slot).trans (.of_eq (sep_univ2 fun s => DtAny c s))
theorem wqb_cut : anyv c mWqb.view ⊢ (iprop(WbAny c 0 ∗ WbAny c 1) : sProp 𝕄) :=
  (any_cut_all (c := c) mWqb rWslot dj_wslot cv_wslot).trans (.of_eq (sep_univ2 fun s => WbAny c s))
theorem in_cut : anyv c mIn.view ⊢ (iprop(InFree c 0 ∗ InFree c 1) : sProp 𝕄) := by
  refine (any_cut_all (c := c) mIn rInP dj_in cv_in).trans ?_
  rw [bigSep_univ_prod]
  exact .of_eq (sep_univ2 fun s => InFree c s)
theorem inh_cut : anyv c mInH.view ⊢ (iprop(IFree c 0 ∗ IFree c 1 ∗ IFree c 2 ∗ IFree c 3 ∗ IFree c 4 ∗ IFree c 5 ∗ IFree c 6 ∗ IFree c 7) : sProp 𝕄) := by
  refine (any_cut_all (c := c) mInH rInH dj_inh cv_inh).trans ?_
  rw [bigSep_univ_prod]
  exact .of_eq (sep_univ8 fun t => IFree c t)

theorem init_ends : iprop(Scr c ∗ Sems c ∗ HIn I c ∗ HFrees c ∗ owesA c) ⊢ (BodyIn I c : sProp 𝕄) := by
  unfold Scr Sems HIn HFrees BodyIn StartIn SmallH SmallFree AGFree WinFree DWFree
  iintro ⟨⟨SmDy, SmDys, SmDq, SmDqs, SmXh, SmXs, SmGs, SmRs, SmGam, SmA, SmG, SmWin, SmSin, SmWq, SmSq, SmDyt, SmXht, SmDht, SmGamc, SmAt, SmGt, SmDat, SmDs, SmVt, SmWqb, SmIn, SmOut, SmQkv, SmDx, SmDg⟩, ⟨Z0, Z1, Z2, Z3, Z4, Z5, Z6, Z7, Z8, Z9, Z10, Z11, Z12, Z13, Z14, Z15, Z16, Z17, Z18, Z19, Z20, Z21, Z22, Z23, Z24, Z25, Z26, Z27, Z28, Z29, Z30, Z31, Z32, Z33, Z34, Z35, Z36, Z37, Z38, Z39⟩, ⟨HmDyH, HmDysH, HmDqH, HmDqsH, HmXhH, HmXsH, HmGsH, HmRsH, HmGamH, HmAH, HmDsH, HmGH, HmWinH, HmSinH, HmWqH, HmSqH⟩, ⟨Hdx, Hin, Hout, Hqkv, Hdg⟩, Ho⟩
  ihave HmGH := (gh_cut (c := c) I) $$ HmGH
  icases HmGH with ⟨gh0, gh1, gh2, gh3, gh4, gh5, gh6, gh7⟩
  ihave SmG := (gv_cut (c := c)) $$ SmG
  icases SmG with ⟨gv0, gv1, gv2, gv3, gv4, gv5, gv6, gv7⟩
  ihave HmAH := (ah_cut (c := c) I) $$ HmAH
  icases HmAH with ⟨ah0, ah1, ah2, ah3, ah4, ah5, ah6, ah7⟩
  ihave SmA := (av_cut (c := c)) $$ SmA
  icases SmA with ⟨av0, av1, av2, av3, av4, av5, av6, av7⟩
  ihave HmWinH := (winh_cut (c := c) I) $$ HmWinH
  icases HmWinH with ⟨wh0, wh1, wh2, wh3, wh4, wh5, wh6, wh7⟩
  ihave SmWin := (winv_cut (c := c)) $$ SmWin
  icases SmWin with ⟨wv0, wv1, wv2, wv3, wv4, wv5, wv6, wv7⟩
  ihave HmDqH := (dqh_cut (c := c) I) $$ HmDqH
  icases HmDqH with ⟨dh0, dh1, dh2⟩
  ihave SmDq := (dqv_cut (c := c)) $$ SmDq
  icases SmDq with ⟨dv0, dv1, dv2⟩
  ihave HmWqH := (wqh_cut (c := c) I) $$ HmWqH
  icases HmWqH with ⟨qh0, qh1, qh2⟩
  ihave SmWq := (wqv_cut (c := c)) $$ SmWq
  icases SmWq with ⟨qv0, qv1, qv2⟩
  ihave SmGt := (gt_cut (c := c)) $$ SmGt
  icases SmGt with ⟨T0, T1⟩
  ihave SmAt := (at_cut (c := c)) $$ SmAt
  icases SmAt with ⟨A0, A1⟩
  ihave SmDat := (dat_cut (c := c)) $$ SmDat
  icases SmDat with ⟨B0, B1⟩
  ihave SmWqb := (wqb_cut (c := c)) $$ SmWqb
  icases SmWqb with ⟨W0, W1⟩
  ihave SmVt := (vts_cut (c := c)) $$ SmVt
  icases SmVt with ⟨V0, V1⟩
  ihave SmOut := (out_cut (c := c)) $$ SmOut
  icases SmOut with ⟨O0, O1⟩
  ihave SmIn := (in_cut (c := c)) $$ SmIn
  icases SmIn with ⟨N0, N1⟩
  ihave Hout := (outh_cut (c := c)) $$ Hout
  icases Hout with ⟨P0, P1, P2, P3, P4, P5, P6, P7⟩
  ihave Hin := (inh_cut (c := c)) $$ Hin
  icases Hin with ⟨K0, K1, K2, K3, K4, K5, K6, K7⟩
  ihave Hqkv := (qkvh_cut (c := c)) $$ Hqkv
  icases Hqkv with ⟨Q0, Q1, Q2⟩
  ihave SmQkv := (qkv_cut (c := c)) $$ SmQkv
  icases SmQkv with ⟨⟨R0, R1⟩, ⟨R2, R3⟩, ⟨R4, R5⟩⟩
  iframe

/-! ### Putting together -/

theorem gh_paste : (iprop(own c (gH 0).view (sub I.g (rGcol 0)) ∗ own c (gH 1).view (sub I.g (rGcol 1)) ∗ own c (gH 2).view (sub I.g (rGcol 2)) ∗ own c (gH 3).view (sub I.g (rGcol 3)) ∗ own c (gH 4).view (sub I.g (rGcol 4)) ∗ own c (gH 5).view (sub I.g (rGcol 5)) ∗ own c (gH 6).view (sub I.g (rGcol 6)) ∗ own c (gH 7).view (sub I.g (rGcol 7))) : sProp 𝕄) ⊢ own c mGH.view I.g :=
  (Entails.of_eq (sep_univ8 fun t => own c (gH t).view (sub I.g (rGcol t))).symm).trans
    (own_paste_all (c := c) mGH rGcol dj_gcol cv_gcol I.g I.g (fun t => sub I.g (rGcol t)) fun _ _ => rfl)
theorem gv_paste : (iprop(own c (mG.access (rG 0)) (vG I 0) ∗ own c (mG.access (rG 1)) (vG I 1) ∗ own c (mG.access (rG 2)) (vG I 2) ∗ own c (mG.access (rG 3)) (vG I 3) ∗ own c (mG.access (rG 4)) (vG I 4) ∗ own c (mG.access (rG 5)) (vG I 5) ∗ own c (mG.access (rG 6)) (vG I 6) ∗ own c (mG.access (rG 7)) (vG I 7)) : sProp 𝕄) ⊢ anyv c mG.view := by
  refine (Entails.of_eq (sep_univ8 fun t => own c (mG.access (rG t)) (vG I t)).symm).trans ?_
  exact (own_paste_all (c := c) mG rG dj_g cv_g (glue rG (vG I) (vG I 0 (fun a => ⟨0, by fin_cases a <;> decide⟩))) (glue rG (vG I) (vG I 0 (fun a => ⟨0, by fin_cases a <;> decide⟩))) (vG I) fun t y => glue_emb rG dj_g _ _ t y).trans (own_any _ _ _)
theorem dqh_paste : (iprop(own c (dqH 0).view (vDq I 0) ∗ own c (dqH 1).view (vDq I 1) ∗ own c (dqH 2).view (vDq I 2)) : sProp 𝕄) ⊢ own c mDqH.view I.dq := by
  refine (Entails.of_eq (sep_univ3 fun j => own c (dqH j).view (vDq I j)).symm).trans ?_
  refine (bigSep_mono (fun j _ => reshape_own (c := c) (mDqH.access (rDqH j)) (s' := S512x8x128) nm_dqh (vDq I j))).trans ?_
  refine own_paste_all (c := c) mDqH rDqH dj_dqh cv_dqh I.dq I.dq _ fun j y => ?_
  unfold vDq
  rw [Equiv.apply_symm_apply]; rfl
theorem dqv_paste : (iprop(own c (dqV 0).view (vDq I 0) ∗ own c (dqV 1).view (vDq I 1) ∗ own c (dqV 2).view (vDq I 2)) : sProp 𝕄) ⊢ anyv c mDq.view := by
  refine (Entails.of_eq (sep_univ3 fun j => own c (dqV j).view (vDq I j)).symm).trans ?_
  refine (bigSep_mono (fun j _ => (own_any c (dqV j).view (vDq I j)).trans (reshape_any (c := c) (mDq.access (rDq j)) (s' := S512x8x128) nm_dq))).trans ?_
  have : Nonempty (Elt F .fp8e5m2) := ⟨I.dq (fun a => ⟨0, by fin_cases a <;> decide⟩)⟩
  exact any_paste_all (c := c) mDq (fun _ => Classical.choice this) rDq dj_dq cv_dq
theorem gt_paste : (iprop(GtAny c 0 ∗ GtAny c 1) : sProp 𝕄) ⊢ anyv c mGt.view := by
  have : Nonempty (Elt F .bf16) := ⟨dflt⟩
  exact (Entails.of_eq (sep_univ2 fun s => GtAny c s).symm).trans (any_paste_all (c := c) mGt (fun _ => dflt) rSlot dj_slot cv_slot)
theorem vts_paste : (iprop(VtAny c 0 ∗ VtAny c 1) : sProp 𝕄) ⊢ anyv c mVt.view := by
  have : Nonempty (Elt F .bf16) := ⟨dflt⟩
  exact (Entails.of_eq (sep_univ2 fun s => VtAny c s).symm).trans (any_paste_all (c := c) mVt (fun _ => dflt) rSlot dj_slot cv_slot)
theorem out_paste : (iprop(OutFree c 0 ∗ OutFree c 1) : sProp 𝕄) ⊢ anyv c mOut.view := by
  have : Nonempty (Elt F .bf16) := ⟨dflt⟩
  refine (Entails.of_eq (sep_univ2 fun s => OutFree c s).symm).trans ?_
  refine .trans ?_ (any_paste_all (c := c) mOut (fun _ => dflt) rOutP dj_out cv_out)
  rw [bigSep_univ_prod]
  exact .rfl
theorem outh_paste : (iprop(HDone I c 0 ∗ HDone I c 1 ∗ HDone I c 2 ∗ HDone I c 3 ∗ HDone I c 4 ∗ HDone I c 5 ∗ HDone I c 6 ∗ HDone I c 7) : sProp 𝕄) ⊢ own c mOutH.view (vRes0 I) := by
  refine (Entails.of_eq (sep_univ8 fun t => HDone I c t).symm).trans ?_
  refine .trans ?_ (own_paste_all (c := c) mOutH rOutH dj_outh cv_outh (fun _ => dflt) (vRes0 I) _ (fun p y => glue_emb rOutH dj_outh (fun p => vOut I p.1 p.2) dflt p y))
  rw [bigSep_univ_prod]
  exact .rfl
theorem qkvs_paste : bigSep Finset.univ (qkvD I c) ⊢ (iprop(own c mQkvH.view (vRes1 I) ∗ anyv c mQkv.view) : sProp 𝕄) := by
  have : Nonempty (Elt F .bf16) := ⟨dflt⟩
  refine (Entails.of_eq (bigSep_sep' Finset.univ (fun j => own c (qkvH j).view (vQkv I j)) (fun j => own c (qkvV j).view (vQkv I j)))).trans ?_
  have h : bigSep Finset.univ (fun j : Fin 3 => own c (qkvH j).view (vQkv I j))
      ⊢ (bigSep Finset.univ (fun j : Fin 3 => own c (mQkvH.access (rQkvH j)) (fun i => vQkv I j ((Shape.reshapeEquiv nm_qkvh).symm i))) : sProp 𝕄) :=
    bigSep_mono (fun j _ => reshape_own (c := c) (mQkvH.access (rQkvH j)) (s' := S1024x8x128) nm_qkvh (vQkv I j))
  have v : bigSep Finset.univ (fun j : Fin 3 => own c (qkvV j).view (vQkv I j)) ⊢ (bigSep Finset.univ (fun j : Fin 3 => anyv c (mQkv.access (rQkvS j))) : sProp 𝕄) :=
    bigSep_mono (fun j _ => (own_any c (qkvV j).view (vQkv I j)).trans (reshape_any (c := c) (mQkv.access (rQkvS j)) (s' := S1024x8x128) nm_qkvs))
  iintro ⟨H, V⟩
  isplitl [H]
  · iapply (own_paste_all (c := c) mQkvH rQkvH dj_qkvh cv_qkvh (fun _ => dflt) (vRes1 I) _
      (fun j y => glue_emb rQkvH dj_qkvh (fun j => fun i => vQkv I j ((Shape.reshapeEquiv nm_qkvh).symm i)) dflt j y))
    iapply h $$ H
  · iapply (any_paste_all (c := c) mQkv (fun _ => dflt) rQkvS dj_qkvs cv_qkvs)
    iapply v $$ V

theorem ah_paste : (iprop(own c (aH 0).view (sub I.a (rGcol 0)) ∗ own c (aH 1).view (sub I.a (rGcol 1)) ∗ own c (aH 2).view (sub I.a (rGcol 2)) ∗ own c (aH 3).view (sub I.a (rGcol 3)) ∗ own c (aH 4).view (sub I.a (rGcol 4)) ∗ own c (aH 5).view (sub I.a (rGcol 5)) ∗ own c (aH 6).view (sub I.a (rGcol 6)) ∗ own c (aH 7).view (sub I.a (rGcol 7))) : sProp 𝕄) ⊢ own c mAH.view I.a :=
  (Entails.of_eq (sep_univ8 fun t => own c (aH t).view (sub I.a (rGcol t))).symm).trans
    (own_paste_all (c := c) mAH rGcol dj_gcol cv_gcol I.a I.a (fun t => sub I.a (rGcol t)) fun _ _ => rfl)
theorem av_paste : (iprop(own c (mA.access (rG 0)) (vA I 0) ∗ own c (mA.access (rG 1)) (vA I 1) ∗ own c (mA.access (rG 2)) (vA I 2) ∗ own c (mA.access (rG 3)) (vA I 3) ∗ own c (mA.access (rG 4)) (vA I 4) ∗ own c (mA.access (rG 5)) (vA I 5) ∗ own c (mA.access (rG 6)) (vA I 6) ∗ own c (mA.access (rG 7)) (vA I 7)) : sProp 𝕄) ⊢ anyv c mA.view := by
  refine (Entails.of_eq (sep_univ8 fun t => own c (mA.access (rG t)) (vA I t)).symm).trans ?_
  exact (own_paste_all (c := c) mA rG dj_g cv_g (glue rG (vA I) (vA I 0 (fun a => ⟨0, by fin_cases a <;> decide⟩))) (glue rG (vA I) (vA I 0 (fun a => ⟨0, by fin_cases a <;> decide⟩))) (vA I) fun t y => glue_emb rG dj_g _ _ t y).trans (own_any _ _ _)
theorem winh_paste : (iprop(own c (winH 0).view (sub I.win (rWinH 0)) ∗ own c (winH 1).view (sub I.win (rWinH 1)) ∗ own c (winH 2).view (sub I.win (rWinH 2)) ∗ own c (winH 3).view (sub I.win (rWinH 3)) ∗ own c (winH 4).view (sub I.win (rWinH 4)) ∗ own c (winH 5).view (sub I.win (rWinH 5)) ∗ own c (winH 6).view (sub I.win (rWinH 6)) ∗ own c (winH 7).view (sub I.win (rWinH 7))) : sProp 𝕄) ⊢ own c mWinH.view I.win :=
  (Entails.of_eq (sep_univ8 fun t => own c (winH t).view (sub I.win (rWinH t))).symm).trans
    (own_paste_all (c := c) mWinH rWinH dj_winh cv_winh I.win I.win (fun t => sub I.win (rWinH t)) fun _ _ => rfl)
theorem winv_paste : (iprop(own c (mWin.access (rWin 0)) (vWin I 0) ∗ own c (mWin.access (rWin 1)) (vWin I 1) ∗ own c (mWin.access (rWin 2)) (vWin I 2) ∗ own c (mWin.access (rWin 3)) (vWin I 3) ∗ own c (mWin.access (rWin 4)) (vWin I 4) ∗ own c (mWin.access (rWin 5)) (vWin I 5) ∗ own c (mWin.access (rWin 6)) (vWin I 6) ∗ own c (mWin.access (rWin 7)) (vWin I 7)) : sProp 𝕄) ⊢ anyv c mWin.view := by
  refine (Entails.of_eq (sep_univ8 fun t => own c (mWin.access (rWin t)) (vWin I t)).symm).trans ?_
  exact (own_paste_all (c := c) mWin rWin dj_win cv_win (glue rWin (vWin I) (vWin I 0 (fun a => ⟨0, by fin_cases a <;> decide⟩))) (glue rWin (vWin I) (vWin I 0 (fun a => ⟨0, by fin_cases a <;> decide⟩))) (vWin I) fun t y => glue_emb rWin dj_win _ _ t y).trans (own_any _ _ _)
theorem wqh_paste : (iprop(own c (wqH 0).view (vWq I 0) ∗ own c (wqH 1).view (vWq I 1) ∗ own c (wqH 2).view (vWq I 2)) : sProp 𝕄) ⊢ own c mWqH.view I.wq := by
  refine (Entails.of_eq (sep_univ3 fun j => own c (wqH j).view (vWq I j)).symm).trans ?_
  refine (bigSep_mono (fun j _ => reshape_own (c := c) (mWqH.access (rQkvH j)) (s' := S1024x8x128) nm_qkvh (vWq I j))).trans ?_
  refine own_paste_all (c := c) mWqH rQkvH dj_qkvh cv_qkvh I.wq I.wq _ fun j y => ?_
  unfold vWq
  rw [Equiv.apply_symm_apply]; rfl
theorem wqv_paste : (iprop(own c (wqV 0).view (vWq I 0) ∗ own c (wqV 1).view (vWq I 1) ∗ own c (wqV 2).view (vWq I 2)) : sProp 𝕄) ⊢ anyv c mWq.view := by
  refine (Entails.of_eq (sep_univ3 fun j => own c (wqV j).view (vWq I j)).symm).trans ?_
  refine (bigSep_mono (fun j _ => (own_any c (wqV j).view (vWq I j)).trans (reshape_any (c := c) (mWq.access (rQkvS j)) (s' := S1024x8x128) nm_qkvs))).trans ?_
  have : Nonempty (Elt F .fp8e4m3) := ⟨I.wq (fun a => ⟨0, by fin_cases a <;> decide⟩)⟩
  exact any_paste_all (c := c) mWq (fun _ => Classical.choice this) rQkvS dj_qkvs cv_qkvs
theorem at_paste : (iprop(AtAny c 0 ∗ AtAny c 1) : sProp 𝕄) ⊢ anyv c mAt.view := by
  have : Nonempty (Elt F .bf16) := ⟨dflt⟩
  exact (Entails.of_eq (sep_univ2 fun s => AtAny c s).symm).trans (any_paste_all (c := c) mAt (fun _ => dflt) rSlot dj_slot cv_slot)
theorem dat_paste : (iprop(DtAny c 0 ∗ DtAny c 1) : sProp 𝕄) ⊢ anyv c mDat.view := by
  have : Nonempty (Elt F .bf16) := ⟨dflt⟩
  exact (Entails.of_eq (sep_univ2 fun s => DtAny c s).symm).trans (any_paste_all (c := c) mDat (fun _ => dflt) rSlot dj_slot cv_slot)
theorem wqb_paste : (iprop(WbAny c 0 ∗ WbAny c 1) : sProp 𝕄) ⊢ anyv c mWqb.view := by
  have : Nonempty (Elt F .bf16) := ⟨dflt⟩
  exact (Entails.of_eq (sep_univ2 fun s => WbAny c s).symm).trans (any_paste_all (c := c) mWqb (fun _ => dflt) rWslot dj_wslot cv_wslot)
theorem in_paste : (iprop(InFree c 0 ∗ InFree c 1) : sProp 𝕄) ⊢ anyv c mIn.view := by
  have : Nonempty (Elt F .bf16) := ⟨dflt⟩
  refine (Entails.of_eq (sep_univ2 fun s => InFree c s).symm).trans ?_
  refine .trans ?_ (any_paste_all (c := c) mIn (fun _ => dflt) rInP dj_in cv_in)
  rw [bigSep_univ_prod]
  exact .rfl
theorem inh_paste : (iprop(IDone I c 0 ∗ IDone I c 1 ∗ IDone I c 2 ∗ IDone I c 3 ∗ IDone I c 4 ∗ IDone I c 5 ∗ IDone I c 6 ∗ IDone I c 7) : sProp 𝕄) ⊢ own c mInH.view (vRes2 I) := by
  refine (Entails.of_eq (sep_univ8 fun t => IDone I c t).symm).trans ?_
  refine .trans ?_ (own_paste_all (c := c) mInH rInH dj_inh cv_inh (fun _ => dflt) (vRes2 I) _ (fun p y => glue_emb rInH dj_inh (fun p => vIn I p.1 p.2) dflt p y))
  rw [bigSep_univ_prod]
  exact .rfl

theorem final_ends : (BodyOut I c : sProp 𝕄) ⊢ iprop(Scr c ∗ Sems c ∗ HIn I c ∗ HDones I c ∗ owesA c) := by
  unfold Scr Sems HIn HDones BodyOut Con Rest SmallH AGIn AIn GIn WinIn DWIn DqIn WqIn
  iintro ⟨⟨C0, C1, C2, C3, C4, C5, C6, C7⟩, ⟨D7, ⟨B0, B1, B2, B3, B4, B5, B6, B7, B8⟩, D0, D1, D2, D3, D4, D5, D6, Z0, Z1, Z2⟩, ⟨⟨⟨av0, ah0, za0⟩, ⟨gv0, gh0, zg0⟩⟩, ⟨⟨av1, ah1, za1⟩, ⟨gv1, gh1, zg1⟩⟩, ⟨⟨av2, ah2, za2⟩, ⟨gv2, gh2, zg2⟩⟩, ⟨⟨av3, ah3, za3⟩, ⟨gv3, gh3, zg3⟩⟩, ⟨⟨av4, ah4, za4⟩, ⟨gv4, gh4, zg4⟩⟩, ⟨⟨av5, ah5, za5⟩, ⟨gv5, gh5, zg5⟩⟩, ⟨⟨av6, ah6, za6⟩, ⟨gv6, gh6, zg6⟩⟩, ⟨⟨av7, ah7, za7⟩, ⟨gv7, gh7, zg7⟩⟩⟩,
    ⟨⟨wv0, wh0, zw0⟩, ⟨wv1, wh1, zw1⟩, ⟨wv2, wh2, zw2⟩, ⟨wv3, wh3, zw3⟩, ⟨wv4, wh4, zw4⟩, ⟨wv5, wh5, zw5⟩, ⟨wv6, wh6, zw6⟩, ⟨wv7, wh7, zw7⟩⟩,
    ⟨⟨⟨dv0, dh0, zd0⟩, ⟨qv0, qh0, zq0⟩⟩, ⟨⟨dv1, dh1, zd1⟩, ⟨qv1, qh1, zq1⟩⟩, ⟨⟨dv2, dh2, zd2⟩, ⟨qv2, qh2, zq2⟩⟩⟩, Sdh, T0, T1, A0, A1, E0, E1, V0, V1, W0, W1, O0, O1, N0, N1, ⟨P0, P1, P2, P3, P4, P5, P6, P7⟩, ⟨K0, K1, K2, K3, K4, K5, K6, K7⟩, Hq, HdH, Hd, HxH, Hx,
    ZO0, ZO1, ZI0, ZI1, ZQ, ZX, ZL, Ho⟩
  ihave HG := (gh_paste (c := c) I) $$ [gh0 gh1 gh2 gh3 gh4 gh5 gh6 gh7]
  · iframe
  ihave SG := (gv_paste (c := c) I) $$ [gv0 gv1 gv2 gv3 gv4 gv5 gv6 gv7]
  · iframe
  ihave HA := (ah_paste (c := c) I) $$ [ah0 ah1 ah2 ah3 ah4 ah5 ah6 ah7]
  · iframe
  ihave SA := (av_paste (c := c) I) $$ [av0 av1 av2 av3 av4 av5 av6 av7]
  · iframe
  ihave HW := (winh_paste (c := c) I) $$ [wh0 wh1 wh2 wh3 wh4 wh5 wh6 wh7]
  · iframe
  ihave SW := (winv_paste (c := c) I) $$ [wv0 wv1 wv2 wv3 wv4 wv5 wv6 wv7]
  · iframe
  ihave HD := (dqh_paste (c := c) I) $$ [dh0 dh1 dh2]
  · iframe
  ihave SD := (dqv_paste (c := c) I) $$ [dv0 dv1 dv2]
  · iframe
  ihave HQ := (wqh_paste (c := c) I) $$ [qh0 qh1 qh2]
  · iframe
  ihave SQ := (wqv_paste (c := c) I) $$ [qv0 qv1 qv2]
  · iframe
  ihave ST := (gt_paste (c := c)) $$ [T0 T1]
  · iframe
  ihave SAt := (at_paste (c := c)) $$ [A0 A1]
  · iframe
  ihave SDt := (dat_paste (c := c)) $$ [E0 E1]
  · iframe
  ihave SWb := (wqb_paste (c := c)) $$ [W0 W1]
  · iframe
  ihave SV := (vts_paste (c := c)) $$ [V0 V1]
  · iframe
  ihave SO := (out_paste (c := c)) $$ [O0 O1]
  · iframe
  ihave SI := (in_paste (c := c)) $$ [N0 N1]
  · iframe
  ihave HO := (outh_paste (c := c) I) $$ [P0 P1 P2 P3 P4 P5 P6 P7]
  · iframe
  ihave HI := (inh_paste (c := c) I) $$ [K0 K1 K2 K3 K4 K5 K6 K7]
  · iframe
  ihave Hq := (qkvs_paste (c := c) I) $$ Hq
  icases Hq with ⟨HK, SK⟩
  ihave C0 := (own_any c mGs.view I.gs) $$ C0
  ihave C1 := (own_any c mDqs.view I.dqs) $$ C1
  ihave C2 := (own_any c mDyt.view (vDyt I)) $$ C2
  ihave C3 := (own_any c mXht.view (vXht I)) $$ C3
  ihave C4 := (own_any c mGamc.view (vGamc I)) $$ C4
  ihave C5 := (own_any c mDs.view I.ds) $$ C5
  ihave C6 := (own_any c mSin.view I.sin) $$ C6
  ihave C7 := (own_any c mSq.view I.sq) $$ C7
  ihave D2 := (own_any c mDy.view I.dy) $$ D2
  ihave D3 := (own_any c mXh.view I.xh) $$ D3
  ihave D4 := (own_any c mDys.view I.dys) $$ D4
  ihave D5 := (own_any c mXs.view I.xs) $$ D5
  ihave D6 := (own_any c mGam.view I.gam) $$ D6
  ihave D7 := (own_any c mRs.view I.rs) $$ D7
  ihave Hd := (own_any c mDg.view (vRes3 I)) $$ Hd
  iframe

end Cert.Kernel.Hand

end
-- ==== Proof.KShell.lean ====
module

public import proofs.«01_k».proof.Proof.KEnds
public import proofs.«01_k».proof.Proof.Gen.Kernel.Frame
public import Idealize.ShloMosaic.Lib.Pipeline.FrameBody
public import Idealize.ShloMosaic.Lib.Pipeline.FrameValue

/-! The kernel's run: from any memory it ends, its arguments unchanged, every semaphore at zero, and its five results at the values of KVals. -/

@[expose] public section

set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands, as the launch finds them. -/
def inp (c : Dev nD) : In F where
  dy := mDyH.view.read (Elt F) (V m c main_v0)
  dys := mDysH.view.read (Elt F) (V m c main_v2)
  dq := mDqH.view.read (Elt F) (V m c main_v3)
  dqs := mDqsH.view.read (Elt F) (V m c main_v5)
  xh := mXhH.view.read (Elt F) (V m c main_v6)
  xs := mXsH.view.read (Elt F) (V m c main_arg5)
  gs := mGsH.view.read (Elt F) (V m c main_arg11)
  rs := mRsH.view.read (Elt F) (V m c main_arg6)
  gam := mGamH.view.read (Elt F) (V m c main_v7)
  a := mAH.view.read (Elt F) (V m c main_v8)
  ds := mDsH.view.read (Elt F) (V m c main_v11)
  g := mGH.view.read (Elt F) (V m c main_v12)
  win := mWinH.view.read (Elt F) (V m c main_arg12)
  sin := mSinH.view.read (Elt F) (V m c main_v13)
  wq := mWqH.view.read (Elt F) (V m c main_arg14)
  sq := mSqH.view.read (Elt F) (V m c main_v14)

/-- What every buffer holds at the end: the five results their values, the rest what the launch found. -/
def G (c : Dev nD) : (b : Ref sig .tc) → Buf (Elt F) ((c : Thread nD τ).loc b) :=
  Function.update (Function.update (Function.update (Function.update (Function.update (V m c) main_v15_0 (vRes4 (inp m c))) main_v15_1 (vRes2 (inp m c)))
    main_v15_2 (vRes0 (inp m c))) main_v15_3 (vRes1 (inp m c))) main_v15_4 (vRes3 (inp m c))

theorem G4 (c : Dev nD) : G m c main_v15_0 = vRes4 (inp m c) := by
  unfold G
  rw [Function.update_of_ne (by decide), Function.update_of_ne (by decide), Function.update_of_ne (by decide), Function.update_of_ne (by decide), Function.update_self]
theorem G0 (c : Dev nD) : G m c main_v15_1 = vRes2 (inp m c) := by
  unfold G
  rw [Function.update_of_ne (by decide), Function.update_of_ne (by decide), Function.update_of_ne (by decide), Function.update_self]
theorem G1 (c : Dev nD) : G m c main_v15_2 = vRes0 (inp m c) := by
  unfold G
  rw [Function.update_of_ne (by decide), Function.update_of_ne (by decide), Function.update_self]
theorem G2 (c : Dev nD) : G m c main_v15_3 = vRes1 (inp m c) := by
  unfold G
  rw [Function.update_of_ne (by decide), Function.update_self]
theorem G3 (c : Dev nD) : G m c main_v15_4 = vRes3 (inp m c) := by
  unfold G
  rw [Function.update_self]

/-- The body's semaphores. -/
abbrev osem0 : Fin 40 → SemLoc sig := fun j => (![SemLoc.dma sSmall, SemLoc.dma sDy, SemLoc.dma sXh, SemLoc.dma (sA 0), SemLoc.dma (sA 1), SemLoc.dma (sA 2), SemLoc.dma (sA 3), SemLoc.dma (sA 4), SemLoc.dma (sA 5), SemLoc.dma (sA 6), SemLoc.dma (sA 7), SemLoc.dma (sG 0), SemLoc.dma (sG 1), SemLoc.dma (sG 2), SemLoc.dma (sG 3), SemLoc.dma (sG 4), SemLoc.dma (sG 5), SemLoc.dma (sG 6), SemLoc.dma (sG 7), SemLoc.dma (sWin 0), SemLoc.dma (sWin 1), SemLoc.dma (sWin 2), SemLoc.dma (sWin 3), SemLoc.dma (sWin 4), SemLoc.dma (sWin 5), SemLoc.dma (sWin 6), SemLoc.dma (sWin 7), SemLoc.dma (sDq 0), SemLoc.dma (sDq 1), SemLoc.dma (sDq 2), SemLoc.dma (sWq 0), SemLoc.dma (sWq 1), SemLoc.dma (sWq 2), SemLoc.dma (sIn 0), SemLoc.dma (sIn 1), SemLoc.dma (sOut 0), SemLoc.dma (sOut 1), SemLoc.dma sQkv, SemLoc.dma sDx, SemLoc.dma sLast] : Fin 40 → SemLoc sig) j
theorem ownSemFacts0 : Pipeline.OwnSemFacts (cfg0.spec) osem0 := by decide
theorem ownSems_eq (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl

/-- The buffers the body only reads, -/
def H0 : Finset (Ref sig .tc) := {main_v0, main_v2, main_v3, main_v5, main_v6, main_arg5, main_arg11, main_arg6, main_v7, main_v8, main_v11, main_v12, main_arg12, main_v13, main_arg14, main_v14}
/-- and the five it writes. -/
def R0 : Finset (Ref sig .tc) := {main_v15_0, main_v15_1, main_v15_2, main_v15_3, main_v15_4}
theorem H0_sub : H0 ⊆ Pipeline.restRefs sig (cfg0.spec) := by decide
theorem R0_sub : R0 ⊆ Pipeline.restRefs sig (cfg0.spec) \ H0 := by decide

theorem hin_own (c : Dev nD) : (bigSep H0 (fun b => ((c : Thread nD τ).loc b) ↦{fullShare} V m c b) : sProp 𝕄) ⊢ HIn (inp m c) c := by
  rw [BI.bigSep_eq_bigSepL_of_eq [main_v0, main_v2, main_v3, main_v5, main_v6, main_arg5, main_arg11, main_arg6, main_v7, main_v8, main_v11, main_v12, main_arg12, main_v13, main_arg14, main_v14] (by decide) (by decide)]
  unfold HIn
  exact (show iprop((mDyH.view.loc (c : Thread nD τ) ↦{fullShare} V m c main_v0) ∗ (mDysH.view.loc (c : Thread nD τ) ↦{fullShare} V m c main_v2) ∗ (mDqH.view.loc (c : Thread nD τ) ↦{fullShare} V m c main_v3) ∗ (mDqsH.view.loc (c : Thread nD τ) ↦{fullShare} V m c main_v5) ∗ (mXhH.view.loc (c : Thread nD τ) ↦{fullShare} V m c main_v6) ∗ (mXsH.view.loc (c : Thread nD τ) ↦{fullShare} V m c main_arg5) ∗ (mGsH.view.loc (c : Thread nD τ) ↦{fullShare} V m c main_arg11) ∗ (mRsH.view.loc (c : Thread nD τ) ↦{fullShare} V m c main_arg6) ∗ (mGamH.view.loc (c : Thread nD τ) ↦{fullShare} V m c main_v7) ∗ (mAH.view.loc (c : Thread nD τ) ↦{fullShare} V m c main_v8) ∗ (mDsH.view.loc (c : Thread nD τ) ↦{fullShare} V m c main_v11) ∗ (mGH.view.loc (c : Thread nD τ) ↦{fullShare} V m c main_v12) ∗ (mWinH.view.loc (c : Thread nD τ) ↦{fullShare} V m c main_arg12) ∗ (mSinH.view.loc (c : Thread nD τ) ↦{fullShare} V m c main_v13) ∗ (mWqH.view.loc (c : Thread nD τ) ↦{fullShare} V m c main_arg14) ∗ (mSqH.view.loc (c : Thread nD τ) ↦{fullShare} V m c main_v14)) ⊢ _ from by
    iintro ⟨H0, H1, H2, H3, H4, H5, H6, H7, H8, H9, H10, H11, H12, H13, H14, H15⟩
    isplitl [H0]
    · iapply (own_whole (c := c) mDyH (View.set_whole _) (V m c main_v0)) $$ H0
    isplitl [H1]
    · iapply (own_whole (c := c) mDysH (View.set_whole _) (V m c main_v2)) $$ H1
    isplitl [H2]
    · iapply (own_whole (c := c) mDqH (View.set_whole _) (V m c main_v3)) $$ H2
    isplitl [H3]
    · iapply (own_whole (c := c) mDqsH (View.set_whole _) (V m c main_v5)) $$ H3
    isplitl [H4]
    · iapply (own_whole (c := c) mXhH (View.set_whole _) (V m c main_v6)) $$ H4
    isplitl [H5]
    · iapply (own_whole (c := c) mXsH (View.set_whole _) (V m c main_arg5)) $$ H5
    isplitl [H6]
    · iapply (own_whole (c := c) mGsH (View.set_whole _) (V m c main_arg11)) $$ H6
    isplitl [H7]
    · iapply (own_whole (c := c) mRsH (View.set_whole _) (V m c main_arg6)) $$ H7
    isplitl [H8]
    · iapply (own_whole (c := c) mGamH (View.set_whole _) (V m c main_v7)) $$ H8
    isplitl [H9]
    · iapply (own_whole (c := c) mAH (View.set_whole _) (V m c main_v8)) $$ H9
    isplitl [H10]
    · iapply (own_whole (c := c) mDsH (View.set_whole _) (V m c main_v11)) $$ H10
    isplitl [H11]
    · iapply (own_whole (c := c) mGH (View.set_whole _) (V m c main_v12)) $$ H11
    isplitl [H12]
    · iapply (own_whole (c := c) mWinH (View.set_whole _) (V m c main_arg12)) $$ H12
    isplitl [H13]
    · iapply (own_whole (c := c) mSinH (View.set_whole _) (V m c main_v13)) $$ H13
    isplitl [H14]
    · iapply (own_whole (c := c) mWqH (View.set_whole _) (V m c main_arg14)) $$ H14
    iapply (own_whole (c := c) mSqH (View.set_whole _) (V m c main_v14)) $$ H15)
theorem own_hin (c : Dev nD) : (HIn (inp m c) c : sProp 𝕄) ⊢ bigSep H0 (fun b => ((c : Thread nD τ).loc b) ↦{fullShare} V m c b) := by
  rw [BI.bigSep_eq_bigSepL_of_eq [main_v0, main_v2, main_v3, main_v5, main_v6, main_arg5, main_arg11, main_arg6, main_v7, main_v8, main_v11, main_v12, main_arg12, main_v13, main_arg14, main_v14] (by decide) (by decide)]
  unfold HIn
  exact (show _ ⊢ iprop((mDyH.view.loc (c : Thread nD τ) ↦{fullShare} V m c main_v0) ∗ (mDysH.view.loc (c : Thread nD τ) ↦{fullShare} V m c main_v2) ∗ (mDqH.view.loc (c : Thread nD τ) ↦{fullShare} V m c main_v3) ∗ (mDqsH.view.loc (c : Thread nD τ) ↦{fullShare} V m c main_v5) ∗ (mXhH.view.loc (c : Thread nD τ) ↦{fullShare} V m c main_v6) ∗ (mXsH.view.loc (c : Thread nD τ) ↦{fullShare} V m c main_arg5) ∗ (mGsH.view.loc (c : Thread nD τ) ↦{fullShare} V m c main_arg11) ∗ (mRsH.view.loc (c : Thread nD τ) ↦{fullShare} V m c main_arg6) ∗ (mGamH.view.loc (c : Thread nD τ) ↦{fullShare} V m c main_v7) ∗ (mAH.view.loc (c : Thread nD τ) ↦{fullShare} V m c main_v8) ∗ (mDsH.view.loc (c : Thread nD τ) ↦{fullShare} V m c main_v11) ∗ (mGH.view.loc (c : Thread nD τ) ↦{fullShare} V m c main_v12) ∗ (mWinH.view.loc (c : Thread nD τ) ↦{fullShare} V m c main_arg12) ∗ (mSinH.view.loc (c : Thread nD τ) ↦{fullShare} V m c main_v13) ∗ (mWqH.view.loc (c : Thread nD τ) ↦{fullShare} V m c main_arg14) ∗ (mSqH.view.loc (c : Thread nD τ) ↦{fullShare} V m c main_v14)) from by
    exact BIClass.sep_mono (whole_own (c := c) mDyH (View.set_whole _) (V m c main_v0)) (BIClass.sep_mono (whole_own (c := c) mDysH (View.set_whole _) (V m c main_v2)) (BIClass.sep_mono (whole_own (c := c) mDqH (View.set_whole _) (V m c main_v3)) (BIClass.sep_mono (whole_own (c := c) mDqsH (View.set_whole _) (V m c main_v5)) (BIClass.sep_mono (whole_own (c := c) mXhH (View.set_whole _) (V m c main_v6)) (BIClass.sep_mono (whole_own (c := c) mXsH (View.set_whole _) (V m c main_arg5)) (BIClass.sep_mono (whole_own (c := c) mGsH (View.set_whole _) (V m c main_arg11)) (BIClass.sep_mono (whole_own (c := c) mRsH (View.set_whole _) (V m c main_arg6)) (BIClass.sep_mono (whole_own (c := c) mGamH (View.set_whole _) (V m c main_v7)) (BIClass.sep_mono (whole_own (c := c) mAH (View.set_whole _) (V m c main_v8)) (BIClass.sep_mono (whole_own (c := c) mDsH (View.set_whole _) (V m c main_v11)) (BIClass.sep_mono (whole_own (c := c) mGH (View.set_whole _) (V m c main_v12)) (BIClass.sep_mono (whole_own (c := c) mWinH (View.set_whole _) (V m c main_arg12)) (BIClass.sep_mono (whole_own (c := c) mSinH (View.set_whole _) (V m c main_v13)) (BIClass.sep_mono (whole_own (c := c) mWqH (View.set_whole _) (V m c main_arg14)) (whole_own (c := c) mSqH (View.set_whole _) (V m c main_v14)))))))))))))))))

theorem scr_own (c : Dev nD) : (Pipeline.scopedRest (Ix := Unit) (Name := ℕ) (U := Pipeline.UD sig nD τ) (Lvl := ℕ) (Val := Elt F) (cfg0.spec) c : sProp 𝕄) ⊢ Scr c := by
  rw [show (Pipeline.scopedRest (Ix := Unit) (Name := ℕ) (U := Pipeline.UD sig nD τ) (Lvl := ℕ) (Val := Elt F) (cfg0.spec) c : sProp 𝕄) = _ from scopedRest0_eq c]
  unfold Scr
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩⟩
  isplitl [H0]
  · iapply (any_whole (c := c) mDy (View.set_whole _) f0) $$ H0
  isplitl [H1]
  · iapply (any_whole (c := c) mDys (View.set_whole _) f1) $$ H1
  isplitl [H2]
  · iapply (any_whole (c := c) mDq (View.set_whole _) f2) $$ H2
  isplitl [H3]
  · iapply (any_whole (c := c) mDqs (View.set_whole _) f3) $$ H3
  isplitl [H4]
  · iapply (any_whole (c := c) mXh (View.set_whole _) f4) $$ H4
  isplitl [H5]
  · iapply (any_whole (c := c) mXs (View.set_whole _) f5) $$ H5
  isplitl [H6]
  · iapply (any_whole (c := c) mGs (View.set_whole _) f6) $$ H6
  isplitl [H7]
  · iapply (any_whole (c := c) mRs (View.set_whole _) f7) $$ H7
  isplitl [H8]
  · iapply (any_whole (c := c) mGam (View.set_whole _) f8) $$ H8
  isplitl [H9]
  · iapply (any_whole (c := c) mA (View.set_whole _) f9) $$ H9
  isplitl [H10]
  · iapply (any_whole (c := c) mG (View.set_whole _) f10) $$ H10
  isplitl [H11]
  · iapply (any_whole (c := c) mWin (View.set_whole _) f11) $$ H11
  isplitl [H12]
  · iapply (any_whole (c := c) mSin (View.set_whole _) f12) $$ H12
  isplitl [H13]
  · iapply (any_whole (c := c) mWq (View.set_whole _) f13) $$ H13
  isplitl [H14]
  · iapply (any_whole (c := c) mSq (View.set_whole _) f14) $$ H14
  isplitl [H15]
  · iapply (any_whole (c := c) mDyt (View.set_whole _) f15) $$ H15
  isplitl [H16]
  · iapply (any_whole (c := c) mXht (View.set_whole _) f16) $$ H16
  isplitl [H17]
  · iapply (any_whole (c := c) mDht (View.set_whole _) f17) $$ H17
  isplitl [H18]
  · iapply (any_whole (c := c) mGamc (View.set_whole _) f18) $$ H18
  isplitl [H19]
  · iapply (any_whole (c := c) mAt (View.set_whole _) f19) $$ H19
  isplitl [H20]
  · iapply (any_whole (c := c) mGt (View.set_whole _) f20) $$ H20
  isplitl [H21]
  · iapply (any_whole (c := c) mDat (View.set_whole _) f21) $$ H21
  isplitl [H22]
  · iapply (any_whole (c := c) mDs (View.set_whole _) f22) $$ H22
  isplitl [H23]
  · iapply (any_whole (c := c) mVt (View.set_whole _) f23) $$ H23
  isplitl [H24]
  · iapply (any_whole (c := c) mWqb (View.set_whole _) f24) $$ H24
  isplitl [H25]
  · iapply (any_whole (c := c) mIn (View.set_whole _) f25) $$ H25
  isplitl [H26]
  · iapply (any_whole (c := c) mOut (View.set_whole _) f26) $$ H26
  isplitl [H27]
  · iapply (any_whole (c := c) mQkv (View.set_whole _) f27) $$ H27
  isplitl [H28]
  · iapply (any_whole (c := c) mDx (View.set_whole _) f28) $$ H28
  iapply (any_whole (c := c) mDg (View.set_whole _) f29) $$ H29
theorem own_scr (c : Dev nD) : (Scr c : sProp 𝕄) ⊢ Pipeline.scopedRest (Ix := Unit) (Name := ℕ) (U := Pipeline.UD sig nD τ) (Lvl := ℕ) (Val := Elt F) (cfg0.spec) c := by
  rw [show (Pipeline.scopedRest (Ix := Unit) (Name := ℕ) (U := Pipeline.UD sig nD τ) (Lvl := ℕ) (Val := Elt F) (cfg0.spec) c : sProp 𝕄) = _ from scopedRest0_eq c]
  unfold Scr
  iintro ⟨H0, H1, H2, H3, H4, H5, H6, H7, H8, H9, H10, H11, H12, H13, H14, H15, H16, H17, H18, H19, H20, H21, H22, H23, H24, H25, H26, H27, H28, H29⟩
  isplitl [H0]
  · iapply (whole_any (c := c) mDy (View.set_whole _)) $$ H0
  isplitl [H1]
  · iapply (whole_any (c := c) mDys (View.set_whole _)) $$ H1
  isplitl [H2]
  · iapply (whole_any (c := c) mDq (View.set_whole _)) $$ H2
  isplitl [H3]
  · iapply (whole_any (c := c) mDqs (View.set_whole _)) $$ H3
  isplitl [H4]
  · iapply (whole_any (c := c) mXh (View.set_whole _)) $$ H4
  isplitl [H5]
  · iapply (whole_any (c := c) mXs (View.set_whole _)) $$ H5
  isplitl [H6]
  · iapply (whole_any (c := c) mGs (View.set_whole _)) $$ H6
  isplitl [H7]
  · iapply (whole_any (c := c) mRs (View.set_whole _)) $$ H7
  isplitl [H8]
  · iapply (whole_any (c := c) mGam (View.set_whole _)) $$ H8
  isplitl [H9]
  · iapply (whole_any (c := c) mA (View.set_whole _)) $$ H9
  isplitl [H10]
  · iapply (whole_any (c := c) mG (View.set_whole _)) $$ H10
  isplitl [H11]
  · iapply (whole_any (c := c) mWin (View.set_whole _)) $$ H11
  isplitl [H12]
  · iapply (whole_any (c := c) mSin (View.set_whole _)) $$ H12
  isplitl [H13]
  · iapply (whole_any (c := c) mWq (View.set_whole _)) $$ H13
  isplitl [H14]
  · iapply (whole_any (c := c) mSq (View.set_whole _)) $$ H14
  isplitl [H15]
  · iapply (whole_any (c := c) mDyt (View.set_whole _)) $$ H15
  isplitl [H16]
  · iapply (whole_any (c := c) mXht (View.set_whole _)) $$ H16
  isplitl [H17]
  · iapply (whole_any (c := c) mDht (View.set_whole _)) $$ H17
  isplitl [H18]
  · iapply (whole_any (c := c) mGamc (View.set_whole _)) $$ H18
  isplitl [H19]
  · iapply (whole_any (c := c) mAt (View.set_whole _)) $$ H19
  isplitl [H20]
  · iapply (whole_any (c := c) mGt (View.set_whole _)) $$ H20
  isplitl [H21]
  · iapply (whole_any (c := c) mDat (View.set_whole _)) $$ H21
  isplitl [H22]
  · iapply (whole_any (c := c) mDs (View.set_whole _)) $$ H22
  isplitl [H23]
  · iapply (whole_any (c := c) mVt (View.set_whole _)) $$ H23
  isplitl [H24]
  · iapply (whole_any (c := c) mWqb (View.set_whole _)) $$ H24
  isplitl [H25]
  · iapply (whole_any (c := c) mIn (View.set_whole _)) $$ H25
  isplitl [H26]
  · iapply (whole_any (c := c) mOut (View.set_whole _)) $$ H26
  isplitl [H27]
  · iapply (whole_any (c := c) mQkv (View.set_whole _)) $$ H27
  isplitl [H28]
  · iapply (whole_any (c := c) mDx (View.set_whole _)) $$ H28
  iapply (whole_any (c := c) mDg (View.set_whole _)) $$ H29

theorem routed_any (c : Dev nD) : (Pipeline.routed R0 c (V m c) : sProp 𝕄) ⊢ HFrees c := by
  unfold Pipeline.routed HFrees DxHFree
  rw [BI.bigSep_eq_bigSepL_of_eq [main_v15_0, main_v15_1, main_v15_2, main_v15_3, main_v15_4] (by decide) (by decide)]
  exact (show iprop((mDxH.view.loc (c : Thread nD τ) ↦{fullShare} V m c main_v15_0) ∗ (mInH.view.loc (c : Thread nD τ) ↦{fullShare} V m c main_v15_1) ∗ (mOutH.view.loc (c : Thread nD τ) ↦{fullShare} V m c main_v15_2) ∗ (mQkvH.view.loc (c : Thread nD τ) ↦{fullShare} V m c main_v15_3) ∗ (mDgH.view.loc (c : Thread nD τ) ↦{fullShare} V m c main_v15_4)) ⊢ _ from by
    exact BIClass.sep_mono (any_whole (c := c) mDxH (View.set_whole _) (V m c main_v15_0)) (BIClass.sep_mono (any_whole (c := c) mInH (View.set_whole _) (V m c main_v15_1)) (BIClass.sep_mono (any_whole (c := c) mOutH (View.set_whole _) (V m c main_v15_2)) (BIClass.sep_mono (any_whole (c := c) mQkvH (View.set_whole _) (V m c main_v15_3)) (any_whole (c := c) mDgH (View.set_whole _) (V m c main_v15_4))))))
theorem own_routed (c : Dev nD) : (HDones (inp m c) c : sProp 𝕄) ⊢ Pipeline.routed R0 c (G m c) := by
  unfold Pipeline.routed HDones DxHDone
  rw [BI.bigSep_eq_bigSepL_of_eq [main_v15_0, main_v15_1, main_v15_2, main_v15_3, main_v15_4] (by decide) (by decide)]
  exact (show _ ⊢ iprop((mDxH.view.loc (c : Thread nD τ) ↦{fullShare} G m c main_v15_0) ∗ (mInH.view.loc (c : Thread nD τ) ↦{fullShare} G m c main_v15_1) ∗ (mOutH.view.loc (c : Thread nD τ) ↦{fullShare} G m c main_v15_2) ∗ (mQkvH.view.loc (c : Thread nD τ) ↦{fullShare} G m c main_v15_3) ∗ (mDgH.view.loc (c : Thread nD τ) ↦{fullShare} G m c main_v15_4)) from by
    rw [G4, G0, G1, G2, G3]
    exact BIClass.sep_mono (whole_own (c := c) mDxH (View.set_whole _) (vRes4 (inp m c))) (BIClass.sep_mono (whole_own (c := c) mInH (View.set_whole _) (vRes2 (inp m c))) (BIClass.sep_mono (whole_own (c := c) mOutH (View.set_whole _) (vRes0 (inp m c))) (BIClass.sep_mono (whole_own (c := c) mQkvH (View.set_whole _) (vRes1 (inp m c))) (whole_own (c := c) mDgH (View.set_whole _) (vRes3 (inp m c)))))))

/-- The proof's data of the one pipeline: the invariant holds the buffers at the launch's contents before the body and at `G` after it. -/
def dats (_ : Fin 1) (c : Dev nD) : Dat τ (Elt F) Unit ℕ (Pipeline.UD sig nD τ) ℕ cfg0 c where
  A w := w.elim0
  after w t := w.elim0
  Φ t := Pipeline.ΦDRG osem0 (cfg0.spec) H0 R0 (V m) (if t.val = 0 then V m else G m) c
  q _ := fullShare
  owed _ := 0

theorem ret_rule {α : Type} {c : Dev nD} (a : α) {Q : α → sProp (MT nD τ sig Unit (Elt F) ℕ (Pipeline.UD sig nD τ) ℕ)} : Q a ⊢ W c (pure a) Q := by
  show Q a ⊢ wp frame _ _ (pure a) Q
  rw [wp_pure]
  iintro H
  imodintro
  iexact H

theorem body_sound (c : Dev nD) (t : Fin cfg0.N) :
    iprop(Pipeline.ΦDRG osem0 (cfg0.spec) H0 R0 (V m) (V m) c ∗ owesA c) ⊢ W c (bodyAt0 t) (fun _ => iprop(Pipeline.ΦDRG osem0 (cfg0.spec) H0 R0 (V m) (G m) c ∗ owesA c)) := by
  rw [Pipeline.ΦDRG_eq, Pipeline.ΦDRG_eq, ownSems_eq, body_eq, show (epi (F := F)) = epi >>= fun _ => pure ⟨⟩ from (Prog.bind_pure _).symm]
  iintro ⟨⟨Hs, Hg, Hz, Hh, Hr⟩, Ho⟩
  ihave Hs := (scr_own (F := F) c) $$ Hs
  ihave Hh := (hin_own m c) $$ Hh
  ihave Hr := (routed_any m c) $$ Hr
  ihave HB := (init_ends (c := c) (inp m c)) $$ [Hs Hz Hh Hr Ho]
  · iframe
  iapply (body_rule (c := c) (inp m c) _) $$ HB
  iintro HB
  ihave HB := (final_ends (c := c) (inp m c)) $$ HB
  icases HB with ⟨Hs, Hz, Hh, Hr, Ho⟩
  iapply (ret_rule (c := c) _)
  isplitr [Ho]
  · isplitl [Hs]; · iapply (own_scr (F := F) c) $$ Hs
    isplitl [Hg]; · iexact Hg
    isplitl [Hz]; · iexact Hz
    isplitl [Hh]; · iapply (own_hin m c) $$ Hh
    iapply (own_routed m c) $$ Hr
  · iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have ht : t.val = 0 := by have := t.isLt; have h : cfg0.N = 1 := N_0; omega
  rw [defs₀_row]
  have h0 : (dats m 0 c).Φ t.castSucc = Pipeline.ΦDRG osem0 (cfg0.spec) H0 R0 (V m) (V m) c := by
    show Pipeline.ΦDRG osem0 (cfg0.spec) H0 R0 (V m) (if t.castSucc.val = 0 then V m else G m) c = _
    rw [if_pos (by exact ht)]
  have h1 : (dats m 0 c).Φ t.succ = Pipeline.ΦDRG osem0 (cfg0.spec) H0 R0 (V m) (G m) c := by
    show Pipeline.ΦDRG osem0 (cfg0.spec) H0 R0 (V m) (if t.succ.val = 0 then V m else G m) c = _
    rw [if_neg (by exact Nat.succ_ne_zero _)]
  rw [h0, h1]
  unfold Dat.owesAt Pipeline.owesWithin
  rw [show (dats m 0 c).owed t.castSucc = 0 from rfl, show (dats m 0 c).owed t.succ = 0 from rfl]
  rw [bigSep_univ_eq_bigSepL [] (by decide) (by decide), bigSep_univ_eq_bigSepL [] (by decide) (by decide)]
  refine triple_restated (body_sound m c t) rfl ?_ fun _ => ?_
  · unfold owesA
    iintro ⟨H, ⟨%Ws, -, Ho⟩, -⟩
    isplitl [H]; · iexact H
    iexists Ws; iexact Ho
  · unfold owesA
    iintro ⟨H, ⟨%Ws, Ho⟩⟩
    isplitl [H]; · iexact H
    isplitl [Ho]
    · iexists Ws; isplitr; · ipureintro; exact fun _ _ => Or.inl trivial
      iexact Ho
    iempintro

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the buffers the body does not write as the launch found them, the five results at `G`, and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0) (G := G m)
    (hin := fun _ => .rfl) (hout := fun _ => .rfl)

theorem rest_of (b : Ref sig .tc) (r : PUnit × MemSt nD τ sig (Elt F)) (h : Pipeline.FramePostRG cfgs (dats m) 0 R0 (V m) (G m) r) (c : Dev nD)
    (hb : b ∈ Pipeline.restRefs sig (cfg0.spec) \ R0) : r.2.mem ((c : Thread nD τ).loc b) = V m c b := (h.toR c).2 b hb

/-- The arguments end unchanged. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)

theorem args_kept (r : PUnit × MemSt nD τ sig (Elt F)) (h : Pipeline.FramePostRG cfgs (dats m) 0 R0 (V m) (G m) r) (c : Dev nD) : ArgsKept m r c :=
  ⟨(rest_of m main_arg0 r h c (Finset.mem_sdiff.mpr ⟨Pipeline.mem_restRefs_of main_arg0 (by decide) (by decide), by decide⟩)).trans (V_main_arg0 m c),
    (rest_of m main_arg1 r h c (Finset.mem_sdiff.mpr ⟨Pipeline.mem_restRefs_of main_arg1 (by decide) (by decide), by decide⟩)).trans (V_main_arg1 m c),
    (rest_of m main_arg2 r h c (Finset.mem_sdiff.mpr ⟨Pipeline.mem_restRefs_of main_arg2 (by decide) (by decide), by decide⟩)).trans (V_main_arg2 m c),
    (rest_of m main_arg3 r h c (Finset.mem_sdiff.mpr ⟨Pipeline.mem_restRefs_of main_arg3 (by decide) (by decide), by decide⟩)).trans (V_main_arg3 m c),
    (rest_of m main_arg4 r h c (Finset.mem_sdiff.mpr ⟨Pipeline.mem_restRefs_of main_arg4 (by decide) (by decide), by decide⟩)).trans (V_main_arg4 m c),
    (rest_of m main_arg5 r h c (Finset.mem_sdiff.mpr ⟨Pipeline.mem_restRefs_of main_arg5 (by decide) (by decide), by decide⟩)).trans (V_main_arg5 m c),
    (rest_of m main_arg6 r h c (Finset.mem_sdiff.mpr ⟨Pipeline.mem_restRefs_of main_arg6 (by decide) (by decide), by decide⟩)).trans (V_main_arg6 m c),
    (rest_of m main_arg7 r h c (Finset.mem_sdiff.mpr ⟨Pipeline.mem_restRefs_of main_arg7 (by decide) (by decide), by decide⟩)).trans (V_main_arg7 m c),
    (rest_of m main_arg8 r h c (Finset.mem_sdiff.mpr ⟨Pipeline.mem_restRefs_of main_arg8 (by decide) (by decide), by decide⟩)).trans (V_main_arg8 m c),
    (rest_of m main_arg9 r h c (Finset.mem_sdiff.mpr ⟨Pipeline.mem_restRefs_of main_arg9 (by decide) (by decide), by decide⟩)).trans (V_main_arg9 m c),
    (rest_of m main_arg10 r h c (Finset.mem_sdiff.mpr ⟨Pipeline.mem_restRefs_of main_arg10 (by decide) (by decide), by decide⟩)).trans (V_main_arg10 m c),
    (rest_of m main_arg11 r h c (Finset.mem_sdiff.mpr ⟨Pipeline.mem_restRefs_of main_arg11 (by decide) (by decide), by decide⟩)).trans (V_main_arg11 m c),
    (rest_of m main_arg12 r h c (Finset.mem_sdiff.mpr ⟨Pipeline.mem_restRefs_of main_arg12 (by decide) (by decide), by decide⟩)).trans (V_main_arg12 m c),
    (rest_of m main_arg13 r h c (Finset.mem_sdiff.mpr ⟨Pipeline.mem_restRefs_of main_arg13 (by decide) (by decide), by decide⟩)).trans (V_main_arg13 m c),
    (rest_of m main_arg14 r h c (Finset.mem_sdiff.mpr ⟨Pipeline.mem_restRefs_of main_arg14 (by decide) (by decide), by decide⟩)).trans (V_main_arg14 m c),
    (rest_of m main_arg15 r h c (Finset.mem_sdiff.mpr ⟨Pipeline.mem_restRefs_of main_arg15 (by decide) (by decide), by decide⟩)).trans (V_main_arg15 m c)⟩

/-- From any memory: the run ends, the arguments unchanged, the five results at their values, every semaphore at zero. -/
theorem run_values : θ_run defs (onTc (τ := τ) (main (F := F))) ⟨m, fun _ => 0, ρ⟩ (fun r =>
    (∀ c : Dev nD, ArgsKept m r c ∧ r.2.mem ((c.tc : Thread nD τ).loc main_v15_0) = vRes4 (inp m c)
        ∧ r.2.mem ((c.tc : Thread nD τ).loc main_v15_1) = vRes2 (inp m c)
        ∧ r.2.mem ((c.tc : Thread nD τ).loc main_v15_2) = vRes0 (inp m c)
        ∧ r.2.mem ((c.tc : Thread nD τ).loc main_v15_3) = vRes1 (inp m c)
        ∧ r.2.mem ((c.tc : Thread nD τ).loc main_v15_4) = vRes3 (inp m c))
      ∧ r.2.sem = fun _ => 0) :=
  (θ_run defs _ _).mono (fun r h => ⟨fun c => ⟨args_kept m r h.1 c, (h.1.written c (b := main_v15_0) (by decide)).trans (G4 m c),
    (h.1.written c (b := main_v15_1) (by decide)).trans (G0 m c),
    (h.1.written c (b := main_v15_2) (by decide)).trans (G1 m c),
    (h.1.written c (b := main_v15_3) (by decide)).trans (G2 m c),
    (h.1.written c (b := main_v15_4) (by decide)).trans (G3 m c)⟩, h.2⟩) (run_main m ρ)

end Cert.Kernel.Hand

end
-- ==== Proof.Same.lean ====
module

public import proofs.«01_k».proof.Proof.KShell
public import proofs.«01_k».proof.Proof.Gen.KernelIdeal

/-! The kernel printed for the ideal instance is, term for term, the kernel as printed: what `KShell` proves of the
one at any float instance holds of the other. -/

@[expose] public section

noncomputable section

namespace Cert.Same

open Idealize.ShloMosaic Idealize.SL.Sem

variable {F : FTy → Type} [FloatOps F]

/-- The two programs are one. -/
theorem main_same : (Cert.KernelIdeal.main (F := F)) = (Cert.Kernel.main (F := F)) := rfl
/-- So are their bodies. -/
theorem defs_same : (Cert.KernelIdeal.defs (F := F)) = (Cert.Kernel.defs (F := F)) := rfl

end Cert.Same

end
-- ==== Proof.KIdealOps.lean ====
module

public import proofs.«01_k».proof.Proof.KStages
public import Idealize.ShloMosaic.Lib.Pointwise

/-! What each stage of the kernel's body computes, over the extended reals, at one place of its result. -/

@[expose] public section

set_option maxRecDepth 16384

noncomputable section

namespace Cert.Kernel.Hand

open Cert.Kernel Cert.Kernel.Gen
open Idealize.ShloMosaic Idealize.ShloMosaic.TcCoe

/-- A row block of `dy`, transposed, times its scale. -/
theorem wDyt_apply (x : FVec Ideal S512x32 .fp8e5m2) (y : FVec Ideal S1x512 .f32) (a : Fin 32) (s : Fin 512) :
    wDyt (F := Ideal) x y (ix2 a s) = x (ix2 s a) * y (ix2 0 s) := by
  pointwise [wDyt]

/-- A tile of `g`, transposed, times its scale. -/
theorem wGt_apply (x : FVec Ideal S1x512x512 .fp8e4m3) (y : FVec Ideal S1x512 .f32) (r s : Fin 512) :
    wGt (F := Ideal) x y (ix3 0 r s) = x (ix3 0 s r) * y (ix2 0 s) := by
  pointwise [wGt]

/-- `xhat`, transposed, times its scale. -/
theorem wXht_apply (x : FVec Ideal S512x1024 .fp8e4m3) (y : FVec Ideal S1x512 .f32) (d : Fin 1024) (s : Fin 512) :
    wXht (F := Ideal) x y (ix2 d s) = x (ix2 s d) * y (ix2 0 s) := by
  pointwise [wXht]

/-- `gamma` down the rows. -/
theorem wGamc_apply (x : FVec Ideal S1x1024 .f32) (d : Fin 1024) (l : Fin 128) :
    wGamc (F := Ideal) x (ix2 d l) = x (ix2 0 d) := by
  pointwise [wGamc]

/-- The product of a tile of `g` with `dy` sums over the positions. -/
theorem wO_apply (x : FVec Ideal S1x512x512 .bf16) (y : FVec Ideal S1024x512 .bf16) (r : Fin 512) (d : Fin 1024) :
    wO (F := Ideal) x y (ix2 r d) = ∑ s : Fin 512, x (ix3 0 r s) * y (ix2 d s) := by
  pointwise [wO]

/-- The product of `xhat` with four heads sums over the positions. -/
theorem wR_apply (x : FVec Ideal S1024x512 .bf16) (y : FVec Ideal S1x512x512 .bf16) (d : Fin 1024) (r : Fin 512) :
    wR (F := Ideal) x y (ix2 d r) = ∑ s : Fin 512, x (ix2 d s) * y (ix3 0 r s) := by
  pointwise [wR]

/-- A lane block of the product, its rows in groups of eight. -/
theorem wOut_apply (r : FVec Ideal S512x1024 .f32) (n : Fin 8) (p : Fin 64) (b : Fin 8) (l : Fin 128) :
    wOut (F := Ideal) r n (ix5 0 0 p b l) = r (ix2 ⟨p.val * 8 + b.val, by omega⟩ ⟨128 * n.val + l.val, by omega⟩) := by
  pointwise [wOut]

/-- One head of `dqkv`, transposed. -/
theorem wHead_apply (x : FVec Ideal S512x1x128 .fp8e5m2) (l : Fin 128) (s : Fin 512) :
    wHead (F := Ideal) x (ix2 l s) = x (ix3 s 0 l) := by
  pointwise [wHead]

/-- A row block of a transposed head, times its scale. -/
theorem wVt_apply (x : FVec Ideal S128x512 .bf16) (y : FVec Ideal S1x1x512 .f32) (k : Fin 4) (r : Fin 32) (s : Fin 512) :
    wVt (F := Ideal) x y k (ix3 0 r s) = x (ix2 ⟨32 * k.val + r.val, by omega⟩ s) * y (ix3 0 0 s) := by
  pointwise [wVt]

/-- A head of the product, times `gamma`. -/
theorem wQkv_apply (r : FVec Ideal S1024x512 .f32) (g : FVec Ideal S1024x128 .f32) (k : Fin 4) (d : Fin 1024) (l : Fin 128) :
    wQkv (F := Ideal) r g k (ix4 0 d 0 l) = r (ix2 d ⟨128 * k.val + l.val, by omega⟩) * g (ix2 d l) := by
  pointwise [wQkv]

/-- A tile of the codes of `da`, transposed. -/
theorem wAt_apply (x : FVec Ideal S1x512x512 .fp8e5m2) (r s : Fin 512) : wAt (F := Ideal) x (ix3 0 r s) = x (ix3 0 s r) := by
  pointwise [wAt]

/-- A block of them, times its scale. -/
theorem wDat_apply (x : FVec Ideal S1x32x256 .bf16) (y : FVec Ideal S1x1x256 .f32) (r : Fin 32) (s : Fin 256) :
    wDat (F := Ideal) x y (ix3 0 r s) = x (ix3 0 r s) * y (ix3 0 0 s) := by
  pointwise [wDat]

/-- A lane block of a product, times `gamma`, its rows in groups of eight. -/
theorem wIn_apply (r : FVec Ideal S1024x512 .f32) (g : FVec Ideal S1024x128 .f32) (n : Fin 4) (p : Fin 128) (b : Fin 8) (l : Fin 128) :
    wIn (F := Ideal) r g n (ix5 0 0 p b l)
      = r (ix2 ⟨p.val * 8 + b.val, by omega⟩ ⟨128 * n.val + l.val, by omega⟩) * g (ix2 ⟨p.val * 8 + b.val, by omega⟩ l) := by
  pointwise [wIn]

/-- Zeros. -/
theorem wZero_apply (d : Fin 1024) (s : Fin 512) : wZero (F := Ideal) (ix2 d s) = 0 := by
  pointwise [wZero]

/-- A sum and the product of a scaled tile of `w_in` with a tile of `da`. -/
theorem wH_apply (x : FVec Ideal S1x1024x512 .fp8e4m3) (y : FVec Ideal S1x512 .f32) (a : FVec Ideal S1024x512 .f32)
    (e : FVec Ideal S1x512x512 .bf16) (d : Fin 1024) (s : Fin 512) :
    wH (F := Ideal) x y a e (ix2 d s) = a (ix2 d s) + ∑ k : Fin 512, (x (ix3 0 d k) * y (ix2 0 k)) * e (ix3 0 k s) := by
  pointwise [wH]

/-- One head of `w_qkv`, times its scale. -/
theorem wWqb_apply (x : FVec Ideal S1024x1x128 .fp8e4m3) (y : FVec Ideal S1x128 .f32) (d : Fin 1024) (l : Fin 128) :
    wWqb (F := Ideal) x y (ix3 0 d l) = x (ix3 d 0 l) * y (ix2 0 l) := by
  pointwise [wWqb]

/-- A sum and the product of four heads of `w_qkv` with four heads of `dqkv`. -/
theorem wRh_apply (a : FVec Ideal S1024x512 .f32) (w : FVec Ideal S1x1024x512 .bf16) (v : FVec Ideal S1x512x512 .bf16)
    (d : Fin 1024) (s : Fin 512) :
    wRh (F := Ideal) a w v (ix2 d s) = a (ix2 d s) + ∑ k : Fin 512, w (ix3 0 d k) * v (ix3 0 k s) := by
  pointwise [wRh]

/-- The sums of four blocks of `dh`, each times its block of `xhat`. -/
theorem wDg_apply (x0 : FVec Ideal S128x128 .f32) (y0 : FVec Ideal S128x128 .bf16) (x1 : FVec Ideal S128x128 .f32) (y1 : FVec Ideal S128x128 .bf16)
    (x2 : FVec Ideal S128x128 .f32) (y2 : FVec Ideal S128x128 .bf16) (x3 : FVec Ideal S128x128 .f32) (y3 : FVec Ideal S128x128 .bf16) (q : Fin 128) :
    wDg (F := Ideal) x0 y0 x1 y1 x2 y2 x3 y3 (ix2 0 q)
      = ∑ l : Fin 128, (x0 (ix2 q l) * y0 (ix2 q l) + x1 (ix2 q l) * y1 (ix2 q l) + x2 (ix2 q l) * y2 (ix2 q l)
          + x3 (ix2 q l) * y3 (ix2 q l)) := by
  pointwise [wDg]

end Cert.Kernel.Hand

end
-- ==== Proof.KIdeal.lean ====
module

public import proofs.«01_k».proof.Proof.KVals
public import proofs.«01_k».proof.Proof.KIdealOps

/-! What the kernel's buffers hold, over the extended reals, place by place, down to its second and third
results. -/

@[expose] public section

set_option maxRecDepth 16384

noncomputable section

namespace Cert.Kernel.Hand

open Cert.Kernel Cert.Kernel.Gen
open Idealize.ShloMosaic Idealize.ShloMosaic.TcCoe

variable (I : In Ideal)

/-! ### The operands -/

abbrev oDy : FVec Ideal S512x1024 .fp8e5m2 := I.dy
abbrev oDys : FVec Ideal S32x512 .f32 := I.dys
abbrev oDq : FVec Ideal S512x3x8x128 .fp8e5m2 := I.dq
abbrev oDqs : FVec Ideal S24x4x512 .f32 := I.dqs
abbrev oXh : FVec Ideal S512x1024 .fp8e4m3 := I.xh
abbrev oXs : FVec Ideal S1x512 .f32 := I.xs
abbrev oGs : FVec Ideal S1x512 .f32 := I.gs
abbrev oGam : FVec Ideal S1x1024 .f32 := I.gam
abbrev oG : FVec Ideal S512x4096 .fp8e4m3 := I.g

/-! ### Where a place of a rectangle lies -/

theorem emb_dy (n : Fin 32) (s : Fin 512) (a : Fin 32) : (rDy n).emb (ix2 s a) = ix2 s ⟨32 * n.val + a.val, by omega⟩ := by
  funext c; apply Fin.ext; fin_cases c
  · show 0 + 1 * s.val = s.val; omega
  · show 32 * n.val + 1 * a.val = 32 * n.val + a.val; omega
theorem emb_dys (n : Fin 32) (s : Fin 512) : (rDys n).emb (ix2 0 s) = ix2 n s := by
  funext c; apply Fin.ext; fin_cases c
  · show n.val + 1 * 0 = n.val; omega
  · show 0 + 1 * s.val = s.val; omega
theorem emb_dyt (n a : Fin 32) (s : Fin 512) : (rDyt n).emb (ix2 a s) = ix2 ⟨32 * n.val + a.val, by omega⟩ s := by
  funext c; apply Fin.ext; fin_cases c
  · show 32 * n.val + 1 * a.val = 32 * n.val + a.val; omega
  · show 0 + 1 * s.val = s.val; omega
theorem emb_row (s : Fin 512) : rRow.emb (ix2 0 s) = ix2 0 s := by
  funext c; apply Fin.ext; fin_cases c
  · rfl
  · show 0 + 1 * s.val = s.val; omega
theorem emb_xh (s : Fin 512) (d : Fin 1024) : rXh.emb (ix2 s d) = ix2 s d := by
  funext c; apply Fin.ext; fin_cases c
  · show 0 + 1 * s.val = s.val; omega
  · show 0 + 1 * d.val = d.val; omega
theorem emb_gam (d : Fin 1024) : rGam.emb (ix2 0 d) = ix2 0 d := by
  funext c; apply Fin.ext; fin_cases c
  · rfl
  · show 0 + 1 * d.val = d.val; omega
theorem emb_gcol (t : Fin 8) (s r : Fin 512) : (rGcol t).emb (ix2 s r) = ix2 s ⟨512 * t.val + r.val, by omega⟩ := by
  funext c; apply Fin.ext; fin_cases c
  · show 0 + 1 * s.val = s.val; omega
  · show 512 * t.val + 1 * r.val = 512 * t.val + r.val; omega
theorem emb_dqh (j : Fin 3) (s : Fin 512) (n : Fin 8) (k : Fin 128) : (rDqH j).emb (ix4 s 0 n k) = ix4 s j n k := by
  funext c; apply Fin.ext; fin_cases c
  · show 0 + 1 * s.val = s.val; omega
  · show j.val + 1 * 0 = j.val; omega
  · show 0 + 1 * n.val = n.val; omega
  · show 0 + 1 * k.val = k.val; omega
theorem emb_head (h : Fin 2) (b : Fin 4) (s : Fin 512) (k : Fin 128) :
    (rHead h b).emb (ix3 s 0 k) = ix3 s ⟨4 * h.val + b.val, by omega⟩ k := by
  funext c; apply Fin.ext; fin_cases c
  · show 0 + 1 * s.val = s.val; omega
  · show 4 * h.val + b.val + 1 * 0 = 4 * h.val + b.val; omega
  · show 0 + 1 * k.val = k.val; omega
theorem emb_dqs (j : Fin 3) (h : Fin 2) (b k : Fin 4) (s : Fin 512) :
    (rDqs j h b k).emb (ix3 0 0 s) = ix3 ⟨8 * j.val + (4 * h.val + b.val), by omega⟩ k s := by
  funext c; apply Fin.ext; fin_cases c
  · show 8 * j.val + (4 * h.val + b.val) + 1 * 0 = 8 * j.val + (4 * h.val + b.val); omega
  · show k.val + 1 * 0 = k.val; omega
  · show 0 + 1 * s.val = s.val; omega
theorem emb_vt (h : Fin 2) (b k : Fin 4) (r : Fin 32) (s : Fin 512) :
    (rVt h b k).emb (ix3 0 r s) = ix3 h ⟨128 * b.val + 32 * k.val + r.val, by omega⟩ s := by
  funext c; apply Fin.ext; fin_cases c
  · show h.val + 1 * 0 = h.val; omega
  · show 128 * b.val + 32 * k.val + 1 * r.val = 128 * b.val + 32 * k.val + r.val; omega
  · show 0 + 1 * s.val = s.val; omega
theorem emb_slot (h : Fin 2) (r s : Fin 512) : (rSlot h).emb (ix3 0 r s) = ix3 h r s := by
  funext c; apply Fin.ext; fin_cases c
  · show h.val + 1 * 0 = h.val; omega
  · show 0 + 1 * r.val = r.val; omega
  · show 0 + 1 * s.val = s.val; omega
theorem emb_outh (t n : Fin 8) (p : Fin 64) (b : Fin 8) (l : Fin 128) :
    (rOutH (t, n)).emb (ix3 p b l) = ix3 ⟨64 * t.val + p.val, by omega⟩ b ⟨128 * n.val + l.val, by omega⟩ := by
  funext c; apply Fin.ext; fin_cases c
  · show 64 * t.val + 1 * p.val = 64 * t.val + p.val; omega
  · show 0 + 1 * b.val = b.val; omega
  · show 128 * n.val + 1 * l.val = 128 * n.val + l.val; omega
theorem emb_qkv (j : Fin 3) (h p : Fin 2) (d : Fin 1024) (e : Fin 2) (l : Fin 128) :
    (rQkv j h p).emb (ix4 0 d e l) = ix4 j d ⟨4 * h.val + 2 * p.val + e.val, by omega⟩ l := by
  funext c; apply Fin.ext; fin_cases c
  · show j.val + 1 * 0 = j.val; omega
  · show 0 + 1 * d.val = d.val; omega
  · show 4 * h.val + 2 * p.val + 1 * e.val = 4 * h.val + 2 * p.val + e.val; omega
  · show 0 + 1 * l.val = l.val; omega
theorem emb_qkvs (j : Fin 3) (d : Fin 1024) (n : Fin 8) (l : Fin 128) : (rQkvS j).emb (ix4 0 d n l) = ix4 j d n l := by
  funext c; apply Fin.ext; fin_cases c
  · show j.val + 1 * 0 = j.val; omega
  · show 0 + 1 * d.val = d.val; omega
  · show 0 + 1 * n.val = n.val; omega
  · show 0 + 1 * l.val = l.val; omega
theorem emb_qkvh (j : Fin 3) (d : Fin 1024) (n : Fin 8) (l : Fin 128) : (rQkvH j).emb (ix4 d 0 n l) = ix4 d j n l := by
  funext c; apply Fin.ext; fin_cases c
  · show 0 + 1 * d.val = d.val; omega
  · show j.val + 1 * 0 = j.val; omega
  · show 0 + 1 * n.val = n.val; omega
  · show 0 + 1 * l.val = l.val; omega

/-! ### Where a squeezed copy puts a place -/

theorem re_g (s r : Fin 512) : (Shape.reshapeEquiv nm_g).symm (ix3 0 s r) = ix2 s r := by
  rw [Equiv.symm_apply_eq]; symm; pointwise
theorem re_dqh (s : Fin 512) (n : Fin 8) (k : Fin 128) : Shape.reshapeEquiv nm_dqh (ix3 s n k) = ix4 s 0 n k := by pointwise
theorem re_out (p : Fin 64) (b : Fin 8) (l : Fin 128) : Shape.reshapeEquiv nm_out (ix3 p b l) = ix5 0 0 p b l := by pointwise
theorem re_qkvs (d : Fin 1024) (n : Fin 8) (l : Fin 128) : Shape.reshapeEquiv nm_qkvs (ix3 d n l) = ix4 0 d n l := by pointwise
theorem re_qkvh (d : Fin 1024) (n : Fin 8) (l : Fin 128) : (Shape.reshapeEquiv nm_qkvh).symm (ix4 d 0 n l) = ix3 d n l := by
  rw [Equiv.symm_apply_eq]; symm; pointwise

/-! ### The second result -/

/-- The scaled, transposed `dy`. -/
theorem vDyt_apply (d : Fin 1024) (s : Fin 512) :
    vDyt I (ix2 d s) = oDy I (ix2 s d) * oDys I (ix2 ⟨d.val / 32, by omega⟩ s) := by
  have e : (ix2 d s : S1024x512.Idx) = (rDyt ⟨d.val / 32, by omega⟩).emb (ix2 (⟨d.val % 32, by omega⟩ : Fin 32) s) := by
    rw [emb_dyt]; congr 1; apply Fin.ext; show d.val = 32 * (d.val / 32) + d.val % 32; omega
  have e' : d = ⟨32 * (d.val / 32) + d.val % 32, by omega⟩ := Fin.ext (by show d.val = 32 * (d.val / 32) + d.val % 32; omega)
  rw [e, vDyt, glue_emb rDyt dj_dyt]
  refine (wDyt_apply _ _ _ s).trans ?_
  unfold sub
  refine congrArg₂ (· * ·) (congrArg I.dy ((emb_dy _ _ _).trans ?_)) (congrArg I.dys (emb_dys _ _))
  exact congrArg (ix2 s) e'.symm

/-- Tile `t` of `g`, scaled and transposed. -/
theorem vGt_apply (t : Fin 8) (r s : Fin 512) :
    vGt I t (ix3 0 r s) = oG I (ix2 s ⟨512 * t.val + r.val, by omega⟩) * oGs I (ix2 0 s) := by
  refine (wGt_apply _ _ r s).trans ?_
  refine congrArg₂ (· * ·) ?_ (congrArg I.gs (emb_row s))
  unfold vG sub
  exact congrArg I.g ((congrArg (rGcol t).emb (re_g s r)).trans (emb_gcol t s r))

/-- The product of tile `t` with `dy`. -/
theorem vO_apply (t : Fin 8) (r : Fin 512) (d : Fin 1024) :
    vO I t (ix2 r d) = ∑ s : Fin 512, (oG I (ix2 s ⟨512 * t.val + r.val, by omega⟩) * oGs I (ix2 0 s))
      * (oDy I (ix2 s d) * oDys I (ix2 ⟨d.val / 32, by omega⟩ s)) := by
  refine (wO_apply _ _ r d).trans (Finset.sum_congr rfl fun s _ => ?_)
  refine congrArg₂ (· * ·) (vGt_apply I t r s) ?_
  exact (congrArg (vDyt I) (emb_T (ix2 d s))).trans (vDyt_apply I d s)

/-- The second result, as a sum over the positions. -/
theorem vRes0_apply (a : Fin 512) (b : Fin 8) (d : Fin 1024) :
    vRes0 I (ix3 a b d) = ∑ s : Fin 512, (oG I (ix2 s ⟨a.val * 8 + b.val, by omega⟩) * oGs I (ix2 0 s))
      * (oDy I (ix2 s d) * oDys I (ix2 ⟨d.val / 32, by omega⟩ s)) := by
  have ha : a = ⟨64 * (a.val / 64) + a.val % 64, by omega⟩ := Fin.ext (by show a.val = 64 * (a.val / 64) + a.val % 64; omega)
  have hd : d = ⟨128 * (d.val / 128) + d.val % 128, by omega⟩ := Fin.ext (by show d.val = 128 * (d.val / 128) + d.val % 128; omega)
  have e : (ix3 a b d : S512x8x1024.Idx)
      = (rOutH ((⟨a.val / 64, by omega⟩ : Fin 8), (⟨d.val / 128, by omega⟩ : Fin 8))).emb
          (ix3 (⟨a.val % 64, by omega⟩ : Fin 64) b (⟨d.val % 128, by omega⟩ : Fin 128)) := by
    rw [emb_outh]
    exact (congrArg (fun x => ix3 x b d) ha).trans (congrArg (ix3 _ b) hd)
  rw [e, vRes0, glue_emb rOutH dj_outh]
  unfold vOut
  rw [re_out]
  refine (wOut_apply _ _ _ _ _).trans ((vO_apply I _ _ _).trans (Finset.sum_congr rfl fun s _ => ?_))
  refine congrArg₂ (· * ·) (congrArg (· * _) (congrArg (fun x => oG I (ix2 s x)) (Fin.ext ?_))) ?_
  · show 512 * (a.val / 64) + (a.val % 64 * 8 + b.val) = a.val * 8 + b.val; omega
  · exact congrArg (fun x : Fin 1024 => oDy I (ix2 s x) * oDys I (ix2 ⟨x.val / 32, by omega⟩ s)) hd.symm

/-! ### The third result -/

/-- The scaled, transposed `xhat`. -/
theorem vXht_apply (d : Fin 1024) (s : Fin 512) : vXht I (ix2 d s) = oXh I (ix2 s d) * oXs I (ix2 0 s) := by
  refine (wXht_apply _ _ d s).trans ?_
  exact congrArg₂ (· * ·) (congrArg I.xh (emb_xh s d)) (congrArg I.xs (emb_row s))

/-- `gamma` down the rows. -/
theorem vGamc_apply (d : Fin 1024) (l : Fin 128) : vGamc I (ix2 d l) = oGam I (ix2 0 d) :=
  (wGamc_apply _ d l).trans (congrArg I.gam (emb_gam d))

/-- Part `j` of `dqkv`. -/
theorem vDq_apply (j : Fin 3) (s : Fin 512) (n : Fin 8) (k : Fin 128) : vDq I j (ix3 s n k) = oDq I (ix4 s j n k) := by
  unfold vDq sub
  exact congrArg I.dq ((congrArg (rDqH j).emb (re_dqh s n k)).trans (emb_dqh j s n k))

/-- Four heads of part `j`, scaled and transposed: head `b` of the four is rows `128 b` to `128 b + 127`. -/
theorem vVt_apply (j : Fin 3) (h : Fin 2) (b : Fin 4) (l : Fin 128) (s : Fin 512) :
    vVt I j h (ix3 h ⟨128 * b.val + l.val, by omega⟩ s)
      = oDq I (ix4 s j ⟨4 * h.val + b.val, by omega⟩ l)
        * oDqs I (ix3 ⟨8 * j.val + (4 * h.val + b.val), by omega⟩ ⟨l.val / 32, by omega⟩ s) := by
  have e : (ix3 h ⟨128 * b.val + l.val, by omega⟩ s : S2x512x512.Idx)
      = (rVtP h (b, (⟨l.val / 32, by omega⟩ : Fin 4))).emb (ix3 (0 : Fin 1) (⟨l.val % 32, by omega⟩ : Fin 32) s) := by
    refine Eq.trans ?_ (emb_vt h b ⟨l.val / 32, by omega⟩ ⟨l.val % 32, by omega⟩ s).symm
    refine congrArg (fun x => ix3 h x s) (Fin.ext ?_)
    show 128 * b.val + l.val = 128 * b.val + 32 * (l.val / 32) + l.val % 32; omega
  rw [e, vVt, glue_emb (rVtP h) (dj_vt h)]
  refine (wVt_apply _ _ _ _ s).trans ?_
  refine congrArg₂ (· * ·) ?_ (congrArg I.dqs (emb_dqs j h b _ s))
  refine (wHead_apply _ _ s).trans ((congrArg (vDq I j) (emb_head h b s _)).trans ((vDq_apply I j s _ _).trans ?_))
  refine congrArg (fun x => oDq I (ix4 s j _ x)) (Fin.ext ?_)
  show 32 * (l.val / 32) + l.val % 32 = l.val; omega

/-- The product of `xhat` with those four heads. -/
theorem vR_apply (j : Fin 3) (h : Fin 2) (b : Fin 4) (d : Fin 1024) (l : Fin 128) :
    vR I j h (ix2 d ⟨128 * b.val + l.val, by omega⟩)
      = ∑ s : Fin 512, (oXh I (ix2 s d) * oXs I (ix2 0 s))
        * (oDq I (ix4 s j ⟨4 * h.val + b.val, by omega⟩ l)
          * oDqs I (ix3 ⟨8 * j.val + (4 * h.val + b.val), by omega⟩ ⟨l.val / 32, by omega⟩ s)) := by
  refine (wR_apply _ _ d _).trans (Finset.sum_congr rfl fun s _ => ?_)
  refine congrArg₂ (· * ·) ((congrArg (vXht I) (emb_T (ix2 d s))).trans (vXht_apply I d s)) ?_
  exact (congrArg (vVt I j h) (emb_slot h _ s)).trans (vVt_apply I j h b l s)

/-- One head of it, times `gamma`. -/
theorem vHead_apply (j : Fin 3) (h : Fin 2) (b : Fin 4) (d : Fin 1024) (l : Fin 128) :
    vHead I j h b (ix4 0 d 0 l)
      = (∑ s : Fin 512, (oXh I (ix2 s d) * oXs I (ix2 0 s))
        * (oDq I (ix4 s j ⟨4 * h.val + b.val, by omega⟩ l)
          * oDqs I (ix3 ⟨8 * j.val + (4 * h.val + b.val), by omega⟩ ⟨l.val / 32, by omega⟩ s))) * oGam I (ix2 0 d) := by
  refine (wQkv_apply _ _ b d l).trans ?_
  exact congrArg₂ (· * ·) (vR_apply I j h b d l) ((congrArg (vGamc I) (emb_Gamc (ix2 d l))).trans (vGamc_apply I d l))

/-- Two heads side by side: the even one, -/
theorem vPair_even (j : Fin 3) (h p : Fin 2) (d : Fin 1024) (l : Fin 128) :
    vPair I j h p (ix4 0 d 0 l) = vHead I j h ⟨2 * p.val, by omega⟩ (ix4 0 d 0 l) := by
  pointwise [vPair]
/-- and the odd one. -/
theorem vPair_odd (j : Fin 3) (h p : Fin 2) (d : Fin 1024) (l : Fin 128) :
    vPair I j h p (ix4 0 d 1 l) = vHead I j h ⟨2 * p.val + 1, by omega⟩ (ix4 0 d 0 l) := by
  pointwise [vPair]
/-- Both at once. -/
theorem vPair_apply (j : Fin 3) (h p : Fin 2) (d : Fin 1024) (e : Fin 2) (l : Fin 128) :
    vPair I j h p (ix4 0 d e l) = vHead I j h ⟨2 * p.val + e.val, by omega⟩ (ix4 0 d 0 l) := by
  fin_cases e
  · exact vPair_even I j h p d l
  · exact vPair_odd I j h p d l

/-- All eight heads of part `j`. -/
theorem vQkvS_apply (j : Fin 3) (d : Fin 1024) (n : Fin 8) (l : Fin 128) :
    vQkvS I j (ix4 j d n l) = vHead I j ⟨n.val / 4, by omega⟩ ⟨n.val % 4, by omega⟩ (ix4 0 d 0 l) := by
  have e : (ix4 j d n l : S3x1024x8x128.Idx)
      = (rQkvP j ((⟨n.val / 4, by omega⟩ : Fin 2), (⟨n.val % 4 / 2, by omega⟩ : Fin 2))).emb
          (ix4 (0 : Fin 1) d (⟨n.val % 2, by omega⟩ : Fin 2) l) := by
    refine Eq.trans ?_ (emb_qkv j ⟨n.val / 4, by omega⟩ ⟨n.val % 4 / 2, by omega⟩ d ⟨n.val % 2, by omega⟩ l).symm
    refine congrArg (fun x => ix4 j d x l) (Fin.ext ?_)
    show n.val = 4 * (n.val / 4) + 2 * (n.val % 4 / 2) + n.val % 2; omega
  rw [e, vQkvS, glue_emb (rQkvP j) (dj_qkv j)]
  refine (vPair_apply I j _ _ d _ l).trans ?_
  refine congrArg (fun x => vHead I j _ x (ix4 0 d 0 l)) (Fin.ext ?_)
  show 2 * (n.val % 4 / 2) + n.val % 2 = n.val % 4; omega

/-- The third result, as a sum over the positions times `gamma`. -/
theorem vRes1_apply (d : Fin 1024) (j : Fin 3) (n : Fin 8) (l : Fin 128) :
    vRes1 I (ix4 d j n l)
      = (∑ s : Fin 512, (oXh I (ix2 s d) * oXs I (ix2 0 s))
        * (oDq I (ix4 s j n l) * oDqs I (ix3 ⟨8 * j.val + n.val, by omega⟩ ⟨l.val / 32, by omega⟩ s))) * oGam I (ix2 0 d) := by
  have hn : (⟨4 * (n.val / 4) + n.val % 4, by omega⟩ : Fin 8) = n := Fin.ext (by show 4 * (n.val / 4) + n.val % 4 = n.val; omega)
  rw [← emb_qkvh j d n l, vRes1, glue_emb rQkvH dj_qkvh, re_qkvh]
  unfold vQkv sub
  rw [re_qkvs, emb_qkvs, vQkvS_apply]
  refine (vHead_apply I j _ _ d l).trans (congrArg (· * _) (Finset.sum_congr rfl fun s _ => congrArg (HMul.hMul (_ : Ideal .f32)) ?_))
  exact congrArg (fun x : Fin 8 => oDq I (ix4 s j x l) * oDqs I (ix3 ⟨8 * j.val + x.val, by omega⟩ ⟨l.val / 32, by omega⟩ s)) hn

end Cert.Kernel.Hand

end
-- ==== Proof.KIdealB.lean ====
module

public import proofs.«01_k».proof.Proof.KValsB
public import proofs.«01_k».proof.Proof.KIdeal

/-! What the buffers of the work on `da` hold, over the extended reals, place by place, down to the kernel's first and
last results. -/

@[expose] public section

set_option maxRecDepth 16384

noncomputable section

namespace Cert.Kernel.Hand

open Cert.Kernel Cert.Kernel.Gen
open Idealize.ShloMosaic Idealize.ShloMosaic.TcCoe

variable (I : In Ideal)

/-! ### The operands -/

abbrev oA : FVec Ideal S512x4096 .fp8e5m2 := I.a
abbrev oDs : FVec Ideal S8x16x512 .f32 := I.ds
abbrev oWin : FVec Ideal S1024x4096 .fp8e4m3 := I.win
abbrev oSin : FVec Ideal S1x4096 .f32 := I.sin
abbrev oWq : FVec Ideal S1024x3x8x128 .fp8e4m3 := I.wq
abbrev oSq : FVec Ideal S24x128 .f32 := I.sq

/-! ### Where a place of a rectangle lies -/

theorem emb_b (b : Fin 16) (n : Fin 2) (r : Fin 32) (s : Fin 256) : (rB (b, n)).emb (ix3 0 r s) = ix3 0 ⟨32 * b.val + r.val, by omega⟩ ⟨256 * n.val + s.val, by omega⟩ := by
  funext c; apply Fin.ext; fin_cases c
  · rfl
  · show 32 * b.val + 1 * r.val = 32 * b.val + r.val; omega
  · show 256 * n.val + 1 * s.val = 256 * n.val + s.val; omega
theorem emb_ds (t : Fin 8) (b : Fin 16) (n : Fin 2) (s : Fin 256) : (rDs t b n).emb (ix3 0 0 s) = ix3 t b ⟨256 * n.val + s.val, by omega⟩ := by
  funext c; apply Fin.ext; fin_cases c
  · show t.val + 1 * 0 = t.val; omega
  · show b.val + 1 * 0 = b.val; omega
  · show 256 * n.val + 1 * s.val = 256 * n.val + s.val; omega
theorem emb_winh (t : Fin 8) (d : Fin 1024) (k : Fin 512) : (rWinH t).emb (ix2 d k) = ix2 d ⟨512 * t.val + k.val, by omega⟩ := by
  funext c; apply Fin.ext; fin_cases c
  · show 0 + 1 * d.val = d.val; omega
  · show 512 * t.val + 1 * k.val = 512 * t.val + k.val; omega
theorem emb_sin (t : Fin 8) (k : Fin 512) : (rSin t).emb (ix2 0 k) = ix2 0 ⟨512 * t.val + k.val, by omega⟩ := by
  funext c; apply Fin.ext; fin_cases c
  · rfl
  · show 512 * t.val + 1 * k.val = 512 * t.val + k.val; omega
theorem emb_inh (t : Fin 8) (n : Fin 4) (a : Fin 128) (b : Fin 8) (l : Fin 128) : (rInH (t, n)).emb (ix3 a b l) = ix3 a b ⟨512 * t.val + 128 * n.val + l.val, by omega⟩ := by
  funext c; apply Fin.ext; fin_cases c
  · show 0 + 1 * a.val = a.val; omega
  · show 0 + 1 * b.val = b.val; omega
  · show 512 * t.val + 128 * n.val + 1 * l.val = 512 * t.val + 128 * n.val + l.val; omega
theorem emb_whead (h : Fin 2) (b : Fin 4) (d : Fin 1024) (l : Fin 128) : (rWHead h b).emb (ix3 d 0 l) = ix3 d ⟨4 * h.val + b.val, by omega⟩ l := by
  funext c; apply Fin.ext; fin_cases c
  · show 0 + 1 * d.val = d.val; omega
  · show 4 * h.val + b.val + 1 * 0 = 4 * h.val + b.val; omega
  · show 0 + 1 * l.val = l.val; omega
theorem emb_sq (j : Fin 3) (h : Fin 2) (b : Fin 4) (l : Fin 128) : (rSq j h b).emb (ix2 0 l) = ix2 ⟨8 * j.val + (4 * h.val + b.val), by omega⟩ l := by
  funext c; apply Fin.ext; fin_cases c
  · show 8 * j.val + (4 * h.val + b.val) + 1 * 0 = 8 * j.val + (4 * h.val + b.val); omega
  · show 0 + 1 * l.val = l.val; omega
theorem emb_wqb (h : Fin 2) (b : Fin 4) (d : Fin 1024) (l : Fin 128) : (rWqb h b).emb (ix3 0 d l) = ix3 h d ⟨128 * b.val + l.val, by omega⟩ := by
  funext c; apply Fin.ext; fin_cases c
  · show h.val + 1 * 0 = h.val; omega
  · show 0 + 1 * d.val = d.val; omega
  · show 128 * b.val + 1 * l.val = 128 * b.val + l.val; omega
theorem emb_wslot (h : Fin 2) (d : Fin 1024) (k : Fin 512) : (rWslot h).emb (ix3 0 d k) = ix3 h d k := by
  funext c; apply Fin.ext; fin_cases c
  · show h.val + 1 * 0 = h.val; omega
  · show 0 + 1 * d.val = d.val; omega
  · show 0 + 1 * k.val = k.val; omega
theorem emb_bl (k : Fin 8) (n : Fin 4) (q l : Fin 128) : (rBl k n).emb (ix2 q l) = ix2 ⟨128 * k.val + q.val, by omega⟩ ⟨128 * n.val + l.val, by omega⟩ := by
  funext c; apply Fin.ext; fin_cases c
  · show 128 * k.val + 1 * q.val = 128 * k.val + q.val; omega
  · show 128 * n.val + 1 * l.val = 128 * n.val + l.val; omega
theorem emb_dg (k : Fin 8) (q : Fin 128) : (rDg k).emb (ix2 0 q) = ix2 0 ⟨128 * k.val + q.val, by omega⟩ := by
  funext c; apply Fin.ext; fin_cases c
  · rfl
  · show 128 * k.val + 1 * q.val = 128 * k.val + q.val; omega

/-! ### Where a squeezed copy puts a place -/

theorem re_win (d : Fin 1024) (k : Fin 512) : (Shape.reshapeEquiv nm_win).symm (ix3 0 d k) = ix2 d k := by
  rw [Equiv.symm_apply_eq]; symm; pointwise
theorem re_in (p : Fin 128) (b : Fin 8) (l : Fin 128) : Shape.reshapeEquiv nm_in (ix3 p b l) = ix5 0 0 p b l := by pointwise
theorem re_wqh (d : Fin 1024) (n : Fin 8) (l : Fin 128) : Shape.reshapeEquiv nm_qkvh (ix3 d n l) = ix4 d 0 n l := by pointwise

/-! ### The first result -/

/-- Tile `t` of the codes of `da`, transposed. -/
theorem vAt_apply (t : Fin 8) (r s : Fin 512) : vAt I t (ix3 0 r s) = oA I (ix2 s ⟨512 * t.val + r.val, by omega⟩) := by
  refine (wAt_apply _ r s).trans ?_
  unfold vA sub
  exact congrArg I.a ((congrArg (rGcol t).emb (re_g s r)).trans (emb_gcol t s r))

/-- The same, scaled. -/
theorem vDat_apply (t : Fin 8) (r s : Fin 512) :
    vDat I t (ix3 0 r s) = oA I (ix2 s ⟨512 * t.val + r.val, by omega⟩) * oDs I (ix3 t ⟨r.val / 32, by omega⟩ s) := by
  have hr : (⟨32 * (r.val / 32) + r.val % 32, by omega⟩ : Fin 512) = r := Fin.ext (by show 32 * (r.val / 32) + r.val % 32 = r.val; omega)
  have hs : (⟨256 * (s.val / 256) + s.val % 256, by omega⟩ : Fin 512) = s := Fin.ext (by show 256 * (s.val / 256) + s.val % 256 = s.val; omega)
  have e0 := emb_b ⟨r.val / 32, by omega⟩ ⟨s.val / 256, by omega⟩ ⟨r.val % 32, by omega⟩ ⟨s.val % 256, by omega⟩
  have e : (rB ((⟨r.val / 32, by omega⟩ : Fin 16), (⟨s.val / 256, by omega⟩ : Fin 2))).emb
      (ix3 (0 : Fin 1) (⟨r.val % 32, by omega⟩ : Fin 32) (⟨s.val % 256, by omega⟩ : Fin 256)) = ix3 0 r s :=
    e0.trans (congrArg₂ (fun x y => ix3 0 x y) hr hs)
  rw [← e, vDat, glue_emb rB dj_b]
  refine (wDat_apply _ _ _ _).trans ?_
  refine congrArg₂ (· * ·) ((congrArg (vAt I t) e).trans (vAt_apply I t r s)) (congrArg I.ds ?_)
  exact (emb_ds t _ _ _).trans (congrArg (ix3 t _) hs)

/-- The product of `xhat` with tile `t` of `da`. -/
theorem vI_apply (t : Fin 8) (d : Fin 1024) (r : Fin 512) :
    vI I t (ix2 d r) = ∑ s : Fin 512, (oXh I (ix2 s d) * oXs I (ix2 0 s))
      * (oA I (ix2 s ⟨512 * t.val + r.val, by omega⟩) * oDs I (ix3 t ⟨r.val / 32, by omega⟩ s)) := by
  refine (wR_apply _ _ d r).trans (Finset.sum_congr rfl fun s _ => ?_)
  exact congrArg₂ (· * ·) ((congrArg (vXht I) (emb_T (ix2 d s))).trans (vXht_apply I d s)) (vDat_apply I t r s)

/-- The first result, as a sum over the positions times `gamma`. -/
theorem vRes2_apply (a : Fin 128) (b : Fin 8) (f : Fin 4096) :
    vRes2 I (ix3 a b f) = (∑ s : Fin 512, (oXh I (ix2 s ⟨a.val * 8 + b.val, by omega⟩) * oXs I (ix2 0 s))
      * (oA I (ix2 s f) * oDs I (ix3 ⟨f.val / 512, by omega⟩ ⟨f.val % 512 / 32, by omega⟩ s))) * oGam I (ix2 0 ⟨a.val * 8 + b.val, by omega⟩) := by
  have hf : (⟨512 * (f.val / 512) + 128 * (f.val % 512 / 128) + f.val % 128, by omega⟩ : Fin 4096) = f :=
    Fin.ext (by show 512 * (f.val / 512) + 128 * (f.val % 512 / 128) + f.val % 128 = f.val; omega)
  have e : (rInH ((⟨f.val / 512, by omega⟩ : Fin 8), (⟨f.val % 512 / 128, by omega⟩ : Fin 4))).emb
      (ix3 a b (⟨f.val % 128, by omega⟩ : Fin 128)) = ix3 a b f :=
    (emb_inh _ _ a b _).trans (congrArg (ix3 a b) hf)
  rw [← e, vRes2, glue_emb rInH dj_inh]
  unfold vIn
  rw [re_in]
  refine (wIn_apply _ _ _ _ _ _).trans ?_
  refine congrArg₂ (· * ·) ((vI_apply I _ _ _).trans (Finset.sum_congr rfl fun s _ => congrArg (HMul.hMul (_ : Ideal .f32)) ?_))
    ((congrArg (vGamc I) (emb_Gamc _)).trans (vGamc_apply I _ _))
  refine congrArg₂ (· * ·) (congrArg (fun x => oA I (ix2 s x)) (Fin.ext ?_)) (congrArg (fun x => oDs I (ix3 _ x s)) (Fin.ext ?_))
  · show 512 * (f.val / 512) + (128 * (f.val % 512 / 128) + f.val % 128) = f.val; omega
  · show (128 * (f.val % 512 / 128) + f.val % 128) / 32 = f.val % 512 / 32; omega

/-! ### The gradient before the last result -/

/-- A sum over `a * b` places is a sum over `a` blocks of `b`. -/
theorem sum_blocks (a b : Nat) (F : Fin (a * b) → Ideal .f32) :
    ∑ k, F k = ∑ i : Fin a, ∑ j : Fin b, F ⟨b * i.val + j.val, by
      have h : b * i.val + b ≤ b * a := by rw [← Nat.mul_succ]; exact Nat.mul_le_mul_left b i.isLt
      have := j.isLt; rw [Nat.mul_comm a b]; omega⟩ := by
  rw [← finProdFinEquiv.sum_comp F, Fintype.sum_prod_type]
  refine Finset.sum_congr rfl fun i _ => Finset.sum_congr rfl fun j _ => congrArg F (Fin.ext ?_)
  show j.val + b * i.val = b * i.val + j.val
  omega

/-- One product of `w_in` with `da`, -/
def hTerm (d : Fin 1024) (s : Fin 512) (f : Fin 4096) : Ideal .f32 :=
  (oWin I (ix2 d f) * oSin I (ix2 0 f)) * (oA I (ix2 s f) * oDs I (ix3 ⟨f.val / 512, by omega⟩ ⟨f.val % 512 / 32, by omega⟩ s))
/-- and one of `w_qkv` with `dqkv`. -/
def rTerm (d : Fin 1024) (s : Fin 512) (j : Fin 3) (n : Fin 8) (l : Fin 128) : Ideal .f32 :=
  (oWq I (ix4 d j n l) * oSq I (ix2 ⟨8 * j.val + n.val, by omega⟩ l))
    * (oDq I (ix4 s j n l) * oDqs I (ix3 ⟨8 * j.val + n.val, by omega⟩ ⟨l.val / 32, by omega⟩ s))
/-- The products of tile `t`, -/
def hTile (d : Fin 1024) (s : Fin 512) (t : Fin 8) : Ideal .f32 := ∑ k : Fin 512, hTerm I d s ⟨512 * t.val + k.val, by omega⟩
/-- and those of four heads. -/
def rHeads (d : Fin 1024) (s : Fin 512) (j : Fin 3) (h : Fin 2) : Ideal .f32 :=
  ∑ b : Fin 4, ∑ l : Fin 128, rTerm I d s j ⟨4 * h.val + b.val, by omega⟩ l

/-- Adding tile `t`. -/
theorem accH_apply (t : Fin 8) (X : FVec Ideal S1024x512 .f32) (d : Fin 1024) (s : Fin 512) :
    accH I t X (ix2 d s) = X (ix2 d s) + hTile I d s t := by
  refine (wH_apply _ _ _ _ d s).trans ?_
  refine congrArg₂ (· + ·) (congrArg X (emb_T (ix2 d s))) (Finset.sum_congr rfl fun k _ => ?_)
  refine congrArg₂ (· * ·) (congrArg₂ (· * ·) ?_ (congrArg I.sin (emb_sin t k))) ((vDat_apply I t k s).trans ?_)
  · unfold vWin sub
    exact congrArg I.win ((congrArg (rWinH t).emb (re_win d k)).trans (emb_winh t d k))
  · refine congrArg (HMul.hMul (_ : Ideal .f32)) (congrArg₂ (fun x y => oDs I (ix3 x y s)) (Fin.ext ?_) (Fin.ext ?_))
    · show t.val = (512 * t.val + k.val) / 512; omega
    · show k.val / 32 = (512 * t.val + k.val) % 512 / 32; omega

/-- Head `b` of four heads of `w_qkv`, scaled. -/
theorem vWqb_apply (j : Fin 3) (h : Fin 2) (b : Fin 4) (d : Fin 1024) (l : Fin 128) :
    vWqb I j h (ix3 h d ⟨128 * b.val + l.val, by omega⟩)
      = oWq I (ix4 d j ⟨4 * h.val + b.val, by omega⟩ l) * oSq I (ix2 ⟨8 * j.val + (4 * h.val + b.val), by omega⟩ l) := by
  rw [← emb_wqb h b d l, vWqb, glue_emb (rWqb h) (dj_wqb h)]
  refine (wWqb_apply _ _ d l).trans ?_
  refine congrArg₂ (· * ·) ?_ (congrArg I.sq (emb_sq j h b l))
  refine (congrArg (vWq I j) (emb_whead h b d l)).trans ?_
  unfold vWq sub
  exact congrArg I.wq ((congrArg (rQkvH j).emb (re_wqh d _ l)).trans (emb_qkvh j d _ l))

/-- Adding four heads. -/
theorem accR_apply (j : Fin 3) (h : Fin 2) (X : FVec Ideal S1024x512 .f32) (d : Fin 1024) (s : Fin 512) :
    accR I j h X (ix2 d s) = X (ix2 d s) + rHeads I d s j h := by
  refine (wRh_apply _ _ _ d s).trans ?_
  refine congrArg₂ (· + ·) (congrArg X (emb_T (ix2 d s))) ((sum_blocks 4 128 _).trans ?_)
  refine Finset.sum_congr rfl fun b _ => Finset.sum_congr rfl fun l _ => ?_
  exact congrArg₂ (· * ·) ((congrArg (vWqb I j h) (emb_wslot h d _)).trans (vWqb_apply I j h b d l))
    ((congrArg (vVt I j h) (emb_slot h _ s)).trans (vVt_apply I j h b l s))

theorem acc_apply (t : Fin 8) (j : Fin 3) (h : Fin 2) (X : FVec Ideal S1024x512 .f32) (d : Fin 1024) (s : Fin 512) :
    acc I t j h X (ix2 d s) = X (ix2 d s) + hTile I d s t + rHeads I d s j h := by
  unfold acc; rw [accR_apply, accH_apply]

/-- The eight tiles make the whole of `da`, -/
theorem sum_hTile (d : Fin 1024) (s : Fin 512) : ∑ f : Fin 4096, hTerm I d s f = ∑ t : Fin 8, hTile I d s t :=
  sum_blocks 8 512 (hTerm I d s)
/-- and the six groups of heads the whole of `dqkv`. -/
theorem sum_rHeads (d : Fin 1024) (s : Fin 512) :
    ∑ j : Fin 3, ∑ n : Fin 8, ∑ l : Fin 128, rTerm I d s j n l = ∑ j : Fin 3, ∑ h : Fin 2, rHeads I d s j h :=
  Finset.sum_congr rfl fun j _ => sum_blocks 2 4 (fun n => ∑ l : Fin 128, rTerm I d s j n l)

/-- The gradient: every product of `da`, and every product of `dqkv`. -/
theorem vDh_apply (d : Fin 1024) (s : Fin 512) :
    vDh I (ix2 d s) = (∑ f : Fin 4096, hTerm I d s f) + ∑ j : Fin 3, ∑ n : Fin 8, ∑ l : Fin 128, rTerm I d s j n l := by
  unfold vDh vD6 vD5 vD4 vD3 vD2 vD1 vD0
  rw [sum_hTile, sum_rHeads, accH_apply, accH_apply, acc_apply, acc_apply, acc_apply, acc_apply, acc_apply, acc_apply, wZero_apply, zero_add]
  generalize hTile I d s = H
  generalize rHeads I d s = R
  simp only [Fin.sum_univ_eight, Fin.sum_univ_three, Fin.sum_univ_two]
  ac_rfl

/-! ### The last result -/

/-- One place of the last result, as a sum over the positions. -/
theorem vRes3_apply (d : Fin 1024) :
    vRes3 I (ix2 0 d) = ∑ s : Fin 512, vDh I (ix2 d s) * (oXh I (ix2 s d) * oXs I (ix2 0 s)) := by
  have hd : (⟨128 * (d.val / 128) + d.val % 128, by omega⟩ : Fin 1024) = d := Fin.ext (by show 128 * (d.val / 128) + d.val % 128 = d.val; omega)
  have e : (rDg (⟨d.val / 128, by omega⟩ : Fin 8)).emb (ix2 (0 : Fin 1) (⟨d.val % 128, by omega⟩ : Fin 128)) = ix2 0 d :=
    (emb_dg _ _).trans (congrArg (ix2 0) hd)
  have blk : ∀ (n : Fin 4) (l : Fin 128), (rBl (⟨d.val / 128, by omega⟩ : Fin 8) n).emb (ix2 (⟨d.val % 128, by omega⟩ : Fin 128) l)
      = ix2 d ⟨128 * n.val + l.val, by omega⟩ := fun n l => (emb_bl _ n _ l).trans (congrArg (fun x => ix2 x _) hd)
  rw [← e, vRes3, glue_emb rDg dj_dg]
  refine (wDg_apply _ _ _ _ _ _ _ _ _).trans (Eq.trans ?_ (sum_blocks 4 128 _).symm)
  rw [Fin.sum_univ_four, ← Finset.sum_add_distrib, ← Finset.sum_add_distrib, ← Finset.sum_add_distrib]
  have one : ∀ (n : Fin 4) (l : Fin 128),
      sub (vDh I) (rBl (⟨d.val / 128, by omega⟩ : Fin 8) n) (ix2 (⟨d.val % 128, by omega⟩ : Fin 128) l)
          * sub (vXht I) (rBl (⟨d.val / 128, by omega⟩ : Fin 8) n) (ix2 (⟨d.val % 128, by omega⟩ : Fin 128) l)
        = (vDh I (ix2 d ⟨128 * n.val + l.val, by omega⟩) : Ideal .f32)
          * (oXh I (ix2 (⟨128 * n.val + l.val, by omega⟩ : Fin 512) d) * oXs I (ix2 0 (⟨128 * n.val + l.val, by omega⟩ : Fin 512))) := fun n l =>
    congrArg₂ (fun x y : Ideal .f32 => x * y) (congrArg (vDh I) (blk n l)) ((congrArg (vXht I) (blk n l)).trans (vXht_apply I d _))
  exact Finset.sum_congr rfl fun l _ => congrArg₂ (· + ·) (congrArg₂ (· + ·) (congrArg₂ (· + ·) (one 0 l) (one 1 l)) (one 2 l)) (one 3 l)

end Cert.Kernel.Hand

end
-- ==== Proof.KIdealC.lean ====
module

public import proofs.«01_k».proof.Proof.KIdealB

/-! What the buffers of the work on `dx` hold, over the extended reals, place by place, down to the kernel's first result. -/

@[expose] public section

set_option maxRecDepth 16384

noncomputable section

namespace Cert.Kernel.Hand

open Cert.Kernel Cert.Kernel.Gen
open Idealize.ShloMosaic Idealize.ShloMosaic.TcCoe

/-- One part in 1024. -/
abbrev frac : Ideal .f32 := Scalar.ofBits (F := Ideal) .f32 0x3A800000#32

theorem wZero8_apply (r : Fin 8) (l : Fin 128) : wZero8 (F := Ideal) (ix2 r l) = 0 := by
  pointwise [wZero8]

/-- The mean of four sums of rows of eight. -/
theorem wMean_apply (a b c d : FVec Ideal S8x128 .f32) (l : Fin 128) :
    wMean (F := Ideal) a b c d (ix2 0 l) = (∑ r : Fin 8, ((a (ix2 r l) + b (ix2 r l)) + (c (ix2 r l) + d (ix2 r l)))) * frac := by
  pointwise [wMean]

/-- A block of `dx`. -/
theorem wDx_apply (d g : FVec Ideal S128x128 .f32) (x y : FVec Ideal S128x128 .bf16) (m1 m2 r : FVec Ideal S1x128 .f32)
    (p : Fin 16) (b : Fin 8) (l : Fin 128) :
    wDx (F := Ideal) d g x y m1 m2 r (ix4 0 p b l)
      = y (ix2 l ⟨p.val * 8 + b.val, by omega⟩) + r (ix2 0 ⟨p.val * 8 + b.val, by omega⟩)
          * ((d (ix2 l ⟨p.val * 8 + b.val, by omega⟩) * g (ix2 l ⟨p.val * 8 + b.val, by omega⟩) - m1 (ix2 0 ⟨p.val * 8 + b.val, by omega⟩))
            - x (ix2 l ⟨p.val * 8 + b.val, by omega⟩) * m2 (ix2 0 ⟨p.val * 8 + b.val, by omega⟩)) := by
  pointwise [wDx]

/-- That part times a number is the number over 1024. -/
theorem mul_frac (x : Ideal .f32) : x * frac = Ideal.div x (Scalar.ofBits (F := Ideal) .f32 0x44800000#32) := by
  have h1 : (Scalar.ofBits (F := Ideal) .f32 0x44800000#32 : Ideal .f32) = ((1024 : ℝ) : EReal) := by
    show Ideal.ofBits .f32 0x44800000#32 = _
    simp [Ideal.ofBits, Ideal.ieee, -EReal.coe_mul]; norm_num
  have h2 : frac = (((1 : ℝ) / 1024 : ℝ) : EReal) := by
    show Ideal.ofBits .f32 0x3A800000#32 = _
    simp [Ideal.ofBits, Ideal.ieee, -EReal.coe_mul]; norm_num
  rw [h1, h2]
  unfold Ideal.div
  rw [if_neg (by exact_mod_cast (by norm_num : (1024 : ℝ) ≠ 0)), ← EReal.coe_inv]
  norm_num

/-! ### The sums down the rows -/

/-- What the first four sums add up to, -/
def totX (a : Acc Ideal) (i : S8x128.Idx) : Ideal .f32 := (a.x0 i + a.x1 i) + (a.x2 i + a.x3 i)
/-- and the last four. -/
def totY (a : Acc Ideal) (i : S8x128.Idx) : Ideal .f32 := (a.y0 i + a.y1 i) + (a.y2 i + a.y3 i)

theorem totX_acc0 (i : S8x128.Idx) : totX acc0 i = 0 := by
  obtain ⟨r, l, rfl⟩ : ∃ (r : Fin 8) (l : Fin 128), i = ix2 r l := ⟨i 0, i 1, eq_ix2 i⟩
  show (wZero8 (F := Ideal) (ix2 r l) + wZero8 (F := Ideal) (ix2 r l)) + (wZero8 (F := Ideal) (ix2 r l) + wZero8 (F := Ideal) (ix2 r l)) = 0
  rw [wZero8_apply]; simp
theorem totY_acc0 (i : S8x128.Idx) : totY acc0 i = 0 := totX_acc0 i

theorem totX_step (d g : FVec Ideal S8x128 .f32) (x : FVec Ideal S8x128 .bf16) (a : Acc Ideal) (i : S8x128.Idx) :
    totX (accStep d g x a) i = totX a i + d i * g i := by
  show (a.x1 i + a.x2 i) + (a.x3 i + (a.x0 i + d i * g i)) = ((a.x0 i + a.x1 i) + (a.x2 i + a.x3 i)) + d i * g i
  ac_rfl
theorem totY_step (d g : FVec Ideal S8x128 .f32) (x : FVec Ideal S8x128 .bf16) (a : Acc Ideal) (i : S8x128.Idx) :
    totY (accStep d g x a) i = totY a i + (d i * g i) * x i := by
  show (a.y1 i + a.y2 i) + (a.y3 i + (a.y0 i + (d i * g i) * x i)) = ((a.y0 i + a.y1 i) + (a.y2 i + a.y3 i)) + (d i * g i) * x i
  ac_rfl

/-- A sum gathered step by step from zero is the sum. -/
theorem fold_total {A : Type} (t : A → Ideal .f32) (f : A → Fin 128 → A) (z : A) (w : Fin 128 → Ideal .f32)
    (hz : t z = 0) (hf : ∀ a k, t (f a k) = t a + w k) : t ((List.finRange 128).foldl f z) = ∑ k : Fin 128, w k := by
  have key : ∀ (l : List (Fin 128)) (a : A), t (l.foldl f a) = t a + (l.map w).sum := by
    intro l
    induction l with
    | nil => intro a; simp
    | cons k l ih => intro a; rw [List.foldl_cons, ih, hf, List.map_cons, List.sum_cons, add_assoc]
  rw [key, hz, zero_add, ← Fin.sum_univ_def]

/-! ### Where a rectangle's place lies -/

theorem emb_row8 (n : Fin 4) (k : Fin 128) (r : Fin 8) (l : Fin 128) :
    (rRow8 n k).emb (ix2 r l) = ix2 ⟨8 * k.val + r.val, by omega⟩ ⟨128 * n.val + l.val, by omega⟩ := by
  funext c; apply Fin.ext; fin_cases c
  · show 8 * k.val + 1 * r.val = 8 * k.val + r.val; omega
  · show 128 * n.val + 1 * l.val = 128 * n.val + l.val; omega
theorem emb_gam8 (k : Fin 128) (r : Fin 8) (l : Fin 128) : (rGam8 k).emb (ix2 r l) = ix2 ⟨8 * k.val + r.val, by omega⟩ l := by
  funext c; apply Fin.ext; fin_cases c
  · show 8 * k.val + 1 * r.val = 8 * k.val + r.val; omega
  · show 0 + 1 * l.val = l.val; omega
theorem emb_gam128 (k : Fin 8) (q l : Fin 128) : (rGam128 k).emb (ix2 q l) = ix2 ⟨128 * k.val + q.val, by omega⟩ l := by
  funext c; apply Fin.ext; fin_cases c
  · show 128 * k.val + 1 * q.val = 128 * k.val + q.val; omega
  · show 0 + 1 * l.val = l.val; omega
theorem emb_rs (n : Fin 4) (l : Fin 128) : (rRs n).emb (ix2 0 l) = ix2 0 ⟨128 * n.val + l.val, by omega⟩ := by
  funext c; apply Fin.ext; fin_cases c
  · rfl
  · show 128 * n.val + 1 * l.val = 128 * n.val + l.val; omega
theorem emb_dxp (n : Fin 4) (k : Fin 8) (p : Fin 16) (b : Fin 8) (l : Fin 128) :
    (rDxP (n, k)).emb (ix4 0 p b l) = ix4 k ⟨16 * n.val + p.val, by omega⟩ b l := by
  funext c; apply Fin.ext; fin_cases c
  · show k.val + 1 * 0 = k.val; omega
  · show 16 * n.val + 1 * p.val = 16 * n.val + p.val; omega
  · show 0 + 1 * b.val = b.val; omega
  · show 0 + 1 * l.val = l.val; omega
theorem emb_dxs (k : Fin 8) (a : Fin 64) (b : Fin 8) (l : Fin 128) : (rDxS k).emb (ix4 0 a b l) = ix4 k a b l := by
  funext c; apply Fin.ext; fin_cases c
  · show k.val + 1 * 0 = k.val; omega
  · show 0 + 1 * a.val = a.val; omega
  · show 0 + 1 * b.val = b.val; omega
  · show 0 + 1 * l.val = l.val; omega
theorem emb_dxh (k : Fin 8) (a : Fin 64) (b : Fin 8) (l : Fin 128) :
    (rDxH k).emb (ix3 a b l) = ix3 a b ⟨128 * k.val + l.val, by omega⟩ := by
  funext c; apply Fin.ext; fin_cases c
  · show 0 + 1 * a.val = a.val; omega
  · show 0 + 1 * b.val = b.val; omega
  · show 128 * k.val + 1 * l.val = 128 * k.val + l.val; omega
theorem re_dx (a : Fin 64) (b : Fin 8) (l : Fin 128) : Shape.reshapeEquiv nm_dx (ix3 a b l) = ix4 0 a b l := by pointwise

/-! ### The means -/

variable (I : In Ideal)

/-- The reciprocal spread of each position. -/
abbrev oRs : FVec Ideal S1x512 .f32 := I.rs

/-- What the first mean is over, at feature `e` of position `s`; -/
def dTerm (s : Fin 512) (e : Fin 1024) : Ideal .f32 := vDh I (ix2 e s) * oGam I (ix2 0 e)
/-- what the second is. -/
def xTerm (s : Fin 512) (e : Fin 1024) : Ideal .f32 := dTerm I s e * (oXh I (ix2 s e) * oXs I (ix2 0 s))

theorem sub_dg (n : Fin 4) (k : Fin 128) (r : Fin 8) (l : Fin 128) :
    sub (vDh I) (rRow8 n k) (ix2 r l) * sub (vGamc I) (rGam8 k) (ix2 r l)
      = dTerm I ⟨128 * n.val + l.val, by omega⟩ ⟨8 * k.val + r.val, by omega⟩ := by
  unfold sub dTerm
  exact congrArg₂ (· * ·) (congrArg (vDh I) (emb_row8 n k r l)) ((congrArg (vGamc I) (emb_gam8 k r l)).trans (vGamc_apply I _ _))

theorem sub_x (n : Fin 4) (k : Fin 128) (r : Fin 8) (l : Fin 128) :
    sub (vXht I) (rRow8 n k) (ix2 r l)
      = oXh I (ix2 ⟨128 * n.val + l.val, by omega⟩ ⟨8 * k.val + r.val, by omega⟩) * oXs I (ix2 0 ⟨128 * n.val + l.val, by omega⟩) := by
  unfold sub
  exact (congrArg (vXht I) (emb_row8 n k r l)).trans (vXht_apply I _ _)

theorem totX_vAcc (n : Fin 4) (r : Fin 8) (l : Fin 128) :
    totX (vAcc I n) (ix2 r l) = ∑ k : Fin 128, dTerm I ⟨128 * n.val + l.val, by omega⟩ ⟨8 * k.val + r.val, by omega⟩ :=
  fold_total (fun a => totX a (ix2 r l)) _ _ _ (totX_acc0 _)
    fun a k => (totX_step _ _ _ a _).trans (congrArg (HAdd.hAdd _) (sub_dg I n k r l))
theorem totY_vAcc (n : Fin 4) (r : Fin 8) (l : Fin 128) :
    totY (vAcc I n) (ix2 r l) = ∑ k : Fin 128, xTerm I ⟨128 * n.val + l.val, by omega⟩ ⟨8 * k.val + r.val, by omega⟩ :=
  fold_total (fun a => totY a (ix2 r l)) _ _ _ (totY_acc0 _)
    fun a k => (totY_step _ _ _ a _).trans (congrArg (HAdd.hAdd _) (congrArg₂ (· * ·) (sub_dg I n k r l) (sub_x I n k r l)))

/-- A sum over the features, the rows of each eight first. -/
theorem sum_rows (w : Fin 1024 → Ideal .f32) : ∑ r : Fin 8, ∑ k : Fin 128, w ⟨8 * k.val + r.val, by omega⟩ = ∑ e : Fin 1024, w e := by
  rw [Finset.sum_comm]
  exact (sum_blocks 128 8 w).symm

theorem vM1_apply (n : Fin 4) (l : Fin 128) :
    vM1 I n (ix2 0 l) = (∑ e : Fin 1024, dTerm I ⟨128 * n.val + l.val, by omega⟩ e) * frac :=
  (wMean_apply _ _ _ _ l).trans (congrArg (· * frac)
    ((Finset.sum_congr rfl fun r _ => totX_vAcc I n r l).trans (sum_rows _)))
theorem vM2_apply (n : Fin 4) (l : Fin 128) :
    vM2 I n (ix2 0 l) = (∑ e : Fin 1024, xTerm I ⟨128 * n.val + l.val, by omega⟩ e) * frac :=
  (wMean_apply _ _ _ _ l).trans (congrArg (· * frac)
    ((Finset.sum_congr rfl fun r _ => totY_vAcc I n r l).trans (sum_rows _)))

/-! ### The first result -/

/-- What `dx` holds at feature `d` of position `s`. -/
def dxAt (s : Fin 512) (d : Fin 1024) : Ideal .f32 :=
  oDy I (ix2 s d) * oDys I (ix2 ⟨d.val / 32, by omega⟩ s)
    + oRs I (ix2 0 s) * ((dTerm I s d - (∑ e : Fin 1024, dTerm I s e) * frac)
        - (oXh I (ix2 s d) * oXs I (ix2 0 s)) * ((∑ e : Fin 1024, xTerm I s e) * frac))

theorem vDxk_apply (n : Fin 4) (k : Fin 8) (p : Fin 16) (b : Fin 8) (l : Fin 128) :
    vDxk I n k (ix4 0 p b l) = dxAt I ⟨128 * n.val + (p.val * 8 + b.val), by omega⟩ ⟨128 * k.val + l.val, by omega⟩ := by
  refine (wDx_apply _ _ _ _ _ _ _ p b l).trans ?_
  rw [vM1_apply, vM2_apply]
  unfold sub
  rw [emb_bl, emb_gam128, emb_rs, vXht_apply, vGamc_apply, vDyt_apply]
  rfl

theorem vRes4_apply (a : Fin 64) (b : Fin 8) (d : Fin 1024) :
    vRes4 I (ix3 a b d) = dxAt I ⟨a.val * 8 + b.val, by omega⟩ d := by
  have hd : (⟨128 * (d.val / 128) + d.val % 128, by omega⟩ : Fin 1024) = d :=
    Fin.ext (by show 128 * (d.val / 128) + d.val % 128 = d.val; omega)
  have ha : (⟨16 * (a.val / 16) + a.val % 16, by omega⟩ : Fin 64) = a :=
    Fin.ext (by show 16 * (a.val / 16) + a.val % 16 = a.val; omega)
  have e : (rDxH (⟨d.val / 128, by omega⟩ : Fin 8)).emb (ix3 a b (⟨d.val % 128, by omega⟩ : Fin 128)) = ix3 a b d :=
    (emb_dxh _ a b _).trans (congrArg (ix3 a b) hd)
  have e' : (rDxS (⟨d.val / 128, by omega⟩ : Fin 8)).emb (ix4 0 a b (⟨d.val % 128, by omega⟩ : Fin 128))
      = (rDxP ((⟨a.val / 16, by omega⟩ : Fin 4), (⟨d.val / 128, by omega⟩ : Fin 8))).emb
          (ix4 0 (⟨a.val % 16, by omega⟩ : Fin 16) b (⟨d.val % 128, by omega⟩ : Fin 128)) :=
    (emb_dxs _ a b _).trans ((congrArg (fun x => ix4 _ x b _) ha.symm).trans (emb_dxp ⟨a.val / 16, by omega⟩ ⟨d.val / 128, by omega⟩ ⟨a.val % 16, by omega⟩ b ⟨d.val % 128, by omega⟩).symm)
  rw [← e, vRes4, glue_emb rDxH dj_dxh]
  unfold vDx
  rw [re_dx]
  unfold sub
  rw [e', vDxS, glue_emb rDxP dj_dxp]
  refine (vDxk_apply I _ _ _ b _).trans ?_
  refine congrArg₂ (dxAt I) (Fin.ext ?_) hd
  show 128 * (a.val / 16) + (a.val % 16 * 8 + b.val) = a.val * 8 + b.val; omega

end Cert.Kernel.Hand

end
-- ==== Proof.RValue.lean ====
module

public import proofs.«01_k».proof.Proof.Gen.ReferenceIdeal.Frame
public import Idealize.ShloMosaic.Lib.Pipeline.Value

/-! The reference's run: from any memory it ends, its arguments unchanged and its five results at `G16` to `G20` of the
arguments. Its one grid point stages whole arrays, so each window's block is its array. -/

@[expose] public section

noncomputable section

namespace Cert.ReferenceIdeal.RVal

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ### Every window's block is its array -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
/-- An index of window 0's block is the same index of its array. -/
theorem emb0 (t : Fin cfg0.N) (j : S1x512x1024.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 512 + 1 * (j 1).val = (j 1).val; omega
  | ⟨2, _⟩ => show win0_0.index t (2 : Fin 3) * 1024 + 1 * (j 2).val = (j 2).val; omega
/-- Input window 0's block is its array as the region finds it. -/
theorem iblk0_eq (c : Dev nD) (t : Fin cfg0.N) : iblk m c 0 t = V m c main_arg0 := by
  funext j; show V m c main_arg0 (((cfg0.win 0).blk t).view.emb j) = V m c main_arg0 j; rw [emb0]
/-- Argument `main_arg0` ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
/-- An index of window 1's block is the same index of its array. -/
theorem emb1 (t : Fin cfg0.N) (j : S1x512x32.Idx) : ((cfg0.win 1).blk t).view.emb j = j := by
  obtain ⟨e0, e1, e2⟩ := idx_zero1 t
  funext a; apply Fin.ext
  match a with
  | ⟨0, _⟩ => show win0_1.index t (0 : Fin 3) * 1 + 1 * (j 0).val = (j 0).val; omega
  | ⟨1, _⟩ => show win0_1.index t (1 : Fin 3) * 512 + 1 * (j 1).val = (j 1).val; omega
  | ⟨2, _⟩ => show win0_1.index t (2 : Fin 3) * 32 + 1 * (j 2).val = (j 2).val; omega
/-- Input window 1's block is its array as the region finds it. -/
theorem iblk1_eq (c : Dev nD) (t : Fin cfg0.N) : iblk m c 1 t = V m c main_arg1 := by
  funext j; show V m c main_arg1 (((cfg0.win 1).blk t).view.emb j) = V m c main_arg1 j; rw [emb1]
/-- Argument `main_arg1` ends as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Window 2's block index at the one point is zero on every axis. -/
theorem idx_zero2 : ∀ t : Fin cfg0.N, win0_2.index t (0 : Fin 5) = 0 ∧ win0_2.index t (1 : Fin 5) = 0 ∧ win0_2.index t (2 : Fin 5) = 0 ∧ win0_2.index t (3 : Fin 5) = 0 ∧ win0_2.index t (4 : Fin 5) = 0 :=
  (by decide +kernel : ∀ t : Fin grid0.N, _)
/-- An index of window 2's block is the same index of its array. -/
theorem emb2 (t : Fin cfg0.N) (j : S1x512x3x8x128.Idx) : ((cfg0.win 2).blk t).view.emb j = j := by
  obtain ⟨e0, e1, e2, e3, e4⟩ := idx_zero2 t
  funext a; apply Fin.ext
  match a with
  | ⟨0, _⟩ => show win0_2.index t (0 : Fin 5) * 1 + 1 * (j 0).val = (j 0).val; omega
  | ⟨1, _⟩ => show win0_2.index t (1 : Fin 5) * 512 + 1 * (j 1).val = (j 1).val; omega
  | ⟨2, _⟩ => show win0_2.index t (2 : Fin 5) * 3 + 1 * (j 2).val = (j 2).val; omega
  | ⟨3, _⟩ => show win0_2.index t (3 : Fin 5) * 8 + 1 * (j 3).val = (j 3).val; omega
  | ⟨4, _⟩ => show win0_2.index t (4 : Fin 5) * 128 + 1 * (j 4).val = (j 4).val; omega
/-- Input window 2's block is its array as the region finds it. -/
theorem iblk2_eq (c : Dev nD) (t : Fin cfg0.N) : iblk m c 2 t = V m c main_arg2 := by
  funext j; show V m c main_arg2 (((cfg0.win 2).blk t).view.emb j) = V m c main_arg2 j; rw [emb2]
/-- Argument `main_arg2` ends as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- Window 3's block index at the one point is zero on every axis. -/
theorem idx_zero3 : ∀ t : Fin cfg0.N, win0_3.index t (0 : Fin 5) = 0 ∧ win0_3.index t (1 : Fin 5) = 0 ∧ win0_3.index t (2 : Fin 5) = 0 ∧ win0_3.index t (3 : Fin 5) = 0 ∧ win0_3.index t (4 : Fin 5) = 0 :=
  (by decide +kernel : ∀ t : Fin grid0.N, _)
/-- An index of window 3's block is the same index of its array. -/
theorem emb3 (t : Fin cfg0.N) (j : S1x512x3x8x4.Idx) : ((cfg0.win 3).blk t).view.emb j = j := by
  obtain ⟨e0, e1, e2, e3, e4⟩ := idx_zero3 t
  funext a; apply Fin.ext
  match a with
  | ⟨0, _⟩ => show win0_3.index t (0 : Fin 5) * 1 + 1 * (j 0).val = (j 0).val; omega
  | ⟨1, _⟩ => show win0_3.index t (1 : Fin 5) * 512 + 1 * (j 1).val = (j 1).val; omega
  | ⟨2, _⟩ => show win0_3.index t (2 : Fin 5) * 3 + 1 * (j 2).val = (j 2).val; omega
  | ⟨3, _⟩ => show win0_3.index t (3 : Fin 5) * 8 + 1 * (j 3).val = (j 3).val; omega
  | ⟨4, _⟩ => show win0_3.index t (4 : Fin 5) * 4 + 1 * (j 4).val = (j 4).val; omega
/-- Input window 3's block is its array as the region finds it. -/
theorem iblk3_eq (c : Dev nD) (t : Fin cfg0.N) : iblk m c 3 t = V m c main_arg3 := by
  funext j; show V m c main_arg3 (((cfg0.win 3).blk t).view.emb j) = V m c main_arg3 j; rw [emb3]
/-- Argument `main_arg3` ends as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
/-- An index of window 4's block is the same index of its array. -/
theorem emb4 (t : Fin cfg0.N) (j : S1x512x1024.Idx) : ((cfg0.win 4).blk t).view.emb j = j := by
  obtain ⟨e0, e1, e2⟩ := idx_zero4 t
  funext a; apply Fin.ext
  match a with
  | ⟨0, _⟩ => show win0_4.index t (0 : Fin 3) * 1 + 1 * (j 0).val = (j 0).val; omega
  | ⟨1, _⟩ => show win0_4.index t (1 : Fin 3) * 512 + 1 * (j 1).val = (j 1).val; omega
  | ⟨2, _⟩ => show win0_4.index t (2 : Fin 3) * 1024 + 1 * (j 2).val = (j 2).val; omega
/-- Input window 4's block is its array as the region finds it. -/
theorem iblk4_eq (c : Dev nD) (t : Fin cfg0.N) : iblk m c 4 t = V m c main_arg4 := by
  funext j; show V m c main_arg4 (((cfg0.win 4).blk t).view.emb j) = V m c main_arg4 j; rw [emb4]
/-- Argument `main_arg4` ends as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)
/-- An index of window 5's block is the same index of its array. -/
theorem emb5 (t : Fin cfg0.N) (j : S1x512.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 512 + 1 * (j 1).val = (j 1).val; omega
/-- Input window 5's block is its array as the region finds it. -/
theorem iblk5_eq (c : Dev nD) (t : Fin cfg0.N) : iblk m c 5 t = V m c main_arg5 := by
  funext j; show V m c main_arg5 (((cfg0.win 5).blk t).view.emb j) = V m c main_arg5 j; rw [emb5]
/-- Argument `main_arg5` ends as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)
/-- An index of window 6's block is the same index of its array. -/
theorem emb6 (t : Fin cfg0.N) (j : S1x512.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 512 + 1 * (j 1).val = (j 1).val; omega
/-- Input window 6's block is its array as the region finds it. -/
theorem iblk6_eq (c : Dev nD) (t : Fin cfg0.N) : iblk m c 6 t = V m c main_arg6 := by
  funext j; show V m c main_arg6 (((cfg0.win 6).blk t).view.emb j) = V m c main_arg6 j; rw [emb6]
/-- Argument `main_arg6` ends as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- Window 7's block index at the one point is zero on every axis. -/
theorem idx_zero7 : ∀ t : Fin cfg0.N, win0_7.index t (0 : Fin 1) = 0 :=
  (by decide +kernel : ∀ t : Fin grid0.N, _)
/-- An index of window 7's block is the same index of its array. -/
theorem emb7 (t : Fin cfg0.N) (j : S1024.Idx) : ((cfg0.win 7).blk t).view.emb j = j := by
  have e0 := idx_zero7 t
  funext a; apply Fin.ext
  match a with
  | ⟨0, _⟩ => show win0_7.index t (0 : Fin 1) * 1024 + 1 * (j 0).val = (j 0).val; omega
/-- Input window 7's block is its array as the region finds it. -/
theorem iblk7_eq (c : Dev nD) (t : Fin cfg0.N) : iblk m c 7 t = V m c main_arg7 := by
  funext j; show V m c main_arg7 (((cfg0.win 7).blk t).view.emb j) = V m c main_arg7 j; rw [emb7]
/-- Argument `main_arg7` ends as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)
/-- An index of window 8's block is the same index of its array. -/
theorem emb8 (t : Fin cfg0.N) (j : S1x512x4096.Idx) : ((cfg0.win 8).blk t).view.emb j = j := by
  obtain ⟨e0, e1, e2⟩ := idx_zero8 t
  funext a; apply Fin.ext
  match a with
  | ⟨0, _⟩ => show win0_8.index t (0 : Fin 3) * 1 + 1 * (j 0).val = (j 0).val; omega
  | ⟨1, _⟩ => show win0_8.index t (1 : Fin 3) * 512 + 1 * (j 1).val = (j 1).val; omega
  | ⟨2, _⟩ => show win0_8.index t (2 : Fin 3) * 4096 + 1 * (j 2).val = (j 2).val; omega
/-- Input window 8's block is its array as the region finds it. -/
theorem iblk8_eq (c : Dev nD) (t : Fin cfg0.N) : iblk m c 8 t = V m c main_arg8 := by
  funext j; show V m c main_arg8 (((cfg0.win 8).blk t).view.emb j) = V m c main_arg8 j; rw [emb8]
/-- Argument `main_arg8` ends as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)
/-- An index of window 9's block is the same index of its array. -/
theorem emb9 (t : Fin cfg0.N) (j : S1x512x128.Idx) : ((cfg0.win 9).blk t).view.emb j = j := by
  obtain ⟨e0, e1, e2⟩ := idx_zero9 t
  funext a; apply Fin.ext
  match a with
  | ⟨0, _⟩ => show win0_9.index t (0 : Fin 3) * 1 + 1 * (j 0).val = (j 0).val; omega
  | ⟨1, _⟩ => show win0_9.index t (1 : Fin 3) * 512 + 1 * (j 1).val = (j 1).val; omega
  | ⟨2, _⟩ => show win0_9.index t (2 : Fin 3) * 128 + 1 * (j 2).val = (j 2).val; omega
/-- Input window 9's block is its array as the region finds it. -/
theorem iblk9_eq (c : Dev nD) (t : Fin cfg0.N) : iblk m c 9 t = V m c main_arg9 := by
  funext j; show V m c main_arg9 (((cfg0.win 9).blk t).view.emb j) = V m c main_arg9 j; rw [emb9]
/-- Argument `main_arg9` ends as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)
/-- An index of window 10's block is the same index of its array. -/
theorem emb10 (t : Fin cfg0.N) (j : S1x512x4096.Idx) : ((cfg0.win 10).blk t).view.emb j = j := by
  obtain ⟨e0, e1, e2⟩ := idx_zero10 t
  funext a; apply Fin.ext
  match a with
  | ⟨0, _⟩ => show win0_10.index t (0 : Fin 3) * 1 + 1 * (j 0).val = (j 0).val; omega
  | ⟨1, _⟩ => show win0_10.index t (1 : Fin 3) * 512 + 1 * (j 1).val = (j 1).val; omega
  | ⟨2, _⟩ => show win0_10.index t (2 : Fin 3) * 4096 + 1 * (j 2).val = (j 2).val; omega
/-- Input window 10's block is its array as the region finds it. -/
theorem iblk10_eq (c : Dev nD) (t : Fin cfg0.N) : iblk m c 10 t = V m c main_arg10 := by
  funext j; show V m c main_arg10 (((cfg0.win 10).blk t).view.emb j) = V m c main_arg10 j; rw [emb10]
/-- Argument `main_arg10` ends as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)
/-- An index of window 11's block is the same index of its array. -/
theorem emb11 (t : Fin cfg0.N) (j : S1x512.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 512 + 1 * (j 1).val = (j 1).val; omega
/-- Input window 11's block is its array as the region finds it. -/
theorem iblk11_eq (c : Dev nD) (t : Fin cfg0.N) : iblk m c 11 t = V m c main_arg11 := by
  funext j; show V m c main_arg11 (((cfg0.win 11).blk t).view.emb j) = V m c main_arg11 j; rw [emb11]
/-- Argument `main_arg11` ends as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)
/-- An index of window 12's block is the same index of its array. -/
theorem emb12 (t : Fin cfg0.N) (j : S1024x4096.Idx) : ((cfg0.win 12).blk t).view.emb j = j := by
  obtain ⟨e0, e1⟩ := idx_zero12 t
  funext a; apply Fin.ext
  match a with
  | ⟨0, _⟩ => show win0_12.index t (0 : Fin 2) * 1024 + 1 * (j 0).val = (j 0).val; omega
  | ⟨1, _⟩ => show win0_12.index t (1 : Fin 2) * 4096 + 1 * (j 1).val = (j 1).val; omega
/-- Input window 12's block is its array as the region finds it. -/
theorem iblk12_eq (c : Dev nD) (t : Fin cfg0.N) : iblk m c 12 t = V m c main_arg12 := by
  funext j; show V m c main_arg12 (((cfg0.win 12).blk t).view.emb j) = V m c main_arg12 j; rw [emb12]
/-- Argument `main_arg12` ends as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- Window 13's block index at the one point is zero on every axis. -/
theorem idx_zero13 : ∀ t : Fin cfg0.N, win0_13.index t (0 : Fin 1) = 0 :=
  (by decide +kernel : ∀ t : Fin grid0.N, _)
/-- An index of window 13's block is the same index of its array. -/
theorem emb13 (t : Fin cfg0.N) (j : S4096.Idx) : ((cfg0.win 13).blk t).view.emb j = j := by
  have e0 := idx_zero13 t
  funext a; apply Fin.ext
  match a with
  | ⟨0, _⟩ => show win0_13.index t (0 : Fin 1) * 4096 + 1 * (j 0).val = (j 0).val; omega
/-- Input window 13's block is its array as the region finds it. -/
theorem iblk13_eq (c : Dev nD) (t : Fin cfg0.N) : iblk m c 13 t = V m c main_arg13 := by
  funext j; show V m c main_arg13 (((cfg0.win 13).blk t).view.emb j) = V m c main_arg13 j; rw [emb13]
/-- Argument `main_arg13` ends as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- Window 14's block index at the one point is zero on every axis. -/
theorem idx_zero14 : ∀ t : Fin cfg0.N, win0_14.index t (0 : Fin 4) = 0 ∧ win0_14.index t (1 : Fin 4) = 0 ∧ win0_14.index t (2 : Fin 4) = 0 ∧ win0_14.index t (3 : Fin 4) = 0 :=
  (by decide +kernel : ∀ t : Fin grid0.N, _)
/-- An index of window 14's block is the same index of its array. -/
theorem emb14 (t : Fin cfg0.N) (j : S1024x3x8x128.Idx) : ((cfg0.win 14).blk t).view.emb j = j := by
  obtain ⟨e0, e1, e2, e3⟩ := idx_zero14 t
  funext a; apply Fin.ext
  match a with
  | ⟨0, _⟩ => show win0_14.index t (0 : Fin 4) * 1024 + 1 * (j 0).val = (j 0).val; omega
  | ⟨1, _⟩ => show win0_14.index t (1 : Fin 4) * 3 + 1 * (j 1).val = (j 1).val; omega
  | ⟨2, _⟩ => show win0_14.index t (2 : Fin 4) * 8 + 1 * (j 2).val = (j 2).val; omega
  | ⟨3, _⟩ => show win0_14.index t (3 : Fin 4) * 128 + 1 * (j 3).val = (j 3).val; omega
/-- Input window 14's block is its array as the region finds it. -/
theorem iblk14_eq (c : Dev nD) (t : Fin cfg0.N) : iblk m c 14 t = V m c main_arg14 := by
  funext j; show V m c main_arg14 (((cfg0.win 14).blk t).view.emb j) = V m c main_arg14 j; rw [emb14]
/-- Argument `main_arg14` ends as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- Window 15's block index at the one point is zero on every axis. -/
theorem idx_zero15 : ∀ t : Fin cfg0.N, win0_15.index t (0 : Fin 3) = 0 ∧ win0_15.index t (1 : Fin 3) = 0 ∧ win0_15.index t (2 : Fin 3) = 0 :=
  (by decide +kernel : ∀ t : Fin grid0.N, _)
/-- An index of window 15's block is the same index of its array. -/
theorem emb15 (t : Fin cfg0.N) (j : S3x8x128.Idx) : ((cfg0.win 15).blk t).view.emb j = j := by
  obtain ⟨e0, e1, e2⟩ := idx_zero15 t
  funext a; apply Fin.ext
  match a with
  | ⟨0, _⟩ => show win0_15.index t (0 : Fin 3) * 3 + 1 * (j 0).val = (j 0).val; omega
  | ⟨1, _⟩ => show win0_15.index t (1 : Fin 3) * 8 + 1 * (j 1).val = (j 1).val; omega
  | ⟨2, _⟩ => show win0_15.index t (2 : Fin 3) * 128 + 1 * (j 2).val = (j 2).val; omega
/-- Input window 15's block is its array as the region finds it. -/
theorem iblk15_eq (c : Dev nD) (t : Fin cfg0.N) : iblk m c 15 t = V m c main_arg15 := by
  funext j; show V m c main_arg15 (((cfg0.win 15).blk t).view.emb j) = V m c main_arg15 j; rw [emb15]
/-- Argument `main_arg15` ends as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- Window 16's block index at the one point is zero on every axis. -/
theorem idx_zero16 : ∀ t : Fin cfg0.N, win0_16.index t (0 : Fin 3) = 0 ∧ win0_16.index t (1 : Fin 3) = 0 ∧ win0_16.index t (2 : Fin 3) = 0 :=
  (by decide +kernel : ∀ t : Fin grid0.N, _)
/-- An index of window 16's block is the same index of its array. -/
theorem emb16 (t : Fin cfg0.N) (j : S64x8x1024.Idx) : ((cfg0.win 16).blk t).view.emb j = j := by
  obtain ⟨e0, e1, e2⟩ := idx_zero16 t
  funext a; apply Fin.ext
  match a with
  | ⟨0, _⟩ => show win0_16.index t (0 : Fin 3) * 64 + 1 * (j 0).val = (j 0).val; omega
  | ⟨1, _⟩ => show win0_16.index t (1 : Fin 3) * 8 + 1 * (j 1).val = (j 1).val; omega
  | ⟨2, _⟩ => show win0_16.index t (2 : Fin 3) * 1024 + 1 * (j 2).val = (j 2).val; omega

/-- Window 17's block index at the one point is zero on every axis. -/
theorem idx_zero17 : ∀ t : Fin cfg0.N, win0_17.index t (0 : Fin 3) = 0 ∧ win0_17.index t (1 : Fin 3) = 0 ∧ win0_17.index t (2 : Fin 3) = 0 :=
  (by decide +kernel : ∀ t : Fin grid0.N, _)
/-- An index of window 17's block is the same index of its array. -/
theorem emb17 (t : Fin cfg0.N) (j : S128x8x4096.Idx) : ((cfg0.win 17).blk t).view.emb j = j := by
  obtain ⟨e0, e1, e2⟩ := idx_zero17 t
  funext a; apply Fin.ext
  match a with
  | ⟨0, _⟩ => show win0_17.index t (0 : Fin 3) * 128 + 1 * (j 0).val = (j 0).val; omega
  | ⟨1, _⟩ => show win0_17.index t (1 : Fin 3) * 8 + 1 * (j 1).val = (j 1).val; omega
  | ⟨2, _⟩ => show win0_17.index t (2 : Fin 3) * 4096 + 1 * (j 2).val = (j 2).val; omega

/-- Window 18's block index at the one point is zero on every axis. -/
theorem idx_zero18 : ∀ t : Fin cfg0.N, win0_18.index t (0 : Fin 3) = 0 ∧ win0_18.index t (1 : Fin 3) = 0 ∧ win0_18.index t (2 : Fin 3) = 0 :=
  (by decide +kernel : ∀ t : Fin grid0.N, _)
/-- An index of window 18's block is the same index of its array. -/
theorem emb18 (t : Fin cfg0.N) (j : S512x8x1024.Idx) : ((cfg0.win 18).blk t).view.emb j = j := by
  obtain ⟨e0, e1, e2⟩ := idx_zero18 t
  funext a; apply Fin.ext
  match a with
  | ⟨0, _⟩ => show win0_18.index t (0 : Fin 3) * 512 + 1 * (j 0).val = (j 0).val; omega
  | ⟨1, _⟩ => show win0_18.index t (1 : Fin 3) * 8 + 1 * (j 1).val = (j 1).val; omega
  | ⟨2, _⟩ => show win0_18.index t (2 : Fin 3) * 1024 + 1 * (j 2).val = (j 2).val; omega

/-- Window 19's block index at the one point is zero on every axis. -/
theorem idx_zero19 : ∀ t : Fin cfg0.N, win0_19.index t (0 : Fin 4) = 0 ∧ win0_19.index t (1 : Fin 4) = 0 ∧ win0_19.index t (2 : Fin 4) = 0 ∧ win0_19.index t (3 : Fin 4) = 0 :=
  (by decide +kernel : ∀ t : Fin grid0.N, _)
/-- An index of window 19's block is the same index of its array. -/
theorem emb19 (t : Fin cfg0.N) (j : S1024x3x8x128.Idx) : ((cfg0.win 19).blk t).view.emb j = j := by
  obtain ⟨e0, e1, e2, e3⟩ := idx_zero19 t
  funext a; apply Fin.ext
  match a with
  | ⟨0, _⟩ => show win0_19.index t (0 : Fin 4) * 1024 + 1 * (j 0).val = (j 0).val; omega
  | ⟨1, _⟩ => show win0_19.index t (1 : Fin 4) * 3 + 1 * (j 1).val = (j 1).val; omega
  | ⟨2, _⟩ => show win0_19.index t (2 : Fin 4) * 8 + 1 * (j 2).val = (j 2).val; omega
  | ⟨3, _⟩ => show win0_19.index t (3 : Fin 4) * 128 + 1 * (j 3).val = (j 3).val; omega

/-- Window 20's block index at the one point is zero on every axis. -/
theorem idx_zero20 : ∀ t : Fin cfg0.N, win0_20.index t (0 : Fin 2) = 0 ∧ win0_20.index t (1 : Fin 2) = 0 :=
  (by decide +kernel : ∀ t : Fin grid0.N, _)
/-- An index of window 20's block is the same index of its array. -/
theorem emb20 (t : Fin cfg0.N) (j : S1x1024.Idx) : ((cfg0.win 20).blk t).view.emb j = j := by
  obtain ⟨e0, e1⟩ := idx_zero20 t
  funext a; apply Fin.ext
  match a with
  | ⟨0, _⟩ => show win0_20.index t (0 : Fin 2) * 1 + 1 * (j 0).val = (j 0).val; omega
  | ⟨1, _⟩ => show win0_20.index t (1 : Fin 2) * 1024 + 1 * (j 1).val = (j 1).val; omega

/-! ### The first result -/

/-- What the array ends holding. -/
abbrev G16 (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a12 : Vec F S1024x4096 .fp8e4m3) (a13 : Vec F S4096 .f32) (a14 : Vec F S1024x3x8x128 .fp8e4m3) (a15 : Vec F S3x8x128 .f32) : Vec F S64x8x1024 .bf16 :=
  k0_pay15 a0 a7 (k0_pay12 a14 (k0_pay4 a2 a3) (k0_pay6 a12) (k0_pay7 a13) a15 a8 a9) (k0_pay13 a4 a5) a6 a1

/-- A load of a whole block reads the block, and the one store through the whole rectangle leaves its payload. -/
theorem out16_eq (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a10 : Vec F S1x512x4096 .fp8e4m3) (a11 : Vec F S1x512 .f32) (a12 : Vec F S1024x4096 .fp8e4m3) (a13 : Vec F S4096 .f32) (a14 : Vec F S1024x3x8x128 .fp8e4m3) (a15 : Vec F S3x8x128 .f32) :
    out0_16 (F := F) a0 a1 a2 a3 a4 a5 a6 a7 a8 a9 a10 a11 a12 a13 a14 a15 = G16 a0 a1 a2 a3 a4 a5 a6 a7 a8 a9 a12 a13 a14 a15 := by
  unfold out0_16 k0_pay21 k0_pay20 k0_pay18
  rw [View.canon_unit_zero hz3, View.ld_unit_zero (S := S1x512x1024) hz3 _ a0, View.ld_unit_zero (S := S1x512x32) hz3 _ a1, View.ld_unit_zero (S := S1x512x3x8x128) hz5 _ a2, View.ld_unit_zero (S := S1x512x3x8x4) hz5 _ a3, View.ld_unit_zero (S := S1x512x1024) hz3 _ a4, View.ld_unit_zero (S := S1x512) hz2 _ a5, View.ld_unit_zero (S := S1x512) hz2 _ a6, View.ld_unit_zero (S := S1024) hz1 _ a7, View.ld_unit_zero (S := S1x512x4096) hz3 _ a8, View.ld_unit_zero (S := S1x512x128) hz3 _ a9, View.ld_unit_zero (S := S1024x4096) hz2 _ a12, View.ld_unit_zero (S := S4096) hz1 _ a13, View.ld_unit_zero (S := S1024x3x8x128) hz4 _ a14, View.ld_unit_zero (S := S3x8x128) hz3 _ a15]

/-- Cutting the point's block out of `X` and reading `X` through the block's view give the same. -/
theorem cut16_eq (t : Fin cfg0.N) (X : Vec F S64x8x1024 .bf16) :
    (cfg0.win 16).cut (grid0.coords t) X = ((cfg0.win 16).blk t).view.read (Elt F) X := by
  funext j
  show X j = X (((cfg0.win 16).blk t).view.emb j)
  rw [emb16]

/-- What the point writes back is its block of `G16` of the arguments as the region finds them. -/
theorem flushed16_eq (c : Dev nD) (t : Fin cfg0.N) :
    (dats m 0 c).flushed 16 t = ((cfg0.win 16).blk t).view.read (Elt F) (G16 (V m c main_arg0) (V m c main_arg1) (V m c main_arg2) (V m c main_arg3) (V m c main_arg4) (V m c main_arg5) (V m c main_arg6) (V m c main_arg7) (V m c main_arg8) (V m c main_arg9) (V m c main_arg12) (V m c main_arg13) (V m c main_arg14) (V m c main_arg15)) := by
  show (cfg0.win 16).cut (grid0.coords t) ((dats m 0 c).after 16 t) = _
  rw [after0_16, out16_eq, iblk0_eq, iblk1_eq, iblk2_eq, iblk3_eq, iblk4_eq, iblk5_eq, iblk6_eq, iblk7_eq, iblk8_eq, iblk9_eq, iblk12_eq, iblk13_eq, iblk14_eq, iblk15_eq]
  exact cut16_eq t _

/-- Every index of the array is in the point's block. -/
theorem covered16 (i : S64x8x1024.Idx) : ∃ t : Fin cfg0.N, (cfg0.win 16).flush t = true ∧ i ∈ ((cfg0.win 16).blk t).view.set :=
  ⟨(⟨0, by decide⟩ : Fin cfg0.N), flush0_16 _, by have h := ((cfg0.win 16).blk (⟨0, by decide⟩ : Fin cfg0.N)).view.emb_mem_set i; rwa [emb16] at h⟩

/-- The array after the run: `G16` of the arguments as launched. -/
theorem final16 (c : Dev nD) : (dats m 0 c).arrAt 16 cfg0.N = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) :=
  ((dats m 0 c).arrAt_eq_of_cover 16 (G16 (V m c main_arg0) (V m c main_arg1) (V m c main_arg2) (V m c main_arg3) (V m c main_arg4) (V m c main_arg5) (V m c main_arg6) (V m c main_arg7) (V m c main_arg8) (V m c main_arg9) (V m c main_arg12) (V m c main_arg13) (V m c main_arg14) (V m c main_arg15)) (fun t _ => flushed16_eq m c t) covered16).trans (by rw [V_main_arg0, V_main_arg1, V_main_arg2, V_main_arg3, V_main_arg4, V_main_arg5, V_main_arg6, V_main_arg7, V_main_arg8, V_main_arg9, V_main_arg12, V_main_arg13, V_main_arg14, V_main_arg15])

/-! ### The second result -/

/-- What the array ends holding. -/
abbrev G17 (a4 : Vec F S1x512x1024 .fp8e4m3) (a5 : Vec F S1x512 .f32) (a8 : Vec F S1x512x4096 .fp8e5m2) (a9 : Vec F S1x512x128 .f32) (a7 : Vec F S1024 .f32) : Vec F S128x8x4096 .bf16 :=
  k0_pay16 (k0_pay10 (k0_pay5 a4 a5) a8 a9 a7)

/-- A load of a whole block reads the block, and the one store through the whole rectangle leaves its payload. -/
theorem out17_eq (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a10 : Vec F S1x512x4096 .fp8e4m3) (a11 : Vec F S1x512 .f32) (a12 : Vec F S1024x4096 .fp8e4m3) (a13 : Vec F S4096 .f32) (a14 : Vec F S1024x3x8x128 .fp8e4m3) (a15 : Vec F S3x8x128 .f32) :
    out0_17 (F := F) a0 a1 a2 a3 a4 a5 a6 a7 a8 a9 a10 a11 a12 a13 a14 a15 = G17 a4 a5 a8 a9 a7 := by
  unfold out0_17 k0_pay19
  rw [View.canon_unit_zero hz3, View.ld_unit_zero (S := S1x512x1024) hz3 _ a4, View.ld_unit_zero (S := S1x512) hz2 _ a5, View.ld_unit_zero (S := S1x512x4096) hz3 _ a8, View.ld_unit_zero (S := S1x512x128) hz3 _ a9, View.ld_unit_zero (S := S1024) hz1 _ a7]

/-- Cutting the point's block out of `X` and reading `X` through the block's view give the same. -/
theorem cut17_eq (t : Fin cfg0.N) (X : Vec F S128x8x4096 .bf16) :
    (cfg0.win 17).cut (grid0.coords t) X = ((cfg0.win 17).blk t).view.read (Elt F) X := by
  funext j
  show X j = X (((cfg0.win 17).blk t).view.emb j)
  rw [emb17]

/-- What the point writes back is its block of `G17` of the arguments as the region finds them. -/
theorem flushed17_eq (c : Dev nD) (t : Fin cfg0.N) :
    (dats m 0 c).flushed 17 t = ((cfg0.win 17).blk t).view.read (Elt F) (G17 (V m c main_arg4) (V m c main_arg5) (V m c main_arg8) (V m c main_arg9) (V m c main_arg7)) := by
  show (cfg0.win 17).cut (grid0.coords t) ((dats m 0 c).after 17 t) = _
  rw [after0_17, out17_eq, iblk4_eq, iblk5_eq, iblk8_eq, iblk9_eq, iblk7_eq]
  exact cut17_eq t _

/-- Every index of the array is in the point's block. -/
theorem covered17 (i : S128x8x4096.Idx) : ∃ t : Fin cfg0.N, (cfg0.win 17).flush t = true ∧ i ∈ ((cfg0.win 17).blk t).view.set :=
  ⟨(⟨0, by decide⟩ : Fin cfg0.N), flush0_17 _, by have h := ((cfg0.win 17).blk (⟨0, by decide⟩ : Fin cfg0.N)).view.emb_mem_set i; rwa [emb17] at h⟩

/-- The array after the run: `G17` of the arguments as launched. -/
theorem final17 (c : Dev nD) : (dats m 0 c).arrAt 17 cfg0.N = G17 (m ((c : Thread nD τ).loc main_arg4)) (m ((c : Thread nD τ).loc main_arg5)) (m ((c : Thread nD τ).loc main_arg8)) (m ((c : Thread nD τ).loc main_arg9)) (m ((c : Thread nD τ).loc main_arg7)) :=
  ((dats m 0 c).arrAt_eq_of_cover 17 (G17 (V m c main_arg4) (V m c main_arg5) (V m c main_arg8) (V m c main_arg9) (V m c main_arg7)) (fun t _ => flushed17_eq m c t) covered17).trans (by rw [V_main_arg4, V_main_arg5, V_main_arg8, V_main_arg9, V_main_arg7])

/-! ### The third result -/

/-- What the array ends holding. -/
abbrev G18 (a0 : Vec F S1x512x1024 .fp8e5m2) (a1 : Vec F S1x512x32 .f32) (a10 : Vec F S1x512x4096 .fp8e4m3) (a11 : Vec F S1x512 .f32) : Vec F S512x8x1024 .bf16 :=
  k0_pay17 (k0_pay9 a10 (k0_pay3 a0 a1) a11)

/-- A load of a whole block reads the block, and the one store through the whole rectangle leaves its payload. -/
theorem out18_eq (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a10 : Vec F S1x512x4096 .fp8e4m3) (a11 : Vec F S1x512 .f32) (a12 : Vec F S1024x4096 .fp8e4m3) (a13 : Vec F S4096 .f32) (a14 : Vec F S1024x3x8x128 .fp8e4m3) (a15 : Vec F S3x8x128 .f32) :
    out0_18 (F := F) a0 a1 a2 a3 a4 a5 a6 a7 a8 a9 a10 a11 a12 a13 a14 a15 = G18 a0 a1 a10 a11 := by
  unfold out0_18
  rw [View.canon_unit_zero hz3, View.ld_unit_zero (S := S1x512x1024) hz3 _ a0, View.ld_unit_zero (S := S1x512x32) hz3 _ a1, View.ld_unit_zero (S := S1x512x4096) hz3 _ a10, View.ld_unit_zero (S := S1x512) hz2 _ a11]

/-- Cutting the point's block out of `X` and reading `X` through the block's view give the same. -/
theorem cut18_eq (t : Fin cfg0.N) (X : Vec F S512x8x1024 .bf16) :
    (cfg0.win 18).cut (grid0.coords t) X = ((cfg0.win 18).blk t).view.read (Elt F) X := by
  funext j
  show X j = X (((cfg0.win 18).blk t).view.emb j)
  rw [emb18]

/-- What the point writes back is its block of `G18` of the arguments as the region finds them. -/
theorem flushed18_eq (c : Dev nD) (t : Fin cfg0.N) :
    (dats m 0 c).flushed 18 t = ((cfg0.win 18).blk t).view.read (Elt F) (G18 (V m c main_arg0) (V m c main_arg1) (V m c main_arg10) (V m c main_arg11)) := by
  show (cfg0.win 18).cut (grid0.coords t) ((dats m 0 c).after 18 t) = _
  rw [after0_18, out18_eq, iblk0_eq, iblk1_eq, iblk10_eq, iblk11_eq]
  exact cut18_eq t _

/-- Every index of the array is in the point's block. -/
theorem covered18 (i : S512x8x1024.Idx) : ∃ t : Fin cfg0.N, (cfg0.win 18).flush t = true ∧ i ∈ ((cfg0.win 18).blk t).view.set :=
  ⟨(⟨0, by decide⟩ : Fin cfg0.N), flush0_18 _, by have h := ((cfg0.win 18).blk (⟨0, by decide⟩ : Fin cfg0.N)).view.emb_mem_set i; rwa [emb18] at h⟩

/-- The array after the run: `G18` of the arguments as launched. -/
theorem final18 (c : Dev nD) : (dats m 0 c).arrAt 18 cfg0.N = G18 (m ((c : Thread nD τ).loc main_arg0)) (m ((c : Thread nD τ).loc main_arg1)) (m ((c : Thread nD τ).loc main_arg10)) (m ((c : Thread nD τ).loc main_arg11)) :=
  ((dats m 0 c).arrAt_eq_of_cover 18 (G18 (V m c main_arg0) (V m c main_arg1) (V m c main_arg10) (V m c main_arg11)) (fun t _ => flushed18_eq m c t) covered18).trans (by rw [V_main_arg0, V_main_arg1, V_main_arg10, V_main_arg11])

/-! ### The fourth result -/

/-- What the array ends holding. -/
abbrev G19 (a2 : Vec F S1x512x3x8x128 .fp8e5m2) (a3 : Vec F S1x512x3x8x4 .f32) (a4 : Vec F S1x512x1024 .fp8e4m3) (a5 : Vec F S1x512 .f32) (a7 : Vec F S1024 .f32) : Vec F S1024x3x8x128 .bf16 :=
  k0_pay1 (k0_pay11 (k0_pay4 a2 a3) (k0_pay5 a4 a5) a7)

/-- A load of a whole block reads the block, and the one store through the whole rectangle leaves its payload. -/
theorem out19_eq (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a10 : Vec F S1x512x4096 .fp8e4m3) (a11 : Vec F S1x512 .f32) (a12 : Vec F S1024x4096 .fp8e4m3) (a13 : Vec F S4096 .f32) (a14 : Vec F S1024x3x8x128 .fp8e4m3) (a15 : Vec F S3x8x128 .f32) :
    out0_19 (F := F) a0 a1 a2 a3 a4 a5 a6 a7 a8 a9 a10 a11 a12 a13 a14 a15 = G19 a2 a3 a4 a5 a7 := by
  unfold out0_19 k0_pay19 k0_pay18
  rw [View.canon_unit_zero hz4, View.ld_unit_zero (S := S1x512x3x8x128) hz5 _ a2, View.ld_unit_zero (S := S1x512x3x8x4) hz5 _ a3, View.ld_unit_zero (S := S1x512x1024) hz3 _ a4, View.ld_unit_zero (S := S1x512) hz2 _ a5, View.ld_unit_zero (S := S1024) hz1 _ a7]

/-- Cutting the point's block out of `X` and reading `X` through the block's view give the same. -/
theorem cut19_eq (t : Fin cfg0.N) (X : Vec F S1024x3x8x128 .bf16) :
    (cfg0.win 19).cut (grid0.coords t) X = ((cfg0.win 19).blk t).view.read (Elt F) X := by
  funext j
  show X j = X (((cfg0.win 19).blk t).view.emb j)
  rw [emb19]

/-- What the point writes back is its block of `G19` of the arguments as the region finds them. -/
theorem flushed19_eq (c : Dev nD) (t : Fin cfg0.N) :
    (dats m 0 c).flushed 19 t = ((cfg0.win 19).blk t).view.read (Elt F) (G19 (V m c main_arg2) (V m c main_arg3) (V m c main_arg4) (V m c main_arg5) (V m c main_arg7)) := by
  show (cfg0.win 19).cut (grid0.coords t) ((dats m 0 c).after 19 t) = _
  rw [after0_19, out19_eq, iblk2_eq, iblk3_eq, iblk4_eq, iblk5_eq, iblk7_eq]
  exact cut19_eq t _

/-- Every index of the array is in the point's block. -/
theorem covered19 (i : S1024x3x8x128.Idx) : ∃ t : Fin cfg0.N, (cfg0.win 19).flush t = true ∧ i ∈ ((cfg0.win 19).blk t).view.set :=
  ⟨(⟨0, by decide⟩ : Fin cfg0.N), flush0_19 _, by have h := ((cfg0.win 19).blk (⟨0, by decide⟩ : Fin cfg0.N)).view.emb_mem_set i; rwa [emb19] at h⟩

/-- The array after the run: `G19` of the arguments as launched. -/
theorem final19 (c : Dev nD) : (dats m 0 c).arrAt 19 cfg0.N = G19 (m ((c : Thread nD τ).loc main_arg2)) (m ((c : Thread nD τ).loc main_arg3)) (m ((c : Thread nD τ).loc main_arg4)) (m ((c : Thread nD τ).loc main_arg5)) (m ((c : Thread nD τ).loc main_arg7)) :=
  ((dats m 0 c).arrAt_eq_of_cover 19 (G19 (V m c main_arg2) (V m c main_arg3) (V m c main_arg4) (V m c main_arg5) (V m c main_arg7)) (fun t _ => flushed19_eq m c t) covered19).trans (by rw [V_main_arg2, V_main_arg3, V_main_arg4, V_main_arg5, V_main_arg7])

/-! ### The last result -/

/-- What the array ends holding. -/
abbrev G20 (a2 : Vec F S1x512x3x8x128 .fp8e5m2) (a3 : Vec F S1x512x3x8x4 .f32) (a4 : Vec F S1x512x1024 .fp8e4m3) (a5 : Vec F S1x512 .f32) (a8 : Vec F S1x512x4096 .fp8e5m2) (a9 : Vec F S1x512x128 .f32) (a12 : Vec F S1024x4096 .fp8e4m3) (a13 : Vec F S4096 .f32) (a14 : Vec F S1024x3x8x128 .fp8e4m3) (a15 : Vec F S3x8x128 .f32) : Vec F S1x1024 .f32 :=
  k0_pay2 (k0_pay14 (k0_pay12 a14 (k0_pay4 a2 a3) (k0_pay6 a12) (k0_pay7 a13) a15 a8 a9) (k0_pay13 a4 a5))

/-- A load of a whole block reads the block, and the one store through the whole rectangle leaves its payload. -/
theorem out20_eq (a0 : Vec F S1x512x1024 .fp8e5m2) (a1 : Vec F S1x512x32 .f32) (a2 : Vec F S1x512x3x8x128 .fp8e5m2) (a3 : Vec F S1x512x3x8x4 .f32) (a4 : Vec F S1x512x1024 .fp8e4m3) (a5 : Vec F S1x512 .f32) (a6 : Vec F S1x512 .f32) (a7 : Vec F S1024 .f32) (a8 : Vec F S1x512x4096 .fp8e5m2) (a9 : Vec F S1x512x128 .f32) (a10 : Vec F S1x512x4096 .fp8e4m3) (a11 : Vec F S1x512 .f32) (a12 : Vec F S1024x4096 .fp8e4m3) (a13 : Vec F S4096 .f32) (a14 : Vec F S1024x3x8x128 .fp8e4m3) (a15 : Vec F S3x8x128 .f32) :
    out0_20 (F := F) a0 a1 a2 a3 a4 a5 a6 a7 a8 a9 a10 a11 a12 a13 a14 a15 = G20 a2 a3 a4 a5 a8 a9 a12 a13 a14 a15 := by
  unfold out0_20 k0_pay21 k0_pay20 k0_pay18
  rw [View.canon_unit_zero hz2, View.ld_unit_zero (S := S1x512x3x8x128) hz5 _ a2, View.ld_unit_zero (S := S1x512x3x8x4) hz5 _ a3, View.ld_unit_zero (S := S1x512x1024) hz3 _ a4, View.ld_unit_zero (S := S1x512) hz2 _ a5, View.ld_unit_zero (S := S1x512x4096) hz3 _ a8, View.ld_unit_zero (S := S1x512x128) hz3 _ a9, View.ld_unit_zero (S := S1024x4096) hz2 _ a12, View.ld_unit_zero (S := S4096) hz1 _ a13, View.ld_unit_zero (S := S1024x3x8x128) hz4 _ a14, View.ld_unit_zero (S := S3x8x128) hz3 _ a15]

/-- Cutting the point's block out of `X` and reading `X` through the block's view give the same. -/
theorem cut20_eq (t : Fin cfg0.N) (X : Vec F S1x1024 .f32) :
    (cfg0.win 20).cut (grid0.coords t) X = ((cfg0.win 20).blk t).view.read (Elt F) X := by
  funext j
  show X j = X (((cfg0.win 20).blk t).view.emb j)
  rw [emb20]

/-- What the point writes back is its block of `G20` of the arguments as the region finds them. -/
theorem flushed20_eq (c : Dev nD) (t : Fin cfg0.N) :
    (dats m 0 c).flushed 20 t = ((cfg0.win 20).blk t).view.read (Elt F) (G20 (V m c main_arg2) (V m c main_arg3) (V m c main_arg4) (V m c main_arg5) (V m c main_arg8) (V m c main_arg9) (V m c main_arg12) (V m c main_arg13) (V m c main_arg14) (V m c main_arg15)) := by
  show (cfg0.win 20).cut (grid0.coords t) ((dats m 0 c).after 20 t) = _
  rw [after0_20, out20_eq, iblk2_eq, iblk3_eq, iblk4_eq, iblk5_eq, iblk8_eq, iblk9_eq, iblk12_eq, iblk13_eq, iblk14_eq, iblk15_eq]
  exact cut20_eq t _

/-- Every index of the array is in the point's block. -/
theorem covered20 (i : S1x1024.Idx) : ∃ t : Fin cfg0.N, (cfg0.win 20).flush t = true ∧ i ∈ ((cfg0.win 20).blk t).view.set :=
  ⟨(⟨0, by decide⟩ : Fin cfg0.N), flush0_20 _, by have h := ((cfg0.win 20).blk (⟨0, by decide⟩ : Fin cfg0.N)).view.emb_mem_set i; rwa [emb20] at h⟩

/-- The array after the run: `G20` of the arguments as launched. -/
theorem final20 (c : Dev nD) : (dats m 0 c).arrAt 20 cfg0.N = G20 (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) :=
  ((dats m 0 c).arrAt_eq_of_cover 20 (G20 (V m c main_arg2) (V m c main_arg3) (V m c main_arg4) (V m c main_arg5) (V m c main_arg8) (V m c main_arg9) (V m c main_arg12) (V m c main_arg13) (V m c main_arg14) (V m c main_arg15)) (fun t _ => flushed20_eq m c t) covered20).trans (by rw [V_main_arg2, V_main_arg3, V_main_arg4, V_main_arg5, V_main_arg8, V_main_arg9, V_main_arg12, V_main_arg13, V_main_arg14, V_main_arg15])

/-! ### The run -/

/-- The five results at their functions of the arguments, the arguments unchanged. -/
theorem run : θ_run defs (onTc (τ := τ) (main (F := F))) ⟨m, fun _ => 0, ρ⟩ fun r => ∀ c : Dev nD,
      r.2.mem ((c : Thread nD τ).loc main_v0_0) = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15))
      ∧ r.2.mem ((c : Thread nD τ).loc main_v0_1) = G17 (m ((c : Thread nD τ).loc main_arg4)) (m ((c : Thread nD τ).loc main_arg5)) (m ((c : Thread nD τ).loc main_arg8)) (m ((c : Thread nD τ).loc main_arg9)) (m ((c : Thread nD τ).loc main_arg7))
      ∧ r.2.mem ((c : Thread nD τ).loc main_v0_2) = G18 (m ((c : Thread nD τ).loc main_arg0)) (m ((c : Thread nD τ).loc main_arg1)) (m ((c : Thread nD τ).loc main_arg10)) (m ((c : Thread nD τ).loc main_arg11))
      ∧ r.2.mem ((c : Thread nD τ).loc main_v0_3) = G19 (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c : Thread nD τ).loc main_v0_4) = G20 (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h c).1 16).trans (final16 m c), ((h c).1 17).trans (final17 m c), ((h c).1 18).trans (final18 m c), ((h c).1 19).trans (final19 m c), ((h c).1 20).trans (final20 m c),
      kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c⟩)
    (run_main m ρ)

end Cert.ReferenceIdeal.RVal

end
-- ==== Proof.RIdeal.lean ====
module

public import proofs.«01_k».proof.Proof.RValue
public import Idealize.ShloMosaic.Lib.Pointwise

/-! What the reference computes, over the extended reals, at one place of each result. -/

@[expose] public section

set_option maxRecDepth 16384

noncomputable section

namespace Cert.ReferenceIdeal.RVal

open Cert.ReferenceIdeal Cert.ReferenceIdeal.Gen
open Idealize.ShloMosaic Idealize.ShloMosaic.TcCoe

/-- The second result sums over the positions the scaled `xhat` times the scaled `da`, and scales it by `gamma`. -/
theorem pay2_apply (a4 : FVec Ideal S1x512x1024 .fp8e4m3) (a5 : FVec Ideal S1x512 .f32) (a6 : FVec Ideal S1024 .f32)
    (a7 : FVec Ideal S1x512x4096 .fp8e5m2) (a8 : FVec Ideal S1x512x128 .f32) (a : Fin 128) (b : Fin 8) (f : Fin 4096) :
    k0_pay16 (F := Ideal) (k0_pay10 (k0_pay5 a4 a5) a7 a8 a6) (ix3 a b f)
      = a6 (ix1 ⟨a.val * 8 + b.val, by omega⟩) * ∑ s : Fin 512, (a4 (ix3 0 s ⟨a.val * 8 + b.val, by omega⟩) * a5 (ix2 0 s))
          * (a7 (ix3 0 s f) * a8 (ix3 0 s ⟨f.val / 32, by omega⟩)) := by
  pointwise [k0_pay16, k0_pay10, k0_pay5, k0_pay8]
  exact congrArg _ (Fin.sum_univ_one _)

/-- The third result sums over the positions the scaled `g` times the scaled `dy`. -/
theorem pay3_apply (a0 : FVec Ideal S1x512x1024 .fp8e5m2) (a1 : FVec Ideal S1x512x32 .f32) (a9 : FVec Ideal S1x512x4096 .fp8e4m3)
    (a10 : FVec Ideal S1x512 .f32) (a : Fin 512) (b : Fin 8) (d : Fin 1024) :
    k0_pay17 (F := Ideal) (k0_pay9 a9 (k0_pay3 a0 a1) a10) (ix3 a b d)
      = ∑ s : Fin 512, (a9 (ix3 0 s ⟨a.val * 8 + b.val, by omega⟩) * a10 (ix2 0 s))
          * (a0 (ix3 0 s d) * a1 (ix3 0 s ⟨d.val / 32, by omega⟩)) := by
  pointwise [k0_pay17, k0_pay9, k0_pay3]
  exact Fin.sum_univ_one _

/-- The fourth result sums over the positions the scaled `xhat` times the scaled `dqkv`, and scales it by `gamma`. -/
theorem pay4_apply (a2 : FVec Ideal S1x512x3x8x128 .fp8e5m2) (a3 : FVec Ideal S1x512x3x8x4 .f32) (a4 : FVec Ideal S1x512x1024 .fp8e4m3)
    (a5 : FVec Ideal S1x512 .f32) (a6 : FVec Ideal S1024 .f32) (d : Fin 1024) (j : Fin 3) (n : Fin 8) (k : Fin 128) :
    k0_pay1 (F := Ideal) (k0_pay11 (k0_pay4 a2 a3) (k0_pay5 a4 a5) a6) (ix4 d j n k)
      = a6 (ix1 d) * ∑ s : Fin 512, (a4 (ix3 0 s d) * a5 (ix2 0 s))
          * (a2 (ix5 0 s j n k) * a3 (ix5 0 s j n ⟨k.val / 32, by omega⟩)) := by
  pointwise [k0_pay1, k0_pay11, k0_pay4, k0_pay5]
  exact congrArg _ (Fin.sum_univ_one _)

/-- An index of one leading place, by its other two. -/
theorem row_eq (i : S1x512x1024.Idx) (d : Fin 1024) (h : i 2 = d) : i = ix3 0 (i 1) d := by
  funext a; fin_cases a
  · exact Subsingleton.elim (α := Fin 1) _ _
  · rfl
  · exact h

/-- A sum down both leading axes, the first of one place. -/
theorem reduce01 (x : FVec Ideal S1x512x1024 .f32) (d : Fin 1024) :
    Ideal.reduceAdd reduces_S1x512x1024_S1024 x (ix1 d) = ∑ s : Fin 512, x (ix3 0 s d) := by
  refine Finset.sum_nbij' (fun i => (i 1 : Fin 512)) (fun s => ix3 0 s d) (fun _ _ => Finset.mem_univ _) ?_ ?_ (fun _ _ => rfl) ?_
  · intro s _
    refine Finset.mem_filter.mpr ⟨Finset.mem_univ _, ?_⟩
    funext b; fin_cases b; rfl
  · intro i hi
    have h2 : i 2 = d := congrFun (Finset.mem_filter.mp hi).2 0
    exact (row_eq i d h2).symm
  · intro i hi
    have h2 : i 2 = d := congrFun (Finset.mem_filter.mp hi).2 0
    exact congrArg x (row_eq i d h2)

/-- The index the products of `dqkv` with `w_qkv` sum over: the part, the head, the place in the head. -/
def partHead : (dot_S1x512x3x8x128_S1024x3x8x128_S1x512x1024_243_132_01_0_n_n).contr.Idx ≃ Fin 3 × Fin 8 × Fin 128 where
  toFun q := (q (0 : Fin 3), q (2 : Fin 3), q (1 : Fin 3))
  invFun p := fun (a : Fin 3) => match a with
    | 0 => p.1
    | 1 => p.2.2
    | 2 => p.2.1
  left_inv q := by funext a; match a with
    | ⟨0, _⟩ => rfl
    | ⟨1, _⟩ => rfl
    | ⟨2, _⟩ => rfl
  right_inv _ := rfl

/-- The product of `dqkv` with `w_qkv` sums over the parts, the heads and the places in a head. -/
theorem product243 (x : FVec Ideal S1x512x3x8x128 .bf16) (w : FVec Ideal S1024x3x8x128 .bf16) (s : Fin 512) (d : Fin 1024) :
    matmul (F := Ideal) dot_S1x512x3x8x128_S1024x3x8x128_S1x512x1024_243_132_01_0_n_n none x w (constant S1x512x1024 .f32 0x00000000#32) (ix3 0 s d)
      = ∑ j : Fin 3, ∑ n : Fin 8, ∑ k : Fin 128, x (ix5 0 s j n k) * w (ix4 d j n k) := by
  have hz : (constant S1x512x1024 .f32 0x00000000#32 : FVec Ideal S1x512x1024 .f32) (ix3 0 s d) = 0 := by pointwise
  refine (congrArg (· + _) hz).trans ((zero_add _).trans ?_)
  refine (partHead.symm.sum_comp _).symm.trans ?_
  rw [Fintype.sum_prod_type]
  refine Finset.sum_congr rfl fun j _ => ?_
  rw [Fintype.sum_prod_type]
  refine Finset.sum_congr rfl fun n _ => Finset.sum_congr rfl fun k _ => ?_
  refine congrArg₂ (· * ·) (congrArg x ?_) (congrArg w ?_)
  · funext a; fin_cases a <;> rfl
  · funext a; fin_cases a <;> rfl

/-- The gradient before the normalisation: `da` times `w_in`, and `dqkv` times `w_qkv`. -/
theorem dh_apply (a2 : FVec Ideal S1x512x3x8x128 .fp8e5m2) (a3 : FVec Ideal S1x512x3x8x4 .f32)
    (a7 : FVec Ideal S1x512x4096 .fp8e5m2) (a8 : FVec Ideal S1x512x128 .f32)
    (a11 : FVec Ideal S1024x4096 .fp8e4m3) (a12 : FVec Ideal S4096 .f32) (a13 : FVec Ideal S1024x3x8x128 .fp8e4m3)
    (a14 : FVec Ideal S3x8x128 .f32) (s : Fin 512) (d : Fin 1024) :
    k0_pay12 (F := Ideal) a13 (k0_pay4 a2 a3) (k0_pay6 a11) (k0_pay7 a12) a14 a7 a8 (ix3 0 s d)
      = (∑ f : Fin 4096, (a7 (ix3 0 s f) * a8 (ix3 0 s ⟨f.val / 32, by omega⟩)) * (a11 (ix2 d f) * a12 (ix1 f)))
          + ∑ j : Fin 3, ∑ n : Fin 8, ∑ k : Fin 128, (a2 (ix5 0 s j n k) * a3 (ix5 0 s j n ⟨k.val / 32, by omega⟩))
              * (a13 (ix4 d j n k) * a14 (ix3 j n k)) := by
  pointwise [k0_pay12, k0_pay4, k0_pay6, k0_pay7, k0_pay8]
  refine congrArg (HAdd.hAdd _) ((product243 _ _ s d).trans ?_)
  refine Finset.sum_congr rfl fun j _ => Finset.sum_congr rfl fun n _ => Finset.sum_congr rfl fun k _ => ?_
  pointwise

/-- The last result sums over the positions the gradient before the normalisation times `xhat`. -/
theorem pay5_apply (x : FVec Ideal S1x512x1024 .f32) (a4 : FVec Ideal S1x512x1024 .fp8e4m3) (a5 : FVec Ideal S1x512 .f32) (d : Fin 1024) :
    k0_pay2 (F := Ideal) (k0_pay14 x (k0_pay13 a4 a5)) (ix2 0 d)
      = ∑ s : Fin 512, x (ix3 0 s d) * (a4 (ix3 0 s d) * a5 (ix2 0 s)) := by
  pointwise [k0_pay2, k0_pay14, k0_pay13]
  refine (reduce01 _ d).trans (Finset.sum_congr rfl fun s _ => ?_)
  pointwise

/-- The number of features. -/
abbrev feats : Ideal .f32 := Scalar.ofBits (F := Ideal) .f32 0x44800000#32

/-- The first result, at place `b` of row `a`: `dy`, and the gradient through the normalisation. -/
theorem pay1_apply (a0 : FVec Ideal S1x512x1024 .fp8e5m2) (a1 : FVec Ideal S1x512x32 .f32) (x : FVec Ideal S1x512x1024 .f32)
    (a4 : FVec Ideal S1x512x1024 .fp8e4m3) (a5 a6 : FVec Ideal S1x512 .f32) (g : FVec Ideal S1024 .f32)
    (a : Fin 64) (b : Fin 8) (d : Fin 1024) :
    k0_pay15 (F := Ideal) a0 g x (k0_pay13 a4 a5) a6 a1 (ix3 a b d)
      = a0 (ix3 0 ⟨a.val * 8 + b.val, by omega⟩ d) * a1 (ix3 0 ⟨a.val * 8 + b.val, by omega⟩ ⟨d.val / 32, by omega⟩)
        + a6 (ix2 0 ⟨a.val * 8 + b.val, by omega⟩)
          * ((x (ix3 0 ⟨a.val * 8 + b.val, by omega⟩ d) * g (ix1 d)
              - Ideal.div (∑ e : Fin 1024, x (ix3 0 ⟨a.val * 8 + b.val, by omega⟩ e) * g (ix1 e)) feats)
            - (a4 (ix3 0 ⟨a.val * 8 + b.val, by omega⟩ d) * a5 (ix2 0 ⟨a.val * 8 + b.val, by omega⟩))
              * Ideal.div (∑ e : Fin 1024, (x (ix3 0 ⟨a.val * 8 + b.val, by omega⟩ e) * g (ix1 e))
                  * (a4 (ix3 0 ⟨a.val * 8 + b.val, by omega⟩ e) * a5 (ix2 0 ⟨a.val * 8 + b.val, by omega⟩))) feats) := by
  pointwise [k0_pay15, k0_pay13]

end Cert.ReferenceIdeal.RVal

end
-- ==== Proof.Agree.lean ====
module

public import proofs.«01_k».proof.Proof.KShell
public import proofs.«01_k».proof.Proof.KIdealC
public import proofs.«01_k».proof.Proof.RIdeal

/-! The kernel's operands as the arguments they are reshaped from, and the equality of the kernel's five results with
the reference's, over the extended reals. -/

@[expose] public section

set_option maxRecDepth 16384

noncomputable section

namespace Cert.Kernel.Hand

open Cert.Kernel Cert.Kernel.Gen
open Idealize.ShloMosaic Idealize.ShloMosaic.TcCoe Idealize.ShloMosaic.Tactic

variable (m : (ℓ : Loc nD τ sig) → Buf (Elt Ideal) ℓ) (c : Dev nD)

/-! ### The arguments, -/

abbrev aDy : FVec Ideal S1x512x1024 .fp8e5m2 := m ((c : Thread nD τ).loc main_arg0)
abbrev aDys : FVec Ideal S1x512x32 .f32 := m ((c : Thread nD τ).loc main_arg1)
abbrev aDq : FVec Ideal S1x512x3x8x128 .fp8e5m2 := m ((c : Thread nD τ).loc main_arg2)
abbrev aDqs : FVec Ideal S1x512x3x8x4 .f32 := m ((c : Thread nD τ).loc main_arg3)
abbrev aXh : FVec Ideal S1x512x1024 .fp8e4m3 := m ((c : Thread nD τ).loc main_arg4)
abbrev aXs : FVec Ideal S1x512 .f32 := m ((c : Thread nD τ).loc main_arg5)
abbrev aRs : FVec Ideal S1x512 .f32 := m ((c : Thread nD τ).loc main_arg6)
abbrev aGam : FVec Ideal S1024 .f32 := m ((c : Thread nD τ).loc main_arg7)
abbrev aA : FVec Ideal S1x512x4096 .fp8e5m2 := m ((c : Thread nD τ).loc main_arg8)
abbrev aDas : FVec Ideal S1x512x128 .f32 := m ((c : Thread nD τ).loc main_arg9)
abbrev aG : FVec Ideal S1x512x4096 .fp8e4m3 := m ((c : Thread nD τ).loc main_arg10)
abbrev aGs : FVec Ideal S1x512 .f32 := m ((c : Thread nD τ).loc main_arg11)
abbrev aWin : FVec Ideal S1024x4096 .fp8e4m3 := m ((c : Thread nD τ).loc main_arg12)
abbrev aSin : FVec Ideal S4096 .f32 := m ((c : Thread nD τ).loc main_arg13)
abbrev aWq : FVec Ideal S1024x3x8x128 .fp8e4m3 := m ((c : Thread nD τ).loc main_arg14)
abbrev aSq : FVec Ideal S3x8x128 .f32 := m ((c : Thread nD τ).loc main_arg15)

/-! ### and the operands, place by place. -/

theorem inp_dy (s : Fin 512) (d : Fin 1024) : oDy (inp m c) (ix2 s d) = aDy m c (ix3 0 s d) := by
  show V m c main_v0 (ix2 s d) = _
  entry_read
  pointwise
theorem inp_dys (n : Fin 32) (s : Fin 512) : oDys (inp m c) (ix2 n s) = aDys m c (ix3 0 s n) := by
  show V m c main_v2 (ix2 n s) = _
  entry_read
  pointwise
theorem inp_dq (s : Fin 512) (j : Fin 3) (n : Fin 8) (l : Fin 128) : oDq (inp m c) (ix4 s j n l) = aDq m c (ix5 0 s j n l) := by
  show V m c main_v3 (ix4 s j n l) = _
  entry_read
  pointwise
theorem inp_dqs (j : Fin 3) (n : Fin 8) (k : Fin 4) (s : Fin 512) :
    oDqs (inp m c) (ix3 ⟨8 * j.val + n.val, by omega⟩ k s) = aDqs m c (ix5 0 s j n k) := by
  show V m c main_v5 (ix3 ⟨8 * j.val + n.val, by omega⟩ k s) = _
  entry_read
  pointwise
  have hj : (⟨(8 * j.val + n.val) / 8, by omega⟩ : Fin 3) = j := Fin.ext (by show (8 * j.val + n.val) / 8 = j.val; omega)
  have hn : (⟨(8 * j.val + n.val) % 8, by omega⟩ : Fin 8) = n := Fin.ext (by show (8 * j.val + n.val) % 8 = n.val; omega)
  exact congrArg (aDqs m c) (congrArg₂ (fun x y => ix5 0 s x y k) hj hn)
theorem inp_xh (s : Fin 512) (d : Fin 1024) : oXh (inp m c) (ix2 s d) = aXh m c (ix3 0 s d) := by
  show V m c main_v6 (ix2 s d) = _
  entry_read
  pointwise
theorem inp_xs (s : Fin 512) : oXs (inp m c) (ix2 0 s) = aXs m c (ix2 0 s) := by
  show V m c main_arg5 (ix2 0 s) = _
  rw [V_main_arg5]
theorem inp_rs (s : Fin 512) : oRs (inp m c) (ix2 0 s) = aRs m c (ix2 0 s) := by
  show V m c main_arg6 (ix2 0 s) = _
  rw [V_main_arg6]
theorem inp_gs (s : Fin 512) : oGs (inp m c) (ix2 0 s) = aGs m c (ix2 0 s) := by
  show V m c main_arg11 (ix2 0 s) = _
  rw [V_main_arg11]
theorem inp_gam (d : Fin 1024) : oGam (inp m c) (ix2 0 d) = aGam m c (ix1 d) := by
  show V m c main_v7 (ix2 0 d) = _
  entry_read
  pointwise
theorem inp_g (s : Fin 512) (f : Fin 4096) : oG (inp m c) (ix2 s f) = aG m c (ix3 0 s f) := by
  show V m c main_v12 (ix2 s f) = _
  entry_read
  pointwise

theorem inp_a (s : Fin 512) (f : Fin 4096) : oA (inp m c) (ix2 s f) = aA m c (ix3 0 s f) := by
  show V m c main_v8 (ix2 s f) = _
  entry_read
  pointwise
theorem inp_ds (t : Fin 8) (b : Fin 16) (s : Fin 512) :
    oDs (inp m c) (ix3 t b s) = aDas m c (ix3 0 s ⟨16 * t.val + b.val, by omega⟩) := by
  show V m c main_v11 (ix3 t b s) = _
  entry_read
  pointwise
  exact congrArg (fun x => aDas m c (ix3 0 s x)) (Fin.ext (by show t.val * 16 + b.val = 16 * t.val + b.val; omega))
theorem inp_win (d : Fin 1024) (f : Fin 4096) : oWin (inp m c) (ix2 d f) = aWin m c (ix2 d f) := by
  show V m c main_arg12 (ix2 d f) = _
  rw [V_main_arg12]
theorem inp_sin (f : Fin 4096) : oSin (inp m c) (ix2 0 f) = aSin m c (ix1 f) := by
  show V m c main_v13 (ix2 0 f) = _
  entry_read
  pointwise
theorem inp_wq (d : Fin 1024) (j : Fin 3) (n : Fin 8) (l : Fin 128) : oWq (inp m c) (ix4 d j n l) = aWq m c (ix4 d j n l) := by
  show V m c main_arg14 (ix4 d j n l) = _
  rw [V_main_arg14]
theorem inp_sq (j : Fin 3) (n : Fin 8) (l : Fin 128) :
    oSq (inp m c) (ix2 ⟨8 * j.val + n.val, by omega⟩ l) = aSq m c (ix3 j n l) := by
  show V m c main_v14 (ix2 ⟨8 * j.val + n.val, by omega⟩ l) = _
  entry_read
  pointwise

/-- The scale of `da` at feature `f`, one to thirty-two features. -/
theorem inp_ds_at (f : Fin 4096) (s : Fin 512) :
    oDs (inp m c) (ix3 ⟨f.val / 512, by omega⟩ ⟨f.val % 512 / 32, by omega⟩ s) = aDas m c (ix3 0 s ⟨f.val / 32, by omega⟩) := by
  refine (inp_ds m c _ _ s).trans (congrArg (fun x => aDas m c (ix3 0 s x)) (Fin.ext ?_))
  show 16 * (f.val / 512) + f.val % 512 / 32 = f.val / 32; omega

/-! ### The results -/

open Cert.ReferenceIdeal.Gen (k0_pay4 k0_pay6 k0_pay7 k0_pay12)
open Cert.ReferenceIdeal.RVal (G16 G17 G18 G19 G20 pay1_apply pay2_apply pay3_apply pay4_apply pay5_apply dh_apply)

/-- The reference's gradient before the normalisation. -/
abbrev rDh : FVec Ideal S1x512x1024 .f32 :=
  k0_pay12 (F := Ideal) (aWq m c) (k0_pay4 (aDq m c) (aDqs m c)) (k0_pay6 (aWin m c)) (k0_pay7 (aSin m c)) (aSq m c) (aA m c) (aDas m c)

/-- The kernel's is the same. -/
theorem dh_eq (s : Fin 512) (d : Fin 1024) : vDh (inp m c) (ix2 d s) = rDh m c (ix3 0 s d) := by
  refine (vDh_apply (inp m c) d s).trans (Eq.trans ?_ (dh_apply _ _ _ _ _ _ _ _ s d).symm)
  refine congrArg₂ (· + ·) (Finset.sum_congr rfl fun f _ => ?_)
    (Finset.sum_congr rfl fun j _ => Finset.sum_congr rfl fun n _ => Finset.sum_congr rfl fun l _ => ?_)
  · unfold hTerm
    rw [inp_win, inp_sin, inp_a, inp_ds_at, mul_comm]
  · unfold rTerm
    rw [inp_wq, inp_sq, inp_dq, inp_dqs, mul_comm]

theorem dTerm_eq (s : Fin 512) (d : Fin 1024) : dTerm (inp m c) s d = rDh m c (ix3 0 s d) * aGam m c (ix1 d) := by
  unfold dTerm
  rw [dh_eq, inp_gam]
theorem xTerm_eq (s : Fin 512) (d : Fin 1024) :
    xTerm (inp m c) s d = (rDh m c (ix3 0 s d) * aGam m c (ix1 d)) * (aXh m c (ix3 0 s d) * aXs m c (ix2 0 s)) := by
  unfold xTerm
  rw [dTerm_eq, inp_xh, inp_xs]

/-- The kernel's first result is the reference's of the same arguments; -/
theorem res4_eq : vRes4 (inp m c) = G16 (F := Ideal) (aDy m c) (aDys m c) (aDq m c) (aDqs m c) (aXh m c) (aXs m c) (aRs m c)
    (aGam m c) (aA m c) (aDas m c) (aWin m c) (aSin m c) (aWq m c) (aSq m c) := by
  funext i
  obtain ⟨a, b, d, rfl⟩ : ∃ (a : Fin 64) (b : Fin 8) (d : Fin 1024), i = ix3 a b d := ⟨i 0, i 1, i 2, eq_ix3 i⟩
  refine (vRes4_apply (inp m c) a b d).trans (Eq.trans ?_ (pay1_apply _ _ _ _ _ _ _ a b d).symm)
  unfold dxAt
  rw [mul_frac, mul_frac, inp_dy, inp_dys, inp_rs, inp_xh, inp_xs, dTerm_eq,
    Finset.sum_congr rfl (fun e _ => dTerm_eq m c _ e), Finset.sum_congr rfl (fun e _ => xTerm_eq m c _ e)]

/-- so are the second, -/
theorem res2_eq : vRes2 (inp m c) = G17 (F := Ideal) (aXh m c) (aXs m c) (aA m c) (aDas m c) (aGam m c) := by
  funext i
  obtain ⟨a, b, f, rfl⟩ : ∃ (a : Fin 128) (b : Fin 8) (f : Fin 4096), i = ix3 a b f := ⟨i 0, i 1, i 2, eq_ix3 i⟩
  refine (vRes2_apply (inp m c) a b f).trans (Eq.trans ?_ (pay2_apply _ _ _ _ _ a b f).symm)
  rw [mul_comm, inp_gam]
  refine congrArg (HMul.hMul _) (Finset.sum_congr rfl fun s _ => ?_)
  rw [inp_xh, inp_xs, inp_a, inp_ds_at]

/-- the third, -/
theorem res0_eq : vRes0 (inp m c) = G18 (F := Ideal) (aDy m c) (aDys m c) (aG m c) (aGs m c) := by
  funext i
  obtain ⟨a, b, d, rfl⟩ : ∃ (a : Fin 512) (b : Fin 8) (d : Fin 1024), i = ix3 a b d := ⟨i 0, i 1, i 2, eq_ix3 i⟩
  refine (vRes0_apply (inp m c) a b d).trans (Eq.trans ?_ (pay3_apply _ _ _ _ a b d).symm)
  refine Finset.sum_congr rfl fun s _ => ?_
  rw [inp_g, inp_gs, inp_dy, inp_dys]

/-- the fourth -/
theorem res1_eq : vRes1 (inp m c) = G19 (F := Ideal) (aDq m c) (aDqs m c) (aXh m c) (aXs m c) (aGam m c) := by
  funext i
  obtain ⟨d, j, n, l, rfl⟩ : ∃ (d : Fin 1024) (j : Fin 3) (n : Fin 8) (l : Fin 128), i = ix4 d j n l :=
    ⟨i 0, i 1, i 2, i 3, eq_ix4 i⟩
  refine (vRes1_apply (inp m c) d j n l).trans (Eq.trans ?_ (pay4_apply _ _ _ _ _ d j n l).symm)
  rw [mul_comm, inp_gam]
  refine congrArg (HMul.hMul _) (Finset.sum_congr rfl fun s _ => ?_)
  rw [inp_xh, inp_xs, inp_dq, inp_dqs]

/-- and the last. -/
theorem res3_eq : vRes3 (inp m c) = G20 (F := Ideal) (aDq m c) (aDqs m c) (aXh m c) (aXs m c) (aA m c) (aDas m c) (aWin m c)
    (aSin m c) (aWq m c) (aSq m c) := by
  funext i
  obtain ⟨d, rfl⟩ : ∃ d : Fin 1024, i = ix2 0 d :=
    ⟨i 1, (eq_ix2 i).trans (congrArg (fun x : Fin 1 => ix2 x (i 1)) (Subsingleton.elim (α := Fin 1) _ _))⟩
  refine (vRes3_apply (inp m c) d).trans (Eq.trans ?_ (pay5_apply _ _ _ d).symm)
  refine Finset.sum_congr rfl fun s _ => ?_
  rw [dh_eq, inp_xh, inp_xs]

end Cert.Kernel.Hand

end
-- ==== Proof.lean ====
module

public import proofs.«01_k».proof.Defs
public import proofs.«01_k».proof.Proof.Same
public import proofs.«01_k».proof.Proof.Gen.ReferenceIdeal
public import proofs.«01_k».proof.Proof.Gen.ReferenceIdeal.Frame
public import proofs.«01_k».proof.Proof.Agree

/-! The proof of `Cert.Claim`. -/

@[expose] public section

set_option maxHeartbeats 2000000

noncomputable section

namespace Cert.Proof

open Idealize.ShloMosaic Idealize.SL.Sem Cert.Kernel

/-- The kernel as printed runs, leaves its arguments unchanged and every semaphore at zero. -/
theorem frame_Kernel : Cert.quiescent_Kernel (hKernel := Cert.Kernel.Gen.facts) := fun m g _ =>
  (θ_run _ _ _).mono (fun _ h => ⟨fun c => (h.1 c).1, h.2⟩) (Cert.Kernel.Hand.run_values m g)

/-- So does the idealized kernel. -/
theorem frame_KernelIdeal : Cert.quiescent_KernelIdeal (hKernelIdeal := Cert.KernelIdeal.Gen.facts) := fun m g _ => by
  show θ_run (Cert.Kernel.defs (F := Ideal)) (onTc (τ := Cert.Kernel.τ) (Cert.Kernel.main (F := Ideal))) ⟨m, fun _ => 0, g⟩ _
  exact (θ_run _ _ _).mono (fun _ h => ⟨fun c => (h.1 c).1, h.2⟩) (Cert.Kernel.Hand.run_values (F := Ideal) m g)

/-- And the idealized reference. -/
theorem frame_ReferenceIdeal : Cert.quiescent_ReferenceIdeal (hReferenceIdeal := Cert.ReferenceIdeal.Gen.facts) := fun m g _ =>
  Cert.ReferenceIdeal.Gen.frame m g

/-- From memories holding the same arguments the idealized kernel and the idealized reference end with the same five
results. -/
theorem algebraic_KernelIdeal_ReferenceIdeal : Cert.algebraic_KernelIdeal_ReferenceIdeal (hKernelIdeal := Cert.KernelIdeal.Gen.facts)
    (hReferenceIdeal := Cert.ReferenceIdeal.Gen.facts) := fun m g m' g' _ hargs => by
  refine ⟨fun c => Cert.Kernel.Hand.vRes4 (Cert.Kernel.Hand.inp m c), fun c => Cert.Kernel.Hand.vRes2 (Cert.Kernel.Hand.inp m c),
    fun c => Cert.Kernel.Hand.vRes0 (Cert.Kernel.Hand.inp m c), fun c => Cert.Kernel.Hand.vRes1 (Cert.Kernel.Hand.inp m c),
    fun c => Cert.Kernel.Hand.vRes3 (Cert.Kernel.Hand.inp m c), ?_, ?_⟩
  · show θ_run (Cert.Kernel.defs (F := Ideal)) (onTc (τ := Cert.Kernel.τ) (Cert.Kernel.main (F := Ideal))) ⟨m, fun _ => 0, g⟩ _
    exact (θ_run _ _ _).mono (fun _ h c => ⟨(h.1 c).2.1, (h.1 c).2.2.1, (h.1 c).2.2.2.1, (h.1 c).2.2.2.2.1, (h.1 c).2.2.2.2.2, (h.1 c).1⟩)
      (Cert.Kernel.Hand.run_values (F := Ideal) m g)
  · refine (θ_run _ _ _).mono (fun _ h c => ?_) (Cert.ReferenceIdeal.RVal.run m' g')
    obtain ⟨h0, h1, h2, h3, h4, h5, h6, h7, h8, h9, h10, h11, h12, h13, h14, h15⟩ := hargs c
    have hr := h c
    rw [h0, h1, h2, h3, h4, h5, h6, h7, h8, h9, h10, h11, h12, h13, h14, h15] at hr
    exact ⟨hr.1.trans (Cert.Kernel.Hand.res4_eq m c).symm, hr.2.1.trans (Cert.Kernel.Hand.res2_eq m c).symm,
      hr.2.2.1.trans (Cert.Kernel.Hand.res0_eq m c).symm, hr.2.2.2.1.trans (Cert.Kernel.Hand.res1_eq m c).symm,
      hr.2.2.2.2.1.trans (Cert.Kernel.Hand.res3_eq m c).symm, (h c).2.2.2.2.2⟩

/-- Every claim. -/
theorem claim : Cert.Claim := ⟨Cert.Kernel.Gen.facts, Cert.KernelIdeal.Gen.facts, Cert.ReferenceIdeal.Gen.facts,
  frame_Kernel, frame_KernelIdeal, frame_ReferenceIdeal, trivial, algebraic_KernelIdeal_ReferenceIdeal⟩

end Cert.Proof

end
